-- ==== Defs.lean ====
def Pre_Kernel [hPre_enough : Cert.Pre_enough.Facts] (m : (ℓ : Loc Cert.Kernel.nD Cert.Kernel.τ Cert.Kernel.sig) → Buf (Elt Bits) ℓ) : Prop :=
  ∀ c : Dev Cert.Kernel.nD,
    (Cert.Pre_enough.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_enough : Cert.Pre_enough.Facts] (m : (ℓ : Loc Cert.KernelIdeal.nD Cert.KernelIdeal.τ Cert.KernelIdeal.sig) → Buf (Elt Ideal) ℓ) : Prop :=
  ∀ c : Dev Cert.KernelIdeal.nD,
    (Cert.Pre_enough.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough [hPre_enough : Cert.Pre_enough.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Suppress (m : (ℓ : Loc Cert.Suppress.nD Cert.Suppress.τ Cert.Suppress.sig) → Buf (Elt Bits) ℓ) : Prop :=
  True

def Pre_SuppressIdeal (m : (ℓ : Loc Cert.SuppressIdeal.nD Cert.SuppressIdeal.τ Cert.SuppressIdeal.sig) → Buf (Elt Ideal) ℓ) : Prop :=
  True

def Pre_SuppressIdeal_above [hPre_above : Cert.Pre_above.Facts] (m : (ℓ : Loc Cert.SuppressIdeal.nD Cert.SuppressIdeal.τ Cert.SuppressIdeal.sig) → Buf (Elt Ideal) ℓ) : Prop :=
  ∀ c : Dev Cert.SuppressIdeal.nD,
    (Cert.Pre_above.fn (F := Ideal) (m ((c.tc : Thread Cert.SuppressIdeal.nD Cert.SuppressIdeal.τ).loc Cert.SuppressIdeal.main_arg0)) (m ((c.tc : Thread Cert.SuppressIdeal.nD Cert.SuppressIdeal.τ).loc Cert.SuppressIdeal.main_arg1)) (m ((c.tc : Thread Cert.SuppressIdeal.nD Cert.SuppressIdeal.τ).loc Cert.SuppressIdeal.main_arg2)) (m ((c.tc : Thread Cert.SuppressIdeal.nD Cert.SuppressIdeal.τ).loc Cert.SuppressIdeal.main_arg3)) (m ((c.tc : Thread Cert.SuppressIdeal.nD Cert.SuppressIdeal.τ).loc Cert.SuppressIdeal.main_arg4)) (m ((c.tc : Thread Cert.SuppressIdeal.nD Cert.SuppressIdeal.τ).loc Cert.SuppressIdeal.main_arg5))) = (fun _ => 1#1)

def Pre_DetectionsIdeal (m : (ℓ : Loc Cert.DetectionsIdeal.nD Cert.DetectionsIdeal.τ Cert.DetectionsIdeal.sig) → Buf (Elt Ideal) ℓ) : Prop :=
  True

def Pre_DetectionsIdeal_above [hPre_above : Cert.Pre_above.Facts] (m : (ℓ : Loc Cert.DetectionsIdeal.nD Cert.DetectionsIdeal.τ Cert.DetectionsIdeal.sig) → Buf (Elt Ideal) ℓ) : Prop :=
  ∀ c : Dev Cert.DetectionsIdeal.nD,
    (Cert.Pre_above.fn (F := Ideal) (m ((c.tc : Thread Cert.DetectionsIdeal.nD Cert.DetectionsIdeal.τ).loc Cert.DetectionsIdeal.main_arg0)) (m ((c.tc : Thread Cert.DetectionsIdeal.nD Cert.DetectionsIdeal.τ).loc Cert.DetectionsIdeal.main_arg1)) (m ((c.tc : Thread Cert.DetectionsIdeal.nD Cert.DetectionsIdeal.τ).loc Cert.DetectionsIdeal.main_arg2)) (m ((c.tc : Thread Cert.DetectionsIdeal.nD Cert.DetectionsIdeal.τ).loc Cert.DetectionsIdeal.main_arg3)) (m ((c.tc : Thread Cert.DetectionsIdeal.nD Cert.DetectionsIdeal.τ).loc Cert.DetectionsIdeal.main_arg4)) (m ((c.tc : Thread Cert.DetectionsIdeal.nD Cert.DetectionsIdeal.τ).loc Cert.DetectionsIdeal.main_arg5))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_ScoredIdeal (m : (ℓ : Loc Cert.ScoredIdeal.nD Cert.ScoredIdeal.τ Cert.ScoredIdeal.sig) → Buf (Elt Ideal) ℓ) : Prop :=
  True

def quiescent_Kernel [hKernel : Cert.Kernel.Facts] [hPre_enough : Cert.Pre_enough.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_enough : Cert.Pre_enough.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_enough [hReferenceIdeal : Cert.ReferenceIdeal.Facts] [hPre_enough : Cert.Pre_enough.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Suppress [hSuppress : Cert.Suppress.Facts] : Prop :=
  ∀ (m : (ℓ : Loc Cert.Suppress.nD Cert.Suppress.τ Cert.Suppress.sig) → Buf (Elt Bits) ℓ) (g : Dev Cert.Suppress.nD → PrngReg), Pre_Suppress m →
    θ_run (Cert.Suppress.defs (F := Bits)) (onTc (τ := Cert.Suppress.τ) (Cert.Suppress.main (F := Bits))) ⟨m, fun _ => 0, g⟩ (fun r => (∀ c : Dev Cert.Suppress.nD,
      r.2.mem ((c.tc : Thread Cert.Suppress.nD Cert.Suppress.τ).loc Cert.Suppress.main_arg0) = m ((c.tc : Thread Cert.Suppress.nD Cert.Suppress.τ).loc Cert.Suppress.main_arg0)
      ∧ r.2.mem ((c.tc : Thread Cert.Suppress.nD Cert.Suppress.τ).loc Cert.Suppress.main_arg1) = m ((c.tc : Thread Cert.Suppress.nD Cert.Suppress.τ).loc Cert.Suppress.main_arg1)
      ∧ r.2.mem ((c.tc : Thread Cert.Suppress.nD Cert.Suppress.τ).loc Cert.Suppress.main_arg2) = m ((c.tc : Thread Cert.Suppress.nD Cert.Suppress.τ).loc Cert.Suppress.main_arg2)
      ∧ r.2.mem ((c.tc : Thread Cert.Suppress.nD Cert.Suppress.τ).loc Cert.Suppress.main_arg3) = m ((c.tc : Thread Cert.Suppress.nD Cert.Suppress.τ).loc Cert.Suppress.main_arg3)
      ∧ r.2.mem ((c.tc : Thread Cert.Suppress.nD Cert.Suppress.τ).loc Cert.Suppress.main_arg4) = m ((c.tc : Thread Cert.Suppress.nD Cert.Suppress.τ).loc Cert.Suppress.main_arg4)
      ∧ r.2.mem ((c.tc : Thread Cert.Suppress.nD Cert.Suppress.τ).loc Cert.Suppress.main_arg5) = m ((c.tc : Thread Cert.Suppress.nD Cert.Suppress.τ).loc Cert.Suppress.main_arg5))
      ∧ r.2.sem = fun _ => 0)

def quiescent_SuppressIdeal [hSuppressIdeal : Cert.SuppressIdeal.Facts] : Prop :=
  ∀ (m : (ℓ : Loc Cert.SuppressIdeal.nD Cert.SuppressIdeal.τ Cert.SuppressIdeal.sig) → Buf (Elt Ideal) ℓ) (g : Dev Cert.SuppressIdeal.nD → PrngReg), Pre_SuppressIdeal m →
    θ_run (Cert.SuppressIdeal.defs (F := Ideal)) (onTc (τ := Cert.SuppressIdeal.τ) (Cert.SuppressIdeal.main (F := Ideal))) ⟨m, fun _ => 0, g⟩ (fun r => (∀ c : Dev Cert.SuppressIdeal.nD,
      r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
      ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
      ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
      ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
      ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
      ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ r.2.sem = fun _ => 0)

def quiescent_SuppressIdeal_pre_above [hSuppressIdeal : Cert.SuppressIdeal.Facts] [hPre_above : Cert.Pre_above.Facts] : Prop :=
  ∀ (m : (ℓ : Loc Cert.SuppressIdeal.nD Cert.SuppressIdeal.τ Cert.SuppressIdeal.sig) → Buf (Elt Ideal) ℓ) (g : Dev Cert.SuppressIdeal.nD → PrngReg), Pre_SuppressIdeal_above m →
    θ_run (Cert.SuppressIdeal.defs (F := Ideal)) (onTc (τ := Cert.SuppressIdeal.τ) (Cert.SuppressIdeal.main (F := Ideal))) ⟨m, fun _ => 0, g⟩ (fun r => (∀ c : Dev Cert.SuppressIdeal.nD,
      r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
      ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
      ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
      ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
      ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
      ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ r.2.sem = fun _ => 0)

def quiescent_DetectionsIdeal [hDetectionsIdeal : Cert.DetectionsIdeal.Facts] : Prop :=
  ∀ (m : (ℓ : Loc Cert.DetectionsIdeal.nD Cert.DetectionsIdeal.τ Cert.DetectionsIdeal.sig) → Buf (Elt Ideal) ℓ) (g : Dev Cert.DetectionsIdeal.nD → PrngReg), Pre_DetectionsIdeal m →
    θ_run (Cert.DetectionsIdeal.defs (F := Ideal)) (onTc (τ := Cert.DetectionsIdeal.τ) (Cert.DetectionsIdeal.main (F := Ideal))) ⟨m, fun _ => 0, g⟩ (fun r => (∀ c : Dev Cert.DetectionsIdeal.nD,
      r.2.mem ((c.tc : Thread Cert.DetectionsIdeal.nD Cert.DetectionsIdeal.τ).loc Cert.DetectionsIdeal.main_arg0) = m ((c.tc : Thread Cert.DetectionsIdeal.nD Cert.DetectionsIdeal.τ).loc Cert.DetectionsIdeal.main_arg0)
      ∧ r.2.mem ((c.tc : Thread Cert.DetectionsIdeal.nD Cert.DetectionsIdeal.τ).loc Cert.DetectionsIdeal.main_arg1) = m ((c.tc : Thread Cert.DetectionsIdeal.nD Cert.DetectionsIdeal.τ).loc Cert.DetectionsIdeal.main_arg1)
      ∧ r.2.mem ((c.tc : Thread Cert.DetectionsIdeal.nD Cert.DetectionsIdeal.τ).loc Cert.DetectionsIdeal.main_arg2) = m ((c.tc : Thread Cert.DetectionsIdeal.nD Cert.DetectionsIdeal.τ).loc Cert.DetectionsIdeal.main_arg2)
      ∧ r.2.mem ((c.tc : Thread Cert.DetectionsIdeal.nD Cert.DetectionsIdeal.τ).loc Cert.DetectionsIdeal.main_arg3) = m ((c.tc : Thread Cert.DetectionsIdeal.nD Cert.DetectionsIdeal.τ).loc Cert.DetectionsIdeal.main_arg3)
      ∧ r.2.mem ((c.tc : Thread Cert.DetectionsIdeal.nD Cert.DetectionsIdeal.τ).loc Cert.DetectionsIdeal.main_arg4) = m ((c.tc : Thread Cert.DetectionsIdeal.nD Cert.DetectionsIdeal.τ).loc Cert.DetectionsIdeal.main_arg4)
      ∧ r.2.mem ((c.tc : Thread Cert.DetectionsIdeal.nD Cert.DetectionsIdeal.τ).loc Cert.DetectionsIdeal.main_arg5) = m ((c.tc : Thread Cert.DetectionsIdeal.nD Cert.DetectionsIdeal.τ).loc Cert.DetectionsIdeal.main_arg5))
      ∧ r.2.sem = fun _ => 0)

def quiescent_DetectionsIdeal_pre_above [hDetectionsIdeal : Cert.DetectionsIdeal.Facts] [hPre_above : Cert.Pre_above.Facts] : Prop :=
  ∀ (m : (ℓ : Loc Cert.DetectionsIdeal.nD Cert.DetectionsIdeal.τ Cert.DetectionsIdeal.sig) → Buf (Elt Ideal) ℓ) (g : Dev Cert.DetectionsIdeal.nD → PrngReg), Pre_DetectionsIdeal_above m →
    θ_run (Cert.DetectionsIdeal.defs (F := Ideal)) (onTc (τ := Cert.DetectionsIdeal.τ) (Cert.DetectionsIdeal.main (F := Ideal))) ⟨m, fun _ => 0, g⟩ (fun r => (∀ c : Dev Cert.DetectionsIdeal.nD,
      r.2.mem ((c.tc : Thread Cert.DetectionsIdeal.nD Cert.DetectionsIdeal.τ).loc Cert.DetectionsIdeal.main_arg0) = m ((c.tc : Thread Cert.DetectionsIdeal.nD Cert.DetectionsIdeal.τ).loc Cert.DetectionsIdeal.main_arg0)
      ∧ r.2.mem ((c.tc : Thread Cert.DetectionsIdeal.nD Cert.DetectionsIdeal.τ).loc Cert.DetectionsIdeal.main_arg1) = m ((c.tc : Thread Cert.DetectionsIdeal.nD Cert.DetectionsIdeal.τ).loc Cert.DetectionsIdeal.main_arg1)
      ∧ r.2.mem ((c.tc : Thread Cert.DetectionsIdeal.nD Cert.DetectionsIdeal.τ).loc Cert.DetectionsIdeal.main_arg2) = m ((c.tc : Thread Cert.DetectionsIdeal.nD Cert.DetectionsIdeal.τ).loc Cert.DetectionsIdeal.main_arg2)
      ∧ r.2.mem ((c.tc : Thread Cert.DetectionsIdeal.nD Cert.DetectionsIdeal.τ).loc Cert.DetectionsIdeal.main_arg3) = m ((c.tc : Thread Cert.DetectionsIdeal.nD Cert.DetectionsIdeal.τ).loc Cert.DetectionsIdeal.main_arg3)
      ∧ r.2.mem ((c.tc : Thread Cert.DetectionsIdeal.nD Cert.DetectionsIdeal.τ).loc Cert.DetectionsIdeal.main_arg4) = m ((c.tc : Thread Cert.DetectionsIdeal.nD Cert.DetectionsIdeal.τ).loc Cert.DetectionsIdeal.main_arg4)
      ∧ r.2.mem ((c.tc : Thread Cert.DetectionsIdeal.nD Cert.DetectionsIdeal.τ).loc Cert.DetectionsIdeal.main_arg5) = m ((c.tc : Thread Cert.DetectionsIdeal.nD Cert.DetectionsIdeal.τ).loc Cert.DetectionsIdeal.main_arg5))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7)
      ∧ r.2.mem ((c.tc : Thread Cert.Heads.nD Cert.Heads.τ).loc Cert.Heads.main_arg8) = m ((c.tc : Thread Cert.Heads.nD Cert.Heads.τ).loc Cert.Heads.main_arg8)
      ∧ r.2.mem ((c.tc : Thread Cert.Heads.nD Cert.Heads.τ).loc Cert.Heads.main_arg9) = m ((c.tc : Thread Cert.Heads.nD Cert.Heads.τ).loc Cert.Heads.main_arg9))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
      ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9))
      ∧ r.2.sem = fun _ => 0)

def quiescent_ScoredIdeal [hScoredIdeal : Cert.ScoredIdeal.Facts] : Prop :=
  ∀ (m : (ℓ : Loc Cert.ScoredIdeal.nD Cert.ScoredIdeal.τ Cert.ScoredIdeal.sig) → Buf (Elt Ideal) ℓ) (g : Dev Cert.ScoredIdeal.nD → PrngReg), Pre_ScoredIdeal m →
    θ_run (Cert.ScoredIdeal.defs (F := Ideal)) (onTc (τ := Cert.ScoredIdeal.τ) (Cert.ScoredIdeal.main (F := Ideal))) ⟨m, fun _ => 0, g⟩ (fun r => (∀ c : Dev Cert.ScoredIdeal.nD,
      r.2.mem ((c.tc : Thread Cert.ScoredIdeal.nD Cert.ScoredIdeal.τ).loc Cert.ScoredIdeal.main_arg0) = m ((c.tc : Thread Cert.ScoredIdeal.nD Cert.ScoredIdeal.τ).loc Cert.ScoredIdeal.main_arg0)
      ∧ r.2.mem ((c.tc : Thread Cert.ScoredIdeal.nD Cert.ScoredIdeal.τ).loc Cert.ScoredIdeal.main_arg1) = m ((c.tc : Thread Cert.ScoredIdeal.nD Cert.ScoredIdeal.τ).loc Cert.ScoredIdeal.main_arg1)
      ∧ r.2.mem ((c.tc : Thread Cert.ScoredIdeal.nD Cert.ScoredIdeal.τ).loc Cert.ScoredIdeal.main_arg2) = m ((c.tc : Thread Cert.ScoredIdeal.nD Cert.ScoredIdeal.τ).loc Cert.ScoredIdeal.main_arg2)
      ∧ r.2.mem ((c.tc : Thread Cert.ScoredIdeal.nD Cert.ScoredIdeal.τ).loc Cert.ScoredIdeal.main_arg3) = m ((c.tc : Thread Cert.ScoredIdeal.nD Cert.ScoredIdeal.τ).loc Cert.ScoredIdeal.main_arg3)
      ∧ r.2.mem ((c.tc : Thread Cert.ScoredIdeal.nD Cert.ScoredIdeal.τ).loc Cert.ScoredIdeal.main_arg4) = m ((c.tc : Thread Cert.ScoredIdeal.nD Cert.ScoredIdeal.τ).loc Cert.ScoredIdeal.main_arg4)
      ∧ r.2.mem ((c.tc : Thread Cert.ScoredIdeal.nD Cert.ScoredIdeal.τ).loc Cert.ScoredIdeal.main_arg5) = m ((c.tc : Thread Cert.ScoredIdeal.nD Cert.ScoredIdeal.τ).loc Cert.ScoredIdeal.main_arg5)
      ∧ r.2.mem ((c.tc : Thread Cert.ScoredIdeal.nD Cert.ScoredIdeal.τ).loc Cert.ScoredIdeal.main_arg6) = m ((c.tc : Thread Cert.ScoredIdeal.nD Cert.ScoredIdeal.τ).loc Cert.ScoredIdeal.main_arg6)
      ∧ r.2.mem ((c.tc : Thread Cert.ScoredIdeal.nD Cert.ScoredIdeal.τ).loc Cert.ScoredIdeal.main_arg7) = m ((c.tc : Thread Cert.ScoredIdeal.nD Cert.ScoredIdeal.τ).loc Cert.ScoredIdeal.main_arg7)
      ∧ r.2.mem ((c.tc : Thread Cert.ScoredIdeal.nD Cert.ScoredIdeal.τ).loc Cert.ScoredIdeal.main_arg8) = m ((c.tc : Thread Cert.ScoredIdeal.nD Cert.ScoredIdeal.τ).loc Cert.ScoredIdeal.main_arg8)
      ∧ r.2.mem ((c.tc : Thread Cert.ScoredIdeal.nD Cert.ScoredIdeal.τ).loc Cert.ScoredIdeal.main_arg9) = m ((c.tc : Thread Cert.ScoredIdeal.nD Cert.ScoredIdeal.τ).loc Cert.ScoredIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_enough : Cert.Pre_enough.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Suppress_SuppressIdeal : Prop :=
  True

def algebraic_SuppressIdeal_DetectionsIdeal_pre_above [hSuppressIdeal : Cert.SuppressIdeal.Facts] [hDetectionsIdeal : Cert.DetectionsIdeal.Facts] [hPre_above : Cert.Pre_above.Facts] : Prop :=
  ∀ (m : (ℓ : Loc Cert.SuppressIdeal.nD Cert.SuppressIdeal.τ Cert.SuppressIdeal.sig) → Buf (Elt Ideal) ℓ) (g : Dev Cert.SuppressIdeal.nD → PrngReg)
    (m' : (ℓ : Loc Cert.DetectionsIdeal.nD Cert.DetectionsIdeal.τ Cert.DetectionsIdeal.sig) → Buf (Elt Ideal) ℓ) (g' : Dev Cert.DetectionsIdeal.nD → PrngReg), Pre_SuppressIdeal_above m →
    (∀ c : Dev Cert.SuppressIdeal.nD,
      m' ((c.tc : Thread Cert.DetectionsIdeal.nD Cert.DetectionsIdeal.τ).loc Cert.DetectionsIdeal.main_arg0) = m ((c.tc : Thread Cert.SuppressIdeal.nD Cert.SuppressIdeal.τ).loc Cert.SuppressIdeal.main_arg0)
      ∧ m' ((c.tc : Thread Cert.DetectionsIdeal.nD Cert.DetectionsIdeal.τ).loc Cert.DetectionsIdeal.main_arg1) = m ((c.tc : Thread Cert.SuppressIdeal.nD Cert.SuppressIdeal.τ).loc Cert.SuppressIdeal.main_arg1)
      ∧ m' ((c.tc : Thread Cert.DetectionsIdeal.nD Cert.DetectionsIdeal.τ).loc Cert.DetectionsIdeal.main_arg2) = m ((c.tc : Thread Cert.SuppressIdeal.nD Cert.SuppressIdeal.τ).loc Cert.SuppressIdeal.main_arg2)
      ∧ m' ((c.tc : Thread Cert.DetectionsIdeal.nD Cert.DetectionsIdeal.τ).loc Cert.DetectionsIdeal.main_arg3) = m ((c.tc : Thread Cert.SuppressIdeal.nD Cert.SuppressIdeal.τ).loc Cert.SuppressIdeal.main_arg3)
      ∧ m' ((c.tc : Thread Cert.DetectionsIdeal.nD Cert.DetectionsIdeal.τ).loc Cert.DetectionsIdeal.main_arg4) = m ((c.tc : Thread Cert.SuppressIdeal.nD Cert.SuppressIdeal.τ).loc Cert.SuppressIdeal.main_arg4)
      ∧ m' ((c.tc : Thread Cert.DetectionsIdeal.nD Cert.DetectionsIdeal.τ).loc Cert.DetectionsIdeal.main_arg5) = m ((c.tc : Thread Cert.SuppressIdeal.nD Cert.SuppressIdeal.τ).loc Cert.SuppressIdeal.main_arg5)) →
    ∃ (v0 : (c : Dev Cert.SuppressIdeal.nD) → Buf (Elt Ideal) ((c.tc : Thread Cert.SuppressIdeal.nD Cert.SuppressIdeal.τ).loc Cert.SuppressIdeal.main_v8)) (v1 : (c : Dev Cert.SuppressIdeal.nD) → Buf (Elt Ideal) ((c.tc : Thread Cert.SuppressIdeal.nD Cert.SuppressIdeal.τ).loc Cert.SuppressIdeal.main_v11)),
      θ_run (Cert.SuppressIdeal.defs (F := Ideal)) (onTc (τ := Cert.SuppressIdeal.τ) (Cert.SuppressIdeal.main (F := Ideal))) ⟨m, fun _ => 0, g⟩ (fun r => ∀ c : Dev Cert.SuppressIdeal.nD,
          r.2.mem ((c.tc : Thread Cert.SuppressIdeal.nD Cert.SuppressIdeal.τ).loc Cert.SuppressIdeal.main_v8) = v0 c
          ∧ r.2.mem ((c.tc : Thread Cert.SuppressIdeal.nD Cert.SuppressIdeal.τ).loc Cert.SuppressIdeal.main_v11) = v1 c
          ∧ r.2.mem ((c.tc : Thread Cert.SuppressIdeal.nD Cert.SuppressIdeal.τ).loc Cert.SuppressIdeal.main_arg0) = m ((c.tc : Thread Cert.SuppressIdeal.nD Cert.SuppressIdeal.τ).loc Cert.SuppressIdeal.main_arg0)
          ∧ r.2.mem ((c.tc : Thread Cert.SuppressIdeal.nD Cert.SuppressIdeal.τ).loc Cert.SuppressIdeal.main_arg1) = m ((c.tc : Thread Cert.SuppressIdeal.nD Cert.SuppressIdeal.τ).loc Cert.SuppressIdeal.main_arg1)
          ∧ r.2.mem ((c.tc : Thread Cert.SuppressIdeal.nD Cert.SuppressIdeal.τ).loc Cert.SuppressIdeal.main_arg2) = m ((c.tc : Thread Cert.SuppressIdeal.nD Cert.SuppressIdeal.τ).loc Cert.SuppressIdeal.main_arg2)
          ∧ r.2.mem ((c.tc : Thread Cert.SuppressIdeal.nD Cert.SuppressIdeal.τ).loc Cert.SuppressIdeal.main_arg3) = m ((c.tc : Thread Cert.SuppressIdeal.nD Cert.SuppressIdeal.τ).loc Cert.SuppressIdeal.main_arg3)
          ∧ r.2.mem ((c.tc : Thread Cert.SuppressIdeal.nD Cert.SuppressIdeal.τ).loc Cert.SuppressIdeal.main_arg4) = m ((c.tc : Thread Cert.SuppressIdeal.nD Cert.SuppressIdeal.τ).loc Cert.SuppressIdeal.main_arg4)
          ∧ r.2.mem ((c.tc : Thread Cert.SuppressIdeal.nD Cert.SuppressIdeal.τ).loc Cert.SuppressIdeal.main_arg5) = m ((c.tc : Thread Cert.SuppressIdeal.nD Cert.SuppressIdeal.τ).loc Cert.SuppressIdeal.main_arg5))
      ∧ θ_run (Cert.DetectionsIdeal.defs (F := Ideal)) (onTc (τ := Cert.DetectionsIdeal.τ) (Cert.DetectionsIdeal.main (F := Ideal))) ⟨m', fun _ => 0, g'⟩ (fun r => ∀ c : Dev Cert.DetectionsIdeal.nD,
          r.2.mem ((c.tc : Thread Cert.DetectionsIdeal.nD Cert.DetectionsIdeal.τ).loc Cert.DetectionsIdeal.main_v44) = v0 c
          ∧ r.2.mem ((c.tc : Thread Cert.DetectionsIdeal.nD Cert.DetectionsIdeal.τ).loc Cert.DetectionsIdeal.main_v38_14) = v1 c
          ∧ r.2.mem ((c.tc : Thread Cert.DetectionsIdeal.nD Cert.DetectionsIdeal.τ).loc Cert.DetectionsIdeal.main_arg0) = m' ((c.tc : Thread Cert.DetectionsIdeal.nD Cert.DetectionsIdeal.τ).loc Cert.DetectionsIdeal.main_arg0)
          ∧ r.2.mem ((c.tc : Thread Cert.DetectionsIdeal.nD Cert.DetectionsIdeal.τ).loc Cert.DetectionsIdeal.main_arg1) = m' ((c.tc : Thread Cert.DetectionsIdeal.nD Cert.DetectionsIdeal.τ).loc Cert.DetectionsIdeal.main_arg1)
          ∧ r.2.mem ((c.tc : Thread Cert.DetectionsIdeal.nD Cert.DetectionsIdeal.τ).loc Cert.DetectionsIdeal.main_arg2) = m' ((c.tc : Thread Cert.DetectionsIdeal.nD Cert.DetectionsIdeal.τ).loc Cert.DetectionsIdeal.main_arg2)
          ∧ r.2.mem ((c.tc : Thread Cert.DetectionsIdeal.nD Cert.DetectionsIdeal.τ).loc Cert.DetectionsIdeal.main_arg3) = m' ((c.tc : Thread Cert.DetectionsIdeal.nD Cert.DetectionsIdeal.τ).loc Cert.DetectionsIdeal.main_arg3)
          ∧ r.2.mem ((c.tc : Thread Cert.DetectionsIdeal.nD Cert.DetectionsIdeal.τ).loc Cert.DetectionsIdeal.main_arg4) = m' ((c.tc : Thread Cert.DetectionsIdeal.nD Cert.DetectionsIdeal.τ).loc Cert.DetectionsIdeal.main_arg4)
          ∧ r.2.mem ((c.tc : Thread Cert.DetectionsIdeal.nD Cert.DetectionsIdeal.τ).loc Cert.DetectionsIdeal.main_arg5) = m' ((c.tc : Thread Cert.DetectionsIdeal.nD Cert.DetectionsIdeal.τ).loc Cert.DetectionsIdeal.main_arg5))

def preserves_Heads_HeadsIdeal : Prop :=
  True

def algebraic_HeadsIdeal_ScoredIdeal [hHeadsIdeal : Cert.HeadsIdeal.Facts] [hScoredIdeal : Cert.ScoredIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.ScoredIdeal.nD Cert.ScoredIdeal.τ Cert.ScoredIdeal.sig) → Buf (Elt Ideal) ℓ) (g' : Dev Cert.ScoredIdeal.nD → PrngReg), Pre_HeadsIdeal m →
    (∀ c : Dev Cert.HeadsIdeal.nD,
      m' ((c.tc : Thread Cert.ScoredIdeal.nD Cert.ScoredIdeal.τ).loc Cert.ScoredIdeal.main_arg0) = m ((c.tc : Thread Cert.HeadsIdeal.nD Cert.HeadsIdeal.τ).loc Cert.HeadsIdeal.main_arg0)
      ∧ m' ((c.tc : Thread Cert.ScoredIdeal.nD Cert.ScoredIdeal.τ).loc Cert.ScoredIdeal.main_arg1) = m ((c.tc : Thread Cert.HeadsIdeal.nD Cert.HeadsIdeal.τ).loc Cert.HeadsIdeal.main_arg1)
      ∧ m' ((c.tc : Thread Cert.ScoredIdeal.nD Cert.ScoredIdeal.τ).loc Cert.ScoredIdeal.main_arg2) = m ((c.tc : Thread Cert.HeadsIdeal.nD Cert.HeadsIdeal.τ).loc Cert.HeadsIdeal.main_arg2)
      ∧ m' ((c.tc : Thread Cert.ScoredIdeal.nD Cert.ScoredIdeal.τ).loc Cert.ScoredIdeal.main_arg3) = m ((c.tc : Thread Cert.HeadsIdeal.nD Cert.HeadsIdeal.τ).loc Cert.HeadsIdeal.main_arg3)
      ∧ m' ((c.tc : Thread Cert.ScoredIdeal.nD Cert.ScoredIdeal.τ).loc Cert.ScoredIdeal.main_arg4) = m ((c.tc : Thread Cert.HeadsIdeal.nD Cert.HeadsIdeal.τ).loc Cert.HeadsIdeal.main_arg4)
      ∧ m' ((c.tc : Thread Cert.ScoredIdeal.nD Cert.ScoredIdeal.τ).loc Cert.ScoredIdeal.main_arg5) = m ((c.tc : Thread Cert.HeadsIdeal.nD Cert.HeadsIdeal.τ).loc Cert.HeadsIdeal.main_arg5)
      ∧ m' ((c.tc : Thread Cert.ScoredIdeal.nD Cert.ScoredIdeal.τ).loc Cert.ScoredIdeal.main_arg6) = m ((c.tc : Thread Cert.HeadsIdeal.nD Cert.HeadsIdeal.τ).loc Cert.HeadsIdeal.main_arg6)
      ∧ m' ((c.tc : Thread Cert.ScoredIdeal.nD Cert.ScoredIdeal.τ).loc Cert.ScoredIdeal.main_arg7) = m ((c.tc : Thread Cert.HeadsIdeal.nD Cert.HeadsIdeal.τ).loc Cert.HeadsIdeal.main_arg7)
      ∧ m' ((c.tc : Thread Cert.ScoredIdeal.nD Cert.ScoredIdeal.τ).loc Cert.ScoredIdeal.main_arg8) = m ((c.tc : Thread Cert.HeadsIdeal.nD Cert.HeadsIdeal.τ).loc Cert.HeadsIdeal.main_arg8)
      ∧ m' ((c.tc : Thread Cert.ScoredIdeal.nD Cert.ScoredIdeal.τ).loc Cert.ScoredIdeal.main_arg9) = m ((c.tc : Thread Cert.HeadsIdeal.nD Cert.HeadsIdeal.τ).loc Cert.HeadsIdeal.main_arg9)) →
    ∃ (v0 : (c : Dev Cert.HeadsIdeal.nD) → Buf (Elt Ideal) ((c.tc : Thread Cert.HeadsIdeal.nD Cert.HeadsIdeal.τ).loc Cert.HeadsIdeal.main_v4_0)) (v1 : (c : Dev Cert.HeadsIdeal.nD) → Buf (Elt Ideal) ((c.tc : Thread Cert.HeadsIdeal.nD Cert.HeadsIdeal.τ).loc Cert.HeadsIdeal.main_v4_1)) (v2 : (c : Dev Cert.HeadsIdeal.nD) → Buf (Elt Ideal) ((c.tc : Thread Cert.HeadsIdeal.nD Cert.HeadsIdeal.τ).loc Cert.HeadsIdeal.main_v4_2)) (v3 : (c : Dev Cert.HeadsIdeal.nD) → Buf (Elt Ideal) ((c.tc : Thread Cert.HeadsIdeal.nD Cert.HeadsIdeal.τ).loc Cert.HeadsIdeal.main_v4_3)) (v4 : (c : Dev Cert.HeadsIdeal.nD) → Buf (Elt Ideal) ((c.tc : Thread Cert.HeadsIdeal.nD Cert.HeadsIdeal.τ).loc Cert.HeadsIdeal.main_v4_4)) (v5 : (c : Dev Cert.HeadsIdeal.nD) → Buf (Elt Ideal) ((c.tc : Thread Cert.HeadsIdeal.nD Cert.HeadsIdeal.τ).loc Cert.HeadsIdeal.main_v4_5)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v4_0) = v0 c
          ∧ r.2.mem ((c.tc : Thread Cert.HeadsIdeal.nD Cert.HeadsIdeal.τ).loc Cert.HeadsIdeal.main_v4_1) = v1 c
          ∧ r.2.mem ((c.tc : Thread Cert.HeadsIdeal.nD Cert.HeadsIdeal.τ).loc Cert.HeadsIdeal.main_v4_2) = v2 c
          ∧ r.2.mem ((c.tc : Thread Cert.HeadsIdeal.nD Cert.HeadsIdeal.τ).loc Cert.HeadsIdeal.main_v4_3) = v3 c
          ∧ r.2.mem ((c.tc : Thread Cert.HeadsIdeal.nD Cert.HeadsIdeal.τ).loc Cert.HeadsIdeal.main_v4_4) = v4 c
          ∧ r.2.mem ((c.tc : Thread Cert.HeadsIdeal.nD Cert.HeadsIdeal.τ).loc Cert.HeadsIdeal.main_v4_5) = v5 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
          ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9))
      ∧ θ_run (Cert.ScoredIdeal.defs (F := Ideal)) (onTc (τ := Cert.ScoredIdeal.τ) (Cert.ScoredIdeal.main (F := Ideal))) ⟨m', fun _ => 0, g'⟩ (fun r => ∀ c : Dev Cert.ScoredIdeal.nD,
          r.2.mem ((c.tc : Thread Cert.ScoredIdeal.nD Cert.ScoredIdeal.τ).loc Cert.ScoredIdeal.main_v46) = v0 c
          ∧ r.2.mem ((c.tc : Thread Cert.ScoredIdeal.nD Cert.ScoredIdeal.τ).loc Cert.ScoredIdeal.main_v51) = v1 c
          ∧ r.2.mem ((c.tc : Thread Cert.ScoredIdeal.nD Cert.ScoredIdeal.τ).loc Cert.ScoredIdeal.main_v56) = v2 c
          ∧ r.2.mem ((c.tc : Thread Cert.ScoredIdeal.nD Cert.ScoredIdeal.τ).loc Cert.ScoredIdeal.main_v61) = v3 c
          ∧ r.2.mem ((c.tc : Thread Cert.ScoredIdeal.nD Cert.ScoredIdeal.τ).loc Cert.ScoredIdeal.main_v66) = v4 c
          ∧ r.2.mem ((c.tc : Thread Cert.ScoredIdeal.nD Cert.ScoredIdeal.τ).loc Cert.ScoredIdeal.main_v69) = v5 c
          ∧ r.2.mem ((c.tc : Thread Cert.ScoredIdeal.nD Cert.ScoredIdeal.τ).loc Cert.ScoredIdeal.main_arg0) = m' ((c.tc : Thread Cert.ScoredIdeal.nD Cert.ScoredIdeal.τ).loc Cert.ScoredIdeal.main_arg0)
          ∧ r.2.mem ((c.tc : Thread Cert.ScoredIdeal.nD Cert.ScoredIdeal.τ).loc Cert.ScoredIdeal.main_arg1) = m' ((c.tc : Thread Cert.ScoredIdeal.nD Cert.ScoredIdeal.τ).loc Cert.ScoredIdeal.main_arg1)
          ∧ r.2.mem ((c.tc : Thread Cert.ScoredIdeal.nD Cert.ScoredIdeal.τ).loc Cert.ScoredIdeal.main_arg2) = m' ((c.tc : Thread Cert.ScoredIdeal.nD Cert.ScoredIdeal.τ).loc Cert.ScoredIdeal.main_arg2)
          ∧ r.2.mem ((c.tc : Thread Cert.ScoredIdeal.nD Cert.ScoredIdeal.τ).loc Cert.ScoredIdeal.main_arg3) = m' ((c.tc : Thread Cert.ScoredIdeal.nD Cert.ScoredIdeal.τ).loc Cert.ScoredIdeal.main_arg3)
          ∧ r.2.mem ((c.tc : Thread Cert.ScoredIdeal.nD Cert.ScoredIdeal.τ).loc Cert.ScoredIdeal.main_arg4) = m' ((c.tc : Thread Cert.ScoredIdeal.nD Cert.ScoredIdeal.τ).loc Cert.ScoredIdeal.main_arg4)
          ∧ r.2.mem ((c.tc : Thread Cert.ScoredIdeal.nD Cert.ScoredIdeal.τ).loc Cert.ScoredIdeal.main_arg5) = m' ((c.tc : Thread Cert.ScoredIdeal.nD Cert.ScoredIdeal.τ).loc Cert.ScoredIdeal.main_arg5)
          ∧ r.2.mem ((c.tc : Thread Cert.ScoredIdeal.nD Cert.ScoredIdeal.τ).loc Cert.ScoredIdeal.main_arg6) = m' ((c.tc : Thread Cert.ScoredIdeal.nD Cert.ScoredIdeal.τ).loc Cert.ScoredIdeal.main_arg6)
          ∧ r.2.mem ((c.tc : Thread Cert.ScoredIdeal.nD Cert.ScoredIdeal.τ).loc Cert.ScoredIdeal.main_arg7) = m' ((c.tc : Thread Cert.ScoredIdeal.nD Cert.ScoredIdeal.τ).loc Cert.ScoredIdeal.main_arg7)
          ∧ r.2.mem ((c.tc : Thread Cert.ScoredIdeal.nD Cert.ScoredIdeal.τ).loc Cert.ScoredIdeal.main_arg8) = m' ((c.tc : Thread Cert.ScoredIdeal.nD Cert.ScoredIdeal.τ).loc Cert.ScoredIdeal.main_arg8)
          ∧ r.2.mem ((c.tc : Thread Cert.ScoredIdeal.nD Cert.ScoredIdeal.τ).loc Cert.ScoredIdeal.main_arg9) = m' ((c.tc : Thread Cert.ScoredIdeal.nD Cert.ScoredIdeal.τ).loc Cert.ScoredIdeal.main_arg9))

def Claim : Prop :=
  ∃ (hKernel : Cert.Kernel.Facts) (hKernelIdeal : Cert.KernelIdeal.Facts) (hReferenceIdeal : Cert.ReferenceIdeal.Facts) (hSuppress : Cert.Suppress.Facts) (hSuppressIdeal : Cert.SuppressIdeal.Facts) (hDetectionsIdeal : Cert.DetectionsIdeal.Facts) (hHeads : Cert.Heads.Facts) (hHeadsIdeal : Cert.HeadsIdeal.Facts) (hScoredIdeal : Cert.ScoredIdeal.Facts) (hPre_enough : Cert.Pre_enough.Facts) (hPre_above : Cert.Pre_above.Facts),
    quiescent_Kernel (hKernel := hKernel) (hPre_enough := hPre_enough)
    ∧ quiescent_KernelIdeal (hKernelIdeal := hKernelIdeal) (hPre_enough := hPre_enough)
    ∧ quiescent_ReferenceIdeal (hReferenceIdeal := hReferenceIdeal)
    ∧ quiescent_ReferenceIdeal_pre_enough (hReferenceIdeal := hReferenceIdeal) (hPre_enough := hPre_enough)
    ∧ quiescent_Suppress (hSuppress := hSuppress)
    ∧ quiescent_SuppressIdeal (hSuppressIdeal := hSuppressIdeal)
    ∧ quiescent_SuppressIdeal_pre_above (hSuppressIdeal := hSuppressIdeal) (hPre_above := hPre_above)
    ∧ quiescent_DetectionsIdeal (hDetectionsIdeal := hDetectionsIdeal)
    ∧ quiescent_DetectionsIdeal_pre_above (hDetectionsIdeal := hDetectionsIdeal) (hPre_above := hPre_above)
    ∧ quiescent_Heads (hHeads := hHeads)
    ∧ quiescent_HeadsIdeal (hHeadsIdeal := hHeadsIdeal)
    ∧ quiescent_ScoredIdeal (hScoredIdeal := hScoredIdeal)
    ∧ preserves_Kernel_KernelIdeal
    ∧ algebraic_KernelIdeal_ReferenceIdeal (hKernelIdeal := hKernelIdeal) (hReferenceIdeal := hReferenceIdeal) (hPre_enough := hPre_enough)
    ∧ preserves_Suppress_SuppressIdeal
    ∧ algebraic_SuppressIdeal_DetectionsIdeal_pre_above (hSuppressIdeal := hSuppressIdeal) (hDetectionsIdeal := hDetectionsIdeal) (hPre_above := hPre_above)
    ∧ preserves_Heads_HeadsIdeal
    ∧ algebraic_HeadsIdeal_ScoredIdeal (hHeadsIdeal := hHeadsIdeal) (hScoredIdeal := hScoredIdeal)
-- ==== Pre_above.lean ====
abbrev S1024 : Shape := ⟨1, ![1024]⟩
abbrev S_ : Shape := ⟨0, ![]⟩

class Facts : Prop where
  reducesTo_S1024_S_d0 : S1024.ReducesTo [0] S_
  h_S_ : 0 < S_.numel

variable [Facts]

def fn {F : FTy → Type} [FloatOps F] (main_arg0 : FVec F S1024 .f32) (main_arg1 : FVec F S1024 .f32) (main_arg2 : FVec F S1024 .f32) (main_arg3 : FVec F S1024 .f32) (main_arg4 : FVec F S1024 .f32) (main_arg5 : IVec S1024 32) : IVec S_ 1 :=
  let main_cst : FVec F S_ .f32 := constant S_ .f32 0xFF800000#32
  let main_v0 : FVec F S_ .f32 := (fun x v => Host.reduce FloatOps.maximumf x v reducesTo_S1024_S_d0 h_S_) main_arg4 main_cst
  let main_cst_0 : FVec F S_ .f32 := constant S_ .f32 0xCE6E6B28#32
  let main_v1 : IVec S_ 1 := cmpf .ogt main_v0 main_cst_0
  main_v1
-- ==== Pre_enough.lean ====
abbrev S20480 : Shape := ⟨1, ![20480]⟩
abbrev S_ : Shape := ⟨0, ![]⟩

class Facts : Prop where
  bcast_S_S20480 : S_.BroadcastsInDim S20480 (![] : Fin 0 → Fin S20480.rank)
  natLt_1_32 : 1 < 32
  reducesTo_S20480_S_d0 : S20480.ReducesTo [0] S_
  h_S_ : 0 < S_.numel

variable [Facts]

def fn {F : FTy → Type} [FloatOps F] (main_arg0 : IVec S20480 32) (main_arg1 : FVec F S20480 .f32) (main_arg2 : FVec F S20480 .f32) (main_arg3 : FVec F S20480 .f32) (main_arg4 : FVec F S20480 .f32) (main_arg5 : FVec F S20480 .f32) (main_arg6 : IVec S20480 32) : IVec S_ 1 :=
  let main_c : IVec S_ 32 := constantI S_ 32 0#32
  let main_v0 : IVec S20480 32 := broadcastInDim S20480 ![] bcast_S_S20480 main_c
  let main_v1 : IVec S20480 1 := cmpi .sge main_arg0 main_v0
  let main_v2 : IVec S20480 32 := (extui 32 · natLt_1_32) main_v1
  let main_c_0 : IVec S_ 32 := constantI S_ 32 0#32
  let main_v3 : IVec S_ 32 := (fun x v => Host.reduce IntOp.addi x v reducesTo_S20480_S_d0 h_S_) main_v2 main_c_0
  let main_c_1 : IVec S_ 32 := constantI S_ 32 1000#32
  let main_v4 : IVec S_ 1 := cmpi .sge main_v3 main_c_1
  let main_c_2 : IVec S_ 32 := constantI S_ 32 1065353216#32
  let main_v5 : IVec S20480 32 := broadcastInDim S20480 ![] bcast_S_S20480 main_c_2
  let main_v6 : IVec S20480 1 := cmpi .sgt main_arg0 main_v5
  let main_v7 : IVec S20480 32 := (extui 32 · natLt_1_32) main_v6
  let main_c_3 : IVec S_ 32 := constantI S_ 32 0#32
  let main_v8 : IVec S_ 32 := (fun x v => Host.reduce IntOp.addi x v reducesTo_S20480_S_d0 h_S_) main_v7 main_c_3
  let main_c_4 : IVec S_ 32 := constantI S_ 32 1000#32
  let main_v9 : IVec S_ 1 := cmpi .sle main_v8 main_c_4
  let main_v10 : IVec S_ 1 := andi main_v4 main_v9
  main_v10
-- ==== Kernel.lean ====
abbrev S20480 : Shape := ⟨1, ![20480]⟩
abbrev S160x128 : Shape := ⟨2, ![160, 128]⟩
abbrev S1x16 : Shape := ⟨2, ![1, 16]⟩
abbrev S160x1 : Shape := ⟨2, ![160, 1]⟩
abbrev S1x160x128 : Shape := ⟨3, ![1, 160, 128]⟩
abbrev S1 : Shape := ⟨1, ![1]⟩
abbrev S1x1x1 : Shape := ⟨3, ![1, 1, 1]⟩
abbrev S160 : Shape := ⟨1, ![160]⟩
abbrev S16 : Shape := ⟨1, ![16]⟩
abbrev S32x656 : Shape := ⟨2, ![32, 656]⟩
abbrev S32x16 : Shape := ⟨2, ![32, 16]⟩
abbrev S640 : Shape := ⟨1, ![640]⟩
abbrev S656 : Shape := ⟨1, ![656]⟩
abbrev S_ : Shape := ⟨0, ![]⟩
abbrev S1x656 : Shape := ⟨2, ![1, 656]⟩
abbrev S20992 : Shape := ⟨1, ![20992]⟩
abbrev S512 : Shape := ⟨1, ![512]⟩
abbrev S1024 : Shape := ⟨1, ![1024]⟩
abbrev S32 : Shape := ⟨1, ![32]⟩

abbrev nBuf : Table → Nat
  | .hbm => 22
  | .local .tc .vmem => 3
  | .local .scVector .vmem => 14
  | _ => 0

abbrev bufTy : (tb : Table) → Fin (nBuf tb) → BufTy
  | .hbm, ⟨0, _⟩ => ⟨S20480, .i32⟩
  | .hbm, ⟨1, _⟩ => ⟨S20480, .f32⟩
  | .hbm, ⟨2, _⟩ => ⟨S20480, .f32⟩
  | .hbm, ⟨3, _⟩ => ⟨S20480, .f32⟩
  | .hbm, ⟨4, _⟩ => ⟨S20480, .f32⟩
  | .hbm, ⟨5, _⟩ => ⟨S20480, .f32⟩
  | .hbm, ⟨6, _⟩ => ⟨S20480, .i32⟩
  | .hbm, ⟨7, _⟩ => ⟨S160x128, .i32⟩
  | .hbm, ⟨8, _⟩ => ⟨S1x16, .i32⟩
  | .hbm, ⟨9, _⟩ => ⟨S160x1, .i32⟩
  | .hbm, ⟨10, _⟩ => ⟨S16, .i32⟩
  | .hbm, ⟨11, _⟩ => ⟨S160, .i32⟩
  | .hbm, ⟨12, _⟩ => ⟨S32x656, .i32⟩
  | .hbm, ⟨13, _⟩ => ⟨S32x16, .i32⟩
  | .hbm, ⟨14, _⟩ => ⟨S20992, .i32⟩
  | .hbm, ⟨15, _⟩ => ⟨S512, .i32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .i32⟩
  | .local .tc .vmem, ⟨0, _⟩ => ⟨S160x128, .i32⟩
  | .local .tc .vmem, ⟨1, _⟩ => ⟨S1x16, .i32⟩
  | .local .tc .vmem, ⟨2, _⟩ => ⟨S160x1, .i32⟩
  | .local .scVector .vmem, ⟨0, _⟩ => ⟨S640, .i32⟩
  | .local .scVector .vmem, ⟨1, _⟩ => ⟨S16, .i32⟩
  | .local .scVector .vmem, ⟨2, _⟩ => ⟨S160, .i32⟩
  | .local .scVector .vmem, ⟨3, _⟩ => ⟨S656, .i32⟩
  | .local .scVector .vmem, ⟨4, _⟩ => ⟨S16, .i32⟩
  | .local .scVector .vmem, ⟨5, _⟩ => ⟨S512, .i32⟩
  | .local .scVector .vmem, ⟨6, _⟩ => ⟨S32, .i32⟩
  | .local .scVector .vmem, ⟨7, _⟩ => ⟨S32, .i32⟩
  | .local .scVector .vmem, ⟨8, _⟩ => ⟨S32, .f32⟩
  | .local .scVector .vmem, ⟨9, _⟩ => ⟨S32, .f32⟩
  | .local .scVector .vmem, ⟨10, _⟩ => ⟨S32, .f32⟩
  | .local .scVector .vmem, ⟨11, _⟩ => ⟨S32, .f32⟩
  | .local .scVector .vmem, ⟨12, _⟩ => ⟨S32, .f32⟩
  | .local .scVector .vmem, ⟨13, _⟩ => ⟨S32, .i32⟩
  | _, _ => ⟨S20480, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_arg0_scv : Ref sig .scVector := ⟨.hbm, 0, rfl⟩
abbrev main_v2_scv : Ref sig .scVector := ⟨.hbm, 10, rfl⟩
abbrev main_v3_scv : Ref sig .scVector := ⟨.hbm, 11, rfl⟩
abbrev main_v4_0_scv : Ref sig .scVector := ⟨.hbm, 12, rfl⟩
abbrev main_v4_1_scv : Ref sig .scVector := ⟨.hbm, 13, rfl⟩
abbrev main_v5_scv : Ref sig .scVector := ⟨.hbm, 14, rfl⟩
abbrev main_v6_scv : Ref sig .scVector := ⟨.hbm, 15, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_v7_0_scv : Ref sig .scVector := ⟨.hbm, 16, rfl⟩
abbrev main_v7_1_scv : Ref sig .scVector := ⟨.hbm, 17, rfl⟩
abbrev main_v7_2_scv : Ref sig .scVector := ⟨.hbm, 18, rfl⟩
abbrev main_v7_3_scv : Ref sig .scVector := ⟨.hbm, 19, rfl⟩
abbrev main_v7_4_scv : Ref sig .scVector := ⟨.hbm, 20, rfl⟩
abbrev main_v7_5_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc2_scratch5 : Ref sig .scVector := ⟨.vmem, 10, rfl⟩
abbrev cc2_scratch6 : Ref sig .scVector := ⟨.vmem, 11, rfl⟩
abbrev cc2_scratch7 : Ref sig .scVector := ⟨.vmem, 12, rfl⟩
abbrev cc2_scratch8 : Ref sig .scVector := ⟨.vmem, 13, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c31_i32 : BitVec 32 := 31#32
  let v2 : BitVec 32 := Scalar.addi c0_i32_1 c31_i32
  let c1_i32 : BitVec 32 := 1#32
  ⟨c0_i32_1, v2, c1_i32⟩
abbrev stage0_0 : Fin 1 → Memref sig .tc .vmem S160x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
@[reducible] def k1_t1_loop : Scf.Loop 32 :=
  let c0_i32_0 : BitVec 32 := 0#32
  let c10_i32 : BitVec 32 := 10#32
  let v10 : BitVec 32 := Scalar.addi c0_i32_0 c10_i32
  let c1_i32 : BitVec 32 := 1#32
  ⟨c0_i32_0, v10, c1_i32⟩
def k1_off2 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32 : BitVec 32 := 16#32
  let v21 : BitVec 32 := Scalar.muli arg12 c16_i32
  let v22 : Index := Scalar.indexCast v21
  ![v22.toNat]
@[reducible] def k1_t2_loop : Scf.Loop 32 :=
  let c0_i32_3 : BitVec 32 := 0#32
  let c40_i32 : BitVec 32 := 40#32
  let v15 : BitVec 32 := Scalar.addi c0_i32_3 c40_i32
  let c1_i32_4 : BitVec 32 := 1#32
  ⟨c0_i32_3, v15, c1_i32_4⟩
def k1_off3 (k1_t2 : Fin k1_t2_loop.trips) : Fin 1 → Nat :=
  let c0_i32_3 : BitVec 32 := 0#32
  let c1_i32_4 : BitVec 32 := 1#32
  let arg12 : BitVec 32 := Scf.iv c0_i32_3 c1_i32_4 k1_t2
  let c16_i32 : BitVec 32 := 16#32
  let v21 : BitVec 32 := Scalar.muli arg12 c16_i32
  let v22 : Index := Scalar.indexCast v21
  ![v22.toNat]

def k1_chk1 (v50 : IVec S16 32) : Prop :=
  (∀ a x, ((![v50] : Fin 1 → IVec S16 32) a x).toNat < S656.size a)
theorem k1_idx1_inb : ∀ (v50 : IVec S16 32) (k1_hw1 : k1_chk1 v50), ∀ a x, ((![v50] : Fin 1 → IVec S16 32) a x).toNat < S656.size a := fun v50 k1_hw1 => k1_hw1
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r3 : BitVec 32 := 0#32
  ![v1.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r4 : BitVec 32 := 0#32
  ![v1.toNat, 0]
abbrev grid2 : Pipeline.Grid := ⟨2, ![2, 16], ![false, false]⟩

@[reducible] def k2_t1_loop : Scf.Loop 32 :=
  let c0_i32_1 : BitVec 32 := 0#32
  let c32_i32_2 : BitVec 32 := 32#32
  let v10 : BitVec 32 := Scalar.addi c0_i32_1 c32_i32_2
  let c1_i32 : BitVec 32 := 1#32
  ⟨c0_i32_1, v10, c1_i32⟩
def k2_off1 (k2_t1 : Fin k2_t1_loop.trips) : Fin 1 → Nat :=
  let c0_i32_1 : BitVec 32 := 0#32
  let c1_i32 : BitVec 32 := 1#32
  let arg26 : BitVec 32 := Scf.iv c0_i32_1 c1_i32 k2_t1
  let c16_i32_31 : BitVec 32 := 16#32
  let v70 : BitVec 32 := Scalar.muli arg26 c16_i32_31
  let v71 : Index := Scalar.indexCast v70
  ![v71.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S20480 : Shape := ⟨1, ![20480]⟩
abbrev S1000 : Shape := ⟨1, ![1000]⟩
abbrev S_ : Shape := ⟨0, ![]⟩
abbrev S24 : Shape := ⟨1, ![24]⟩
abbrev S1024 : Shape := ⟨1, ![1024]⟩
abbrev S1024x1 : Shape := ⟨2, ![1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S20480, .i32⟩
  | .hbm, ⟨1, _⟩ => ⟨S20480, .f32⟩
  | .hbm, ⟨2, _⟩ => ⟨S20480, .f32⟩
  | .hbm, ⟨3, _⟩ => ⟨S20480, .f32⟩
  | .hbm, ⟨4, _⟩ => ⟨S20480, .f32⟩
  | .hbm, ⟨5, _⟩ => ⟨S20480, .f32⟩
  | .hbm, ⟨6, _⟩ => ⟨S20480, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S_, .i32⟩
  | .hbm, ⟨11, _⟩ => ⟨S24, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S1024, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1024, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S1024, .f32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024, .i32⟩
  | _, _ => ⟨S20480, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_values : Ref sig .tc := ⟨.hbm, 7, rfl⟩
abbrev main_indices : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Suppress.lean ====
abbrev S1024 : Shape := ⟨1, ![1024]⟩
abbrev S8x128 : Shape := ⟨2, ![8, 128]⟩
abbrev S100x8 : Shape := ⟨2, ![100, 8]⟩
abbrev S1x8x128 : Shape := ⟨3, ![1, 8, 128]⟩
abbrev S1 : Shape := ⟨1, ![1]⟩
abbrev S1x1x1 : Shape := ⟨3, ![1, 1, 1]⟩
abbrev S100x5 : Shape := ⟨2, ![100, 5]⟩
abbrev S100x1 : Shape := ⟨2, ![100, 1]⟩
abbrev S100 : Shape := ⟨1, ![100]⟩

abbrev nBuf : Space → Nat
  | .hbm => 18
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S100x8, .f32⟩
  | .hbm, ⟨14, _⟩ => ⟨S100x5, .f32⟩
  | .hbm, ⟨15, _⟩ => ⟨S100x1, .f32⟩
  | .hbm, ⟨16, _⟩ => ⟨S100, .f32⟩
  | .hbm, ⟨17, _⟩ => ⟨S100, .i32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S100x8, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c100_i32 : BitVec 32 := 100#32
  let v27 : BitVec 32 := Scalar.addi c0_i32_13 c100_i32
  let c1_i32 : BitVec 32 := 1#32
  ⟨c0_i32_13, v27, c1_i32⟩
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S100x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DetectionsIdeal.lean ====
abbrev S1024 : Shape := ⟨1, ![1024]⟩
abbrev S_ : Shape := ⟨0, ![]⟩
abbrev S1024x1 : Shape := ⟨2, ![1024, 1]⟩
abbrev S100 : Shape := ⟨1, ![100]⟩
abbrev S1 : Shape := ⟨1, ![1]⟩
abbrev S1x1 : Shape := ⟨2, ![1, 1]⟩
abbrev S100x1 : Shape := ⟨2, ![100, 1]⟩
abbrev S100x5 : Shape := ⟨2, ![100, 5]⟩

abbrev nBuf : Space → Nat
  | .hbm => 213
  | .vmem => 0
  | .smem => 0
  | _ => 0

abbrev hbmTy0_0 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .i32⟩
  | 6 => ⟨S1024, .f32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1024, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024, .f32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1024, .f32⟩
  | 35 => ⟨S_, .i32⟩
  | 36 => ⟨S1024, .i32⟩
  | 37 => ⟨S1024, .i1⟩
  | 38 => ⟨S_, .i32⟩
  | 39 => ⟨S1024, .i32⟩
  | 40 => ⟨S1024, .i32⟩
  | 41 => ⟨S1024, .i32⟩
  | 42 => ⟨S1024x1, .i32⟩
  | 43 => ⟨S1024, .f32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S1024, .i32⟩
  | 53 => ⟨S100, .i32⟩
  | 54 => ⟨S_, .f32⟩
  | 55 => ⟨S100, .f32⟩
  | 56 => ⟨S_, .i32⟩
  | 57 => ⟨S100, .i32⟩
  | 58 => ⟨S_, .i32⟩
  | 59 => ⟨S_, .i32⟩
  | 60 => ⟨S1024, .f32⟩
  | 61 => ⟨S1024, .f32⟩
  | 62 => ⟨S1024, .f32⟩
  | 63 => ⟨S1024, .f32⟩
  | 64 => ⟨S100, .i32⟩
  | 65 => ⟨S1024, .i32⟩
  | 66 => ⟨S_, .i32⟩
  | 67 => ⟨S_, .i32⟩
  | 68 => ⟨S1024, .f32⟩
  | 69 => ⟨S100, .f32⟩
  | 70 => ⟨S100, .f32⟩
  | 71 => ⟨S100, .f32⟩
  | 72 => ⟨S100, .f32⟩
  | 73 => ⟨S100, .f32⟩
  | 74 => ⟨S100, .i32⟩
  | 75 => ⟨S_, .i32⟩
  | 76 => ⟨S_, .i1⟩
  | 77 => ⟨S_, .i32⟩
  | 78 => ⟨S_, .i32⟩
  | 79 => ⟨S1, .f32⟩
  | 80 => ⟨S1, .i32⟩
  | 81 => ⟨S_, .i32⟩
  | 82 => ⟨S1, .i32⟩
  | 83 => ⟨S1, .i1⟩
  | 84 => ⟨S_, .i32⟩
  | 85 => ⟨S1, .i32⟩
  | 86 => ⟨S1, .i32⟩
  | 87 => ⟨S1, .i32⟩
  | 88 => ⟨S1x1, .i32⟩
  | 89 => ⟨S1, .f32⟩
  | 90 => ⟨S_, .i32⟩
  | 91 => ⟨S1, .i32⟩
  | 92 => ⟨S1, .i1⟩
  | 93 => ⟨S_, .i32⟩
  | 94 => ⟨S1, .i32⟩
  | 95 => ⟨S1, .i32⟩
  | 96 => ⟨S1, .i32⟩
  | 97 => ⟨S1x1, .i32⟩
  | 98 => ⟨S1, .f32⟩
  | 99 => ⟨S_, .i32⟩
  | 100 => ⟨S1, .i32⟩
  | 101 => ⟨S1, .i1⟩
  | 102 => ⟨S_, .i32⟩
  | 103 => ⟨S1, .i32⟩
  | 104 => ⟨S1, .i32⟩
  | 105 => ⟨S1, .i32⟩
  | 106 => ⟨S1x1, .i32⟩
  | 107 => ⟨S1, .f32⟩
  | 108 => ⟨S_, .i32⟩
  | 109 => ⟨S1, .i32⟩
  | 110 => ⟨S1, .i1⟩
  | 111 => ⟨S_, .i32⟩
  | 112 => ⟨S1, .i32⟩
  | 113 => ⟨S1, .i32⟩
  | 114 => ⟨S1, .i32⟩
  | 115 => ⟨S1x1, .i32⟩
  | 116 => ⟨S1, .f32⟩
  | 117 => ⟨S1024, .f32⟩
  | 118 => ⟨S1024, .f32⟩
  | 119 => ⟨S1024, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S1024, .f32⟩
  | 127 => ⟨S1024, .f32⟩
  | _ => ⟨S1024, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1, .f32⟩
  | 7 => ⟨S_, .f32⟩
  | 8 => ⟨S1, .f32⟩
  | 9 => ⟨S1, .f32⟩
  | 10 => ⟨S1, .f32⟩
  | 11 => ⟨S_, .f32⟩
  | 12 => ⟨S1, .f32⟩
  | 13 => ⟨S1, .f32⟩
  | 14 => ⟨S1, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024, .f32⟩
  | 31 => ⟨S_, .i32⟩
  | 32 => ⟨S100, .i32⟩
  | 33 => ⟨S100, .i1⟩
  | 34 => ⟨S100, .f32⟩
  | 35 => ⟨S100, .f32⟩
  | 36 => ⟨S_, .i32⟩
  | 37 => ⟨S100, .i32⟩
  | 38 => ⟨S100, .i1⟩
  | 39 => ⟨S100, .f32⟩
  | 40 => ⟨S100, .f32⟩
  | 41 => ⟨S_, .i32⟩
  | 42 => ⟨S100, .i32⟩
  | 43 => ⟨S100, .i1⟩
  | 44 => ⟨S100, .f32⟩
  | 45 => ⟨S100, .f32⟩
  | 46 => ⟨S_, .i32⟩
  | 47 => ⟨S100, .i32⟩
  | 48 => ⟨S100, .i1⟩
  | 49 => ⟨S100, .f32⟩
  | 50 => ⟨S100, .f32⟩
  | 51 => ⟨S_, .i32⟩
  | 52 => ⟨S100, .i32⟩
  | 53 => ⟨S100, .i1⟩
  | 54 => ⟨S100, .f32⟩
  | 55 => ⟨S100, .f32⟩
  | 56 => ⟨S_, .f32⟩
  | 57 => ⟨S1024, .f32⟩
  | 58 => ⟨S1024, .i1⟩
  | 59 => ⟨S_, .f32⟩
  | 60 => ⟨S_, .f32⟩
  | 61 => ⟨S1024, .f32⟩
  | 62 => ⟨S1024, .f32⟩
  | 63 => ⟨S_, .i32⟩
  | 64 => ⟨S1, .i32⟩
  | 65 => ⟨S1, .i1⟩
  | 66 => ⟨S_, .i32⟩
  | 67 => ⟨S1, .i32⟩
  | 68 => ⟨S1, .i32⟩
  | 69 => ⟨S1, .i32⟩
  | 70 => ⟨S1x1, .i32⟩
  | 71 => ⟨S1, .i32⟩
  | 72 => ⟨S_, .i32⟩
  | 73 => ⟨S100, .i32⟩
  | 74 => ⟨S100, .i1⟩
  | 75 => ⟨S100, .i32⟩
  | 76 => ⟨S100, .i32⟩
  | 77 => ⟨S_, .i32⟩
  | 78 => ⟨S_, .i32⟩
  | 79 => ⟨S100x1, .f32⟩
  | 80 => ⟨S100x1, .f32⟩
  | 81 => ⟨S100x1, .f32⟩
  | 82 => ⟨S100x1, .f32⟩
  | 83 => ⟨S100x1, .f32⟩
  | 84 => ⟨S100x5, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_c_10 : Ref sig .tc := ⟨.hbm, 58, rfl⟩
abbrev main_c_11 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev main_v38_3 : Ref sig .tc := ⟨.hbm, 63, rfl⟩
abbrev main_v38_4 : Ref sig .tc := ⟨.hbm, 64, rfl⟩
abbrev main_v38_5 : Ref sig .tc := ⟨.hbm, 65, rfl⟩
abbrev main_v38_6 : Ref sig .tc := ⟨.hbm, 66, rfl⟩
abbrev main_v38_7 : Ref sig .tc := ⟨.hbm, 67, rfl⟩
abbrev main_v38_8 : Ref sig .tc := ⟨.hbm, 68, rfl⟩
abbrev main_v38_9 : Ref sig .tc := ⟨.hbm, 69, rfl⟩
abbrev main_v38_10 : Ref sig .tc := ⟨.hbm, 70, rfl⟩
abbrev main_v38_11 : Ref sig .tc := ⟨.hbm, 71, rfl⟩
abbrev main_v38_12 : Ref sig .tc := ⟨.hbm, 72, rfl⟩
abbrev main_v38_13 : Ref sig .tc := ⟨.hbm, 73, rfl⟩
abbrev main_v38_14 : Ref sig .tc := ⟨.hbm, 74, rfl⟩
abbrev main_while0c_c_26 : Ref sig .tc := ⟨.hbm, 75, rfl⟩
abbrev main_while0c_v45 : Ref sig .tc := ⟨.hbm, 76, rfl⟩
abbrev main_while0b_c_26 : Ref sig .tc := ⟨.hbm, 77, rfl⟩
abbrev main_while0b_v45 : Ref sig .tc := ⟨.hbm, 78, rfl⟩
abbrev main_while0b_values_27 : Ref sig .tc := ⟨.hbm, 79, rfl⟩
abbrev main_while0b_indices_28 : Ref sig .tc := ⟨.hbm, 80, rfl⟩
abbrev main_while0b_c_29 : Ref sig .tc := ⟨.hbm, 81, rfl⟩
abbrev main_while0b_v46 : Ref sig .tc := ⟨.hbm, 82, rfl⟩
abbrev main_while0b_v47 : Ref sig .tc := ⟨.hbm, 83, rfl⟩
abbrev main_while0b_c_30 : Ref sig .tc := ⟨.hbm, 84, rfl⟩
abbrev main_while0b_v48 : Ref sig .tc := ⟨.hbm, 85, rfl⟩
abbrev main_while0b_v49 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_c_31 : Ref sig .tc := ⟨.hbm, 90, rfl⟩
abbrev main_while0b_v53 : Ref sig .tc := ⟨.hbm, 91, rfl⟩
abbrev main_while0b_v54 : Ref sig .tc := ⟨.hbm, 92, rfl⟩
abbrev main_while0b_c_32 : Ref sig .tc := ⟨.hbm, 93, rfl⟩
abbrev main_while0b_v55 : Ref sig .tc := ⟨.hbm, 94, rfl⟩
abbrev main_while0b_v56 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_c_33 : Ref sig .tc := ⟨.hbm, 99, rfl⟩
abbrev main_while0b_v60 : Ref sig .tc := ⟨.hbm, 100, rfl⟩
abbrev main_while0b_v61 : Ref sig .tc := ⟨.hbm, 101, rfl⟩
abbrev main_while0b_c_34 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_c_35 : Ref sig .tc := ⟨.hbm, 108, rfl⟩
abbrev main_while0b_v67 : Ref sig .tc := ⟨.hbm, 109, rfl⟩
abbrev main_while0b_v68 : Ref sig .tc := ⟨.hbm, 110, rfl⟩
abbrev main_while0b_c_36 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_cst_37 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_cst_38 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_cst_39 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_cst_40 : Ref sig .tc := ⟨.hbm, 139, rfl⟩
abbrev main_while0b_v93 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_cst_41 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_cst_42 : Ref sig .tc := ⟨.hbm, 148, rfl⟩
abbrev main_while0b_v100 : Ref sig .tc := ⟨.hbm, 149, rfl⟩
abbrev main_while0b_v101 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_cst_43 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_call0_v0 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_call1_v0 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_v119 : Ref sig .tc := ⟨.hbm, 171, rfl⟩
abbrev main_while0b_call2_v0 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_call3_v0 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_call4_v0 : Ref sig .tc := ⟨.hbm, 182, rfl⟩
abbrev main_while0b_v128 : Ref sig .tc := ⟨.hbm, 183, rfl⟩
abbrev main_while0b_cst_44 : Ref sig .tc := ⟨.hbm, 184, rfl⟩
abbrev main_while0b_v129 : Ref sig .tc := ⟨.hbm, 185, rfl⟩
abbrev main_while0b_v130 : Ref sig .tc := ⟨.hbm, 186, rfl⟩
abbrev main_while0b_cst_45 : Ref sig .tc := ⟨.hbm, 187, rfl⟩
abbrev main_while0b_call5_v0 : Ref sig .tc := ⟨.hbm, 188, rfl⟩
abbrev main_while0b_call5_v1 : Ref sig .tc := ⟨.hbm, 189, rfl⟩
abbrev main_while0b_v131 : Ref sig .tc := ⟨.hbm, 190, rfl⟩
abbrev main_while0b_c_46 : Ref sig .tc := ⟨.hbm, 191, rfl⟩
abbrev main_while0b_v132 : Ref sig .tc := ⟨.hbm, 192, rfl⟩
abbrev main_while0b_v133 : Ref sig .tc := ⟨.hbm, 193, rfl⟩
abbrev main_while0b_c_47 : Ref sig .tc := ⟨.hbm, 194, rfl⟩
abbrev main_while0b_v134 : Ref sig .tc := ⟨.hbm, 195, rfl⟩
abbrev main_while0b_v135 : Ref sig .tc := ⟨.hbm, 196, rfl⟩
abbrev main_while0b_v136 : Ref sig .tc := ⟨.hbm, 197, rfl⟩
abbrev main_while0b_v137 : Ref sig .tc := ⟨.hbm, 198, rfl⟩
abbrev main_while0b_v138 : Ref sig .tc := ⟨.hbm, 199, rfl⟩
abbrev main_while0b_v139 : Ref sig .tc := ⟨.hbm, 200, rfl⟩
abbrev main_while0b_v140 : Ref sig .tc := ⟨.hbm, 201, rfl⟩
abbrev main_while0b_v141 : Ref sig .tc := ⟨.hbm, 202, rfl⟩
abbrev main_while0b_call6_v0 : Ref sig .tc := ⟨.hbm, 203, rfl⟩
abbrev main_while0b_v142 : Ref sig .tc := ⟨.hbm, 204, rfl⟩
abbrev main_while0b_c_48 : Ref sig .tc := ⟨.hbm, 205, rfl⟩
abbrev main_while0b_v143 : Ref sig .tc := ⟨.hbm, 206, rfl⟩
abbrev main_v39 : Ref sig .tc := ⟨.hbm, 207, rfl⟩
abbrev main_v40 : Ref sig .tc := ⟨.hbm, 208, rfl⟩
abbrev main_v41 : Ref sig .tc := ⟨.hbm, 209, rfl⟩
abbrev main_v42 : Ref sig .tc := ⟨.hbm, 210, rfl⟩
abbrev main_v43 : Ref sig .tc := ⟨.hbm, 211, rfl⟩
abbrev main_v44 : Ref sig .tc := ⟨.hbm, 212, rfl⟩

abbrev nD : Nat := 1
abbrev τ : Topo := Topo.v7x

variable {F : FTy → Type} [FloatOps F]

abbrev main_while0_count : Scf.Loop 32 := ⟨0#32, 100#32, 1#32⟩
-- ==== Heads.lean ====
abbrev S20000x256 : Shape := ⟨2, ![20000, 256]⟩
abbrev S20000x4 : Shape := ⟨2, ![20000, 4]⟩
abbrev S256x256 : Shape := ⟨2, ![256, 256]⟩
abbrev S256 : Shape := ⟨1, ![256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S1x256 : Shape := ⟨2, ![1, 256]⟩
abbrev S1x80 : Shape := ⟨2, ![1, 80]⟩
abbrev S1x4 : Shape := ⟨2, ![1, 4]⟩
abbrev S20480x1 : Shape := ⟨2, ![20480, 1]⟩
abbrev S512x256 : Shape := ⟨2, ![512, 256]⟩
abbrev S512x4 : Shape := ⟨2, ![512, 4]⟩
abbrev S512x1 : Shape := ⟨2, ![512, 1]⟩
abbrev S512x80 : Shape := ⟨2, ![512, 80]⟩
abbrev S512 : Shape := ⟨1, ![512]⟩

abbrev nBuf : Space → Nat
  | .hbm => 20
  | .vmem => 24
  | .smem => 0
  | _ => 0

abbrev bufTy : (tb : Table) → Fin (tcTables nBuf tb) → BufTy
  | .hbm, ⟨0, _⟩ => ⟨S20000x256, .f32⟩
  | .hbm, ⟨1, _⟩ => ⟨S20000x4, .f32⟩
  | .hbm, ⟨2, _⟩ => ⟨S256x256, .f32⟩
  | .hbm, ⟨3, _⟩ => ⟨S256, .f32⟩
  | .hbm, ⟨4, _⟩ => ⟨S256x80, .f32⟩
  | .hbm, ⟨5, _⟩ => ⟨S80, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S1x256, .f32⟩
  | .hbm, ⟨11, _⟩ => ⟨S1x80, .f32⟩
  | .hbm, ⟨12, _⟩ => ⟨S1x256, .f32⟩
  | .hbm, ⟨13, _⟩ => ⟨S1x4, .f32⟩
  | .hbm, ⟨14, _⟩ => ⟨S20480x1, .f32⟩
  | .hbm, ⟨15, _⟩ => ⟨S20480x1, .f32⟩
  | .hbm, ⟨16, _⟩ => ⟨S20480x1, .f32⟩
  | .hbm, ⟨17, _⟩ => ⟨S20480x1, .f32⟩
  | .hbm, ⟨18, _⟩ => ⟨S20480x1, .f32⟩
  | .hbm, ⟨19, _⟩ => ⟨S20480x1, .i32⟩
  | .local _ .vmem, ⟨0, _⟩ => ⟨S512x256, .f32⟩
  | .local _ .vmem, ⟨1, _⟩ => ⟨S512x256, .f32⟩
  | .local _ .vmem, ⟨2, _⟩ => ⟨S512x4, .f32⟩
  | .local _ .vmem, ⟨3, _⟩ => ⟨S512x4, .f32⟩
  | .local _ .vmem, ⟨4, _⟩ => ⟨S256x256, .f32⟩
  | .local _ .vmem, ⟨5, _⟩ => ⟨S1x256, .f32⟩
  | .local _ .vmem, ⟨6, _⟩ => ⟨S256x80, .f32⟩
  | .local _ .vmem, ⟨7, _⟩ => ⟨S1x80, .f32⟩
  | .local _ .vmem, ⟨8, _⟩ => ⟨S256x256, .f32⟩
  | .local _ .vmem, ⟨9, _⟩ => ⟨S1x256, .f32⟩
  | .local _ .vmem, ⟨10, _⟩ => ⟨S256x4, .f32⟩
  | .local _ .vmem, ⟨11, _⟩ => ⟨S1x4, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .i32⟩
  | .local _ .vmem, ⟨23, _⟩ => ⟨S512x1, .i32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ScoredIdeal.lean ====
abbrev S20000x256 : Shape := ⟨2, ![20000, 256]⟩
abbrev S20000x4 : Shape := ⟨2, ![20000, 4]⟩
abbrev S256x256 : Shape := ⟨2, ![256, 256]⟩
abbrev S256 : Shape := ⟨1, ![256]⟩
abbrev S256x80 : Shape := ⟨2, ![256, 80]⟩
abbrev S80 : Shape := ⟨1, ![80]⟩
abbrev S256x4 : Shape := ⟨2, ![256, 4]⟩
abbrev S4 : Shape := ⟨1, ![4]⟩
abbrev S1x256 : Shape := ⟨2, ![1, 256]⟩
abbrev S_ : Shape := ⟨0, ![]⟩
abbrev S20000x80 : Shape := ⟨2, ![20000, 80]⟩
abbrev S1x80 : Shape := ⟨2, ![1, 80]⟩
abbrev S1x4 : Shape := ⟨2, ![1, 4]⟩
abbrev S20000x2 : Shape := ⟨2, ![20000, 2]⟩
abbrev S20000x1 : Shape := ⟨2, ![20000, 1]⟩
abbrev S20000 : Shape := ⟨1, ![20000]⟩
abbrev S480 : Shape := ⟨1, ![480]⟩
abbrev S20480 : Shape := ⟨1, ![20480]⟩
abbrev S20480x1 : Shape := ⟨2, ![20480, 1]⟩

abbrev nBuf : Space → Nat
  | .hbm => 96
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x4, .f32⟩
  | .hbm, ⟨2, _⟩ => ⟨S256x256, .f32⟩
  | .hbm, ⟨3, _⟩ => ⟨S256, .f32⟩
  | .hbm, ⟨4, _⟩ => ⟨S256x80, .f32⟩
  | .hbm, ⟨5, _⟩ => ⟨S80, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S20000x256, .f32⟩
  | .hbm, ⟨11, _⟩ => ⟨S1x256, .f32⟩
  | .hbm, ⟨12, _⟩ => ⟨S20000x256, .f32⟩
  | .hbm, ⟨13, _⟩ => ⟨S20000x256, .f32⟩
  | .hbm, ⟨14, _⟩ => ⟨S_, .f32⟩
  | .hbm, ⟨15, _⟩ => ⟨S20000x256, .f32⟩
  | .hbm, ⟨16, _⟩ => ⟨S20000x256, .f32⟩
  | .hbm, ⟨17, _⟩ => ⟨S20000x80, .f32⟩
  | .hbm, ⟨18, _⟩ => ⟨S1x80, .f32⟩
  | .hbm, ⟨19, _⟩ => ⟨S20000x80, .f32⟩
  | .hbm, ⟨20, _⟩ => ⟨S20000x80, .f32⟩
  | .hbm, ⟨21, _⟩ => ⟨S20000x256, .f32⟩
  | .hbm, ⟨22, _⟩ => ⟨S1x256, .f32⟩
  | .hbm, ⟨23, _⟩ => ⟨S20000x256, .f32⟩
  | .hbm, ⟨24, _⟩ => ⟨S20000x256, .f32⟩
  | .hbm, ⟨25, _⟩ => ⟨S_, .f32⟩
  | .hbm, ⟨26, _⟩ => ⟨S20000x256, .f32⟩
  | .hbm, ⟨27, _⟩ => ⟨S20000x256, .f32⟩
  | .hbm, ⟨28, _⟩ => ⟨S20000x4, .f32⟩
  | .hbm, ⟨29, _⟩ => ⟨S1x4, .f32⟩
  | .hbm, ⟨30, _⟩ => ⟨S20000x4, .f32⟩
  | .hbm, ⟨31, _⟩ => ⟨S20000x4, .f32⟩
  | .hbm, ⟨32, _⟩ => ⟨S20000x2, .f32⟩
  | .hbm, ⟨33, _⟩ => ⟨S20000x2, .f32⟩
  | .hbm, ⟨34, _⟩ => ⟨S20000x2, .f32⟩
  | .hbm, ⟨35, _⟩ => ⟨S20000x2, .f32⟩
  | .hbm, ⟨36, _⟩ => ⟨S20000x2, .f32⟩
  | .hbm, ⟨37, _⟩ => ⟨S20000x2, .f32⟩
  | .hbm, ⟨38, _⟩ => ⟨S20000x2, .f32⟩
  | .hbm, ⟨39, _⟩ => ⟨S20000x2, .f32⟩
  | .hbm, ⟨40, _⟩ => ⟨S20000x2, .f32⟩
  | .hbm, ⟨41, _⟩ => ⟨S20000x2, .f32⟩
  | .hbm, ⟨42, _⟩ => ⟨S20000x2, .f32⟩
  | .hbm, ⟨43, _⟩ => ⟨S_, .f32⟩
  | .hbm, ⟨44, _⟩ => ⟨S20000x2, .f32⟩
  | .hbm, ⟨45, _⟩ => ⟨S20000x2, .f32⟩
  | .hbm, ⟨46, _⟩ => ⟨S20000x2, .f32⟩
  | .hbm, ⟨47, _⟩ => ⟨S_, .f32⟩
  | .hbm, ⟨48, _⟩ => ⟨S20000x2, .f32⟩
  | .hbm, ⟨49, _⟩ => ⟨S20000x2, .f32⟩
  | .hbm, ⟨50, _⟩ => ⟨S20000x2, .f32⟩
  | .hbm, ⟨51, _⟩ => ⟨S20000x4, .f32⟩
  | .hbm, ⟨52, _⟩ => ⟨S20000x80, .f32⟩
  | .hbm, ⟨53, _⟩ => ⟨S20000x80, .f32⟩
  | .hbm, ⟨54, _⟩ => ⟨S_, .f32⟩
  | .hbm, ⟨55, _⟩ => ⟨S20000x80, .f32⟩
  | .hbm, ⟨56, _⟩ => ⟨S20000x80, .f32⟩
  | .hbm, ⟨57, _⟩ => ⟨S_, .f32⟩
  | .hbm, ⟨58, _⟩ => ⟨S20000x80, .f32⟩
  | .hbm, ⟨59, _⟩ => ⟨S20000x80, .f32⟩
  | .hbm, ⟨60, _⟩ => ⟨S20000x1, .f32⟩
  | .hbm, ⟨61, _⟩ => ⟨S20000x1, .i32⟩
  | .hbm, ⟨62, _⟩ => ⟨S20000, .f32⟩
  | .hbm, ⟨63, _⟩ => ⟨S20000, .i32⟩
  | .hbm, ⟨64, _⟩ => ⟨S_, .f32⟩
  | .hbm, ⟨65, _⟩ => ⟨S480, .f32⟩
  | .hbm, ⟨66, _⟩ => ⟨S20480, .f32⟩
  | .hbm, ⟨67, _⟩ => ⟨S20480x1, .f32⟩
  | .hbm, ⟨68, _⟩ => ⟨S20000x1, .f32⟩
  | .hbm, ⟨69, _⟩ => ⟨S20000, .f32⟩
  | .hbm, ⟨70, _⟩ => ⟨S_, .f32⟩
  | .hbm, ⟨71, _⟩ => ⟨S480, .f32⟩
  | .hbm, ⟨72, _⟩ => ⟨S20480, .f32⟩
  | .hbm, ⟨73, _⟩ => ⟨S20480x1, .f32⟩
  | .hbm, ⟨74, _⟩ => ⟨S20000x1, .f32⟩
  | .hbm, ⟨75, _⟩ => ⟨S20000, .f32⟩
  | .hbm, ⟨76, _⟩ => ⟨S_, .f32⟩
  | .hbm, ⟨77, _⟩ => ⟨S480, .f32⟩
  | .hbm, ⟨78, _⟩ => ⟨S20480, .f32⟩
  | .hbm, ⟨79, _⟩ => ⟨S20480x1, .f32⟩
  | .hbm, ⟨80, _⟩ => ⟨S20000x1, .f32⟩
  | .hbm, ⟨81, _⟩ => ⟨S20000, .f32⟩
  | .hbm, ⟨82, _⟩ => ⟨S_, .f32⟩
  | .hbm, ⟨83, _⟩ => ⟨S480, .f32⟩
  | .hbm, ⟨84, _⟩ => ⟨S20480, .f32⟩
  | .hbm, ⟨85, _⟩ => ⟨S20480x1, .f32⟩
  | .hbm, ⟨86, _⟩ => ⟨S20000x1, .f32⟩
  | .hbm, ⟨87, _⟩ => ⟨S20000, .f32⟩
  | .hbm, ⟨88, _⟩ => ⟨S_, .f32⟩
  | .hbm, ⟨89, _⟩ => ⟨S480, .f32⟩
  | .hbm, ⟨90, _⟩ => ⟨S20480, .f32⟩
  | .hbm, ⟨91, _⟩ => ⟨S20480x1, .f32⟩
  | .hbm, ⟨92, _⟩ => ⟨S_, .i32⟩
  | .hbm, ⟨93, _⟩ => ⟨S480, .i32⟩
  | .hbm, ⟨94, _⟩ => ⟨S20480, .i32⟩
  | .hbm, ⟨95, _⟩ => ⟨S20480x1, .i32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_values : Ref sig .tc := ⟨.hbm, 60, rfl⟩
abbrev main_indices : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.Select.lean ====
module

public import Mathlib.Data.Nat.Count
public import Mathlib.Order.Interval.Finset.Fin
public import Idealize.ShloMosaic.Lib.WordSum

@[expose] public section

/-! # The choice of the 1000 best scores, over the natural numbers

`x i` is the score of row `i` as a signed number; the rows are those below 20480. For a threshold `t` the rows
above it are `Above`, the rows at it `At`; `Sel` is every row above the threshold and the first `need` rows at it,
where `need` fills the choice up to 1000. Running counts (`Nat.count`) give the place of every chosen row, and
`place` the chosen row of every place. -/

namespace Cand

variable (x : ℕ → ℤ) (t : ℤ)

/-- Row `i` scores above the threshold. -/
def Above (i : ℕ) : Prop := i < 20480 ∧ t < x i
/-- Row `i` scores the threshold. -/
def At (i : ℕ) : Prop := i < 20480 ∧ x i = t
/-- Row `i` scores at least the threshold. -/
def Least (i : ℕ) : Prop := i < 20480 ∧ t ≤ x i

instance : DecidablePred (Above x t) := fun _ => inferInstanceAs (Decidable (_ ∧ _))
instance : DecidablePred (At x t) := fun _ => inferInstanceAs (Decidable (_ ∧ _))
instance : DecidablePred (Least x t) := fun _ => inferInstanceAs (Decidable (_ ∧ _))

/-- How many rows score above the threshold. -/
def above : ℕ := Nat.count (Above x t) 20480

/-- Row `i` is chosen: it scores above the threshold, or at it and is among the first that fill the choice. -/
def Sel (i : ℕ) : Prop := Above x t i ∨ (At x t i ∧ Nat.count (At x t) (i + 1) ≤ 1000 - above x t)
instance : DecidablePred (Sel x t) := fun _ => inferInstanceAs (Decidable (_ ∨ _))

/-- The threshold is right: at most 1000 rows above it, at least 1000 rows not below it. -/
def Right : Prop := above x t ≤ 1000 ∧ 1000 ≤ Nat.count (Least x t) 20480

/-- Rows not below the threshold are those above and those at it. -/
theorem count_least (n : ℕ) : Nat.count (Least x t) n = Nat.count (Above x t) n + Nat.count (At x t) n := by
  induction n with
  | zero => simp
  | succ n ih =>
    have hA : Above x t n ↔ n < 20480 ∧ t < x n := Iff.rfl
    have hE : At x t n ↔ n < 20480 ∧ x n = t := Iff.rfl
    have hL : Least x t n ↔ n < 20480 ∧ t ≤ x n := Iff.rfl
    simp only [Nat.count_succ, ih]
    by_cases hn : n < 20480
    · by_cases h1 : t < x n
      · have h2 : ¬ x n = t := by omega
        have h3 : t ≤ x n := by omega
        simp [hA, hE, hL, hn, h1, h2, h3]; omega
      · by_cases h2 : x n = t
        · simp [hA, hE, hL, hn, h2]; omega
        · have h3 : ¬ t ≤ x n := by omega
          simp [hA, hE, hL, h1, h2, h3]
    · simp [hA, hE, hL, hn]

/-- The chosen rows below `n`: those above the threshold, and of those at it no more than fill the choice. -/
theorem count_sel (n : ℕ) :
    Nat.count (Sel x t) n = Nat.count (Above x t) n + min (Nat.count (At x t) n) (1000 - above x t) := by
  induction n with
  | zero => simp
  | succ n ih =>
    have hA : Above x t n ↔ n < 20480 ∧ t < x n := Iff.rfl
    have hE : At x t n ↔ n < 20480 ∧ x n = t := Iff.rfl
    have hS : Sel x t n ↔ Above x t n ∨ (At x t n ∧ Nat.count (At x t) (n + 1) ≤ 1000 - above x t) := Iff.rfl
    rw [Nat.count_succ, ih, Nat.count_succ (p := Above x t), Nat.count_succ (p := At x t)]
    by_cases h1 : Above x t n
    · have h2 : ¬ At x t n := by rw [hE]; rw [hA] at h1; omega
      have h3 : Sel x t n := Or.inl h1
      simp [h1, h2, h3]; omega
    · by_cases h2 : At x t n
      · have h4 : Nat.count (At x t) (n + 1) = Nat.count (At x t) n + 1 := by rw [Nat.count_succ, if_pos h2]
        by_cases h3 : Nat.count (At x t) (n + 1) ≤ 1000 - above x t
        · have : Sel x t n := Or.inr ⟨h2, h3⟩
          simp only [this, h1, h2, if_true, if_false]; omega
        · have : ¬ Sel x t n := by rw [hS]; rintro (h | ⟨_, h⟩) <;> contradiction
          simp only [this, h1, h2, if_true, if_false]; omega
      · have : ¬ Sel x t n := by rw [hS]; rintro (h | ⟨h, _⟩) <;> contradiction
        simp [this, h1, h2]

variable {x t}

/-- A right threshold chooses exactly 1000 rows. -/
theorem Right.count (h : Right x t) : Nat.count (Sel x t) 20480 = 1000 := by
  have h1 := count_sel x t 20480
  have h2 := count_least x t 20480
  obtain ⟨ha, hl⟩ := h
  have : above x t = Nat.count (Above x t) 20480 := rfl
  omega

theorem Sel.lt {i : ℕ} (h : Sel x t i) : i < 20480 := by
  rcases h with h | ⟨h, _⟩ <;> exact h.1

theorem count_mono (p : ℕ → Prop) [DecidablePred p] {a b : ℕ} (h : a ≤ b) : Nat.count p a ≤ Nat.count p b :=
  Nat.count_monotone p h

/-- Every place below a running count is taken. -/
theorem exists_place (P : ℕ → Prop) [DecidablePred P] (n : ℕ) {j : ℕ} (hj : j < Nat.count P n) :
    ∃ i < n, P i ∧ Nat.count P i = j := by
  induction n with
  | zero => simp at hj
  | succ n ih =>
    rw [Nat.count_succ] at hj
    by_cases h : j < Nat.count P n
    · obtain ⟨i, hi, h1, h2⟩ := ih h
      exact ⟨i, by omega, h1, h2⟩
    · by_cases hp : P n
      · rw [if_pos hp] at hj; exact ⟨n, by omega, hp, by omega⟩
      · rw [if_neg hp] at hj; omega

open Classical in
/-- The row at place `j`: it satisfies `P`, with `j` such rows before it. -/
noncomputable def place (P : ℕ → Prop) [DecidablePred P] (j : ℕ) : ℕ :=
  if h : ∃ i, P i ∧ Nat.count P i = j then h.choose else 0

theorem place_spec (P : ℕ → Prop) [DecidablePred P] {n j : ℕ} (hj : j < Nat.count P n) :
    P (place P j) ∧ Nat.count P (place P j) = j := by
  obtain ⟨i, _, h1, h2⟩ := exists_place P n hj
  have h : ∃ i, P i ∧ Nat.count P i = j := ⟨i, h1, h2⟩
  unfold place
  rw [dif_pos h]
  exact h.choose_spec

/-- Two rows with as many before them are one. -/
theorem place_unique (P : ℕ → Prop) [DecidablePred P] {a b : ℕ} (ha : P a) (hb : P b)
    (h : Nat.count P a = Nat.count P b) : a = b := by
  rcases Nat.lt_trichotomy a b with hl | hl | hl
  · have := count_mono P (show a + 1 ≤ b from hl)
    rw [Nat.count_succ, if_pos ha] at this; omega
  · exact hl
  · have := count_mono P (show b + 1 ≤ a from hl)
    rw [Nat.count_succ, if_pos hb] at this; omega

/-- The row at place `j` of the choice: below 20480, chosen, and with `j` chosen rows before it. -/
theorem Right.nth (h : Right x t) {j : ℕ} (hj : j < 1000) :
    Sel x t (place (Sel x t) j) ∧ Nat.count (Sel x t) (place (Sel x t) j) = j ∧ place (Sel x t) j < 20480 := by
  have h1 := place_spec (Sel x t) (n := 20480) (j := j) (by rw [h.count]; exact hj)
  exact ⟨h1.1, h1.2, Sel.lt h1.1⟩

/-- A step of a running count over 640-row chunks: the chunk of the row at place `j`. -/
theorem Right.chunk (h : Right x t) {j : ℕ} (hj : j < 1000) (p : ℕ) (hp : p < 32) :
    Nat.count (Sel x t) (640 * p) ≤ j ↔ p ≤ place (Sel x t) j / 640 := by
  obtain ⟨hs, hc, hlt⟩ := h.nth hj
  constructor
  · intro hle
    by_contra hn
    have h1 : place (Sel x t) j + 1 ≤ 640 * p := by omega
    have h2 := count_mono (Sel x t) h1
    rw [Nat.count_succ, if_pos hs] at h2
    omega
  · intro hle
    have h1 : 640 * p ≤ place (Sel x t) j := by
      have := Nat.div_mul_le_self (place (Sel x t) j) 640
      have := Nat.mul_le_mul_left 640 hle
      omega
    have := count_mono (Sel x t) h1
    omega

/-- The chosen rows are closed upwards in the order "greater score, else lower row". -/
theorem Sel.up {a i : ℕ} (h : Sel x t i) (ha : a < 20480) (hb : x i < x a ∨ (x a = x i ∧ a < i)) : Sel x t a := by
  rcases h with h | ⟨h, hn⟩
  · rcases hb with hb | ⟨hb, _⟩
    · exact Or.inl ⟨ha, h.2.trans hb⟩
    · exact Or.inl ⟨ha, hb ▸ h.2⟩
  · rcases hb with hb | ⟨hb, hl⟩
    · exact Or.inl ⟨ha, h.2 ▸ hb⟩
    · refine Or.inr ⟨⟨ha, hb.trans h.2⟩, le_trans (count_mono _ ?_) hn⟩
      omega

/-- A set of 1000 rows that lists the rows in the order "greater score, else lower row" without gaps is the choice. -/
theorem Right.eq_of_first (h : Right x t) (g : Fin 1000 → ℕ) (hinj : Function.Injective g) (hg : ∀ k, g k < 20480)
    (hfirst : ∀ i < 20480, (∀ k, g k ≠ i) → ∀ k, x i < x (g k) ∨ (x (g k) = x i ∧ g k < i)) (i : ℕ) :
    Sel x t i ↔ ∃ k, g k = i := by
  have hc := h.count
  set S : Finset ℕ := (Finset.range 20480).filter (Sel x t) with hS
  have hScard : S.card = 1000 := by rw [hS, ← Nat.count_eq_card_filter_range, hc]
  set T : Finset ℕ := Finset.univ.image g with hT
  have hTcard : T.card = 1000 := by rw [hT, Finset.card_image_of_injective _ hinj]; simp
  have hsub : S ⊆ T := by
    intro i hi
    have hi' := Finset.mem_filter.1 hi
    have hi1 := Finset.mem_range.1 hi'.1
    by_contra hn
    have hne : ∀ k, g k ≠ i := fun k hk => hn (Finset.mem_image.2 ⟨k, Finset.mem_univ _, hk⟩)
    have hTS : insert i T ⊆ S := by
      intro a ha
      rcases Finset.mem_insert.1 ha with rfl | ha
      · exact hi
      · obtain ⟨k, _, rfl⟩ := Finset.mem_image.1 ha
        refine Finset.mem_filter.2 ⟨Finset.mem_range.2 (hg k), Sel.up hi'.2 (hg k) (hfirst i hi1 hne k)⟩
    have := Finset.card_le_card hTS
    rw [Finset.card_insert_of_notMem hn] at this
    omega
  have heq : S = T := Finset.eq_of_subset_of_card_le hsub (by omega)
  constructor
  · intro hs
    have : i ∈ T := heq ▸ Finset.mem_filter.2 ⟨Finset.mem_range.2 hs.lt, hs⟩
    obtain ⟨k, _, hk⟩ := Finset.mem_image.1 this
    exact ⟨k, hk⟩
  · rintro ⟨k, rfl⟩
    have : g k ∈ S := heq ▸ Finset.mem_image.2 ⟨k, Finset.mem_univ _, rfl⟩
    exact (Finset.mem_filter.1 this).2

/-- A strictly increasing list of the rows of the choice is the list of its places. -/
theorem nth_of_strictMono {n : ℕ} (P : ℕ → Prop) [DecidablePred P] (g : Fin n → ℕ) (hg : StrictMono g)
    (hP : ∀ i, P i ↔ ∃ k, g k = i) (k : Fin n) : place P k.val = g k := by
  have hc : Nat.count P (g k) = k.val := by
    rw [Nat.count_eq_card_filter_range]
    have : (Finset.range (g k)).filter P = (Finset.univ.filter fun j : Fin n => j < k).image g := by
      ext i
      simp only [Finset.mem_filter, Finset.mem_range, Finset.mem_image, Finset.mem_univ, true_and, hP]
      constructor
      · rintro ⟨hi, j, rfl⟩; exact ⟨j, hg.lt_iff_lt.1 hi, rfl⟩
      · rintro ⟨j, hj, rfl⟩; exact ⟨hg hj, j, rfl⟩
    rw [this, Finset.card_image_of_injective _ hg.injective]
    have h2 : (Finset.univ.filter fun j : Fin n => j < k) = Finset.Iio k := by ext j; simp
    rw [h2, Fin.card_Iio]
  have hk : P (g k) := (hP _).2 ⟨k, rfl⟩
  have h2 := place_spec P (n := g k + 1) (j := k.val) (by rw [Nat.count_succ, if_pos hk, hc]; omega)
  exact place_unique P h2.1 hk (h2.2.trans hc.symm)

end Cand
-- ==== Proof.Base.lean ====
/-
  The launch set-up shared by the proof's parts: the program as the SparseCore launch theorem sees it, the resource
  algebra, the two families of thirty-two tasks, and an array dealt out in thirty-two shares.
-/
module

public import proofs.«01_k».proof.Defs
public import proofs.«01_k».proof.Proof.Select
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq [FloatOps F] (q : Fin 2) : (K (F := F)).nCore q = 2 := by revert q; intro q; match q with | 0 => rfl | 1 => rfl
theorem nSub_eq [FloatOps F] (q : Fin 2) : (K (F := F)).nSub q = 16 := by revert q; intro q; match q with | 0 => rfl | 1 => rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The staging cells' rounds: the left half of the right factor. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-! ## The tasks: tile `s` of SparseCore `c` has number `2 * s + c` -/

def wid (c : Fin 2) (s : Fin 16) : Fin 32 := ⟨2 * s.val + c.val, by omega⟩

def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_) <;> simp only [wid] <;> omega
  right_inv w := Fin.ext (by simp only [wid]; omega)

/-- A family over the thirty-two tasks, dealt to the two SparseCores' sixteen tiles. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

theorem bigSep_core [FloatOps F] (q : Fin 2) (Φ : Fin 2 → sProp 𝕄) :
    (bigSep Finset.univ fun c : Fin ((K (F := F)).nCore q) => Φ (Fin.cast (nCore_eq q) c)) = bigSep Finset.univ Φ := by
  match q with
  | 0 => rfl
  | 1 => rfl

/-! ## An array in shares: the left half, the left half of what remains, and so on; the last takes the rest -/

def share : (n : ℕ) → PosShare TreeShare → Fin (n + 1) → PosShare TreeShare
  | 0, q => fun _ => q
  | n + 1, q => Fin.cons q.left (share n q.right)

theorem bigSep_univ_cons {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), bigSep_map]
  rfl

theorem pointsTo_shares {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{share n q i} f
  | 0, q => (bigSep_univ_of_subsingleton (0 : Fin 1) (Φ := fun i : Fin (0 + 1) => (ℓ ↦[I]{share 0 q i} f : sProp 𝕄))).symm
  | n + 1, q => by
    rw [bigSep_univ_cons, BI.Entails.antisymm (pointsTo_share (PosShare.mem_left_op_right q)).1 (pointsTo_share (PosShare.mem_left_op_right q)).2,
      pointsTo_shares I f n q.right]
    rfl

/-- Task `w`'s share of an array all tasks read. -/
abbrev sh (w : Fin 32) : PosShare TreeShare := share 31 fullShare w

theorem pointsTo_tasks {ℓ : Loc nD τ sig} (f : Buf (Elt F) ℓ) :
    (ℓ ↦{fullShare} f : sProp 𝕄) = bigSep Finset.univ fun w : Fin 32 => ℓ ↦{sh w} f :=
  pointsTo_shares Finset.univ f 31 fullShare

/-! ## Words of a one-dimensional array by number -/

/-- The index of a one-dimensional shape at position `i`. -/
abbrev at1 {n : ℕ} (i : ℕ) (h : i < n) : (⟨1, ![n]⟩ : Shape).Idx := Shape.ofLane (d := ![n]) ⟨i, h⟩

theorem at1_eta {n : ℕ} (j : (⟨1, ![n]⟩ : Shape).Idx) : at1 (j 0).val (j 0).isLt = j := by
  funext a; match a with | 0 => rfl

/-- The scores' words as integers, by row. -/
def xs (f : S20480.Idx → BitVec 32) (i : ℕ) : ℤ := if h : i < 20480 then (f (at1 i h)).toInt else 0

end Cand

end
-- ==== Proof.Words.lean ====
/-
  Word arithmetic of the kernel's vector operations: comparisons read as integers, a running sum and a running maximum
  over sixteen lanes, and a masked indexed store.
-/
module

public import proofs.«01_k».proof.Proof.Base

@[expose] public section

noncomputable section

namespace Cand

open Cert.KernelIdeal Cert.KernelIdeal.Gen
open Idealize.ShloMosaic

variable {F : FTy → Type} [FloatOps F]

/-! ## Comparisons -/

theorem ofBool_one (b : Bool) : (BitVec.ofBool b = 1#1) ↔ b = true := by cases b <;> decide

theorem cmp_eq (a b : BitVec 32) : IntOp.cmpi .eq a b = 1#1 ↔ a.toInt = b.toInt := by
  simp only [IntOp.cmpi, ofBool_one, beq_iff_eq, BitVec.toInt_inj]
theorem cmp_sgt (a b : BitVec 32) : IntOp.cmpi .sgt a b = 1#1 ↔ b.toInt < a.toInt := by
  simp only [IntOp.cmpi, ofBool_one, BitVec.slt_eq_decide, decide_eq_true_eq]
theorem cmp_slt (a b : BitVec 32) : IntOp.cmpi .slt a b = 1#1 ↔ a.toInt < b.toInt := by
  simp only [IntOp.cmpi, ofBool_one, BitVec.slt_eq_decide, decide_eq_true_eq]
theorem cmp_sle (a b : BitVec 32) : IntOp.cmpi .sle a b = 1#1 ↔ a.toInt ≤ b.toInt := by
  simp only [IntOp.cmpi, ofBool_one, BitVec.sle_eq_decide, decide_eq_true_eq]
theorem cmp_sge (a b : BitVec 32) : IntOp.cmpi .sge a b = 1#1 ↔ b.toInt ≤ a.toInt := by
  simp only [IntOp.cmpi, ofBool_one, BitVec.sle_eq_decide, decide_eq_true_eq]

theorem or_one (a b : BitVec 1) : IntOp.ori a b = 1#1 ↔ a = 1#1 ∨ b = 1#1 := by
  revert a b; decide
theorem and_one (a b : BitVec 1) : IntOp.andi a b = 1#1 ↔ a = 1#1 ∧ b = 1#1 := by
  revert a b; decide

/-- A word below half the range is its own signed value. -/
theorem toInt_small (a : BitVec 32) (h : a.toNat < 2 ^ 31) : a.toInt = a.toNat :=
  BitVec.toInt_eq_toNat_of_lt (by omega)

/-- An extended comparison bit. -/
theorem toNat_extui (b : BitVec 1) : (BitVec.setWidth 32 b).toNat = if b = 1#1 then 1 else 0 := by
  revert b; decide

/-! ## Sixteen lanes -/

theorem scan_zero (kind : ScanKind) (v : IVec S16 32) : scan kind v (at1 0 (by decide)) = v (at1 0 (by decide)) := rfl

theorem scan_succ (kind : ScanKind) (v : IVec S16 32) (i : ℕ) (h : i + 1 < 16) :
    scan kind v (at1 (i + 1) h) = kind.step (scan kind v (at1 i (by omega))) (v (at1 (i + 1) h)) := by
  have : i < 15 := by omega
  interval_cases i <;> rfl

/-- The lane a one-element slice at `c` reads. -/
theorem slice_at (c : ℕ) (hc : c < 16) (v : IVec S16 32) (h h') :
    extractAt ![0] (extractStridedSlice S1 ![c] v h) h' = v (at1 c hc) :=
  congrArg v (funext fun a => by match a with | 0 => rfl)

/-- The lane an extraction reads. -/
theorem lane_at (c : ℕ) (hc : c < 16) (v : IVec S16 32) (h) : extractAt ![c] v h = v (at1 c hc) :=
  congrArg v (funext fun a => by match a with | 0 => rfl)

/-- The running sum of the marks of a property is its running count. -/
theorem scan_count (P : ℕ → Prop) [DecidablePred P] (n : ℕ) (v : IVec S16 32)
    (hv : ∀ k (h : k < 16), (v (at1 k h)).toNat = if P (n + k) then 1 else 0) :
    ∀ k (h : k < 16), (scan .sum v (at1 k h)).toNat = Nat.count P (n + k + 1) - Nat.count P n
      ∧ Nat.count P (n + k + 1) ≤ Nat.count P n + (k + 1) := by
  intro k
  induction k with
  | zero =>
    intro h
    rw [scan_zero, hv 0 h, Nat.add_zero, Nat.count_succ]
    split <;> omega
  | succ k ih =>
    intro h
    obtain ⟨h1, h2⟩ := ih (by omega)
    have h3 := count_mono P (show n ≤ n + k + 1 by omega)
    rw [scan_succ]
    have hs : ((ScanKind.sum).step (scan .sum v (at1 k (by omega))) (v (at1 (k + 1) h))).toNat
        = ((scan .sum v (at1 k (by omega))).toNat + (v (at1 (k + 1) h)).toNat) % 2 ^ 32 := BitVec.toNat_add _ _
    rw [hs, h1, hv (k + 1) h, show n + (k + 1) + 1 = (n + k + 1) + 1 by omega, Nat.count_succ P (n + k + 1),
      show n + (k + 1) = n + k + 1 by omega]
    split <;> omega

/-- The running maximum of a vector that does not decrease is the vector. -/
theorem scan_max (v : IVec S16 32) (hv : ∀ k (h : k + 1 < 16), (v (at1 k (by omega))).toNat ≤ (v (at1 (k + 1) h)).toNat) :
    ∀ k (h : k < 16), scan .max v (at1 k h) = v (at1 k h) := by
  intro k
  induction k with
  | zero => intro h; rfl
  | succ k ih =>
    intro h
    rw [scan_succ, ih (by omega)]
    show (if (v (at1 (k + 1) h)).ult (v (at1 k (by omega))) then v (at1 k (by omega)) else v (at1 (k + 1) h)) = _
    have := hv k h
    rw [if_neg]
    simp only [BitVec.ult_eq_decide, decide_eq_true_eq]; omega

/-! ## The masked indexed store -/

section Store

variable {n : ℕ} (f : (⟨1, ![n]⟩ : Shape).Idx → BitVec 32) (ix : IVec S16 32) (v : IVec S16 32) (mask : IVec S16 1)

/-- Steps that act on one position by a choice, over a list of lanes. -/
theorem fold_at {α : Type} {N : ℕ} (st : (α → BitVec 32) → Fin N → (α → BitVec 32)) (j : α) (Q : Fin N → Prop) [DecidablePred Q] (w : Fin N → BitVec 32)
    (hst : ∀ g k, st g k j = if Q k then w k else g j) :
    ∀ (l : List (Fin N)) (g : α → BitVec 32), (l.foldl st g) j = l.foldl (fun y k => if Q k then w k else y) (g j) := by
  intro l
  induction l with
  | nil => intro g; rfl
  | cons k l ih => intro g; rw [List.foldl_cons, List.foldl_cons, ih, hst]

theorem store_eq (h : ∀ a x, ((![ix] : Fin 1 → IVec S16 32) a x).toNat < (⟨1, ![n]⟩ : Shape).size a) (j : (⟨1, ![n]⟩ : Shape).Idx) :
    storeIdx (F := F) (e := .i32) f ![ix] v mask false h j
      = (List.finRange ((![16] : Fin 1 → ℕ) 0)).foldl (fun (y : BitVec 32) k =>
            if mask (at1 k.val k.isLt) = 1 ∧ (ix (at1 k.val k.isLt)).toNat = (j 0).val then v (at1 k.val k.isLt) else y) (f j) := by
  unfold storeIdx
  refine fold_at _ j (fun k => mask (at1 k.val k.isLt) = 1 ∧ (ix (at1 k.val k.isLt)).toNat = (j 0).val) (fun k => v (at1 k.val k.isLt))
    (fun g k => ?_) _ f
  have e : (∀ a, (j a).val = (idxAt ![ix] h (Shape.ofLane (d := ![16]) k) a).val) ↔ (ix (at1 k.val k.isLt)).toNat = (j 0).val := by
    constructor
    · intro h'; exact (h' 0).symm
    · intro h' a; match a with | 0 => exact h'.symm
  by_cases hm : mask (at1 k.val k.isLt) = 1
  · simp only [hm, true_and]
    rw [if_pos (show mask (Shape.ofLane k) = 1 from hm)]
    by_cases h' : (ix (at1 k.val k.isLt)).toNat = (j 0).val
    · rw [if_pos (e.mpr h'), if_pos h']; rfl
    · rw [if_neg (fun q => h' (e.mp q)), if_neg h']
  · rw [if_neg (show ¬ mask (Shape.ofLane k) = 1 from hm), if_neg (fun q => hm q.1)]

theorem fold_miss {N : ℕ} (Q : Fin N → Prop) [DecidablePred Q] (w : Fin N → BitVec 32) :
    ∀ (l : List (Fin N)) (y : BitVec 32), (∀ k ∈ l, ¬ Q k) → l.foldl (fun y k => if Q k then w k else y) y = y := by
  intro l
  induction l with
  | nil => intro y _; rfl
  | cons k l ih =>
    intro y hl
    rw [List.foldl_cons, if_neg (hl k (by simp))]
    exact ih y fun k' hk' => hl k' (by simp [hk'])

theorem fold_hit {N : ℕ} (Q : Fin N → Prop) [DecidablePred Q] (w : Fin N → BitVec 32) (k₀ : Fin N) (h₀ : Q k₀) (hu : ∀ k, Q k → k = k₀) :
    ∀ (l : List (Fin N)) (y : BitVec 32), (k₀ ∈ l ∨ y = w k₀) → l.foldl (fun y k => if Q k then w k else y) y = w k₀ := by
  intro l
  induction l with
  | nil => intro y hl; simpa using hl
  | cons k l ih =>
    intro y hl
    rw [List.foldl_cons]
    refine ih _ ?_
    by_cases hk : Q k
    · rw [if_pos hk, hu k hk]; exact .inr rfl
    · rw [if_neg hk]
      rcases hl with hl | hl
      · rcases List.mem_cons.mp hl with rfl | hl
        · exact absurd h₀ hk
        · exact .inl hl
      · exact .inr hl

/-- A position no marked lane names keeps its word. -/
theorem store_miss (h : ∀ a x, ((![ix] : Fin 1 → IVec S16 32) a x).toNat < (⟨1, ![n]⟩ : Shape).size a) (j : (⟨1, ![n]⟩ : Shape).Idx)
    (hm : ∀ k (hk : k < 16), mask (at1 k hk) = 1#1 → (ix (at1 k hk)).toNat ≠ (j 0).val) :
    storeIdx (F := F) (e := .i32) f ![ix] v mask false h j = f j := by
  rw [store_eq]
  exact fold_miss _ _ _ _ fun k _ q => hm k.val k.isLt q.1 q.2

/-- A position one marked lane names takes that lane's word. -/
theorem store_hit (h : ∀ a x, ((![ix] : Fin 1 → IVec S16 32) a x).toNat < (⟨1, ![n]⟩ : Shape).size a) (j : (⟨1, ![n]⟩ : Shape).Idx)
    (k₀ : ℕ) (hk₀ : k₀ < 16) (h₁ : mask (at1 k₀ hk₀) = 1#1) (h₂ : (ix (at1 k₀ hk₀)).toNat = (j 0).val)
    (hu : ∀ k (hk : k < 16), mask (at1 k hk) = 1#1 → (ix (at1 k hk)).toNat = (j 0).val → k = k₀) :
    storeIdx (F := F) (e := .i32) f ![ix] v mask false h j = v (at1 k₀ hk₀) := by
  rw [store_eq]
  exact fold_hit (fun k : Fin ((![16] : Fin 1 → ℕ) 0) => mask (at1 k.val k.isLt) = 1#1 ∧ (ix (at1 k.val k.isLt)).toNat = (j 0).val) (fun k => v (at1 k.val k.isLt)) ⟨k₀, hk₀⟩
    ⟨h₁, h₂⟩ (fun k q => Fin.ext (hu k.val k.isLt q.1 q.2)) _ _ (.inl (List.mem_finRange _))

end Store

/-! ## One trip of the compaction: sixteen rows from row `n` -/

/-- What a task reads of the threshold: the threshold in lane 0, how many rows at it are chosen in lane 2. -/
def TInfo (x : ℕ → ℤ) (t : ℤ) (g : S16.Idx → BitVec 32) : Prop :=
  (g (at1 0 (by decide))).toInt = t ∧ (g (at1 2 (by decide))).toInt = 1000 - above x t

section Trip

variable {x : ℕ → ℤ} {t : ℤ} {g : S16.Idx → BitVec 32} {y : S16.Idx → BitVec 32} {n : ℕ} {eqc : BitVec 32}

theorem pay4_at (hg : TInfo x t g) (hy : ∀ k (h : k < 16), (y (at1 k h)).toInt = x (n + k)) (hn : n + 16 ≤ 20480) (k : ℕ) (h : k < 16) :
    k1_pay4 (F := F) g y (at1 k h) = 1#1 ↔ At x t (n + k) := by
  show IntOp.cmpi .eq (y (at1 k h)) (extractAt ![0] (extractStridedSlice S1 ![0] g slices_S16_o0_S1) inpos_S1_p0) = 1#1 ↔ _
  rw [slice_at 0 (by decide), cmp_eq, hy k h, hg.1]
  exact ⟨fun q => ⟨by omega, q⟩, fun q => q.2⟩

theorem pay5_at (hg : TInfo x t g) (hy : ∀ k (h : k < 16), (y (at1 k h)).toInt = x (n + k)) (hn : n + 16 ≤ 20480) (k : ℕ) (h : k < 16) :
    (k1_pay5 (F := F) g y (at1 k h)).toNat = Nat.count (At x t) (n + k + 1) - Nat.count (At x t) n
      ∧ Nat.count (At x t) (n + k + 1) ≤ Nat.count (At x t) n + (k + 1) := by
  refine scan_count (At x t) n _ (fun k h => ?_) k h
  show (if k1_pay4 (F := F) g y (at1 k h) = 1#1 then 1#32 else 0#32).toNat = _
  rw [if_congr (pay4_at hg hy hn k h) rfl rfl]
  split <;> rfl

theorem pay6_at (hg : TInfo x t g) (ha : above x t ≤ 1000) (hy : ∀ k (h : k < 16), (y (at1 k h)).toInt = x (n + k)) (hn : n + 16 ≤ 20480)
    (he : eqc.toNat = Nat.count (At x t) n) (k : ℕ) (h : k < 16) :
    k1_pay6 (F := F) g eqc y (at1 k h) = 1#1 ↔ Sel x t (n + k) := by
  show IntOp.ori (IntOp.cmpi .sgt (y (at1 k h)) (extractAt ![0] (extractStridedSlice S1 ![0] g slices_S16_o0_S1) inpos_S1_p0))
    (IntOp.andi (k1_pay4 (F := F) g y (at1 k h))
      (IntOp.cmpi .sle (eqc + k1_pay5 (F := F) g y (at1 k h)) (extractAt ![0] (extractStridedSlice S1 ![2] g slices_S16_o2_S1) inpos_S1_p0))) = 1#1 ↔ _
  obtain ⟨h5, h5'⟩ := pay5_at (F := F) hg hy hn k h
  have hm := count_mono (At x t) (show n ≤ n + k + 1 by omega)
  have hc : Nat.count (At x t) n ≤ n := Nat.count_le _
  have hs : (eqc + k1_pay5 (F := F) g y (at1 k h)).toNat = Nat.count (At x t) (n + k + 1) := by
    rw [BitVec.toNat_add, he, h5]; omega
  have hi : (eqc + k1_pay5 (F := F) g y (at1 k h)).toInt = Nat.count (At x t) (n + k + 1) := by
    rw [toInt_small _ (by rw [hs]; omega), hs]
  rw [slice_at 0 (by decide), slice_at 2 (by decide), or_one, and_one, cmp_sgt, cmp_sle, hi, hg.1, hg.2, hy k h, pay4_at hg hy hn k h]
  refine or_congr ⟨fun q => ⟨by omega, q⟩, fun q => q.2⟩ (and_congr Iff.rfl ?_)
  omega

theorem pay8_at (hg : TInfo x t g) (ha : above x t ≤ 1000) (hy : ∀ k (h : k < 16), (y (at1 k h)).toInt = x (n + k)) (hn : n + 16 ≤ 20480)
    (he : eqc.toNat = Nat.count (At x t) n) (k : ℕ) (h : k < 16) :
    (k1_pay8 (F := F) g eqc y (at1 k h)).toNat = if Sel x t (n + k) then 1 else 0 := by
  show (if k1_pay6 (F := F) g eqc y (at1 k h) = 1#1 then 1#32 else 0#32).toNat = _
  rw [if_congr (pay6_at hg ha hy hn he k h) rfl rfl]
  split <;> rfl

theorem pay10_at (hg : TInfo x t g) (ha : above x t ≤ 1000) (hy : ∀ k (h : k < 16), (y (at1 k h)).toInt = x (n + k)) (hn : n + 16 ≤ 20480)
    (he : eqc.toNat = Nat.count (At x t) n) (k : ℕ) (h : k < 16) :
    (k1_pay10 (F := F) g eqc y (at1 k h)).toNat = Nat.count (Sel x t) (n + k + 1) - Nat.count (Sel x t) n
      ∧ Nat.count (Sel x t) (n + k + 1) ≤ Nat.count (Sel x t) n + (k + 1) :=
  scan_count (Sel x t) n _ (fun k h => pay8_at hg ha hy hn he k h) k h

theorem pay9_at (hg : TInfo x t g) (ha : above x t ≤ 1000) (hy : ∀ k (h : k < 16), (y (at1 k h)).toInt = x (n + k)) (hn : n + 16 ≤ 20480)
    (he : eqc.toNat = Nat.count (At x t) n) {b : ℕ} (hb : b ≤ n) {pos : BitVec 32}
    (hp : pos.toNat = Nat.count (Sel x t) n - Nat.count (Sel x t) b) (k : ℕ) (h : k < 16) :
    (k1_pay9 (F := F) g pos eqc y (at1 k h)).toNat = Nat.count (Sel x t) (n + k) - Nat.count (Sel x t) b := by
  show ((pos + k1_pay10 (F := F) g eqc y (at1 k h)) - k1_pay8 (F := F) g eqc y (at1 k h)).toNat = _
  obtain ⟨h1, h2⟩ := pay10_at (F := F) hg ha hy hn he k h
  have h3 := pay8_at (F := F) hg ha hy hn he k h
  have h4 := count_mono (Sel x t) hb
  have h5 := count_mono (Sel x t) (show n ≤ n + k by omega)
  have h6 : Nat.count (Sel x t) (n + k + 1) = Nat.count (Sel x t) (n + k) + if Sel x t (n + k) then 1 else 0 := Nat.count_succ _ _
  have hc : Nat.count (Sel x t) n ≤ n := Nat.count_le _
  have hc' : Nat.count (Sel x t) (n + k) ≤ n + k := Nat.count_le _
  rw [BitVec.toNat_sub, BitVec.toNat_add, hp, h1, h3]
  generalize hq : (if Sel x t (n + k) then 1 else 0) = q at *
  have : q ≤ 1 := by subst hq; split <;> omega
  omega

/-- The last lane of the running maximum of the shifted running count is that count. -/
theorem pay11_last (hg : TInfo x t g) (hy : ∀ k (h : k < 16), (y (at1 k h)).toInt = x (n + k)) (hn : n + 16 ≤ 20480) :
    (k1_pay11 (F := F) g y (at1 15 (by decide))).toNat = Nat.count (At x t) (n + 16) - Nat.count (At x t) n := by
  have hflip : ∀ a : BitVec 32, a.toNat < 2 ^ 31 → (a ^^^ 2147483648#32).toNat = a.toNat + 2 ^ 31 := by
    intro a ha
    have : a ^^^ 2147483648#32 = a + 2147483648#32 := by
      apply BitVec.eq_of_toNat_eq
      rw [BitVec.toNat_xor, BitVec.toNat_add]
      have h1 : (2147483648#32).toNat = 2 ^ 31 := rfl
      rw [h1, Nat.mod_eq_of_lt (by omega)]
      have := Nat.two_pow_add_eq_or_of_lt ha 1
      rw [Nat.mul_one, Nat.add_comm] at this
      rw [this]
      apply Nat.eq_of_testBit_eq
      intro i
      rw [Nat.testBit_xor, Nat.testBit_or]
      by_cases hi : i = 31
      · subst hi
        rw [Nat.testBit_lt_two_pow ha]; simp
      · rw [Nat.testBit_two_pow_of_ne (by omega)]; simp
    rw [this, BitVec.toNat_add]
    have h1 : (2147483648#32).toNat = 2 ^ 31 := rfl
    rw [h1]; omega
  have h5 := fun k h => pay5_at (F := F) hg hy hn k h
  have hmax := scan_max (fun i => k1_pay5 (F := F) g y i ^^^ 2147483648#32) (fun k h => by
    have h1 := h5 k (by omega)
    have h2 := h5 (k + 1) h
    have h3 := count_mono (At x t) (show n + k + 1 ≤ n + (k + 1) + 1 by omega)
    show (k1_pay5 (F := F) g y (at1 k _) ^^^ 2147483648#32).toNat ≤ (k1_pay5 (F := F) g y (at1 (k + 1) _) ^^^ 2147483648#32).toNat
    rw [hflip _ (by omega), hflip _ (by omega)]; omega) 15 (by decide)
  have he : k1_pay11 (F := F) g y (at1 15 (by decide)) = k1_pay5 (F := F) g y (at1 15 (by decide)) := by
    show scan .max (fun i => k1_pay5 (F := F) g y i ^^^ 2147483648#32) (at1 15 (by decide)) ^^^ 2147483648#32 = _
    rw [hmax, BitVec.xor_assoc, BitVec.xor_self, BitVec.xor_zero]
  rw [he, (h5 15 (by decide)).1]

/-! ### The task's list after a trip -/

/-- The chosen rows from `b` on below `n`, each at its place. -/
def Part (x : ℕ → ℤ) (t : ℤ) (b n : ℕ) (f : S656.Idx → BitVec 32) : Prop :=
  ∀ i, b ≤ i → i < n → Sel x t i → ∀ h : Nat.count (Sel x t) i - Nat.count (Sel x t) b < 656,
    f (at1 (Nat.count (Sel x t) i - Nat.count (Sel x t) b) h) = BitVec.ofNat 32 i

theorem count_gap (P : ℕ → Prop) [DecidablePred P] (b : ℕ) : ∀ k, Nat.count P (b + k) ≤ Nat.count P b + k := by
  intro k
  induction k with
  | zero => exact le_rfl
  | succ k ih =>
    rw [show b + (k + 1) = b + k + 1 by omega, Nat.count_succ]; split <;> omega

theorem chk_trip (hg : TInfo x t g) (ha : above x t ≤ 1000) (hy : ∀ k (h : k < 16), (y (at1 k h)).toInt = x (n + k)) (hn : n + 16 ≤ 20480)
    (he : eqc.toNat = Nat.count (At x t) n) {b : ℕ} (hb : b ≤ n) (hbn : n + 16 ≤ b + 640) {pos : BitVec 32}
    (hp : pos.toNat = Nat.count (Sel x t) n - Nat.count (Sel x t) b) :
    k1_chk1 (k1_pay9 (F := F) g pos eqc y) := by
  intro a j
  match a with
  | 0 =>
    have := pay9_at (F := F) hg ha hy hn he hb hp (j 0).val (j 0).isLt
    rw [show at1 (n := 16) (j 0).val (j 0).isLt = j from at1_eta j] at this
    show (k1_pay9 (F := F) g pos eqc y j).toNat < 656
    rw [this]
    have h1 := count_gap (Sel x t) b (n + (j 0).val - b)
    rw [show b + (n + (j 0).val - b) = n + (j 0).val by omega] at h1
    have : (j 0).val < 16 := (j 0).isLt
    omega

theorem part_trip (hg : TInfo x t g) (ha : above x t ≤ 1000) (hy : ∀ k (h : k < 16), (y (at1 k h)).toInt = x (n + k)) (hn : n + 16 ≤ 20480)
    (he : eqc.toNat = Nat.count (At x t) n) {b : ℕ} (hb : b ≤ n) (hbn : n + 16 ≤ b + 640) {pos : BitVec 32}
    (hp : pos.toNat = Nat.count (Sel x t) n - Nat.count (Sel x t) b)
    (idx : IVec S16 32) (hidx : ∀ k (h : k < 16), idx (at1 k h) = BitVec.ofNat 32 (n + k))
    (f : S656.Idx → BitVec 32) (hf : Part x t b n f) (hchk) :
    Part x t b (n + 16) (storeIdx (F := F) (e := .i32) f ![k1_pay9 (F := F) g pos eqc y] idx (k1_pay6 (F := F) g eqc y) false hchk) := by
  intro i hbi hin hsel hlt
  have hs : ∀ k (h : k < 16), k1_pay6 (F := F) g eqc y (at1 k h) = 1#1 ↔ Sel x t (n + k) := fun k h => pay6_at hg ha hy hn he k h
  have hp9 : ∀ k (h : k < 16), (k1_pay9 (F := F) g pos eqc y (at1 k h)).toNat = Nat.count (Sel x t) (n + k) - Nat.count (Sel x t) b :=
    fun k h => pay9_at hg ha hy hn he hb hp k h
  have hbi' := count_mono (Sel x t) hbi
  have hinj : ∀ k (h : k < 16), Sel x t (n + k) → Nat.count (Sel x t) (n + k) - Nat.count (Sel x t) b = Nat.count (Sel x t) i - Nat.count (Sel x t) b → n + k = i := by
    intro k h hk hc
    have := count_mono (Sel x t) (show b ≤ n + k by omega)
    exact place_unique (Sel x t) hk hsel (by omega)
  by_cases hni : i < n
  · refine (store_miss (F := F) f _ idx _ hchk _ fun k h hm hc => ?_).trans (hf i hbi hni hsel hlt)
    rw [hp9 k h] at hc
    have := hinj k h ((hs k h).mp hm) hc
    omega
  · have hk : i - n < 16 := by omega
    have hik : n + (i - n) = i := by omega
    refine (store_hit (F := F) f _ idx _ hchk _ (i - n) hk ((hs _ hk).mpr (by rw [hik]; exact hsel)) (by rw [hp9, hik]; rfl)
      fun k h hm hc => ?_).trans ((hidx _ hk).trans (by rw [hik]))
    rw [hp9 k h] at hc
    have := hinj k h ((hs k h).mp hm) hc
    omega

theorem pos_trip (hg : TInfo x t g) (ha : above x t ≤ 1000) (hy : ∀ k (h : k < 16), (y (at1 k h)).toInt = x (n + k)) (hn : n + 16 ≤ 20480)
    (he : eqc.toNat = Nat.count (At x t) n) {b : ℕ} (hb : b ≤ n) {pos : BitVec 32}
    (hp : pos.toNat = Nat.count (Sel x t) n - Nat.count (Sel x t) b) :
    (Scalar.addi pos (extractAt ![15] (k1_pay10 (F := F) g eqc y) inpos_S16_p15)).toNat = Nat.count (Sel x t) (n + 16) - Nat.count (Sel x t) b := by
  rw [lane_at 15 (by decide)]
  show (pos + k1_pay10 (F := F) g eqc y (at1 15 (by decide))).toNat = _
  obtain ⟨h1, h2⟩ := pay10_at (F := F) hg ha hy hn he 15 (by decide)
  have h4 := count_mono (Sel x t) hb
  have h5 := count_mono (Sel x t) (show n ≤ n + 15 + 1 by omega)
  have hc : Nat.count (Sel x t) n ≤ n := Nat.count_le _
  rw [BitVec.toNat_add, hp, h1]
  rw [show n + 15 + 1 = n + 16 by omega] at *
  omega

theorem eqc_trip (hg : TInfo x t g) (hy : ∀ k (h : k < 16), (y (at1 k h)).toInt = x (n + k)) (hn : n + 16 ≤ 20480)
    (he : eqc.toNat = Nat.count (At x t) n) :
    (Scalar.addi eqc (extractAt ![15] (k1_pay11 (F := F) g y) inpos_S16_p15)).toNat = Nat.count (At x t) (n + 16) := by
  rw [lane_at 15 (by decide)]
  show (eqc + k1_pay11 (F := F) g y (at1 15 (by decide))).toNat = _
  have h1 := pay11_last (F := F) hg hy hn
  have h5 := count_mono (At x t) (show n ≤ n + 16 by omega)
  have hc : Nat.count (At x t) (n + 16) ≤ n + 16 := Nat.count_le _
  rw [BitVec.toNat_add, he, h1]; omega

end Trip

/-! ## The rows at the threshold before a task's own -/

/-- What a task reads of the rows' counts: word `r` is how many of block `r`'s 128 rows are at the threshold. -/
def Rows (x : ℕ → ℤ) (t : ℤ) (h : S160.Idx → BitVec 32) : Prop :=
  ∀ r (hr : r < 160), (h (at1 r hr)).toNat = Nat.count (At x t) (128 * (r + 1)) - Nat.count (At x t) (128 * r)

/-- The running sum of the steps of a function that does not decrease is its increase. -/
theorem scan_steps (C : ℕ → ℕ) (hC : ∀ k, k < 16 → C k ≤ C (k + 1)) (hb : ∀ k, k ≤ 16 → C k < 2 ^ 32) (v : IVec S16 32)
    (hv : ∀ k (h : k < 16), (v (at1 k h)).toNat = C (k + 1) - C k) :
    ∀ k (h : k < 16), (scan .sum v (at1 k h)).toNat = C (k + 1) - C 0 ∧ C 0 ≤ C (k + 1) := by
  intro k
  induction k with
  | zero => intro h; rw [scan_zero]; exact ⟨hv 0 h, hC 0 h⟩
  | succ k ih =>
    intro h
    obtain ⟨h1, h2⟩ := ih (by omega)
    have h3 := hC (k + 1) h
    have h4 := hb (k + 1 + 1) (by omega)
    have hs : ((ScanKind.sum).step (scan .sum v (at1 k (by omega))) (v (at1 (k + 1) h))).toNat
        = ((scan .sum v (at1 k (by omega))).toNat + (v (at1 (k + 1) h)).toNat) % 2 ^ 32 := BitVec.toNat_add _ _
    rw [scan_succ, hs, h1, hv (k + 1) h]
    omega

/-- The running sum of a sum of vectors. -/
theorem scan_add (a b : IVec S16 32) : ∀ k (h : k < 16),
    scan .sum (fun i => a i + b i) (at1 k h) = scan .sum a (at1 k h) + scan .sum b (at1 k h) := by
  intro k
  induction k with
  | zero => intro h; rfl
  | succ k ih =>
    intro h
    rw [scan_succ, scan_succ, scan_succ, ih (by omega)]
    show (_ + _ : BitVec 32) + (a (at1 (k + 1) h) + b (at1 (k + 1) h)) = (_ + a (at1 (k + 1) h)) + (_ + b (at1 (k + 1) h))
    ac_rfl

theorem scan_nil : ∀ k (h : k < 16), scan .sum (k1_pay1 : IVec S16 32) (at1 k h) = 0#32 := by
  intro k
  induction k with
  | zero => intro h; rfl
  | succ k ih => intro h; rw [scan_succ, ih (by omega)]; rfl

/-- The task's number. -/
abbrev num (i : grid1.Coords) : ℕ := 2 * (i 1).val + (i 0).val

theorem num_lt (i : grid1.Coords) : num i < 32 := by
  have h0 : (i 0).val < 2 := (i 0).isLt
  have h1 : (i 1).val < 16 := (i 1).isLt
  show 2 * (i 1).val + (i 0).val < 32
  omega

theorem row_trip {x : ℕ → ℤ} {t : ℤ} {gR : S160.Idx → BitVec 32} (hR : Rows x t gR) (i : grid1.Coords) (k : Fin k1_t1_loop.trips)
    (acc : IVec S16 32) (y : S16.Idx → BitVec 32) (hk : k.val < 10)
    (hy : ∀ l (h : l < 16), y (at1 l h) = gR (at1 (16 * k.val + l) (by omega)))
    (hacc : (scan .sum acc (at1 15 (by decide))).toNat = Nat.count (At x t) (128 * min (16 * k.val) (5 * num i))) :
    (scan .sum (k1_pay2 (F := F) i k acc y) (at1 15 (by decide))).toNat = Nat.count (At x t) (128 * min (16 * (k.val + 1)) (5 * num i)) := by
  have hn := num_lt i
  have hcmp : ∀ l (h : l < 16), IntOp.cmpi .slt (BitVec.ofNat 32 (0 * 16 + l) + Scf.iv 0#32 1#32 k.val * 16#32)
      (5#32 * (BitVec.ofNat 32 (i 1).val * 2#32 + BitVec.ofNat 32 (i 0).val)) = 1#1 ↔ 16 * k.val + l < 5 * num i := by
    intro l h
    have e1 : BitVec.ofNat 32 (0 * 16 + l) + Scf.iv 0#32 1#32 k.val * 16#32 = BitVec.ofNat 32 (16 * k.val + l) := by
      unfold Scf.iv
      simp only [← BitVec.ofNat_mul, ← BitVec.ofNat_add]
      congr 1; omega
    have e2 : 5#32 * (BitVec.ofNat 32 (i 1).val * 2#32 + BitVec.ofNat 32 (i 0).val) = BitVec.ofNat 32 (5 * num i) := by
      simp only [← BitVec.ofNat_mul, ← BitVec.ofNat_add]
      congr 1; unfold num; omega
    have f1 : (BitVec.ofNat 32 (16 * k.val + l)).toNat = 16 * k.val + l := by rw [BitVec.toNat_ofNat]; omega
    have f2 : (BitVec.ofNat 32 (5 * num i)).toNat = 5 * num i := by rw [BitVec.toNat_ofNat]; omega
    rw [e1, e2, cmp_slt, toInt_small _ (by omega), toInt_small _ (by omega), f1, f2]
    omega
  have hc : ∀ n, Nat.count (At x t) n ≤ n := fun n => Nat.count_le _
  have hs := scan_steps (fun j => Nat.count (At x t) (128 * min (16 * k.val + j) (5 * num i)))
    (fun j _ => count_mono _ (by omega)) (fun j hj => by have := hc (128 * min (16 * k.val + j) (5 * num i)); show Nat.count _ _ < _; omega)
    (fun a => select (fun j => IntOp.cmpi .slt (BitVec.ofNat 32 (0 * 16 + (j 0).val) + Scf.iv 0#32 1#32 k.val * 16#32)
      (5#32 * (BitVec.ofNat 32 (i 1).val * 2#32 + BitVec.ofNat 32 (i 0).val))) y (fun _ => 0#32) a)
    (fun l h => by
      refine (congrArg BitVec.toNat (if_congr (hcmp l h) rfl rfl : _ = if 16 * k.val + l < 5 * num i then y (at1 l h) else 0#32)).trans ?_
      by_cases hl : 16 * k.val + l < 5 * num i
      · rw [if_pos hl, hy l h, hR]
        rw [show min (16 * k.val + (l + 1)) (5 * num i) = 16 * k.val + l + 1 by omega, show min (16 * k.val + l) (5 * num i) = 16 * k.val + l by omega]
      · rw [if_neg hl]
        rw [show min (16 * k.val + (l + 1)) (5 * num i) = 5 * num i by omega, show min (16 * k.val + l) (5 * num i) = 5 * num i by omega, Nat.sub_self]
        rfl) 15 (by decide)
  have he : scan .sum (k1_pay2 (F := F) i k acc y) (at1 15 (by decide))
      = scan .sum acc (at1 15 (by decide)) + scan .sum (fun a => select (fun j => IntOp.cmpi .slt (BitVec.ofNat 32 (0 * 16 + (j 0).val) + Scf.iv 0#32 1#32 k.val * 16#32)
      (5#32 * (BitVec.ofNat 32 (i 1).val * 2#32 + BitVec.ofNat 32 (i 0).val))) y (fun _ => 0#32) a) (at1 15 (by decide)) :=
    scan_add acc _ 15 (by decide)
  rw [he, BitVec.toNat_add, hacc, hs.1]
  have h2 := hs.2
  rw [show 16 * k.val + 0 = 16 * k.val by omega] at *
  rw [show 16 * k.val + (15 + 1) = 16 * (k.val + 1) by omega] at *
  have := hc (128 * min (16 * (k.val + 1)) (5 * num i))
  omega

/-- The rows a trip names. -/
theorem pay7_at (i : grid1.Coords) (k : Fin k1_t2_loop.trips) : ∀ l (h : l < 16),
    k1_pay7 i k (at1 l h) = BitVec.ofNat 32 (640 * num i + 16 * k.val + l) := by
  intro l h
  show ((BitVec.ofNat 32 (i 1).val * 2#32 + BitVec.ofNat 32 (i 0).val) * 640#32 + Scf.iv 0#32 1#32 k.val * 16#32) + BitVec.ofNat 32 (0 * 16 + l) = _
  unfold Scf.iv
  simp only [← BitVec.ofNat_mul, ← BitVec.ofNat_add]
  congr 1; unfold num; omega

end Cand

end
-- ==== Proof.Compact.lean ====
/-
  The compaction's task: task `w` fetches its 640 rows, the threshold and the rows' counts, finds how many rows at the
  threshold come before its own, and writes its chosen rows in order and how many they are.
-/
module

public import proofs.«01_k».proof.Proof.Words

@[expose] public section

noncomputable section

namespace Cand

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays and the task's pieces of them -/

abbrev aLoc (b : Ref sig .tc) (d : Dev nD) : Loc nD τ sig := (SparseCore.T d).loc b

local notation "sc1" => (Memref.whole Cert.KernelIdeal.main_arg0_scv : Memref Cert.KernelIdeal.sig Kind.scVector Space.hbm Cert.KernelIdeal.S20480 EltTy.i32)
local notation "ti1" => (Memref.whole Cert.KernelIdeal.main_v2_scv : Memref Cert.KernelIdeal.sig Kind.scVector Space.hbm Cert.KernelIdeal.S16 EltTy.i32)
local notation "re1" => (Memref.whole Cert.KernelIdeal.main_v3_scv : Memref Cert.KernelIdeal.sig Kind.scVector Space.hbm Cert.KernelIdeal.S160 EltTy.i32)
local notation "pt1" => (Memref.whole Cert.KernelIdeal.main_v4_0_scv : Memref Cert.KernelIdeal.sig Kind.scVector Space.hbm Cert.KernelIdeal.S32x656 EltTy.i32)
local notation "ct1" => (Memref.whole Cert.KernelIdeal.main_v4_1_scv : Memref Cert.KernelIdeal.sig Kind.scVector Space.hbm Cert.KernelIdeal.S32x16 EltTy.i32)
local notation "b10" => (Memref.whole Cert.KernelIdeal.cc1_scratch0 : Memref Cert.KernelIdeal.sig Kind.scVector Space.vmem Cert.KernelIdeal.S640 EltTy.i32)
local notation "b11" => (Memref.whole Cert.KernelIdeal.cc1_scratch1 : Memref Cert.KernelIdeal.sig Kind.scVector Space.vmem Cert.KernelIdeal.S16 EltTy.i32)
local notation "b12" => (Memref.whole Cert.KernelIdeal.cc1_scratch2 : Memref Cert.KernelIdeal.sig Kind.scVector Space.vmem Cert.KernelIdeal.S160 EltTy.i32)
local notation "b13" => (Memref.whole Cert.KernelIdeal.cc1_scratch3 : Memref Cert.KernelIdeal.sig Kind.scVector Space.vmem Cert.KernelIdeal.S656 EltTy.i32)
local notation "b14" => (Memref.whole Cert.KernelIdeal.cc1_scratch4 : Memref Cert.KernelIdeal.sig Kind.scVector Space.vmem Cert.KernelIdeal.S16 EltTy.i32)

theorem pdiv : 32 ∣ S32x656.size 0 := ⟨1, rfl⟩
theorem cdiv : 32 ∣ S32x16.size 0 := ⟨1, rfl⟩
/-- Row `w` of the lists, and of the counts. -/
abbrev pSet (w : Fin 32) : Finset S32x656.Idx := (Rect.part (s := S32x656) (a₀ := 0) pdiv w).set
abbrev cSet (w : Fin 32) : Finset S32x16.Idx := (Rect.part (s := S32x16) (a₀ := 0) cdiv w).set

section Tile

variable (d : Dev nD) (L : grid1.Coords)

abbrev cV (L : grid1.Coords) : Fin τ.nSC := (L 0).castLE hcore1
abbrev jV (L : grid1.Coords) : Fin τ.nSub := (L 1).castLE hsub1
abbrev wL (L : grid1.Coords) : Fin 32 := ⟨num L, num_lt L⟩
abbrev tV (d : Dev nD) (L : grid1.Coords) : Thread nD τ := V d (cV L) (jV L)

abbrev pRowK (L : grid1.Coords) : Memref sig .scVector .hbm S656 .i32 :=
  ((pt1).slice (Rect.unit (s := S32x656) (k1_off5 L) S1x656.size (k1_off5_inb L)) (fun _ => rfl)).squeeze S656 squeezes_S1x656_S656
abbrev cRowK (L : grid1.Coords) : Memref sig .scVector .hbm S16 .i32 :=
  ((ct1).slice (Rect.unit (s := S32x16) (k1_off4 L) S1x16.size (k1_off4_inb L)) (fun _ => rfl)).squeeze S16 squeezes_S1x16_S16
abbrev sChK (L : grid1.Coords) : Memref sig .scVector .hbm S640 .i32 :=
  (sc1).slice (Rect.unit (s := S20480) (k1_off1 L) S640.size (k1_off1_inb L)) (fun _ => rfl)

theorem pRow_eq : Rect.unit (s := S32x656) (k1_off5 L) S1x656.size (k1_off5_inb L) = Rect.part (s := S32x656) (a₀ := 0) pdiv (wL L) := by
  unfold Rect.part Rect.block
  congr 1 <;> funext a
  · rw [k1_off5_eq]
    match a with
    | 0 => simp [Shape.partIx, Shape.partSize, num]
    | 1 => simp [Shape.partIx, Shape.partSize]
  · match a with
    | 0 => simp [Shape.partSize]
    | 1 => simp [Shape.partSize]
theorem cRow_eq : Rect.unit (s := S32x16) (k1_off4 L) S1x16.size (k1_off4_inb L) = Rect.part (s := S32x16) (a₀ := 0) cdiv (wL L) := by
  unfold Rect.part Rect.block
  congr 1 <;> funext a
  · rw [k1_off4_eq]
    match a with
    | 0 => simp [Shape.partIx, Shape.partSize, num]
    | 1 => simp [Shape.partIx, Shape.partSize]
  · match a with
    | 0 => simp [Shape.partSize]
    | 1 => simp [Shape.partSize]

theorem pRowK_set : (pRowK L).view.set = pSet (wL L) := by
  show (((pt1).view.slice (Rect.unit (s := S32x656) (k1_off5 L) S1x656.size (k1_off5_inb L))).reshape S656 squeezes_S1x656_S656.numel_eq).set = _
  rw [View.set_reshape]
  exact (View.set_slice_whole _ _).trans (congrArg (fun r : Rect S32x656 => r.set) (pRow_eq L))
theorem cRowK_set : (cRowK L).view.set = cSet (wL L) := by
  show (((ct1).view.slice (Rect.unit (s := S32x16) (k1_off4 L) S1x16.size (k1_off4_inb L))).reshape S16 squeezes_S1x16_S16.numel_eq).set = _
  rw [View.set_reshape]
  exact (View.set_slice_whole _ _).trans (congrArg (fun r : Rect S32x16 => r.set) (cRow_eq L))

/-- The only row of a one-row array. -/
def row1_656 (j : S656.Idx) : S1x656.Idx := fun | 0 => (⟨0, Nat.one_pos⟩ : Fin 1) | 1 => j 0
def row1_16 (j : S16.Idx) : S1x16.Idx := fun | 0 => (⟨0, Nat.one_pos⟩ : Fin 1) | 1 => j 0

/-- Where the row's view puts its elements. -/
theorem pRowK_emb (j : S656.Idx) : (pRowK L).view.emb j = Shape.pair (d := ![32, 656]) (wL L) (j 0) := by
  show (Rect.unit (s := S32x656) (k1_off5 L) S1x656.size (k1_off5_inb L)).emb (Shape.reshapeEquiv squeezes_S1x656_S656.numel_eq j) = _
  rw [Shape.reshapeEquiv_eq_of_rowMajor (s := S1x656) (s' := S656) squeezes_S1x656_S656.numel_eq (x := j) (y := row1_656 j)
    (by rw [Shape.rowMajor_val_two, Shape.rowMajor_val_one]; show 0 * 656 + (j 0).val = _; omega)]
  funext a
  apply Fin.ext
  show k1_off5 L a + 1 * (row1_656 j a).val = _
  have h5 : k1_off5 L a = _ := congrFun (k1_off5_eq L) a
  refine (congrArg (· + 1 * (row1_656 j a).val) h5).trans ?_
  match a with
  | 0 => show 2 * (L 1).val + (L 0).val + 1 * 0 = num L; simp [num]
  | 1 => show 0 + 1 * (j 0).val = (j 0).val; omega
theorem cRowK_emb (j : S16.Idx) : (cRowK L).view.emb j = Shape.pair (d := ![32, 16]) (wL L) (j 0) := by
  show (Rect.unit (s := S32x16) (k1_off4 L) S1x16.size (k1_off4_inb L)).emb (Shape.reshapeEquiv squeezes_S1x16_S16.numel_eq j) = _
  rw [Shape.reshapeEquiv_eq_of_rowMajor (s := S1x16) (s' := S16) squeezes_S1x16_S16.numel_eq (x := j) (y := row1_16 j)
    (by rw [Shape.rowMajor_val_two, Shape.rowMajor_val_one]; show 0 * 16 + (j 0).val = _; omega)]
  funext a
  apply Fin.ext
  show k1_off4 L a + 1 * (row1_16 j a).val = _
  have h4 : k1_off4 L a = _ := congrFun (k1_off4_eq L) a
  refine (congrArg (· + 1 * (row1_16 j a).val) h4).trans ?_
  match a with
  | 0 => show 2 * (L 1).val + (L 0).val + 1 * 0 = num L; simp [num]
  | 1 => show 0 + 1 * (j 0).val = (j 0).val; omega

omit [FloatOps F] in
theorem pts_pRowK (f : Buf (Elt F) (aLoc main_v4_0 d)) :
    ((pRowK L).view.loc (tV d L) ↦[(pRowK L).view.set]{fullShare} f : sProp 𝕄) = aLoc main_v4_0 d ↦[pSet (wL L)]{fullShare} f := by
  rw [pRowK_set]
omit [FloatOps F] in
theorem pts_cRowK (f : Buf (Elt F) (aLoc main_v4_1 d)) :
    ((cRowK L).view.loc (tV d L) ↦[(cRowK L).view.set]{fullShare} f : sProp 𝕄) = aLoc main_v4_1 d ↦[cSet (wL L)]{fullShare} f := by
  rw [cRowK_set]

abbrev cell (d : Dev nD) (c : Fin τ.nSC) (i : Fin τ.nSub) (s : DmaSems sig S_) : GSem nD τ sig := (V d c i, .dma s.sem)

omit [FloatOps F] in
theorem mem_cell (c : Fin τ.nSC) (i : Fin τ.nSub) (s : DmaSems sig S_) (h : (SemLoc.dma s.sem : SemLoc sig).isScoped .scVector = true) :
    cell d c i s ∈ ownCells (V d c i) := (mem_ownCells (g := cell d c i s)).mpr ⟨rfl, h⟩

omit [FloatOps F] in
theorem cell_ne {c : Fin τ.nSC} {i : Fin τ.nSub} {s s' : DmaSems sig S_} (h : (SemLoc.dma s.sem : SemLoc sig) ≠ SemLoc.dma s'.sem) :
    cell d c i s ≠ cell d c i s' := fun e => h (congrArg Prod.snd e)

/-- The subcore's counters, less those the task names. -/
abbrev rest1 (d : Dev nD) (L : grid1.Coords) : Finset (GSem nD τ sig) :=
  (((((ownCells (tV d L)).erase (cell d (cV L) (jV L) cc1_scoped0)).erase (cell d (cV L) (jV L) cc1_scoped1)).erase (cell d (cV L) (jV L) cc1_scoped2)).erase
    (cell d (cV L) (jV L) cc1_scoped3)).erase (cell d (cV L) (jV L) cc1_scoped4)

omit [FloatOps F] in
theorem ownSems1 :
    (ownSems0 (tV d L) : sProp 𝕄)
      = iprop(semVal (cell d (cV L) (jV L) cc1_scoped0) 0 ∗ semVal (cell d (cV L) (jV L) cc1_scoped1) 0 ∗ semVal (cell d (cV L) (jV L) cc1_scoped2) 0
          ∗ semVal (cell d (cV L) (jV L) cc1_scoped3) 0 ∗ semVal (cell d (cV L) (jV L) cc1_scoped4) 0
          ∗ bigSep (rest1 d L) fun g => semVal g 0) := by
  unfold SparseCore.Cfg.ownSems0
  rw [SparseCore.bigSep_erase' (mem_cell d _ _ cc1_scoped0 (by decide)),
    SparseCore.bigSep_erase' (Finset.mem_erase.mpr ⟨cell_ne d (by decide), mem_cell d _ _ cc1_scoped1 (by decide)⟩),
    SparseCore.bigSep_erase' (Finset.mem_erase.mpr ⟨cell_ne d (by decide), Finset.mem_erase.mpr ⟨cell_ne d (by decide), mem_cell d _ _ cc1_scoped2 (by decide)⟩⟩),
    SparseCore.bigSep_erase' (Finset.mem_erase.mpr ⟨cell_ne d (by decide), Finset.mem_erase.mpr ⟨cell_ne d (by decide), Finset.mem_erase.mpr ⟨cell_ne d (by decide), mem_cell d _ _ cc1_scoped3 (by decide)⟩⟩⟩),
    SparseCore.bigSep_erase' (Finset.mem_erase.mpr ⟨cell_ne d (by decide), Finset.mem_erase.mpr ⟨cell_ne d (by decide), Finset.mem_erase.mpr ⟨cell_ne d (by decide), Finset.mem_erase.mpr ⟨cell_ne d (by decide), mem_cell d _ _ cc1_scoped4 (by decide)⟩⟩⟩⟩)]

abbrev buf (c : Fin τ.nSC) (i : Fin τ.nSub) (b : Ref sig .scVector) : DevRef τ sig := (Proc.scVector c i).devRef b

theorem buf_ne {c : Fin τ.nSC} {i : Fin τ.nSub} {b b' : Ref sig .scVector} (h : b ≠ b') : buf c i b ≠ buf c i b' :=
  fun e => h (Proc.devRef_injective _ e)

/-- The subcore's buffers, less those the task names. -/
abbrev restB1 (L : grid1.Coords) : Finset (DevRef τ sig) :=
  (((((ownRefs (τ := τ) (sig := sig) (.scVector (cV L) (jV L))).erase (buf (cV L) (jV L) cc1_scratch0)).erase (buf (cV L) (jV L) cc1_scratch1)).erase
    (buf (cV L) (jV L) cc1_scratch2)).erase (buf (cV L) (jV L) cc1_scratch3)).erase (buf (cV L) (jV L) cc1_scratch4)

omit [FloatOps F] in
theorem ownBufs1 :
    (ownBufs (tV d L) : sProp 𝕄)
      = iprop((∃ f, (tV d L).loc cc1_scratch0 ↦{fullShare} f) ∗ (∃ f, (tV d L).loc cc1_scratch1 ↦{fullShare} f) ∗ (∃ f, (tV d L).loc cc1_scratch2 ↦{fullShare} f)
          ∗ (∃ f, (tV d L).loc cc1_scratch3 ↦{fullShare} f) ∗ (∃ f, (tV d L).loc cc1_scratch4 ↦{fullShare} f)
          ∗ bigSep (restB1 L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := buf (cV L) (jV L) cc1_scratch0) rfl)).trans ?_
  rw [SparseCore.bigSep_erase' (Finset.mem_erase.mpr ⟨buf_ne (by decide), SparseCore.Cfg.mem_ownRefs_of_owner (p := Proc.scVector (cV L) (jV L)) (b := buf (cV L) (jV L) cc1_scratch1) rfl⟩),
    SparseCore.bigSep_erase' (Finset.mem_erase.mpr ⟨buf_ne (by decide), Finset.mem_erase.mpr ⟨buf_ne (by decide), SparseCore.Cfg.mem_ownRefs_of_owner (p := Proc.scVector (cV L) (jV L)) (b := buf (cV L) (jV L) cc1_scratch2) rfl⟩⟩),
    SparseCore.bigSep_erase' (Finset.mem_erase.mpr ⟨buf_ne (by decide), Finset.mem_erase.mpr ⟨buf_ne (by decide), Finset.mem_erase.mpr ⟨buf_ne (by decide), SparseCore.Cfg.mem_ownRefs_of_owner (p := Proc.scVector (cV L) (jV L)) (b := buf (cV L) (jV L) cc1_scratch3) rfl⟩⟩⟩),
    SparseCore.bigSep_erase' (Finset.mem_erase.mpr ⟨buf_ne (by decide), Finset.mem_erase.mpr ⟨buf_ne (by decide), Finset.mem_erase.mpr ⟨buf_ne (by decide), Finset.mem_erase.mpr ⟨buf_ne (by decide), SparseCore.Cfg.mem_ownRefs_of_owner (p := Proc.scVector (cV L) (jV L)) (b := buf (cV L) (jV L) cc1_scratch4) rfl⟩⟩⟩⟩)]

/-! ## The task -/

/-- Row `w` of the lists holds task `w`'s chosen rows in order. -/
def PartOK (x : ℕ → ℤ) (t : ℤ) (w : Fin 32) (f : S32x656.Idx → BitVec 32) : Prop :=
  Part x t (640 * w.val) (640 * w.val + 640) fun j => f (Shape.pair (d := ![32, 656]) w (j 0))

/-- How many rows each task chooses, in every lane of its row of the counts. -/
def cnt (x : ℕ → ℤ) (t : ℤ) : S32x16.Idx → BitVec 32 :=
  fun j => BitVec.ofNat 32 (Nat.count (Sel x t) (640 * (j 0).val + 640) - Nat.count (Sel x t) (640 * (j 0).val))

variable {x : ℕ → ℤ} {t : ℤ}

/-- A copy over the whole of a view leaves the copied elements under its elements. -/
theorem writes_whole_emb {sig : RefSig} {κ : Kind} {sp : Space} {s : Shape} {e : EltTy} (v : View sig κ sp s e) {Val : EltTy → Type}
    (f : v.ty.Contents Val) (w : s.Idx → Val e) (j : s.Idx) :
    v.writes Val f [⟨Rect.whole s, w⟩] (v.emb j) = _root_.cast (congrArg Val v.elt_eq.symm) (w j) := by
  have h := View.write_emb_of_mem (v := v.slice (Rect.whole s)) (Val := Val) f w (M := Finset.univ) (x := j) (Finset.mem_univ _)
  have he : (v.slice (Rect.whole s)).emb j = v.emb j := congrArg v.emb (Rect.emb_whole_apply s j)
  rw [he] at h
  exact h

/-- The task's rows of the scores. -/
def sch (fS : S20480.Idx → BitVec 32) (L : grid1.Coords) : S640.Idx → BitVec 32 :=
  fun j => fS (at1 (640 * num L + (j 0).val) (by
    have h := num_lt L; have h' : (j 0).val < 640 := (j 0).isLt; omega))

/-- Before trip `k` of the first loop the lanes add up to the rows at the threshold among those counted so far, -/
def inv1 (gR : S160.Idx → BitVec 32) (x : ℕ → ℤ) (t : ℤ) (k : ℕ) (acc : IVec S16 32) : sProp 𝕄 :=
  iprop(⌜(scan .sum acc (at1 15 (by decide))).toNat = Nat.count (At x t) (128 * min (16 * k) (5 * num L))⌝
    ∗ ((b12).view.loc (tV d L) ↦{fullShare} (gR : Buf (Elt F) ((tV d L).loc cc1_scratch2))))

/-- and before trip `k` of the second the task's first `16 k` rows are done. -/
def inv2 (fS : S20480.Idx → BitVec 32) (t : ℤ) (k : ℕ) (pe : BitVec 32 × BitVec 32) : sProp 𝕄 :=
  iprop(⌜pe.1.toNat = Nat.count (Sel (xs fS) t) (640 * num L + 16 * k) - Nat.count (Sel (xs fS) t) (640 * num L)⌝
    ∗ ⌜pe.2.toNat = Nat.count (At (xs fS) t) (640 * num L + 16 * k)⌝
    ∗ ((b10).view.loc (tV d L) ↦{fullShare} (sch fS L : Buf (Elt F) ((tV d L).loc cc1_scratch0)))
    ∗ ∃ f : Buf (Elt F) ((tV d L).loc cc1_scratch3), ⌜Part (xs fS) t (640 * num L) (640 * num L + 16 * k) f⌝
      ∗ (b13).view.loc (tV d L) ↦{fullShare} f)

theorem rd_row (gR : S160.Idx → BitVec 32) (k : Fin k1_t1_loop.trips) (hk : k.val < 10) : ∀ l (h : l < 16),
    View.readAt (Elt F) (b12).view (Rect.unit (s := S160) (k1_off2 k) S16.size (k1_off2_inb k)).toLoadRect (gR : Buf (Elt F) ((tV d L).loc cc1_scratch2)) (at1 l h)
      = gR (at1 (16 * k.val + l) (by omega)) := by
  intro l h
  refine congrArg gR (funext fun a => Fin.ext ?_)
  match a with
  | 0 => exact (congrArg (· + 1 * l) (congrFun (k1_off2_eq k) 0)).trans (by show 16 * k.val + 1 * l = 16 * k.val + l; omega)

theorem rd_sch (fS : S20480.Idx → BitVec 32) (k : Fin k1_t2_loop.trips) (hk : k.val < 40) : ∀ l (h : l < 16),
    BitVec.toInt (View.readAt (Elt F) (b10).view (Rect.unit (s := S640) (k1_off3 k) S16.size (k1_off3_inb k)).toLoadRect
        (sch fS L : Buf (Elt F) ((tV d L).loc cc1_scratch0)) (at1 l h))
      = xs fS (640 * num L + 16 * k.val + l) := by
  intro l h
  have hn := num_lt L
  unfold xs
  rw [dif_pos (show 640 * num L + 16 * k.val + l < 20480 by omega)]
  refine congrArg BitVec.toInt (congrArg fS (funext fun a => Fin.ext ?_))
  match a with
  | 0 =>
    refine (congrArg (fun z => 640 * num L + (z + 1 * l)) (congrFun (k1_off3_eq k) 0)).trans ?_
    show 640 * num L + (16 * k.val + 1 * l) = 640 * num L + 16 * k.val + l
    omega

set_option maxHeartbeats 4000000 in
theorem compact_body (hF : (K (F := F)).Facts) (O : CellTallies nD τ sig (HIx 2)) (W : Waits sig (HIx 2)) (hO : ∀ g, O g none = 0)
    (q : PosShare TreeShare) (fS : Buf (Elt F) (aLoc main_arg0 d)) (gT : Buf (Elt F) (aLoc main_v2 d)) (gR : Buf (Elt F) (aLoc main_v3 d))
    (fP : Buf (Elt F) (aLoc main_v4_0 d)) (fC : Buf (Elt F) (aLoc main_v4_1 d))
    (hT : TInfo (xs fS) t gT) (ha : above (xs fS) t ≤ 1000) (hR : Rows (xs fS) t gR) :
    (iprop(levAts (K (F := F)).L (K (F := F)).lev ∗ emp
        ∗ ((aLoc main_arg0 d ↦{q} fS) ∗ (aLoc main_v2 d ↦{q} gT) ∗ (aLoc main_v3 d ↦{q} gR)
          ∗ (aLoc main_v4_0 d ↦[pSet (wL L)]{fullShare} fP) ∗ (aLoc main_v4_1 d ↦[cSet (wL L)]{fullShare} fC))
        ∗ scopedBufs (tV d L) ∗ scopedSems0 (tV d L) ∗ owes (tV d L) O W) : sProp 𝕄)
      ⊢ wp frame (wpE (defs₀ (F := F)) 𝒱₀ (tV d L) none) Set.univ
          (cc1__compact_body L sc1 (Memref.isWhole_whole _) ti1 (Memref.isWhole_whole _) re1 (Memref.isWhole_whole _)
            pt1 (Memref.isWhole_whole _) ct1 (Memref.isWhole_whole _) b10 (Memref.isWhole_whole _) b11 (Memref.isWhole_whole _)
            b12 (Memref.isWhole_whole _) b13 (Memref.isWhole_whole _) b14 (Memref.isWhole_whole _)
            cc1_scoped0 cc1_scoped1 cc1_scoped2 cc1_scoped3 cc1_scoped4)
          fun _ => iprop(((aLoc main_arg0 d ↦{q} fS) ∗ (∃ f : Buf (Elt F) (aLoc main_v4_0 d), ⌜PartOK (xs fS) t (wL L) f⌝ ∗ aLoc main_v4_0 d ↦[pSet (wL L)]{fullShare} f)
              ∗ (aLoc main_v4_1 d ↦[cSet (wL L)]{fullShare} (cnt (xs fS) t : Buf (Elt F) (aLoc main_v4_1 d))))
            ∗ scopedBufs (tV d L) ∗ scopedSems0 (tV d L)
            ∗ ∃ W', ⌜∀ p ∈ W', p ∈ W ∨ p.2 = none⌝ ∗ owes (tV d L) O W') := by
  simp only [cc1__compact_body_eq_skeleton]; unfold cc1__compact_body_skel; simp only [k1_part1_eq_skeleton]; unfold k1_part1_skel; simp only [bind_assoc]
  rw [(K (F := F)).scopedBufs_V hF d (cV L) (jV L), SparseCore.Cfg.scopedSems0_V (Val := Elt F) d (cV L) (jV L), ownSems1, ownBufs1]
  iintro ⟨#Hlv, -, ⟨Hs, Ht, Hr, Hp, Hc⟩, ⟨⟨%f0, H0⟩, ⟨%f1, H1⟩, ⟨%f2, H2⟩, ⟨%f3, H3⟩, ⟨%f4, H4⟩, Hbufs⟩, ⟨Hm0, Hm1, Hm2, Hm3, Hm4, Hsems⟩, HO⟩
  ihave Hmw := (show levAts (K (F := F)).L (K (F := F)).lev ⊢ (Transfers.MayWaits (tV d L) (default : HIx 2) O : sProp 𝕄) from
    (K (F := F)).mayWaits_none (thr := tV d L) hO) $$ Hlv
  ihave Hs' := (show (aLoc main_arg0 d ↦{q} fS : sProp 𝕄) ⊢ ((sc1).view.loc (tV d L) ↦{q} fS : sProp 𝕄) from .rfl) $$ Hs
  ihave Ht' := (show (aLoc main_v2 d ↦{q} gT : sProp 𝕄) ⊢ ((ti1).view.loc (tV d L) ↦{q} gT : sProp 𝕄) from .rfl) $$ Ht
  ihave Hr' := (show (aLoc main_v3 d ↦{q} gR : sProp 𝕄) ⊢ ((re1).view.loc (tV d L) ↦{q} gR : sProp 𝕄) from .rfl) $$ Hr
  ihave Hp' := (Entails.of_eq (pts_pRowK (F := F) d L _).symm) $$ Hp
  ihave Hc' := (Entails.of_eq (pts_cRowK (F := F) d L _).symm) $$ Hc
  ihave H0' := (show ((tV d L).loc cc1_scratch0 ↦{fullShare} f0 : sProp 𝕄) ⊢ ((b10).view.loc (tV d L) ↦{fullShare} f0 : sProp 𝕄) from .rfl) $$ H0
  ihave H1' := (show ((tV d L).loc cc1_scratch1 ↦{fullShare} f1 : sProp 𝕄) ⊢ ((b11).view.loc (tV d L) ↦{fullShare} f1 : sProp 𝕄) from .rfl) $$ H1
  ihave H2' := (show ((tV d L).loc cc1_scratch2 ↦{fullShare} f2 : sProp 𝕄) ⊢ ((b12).view.loc (tV d L) ↦{fullShare} f2 : sProp 𝕄) from .rfl) $$ H2
  ihave H3' := (show ((tV d L).loc cc1_scratch3 ↦{fullShare} f3 : sProp 𝕄) ⊢ ((b13).view.loc (tV d L) ↦{fullShare} f3 : sProp 𝕄) from .rfl) $$ H3
  ihave H4' := (show ((tV d L).loc cc1_scratch4 ↦{fullShare} f4 : sProp 𝕄) ⊢ ((b14).view.loc (tV d L) ↦{fullShare} f4 : sProp 𝕄) from .rfl) $$ H4
  sl_exec (disch := exact View.amount_pos _ _ (show 0 < S640.numel by decide))
  have e0 : View.write (Elt F) (b10).view f0 (compact_body.sl.dma0 d L fS) Finset.univ = (sch fS L : Buf (Elt F) ((tV d L).loc cc1_scratch0)) := by
    refine (View.write_whole_univ _ _ _).trans (funext fun j => congrArg fS (funext fun a => Fin.ext ?_))
    match a with
    | 0 =>
      refine (congrArg (· + 1 * (j 0).val) (congrFun (k1_off1_eq L) 0)).trans ?_
      show 1280 * (L 1).val + 640 * (L 0).val + 1 * (j 0).val = 640 * num L + (j 0).val
      unfold num; omega
  have e1 : View.write (Elt F) (b11).view f1 (compact_body.sl.dma0_1 d gT) Finset.univ = gT := View.write_whole_univ _ _ _
  have e2 : View.write (Elt F) (b12).view f2 (compact_body.sl.dma0_2 d gR) Finset.univ = gR := View.write_whole_univ _ _ _
  rw [e0, e1, e2]
  have e3 : compact_body.sl.x d L gT f1 = gT :=
    (congrArg (View.readAt (Elt F) (b11).view (Rect.unit (s := S16) ![0] S16.size inb_S16_S16_0).toLoadRect) e1).trans
      (Memref.readAt_unit_zero (Elt F) cc1_scratch1 (by funext a; match a with | 0 => rfl) _ _)
  rw [e3]
  sl_for (inv1 (F := F) d L gR (xs fS) t) $$ [H2']
  case region =>
    intro k acc
    unfold inv1
    iintro ⟨%hacc, H2⟩
    sl_exec
    sl_step
    isplitr
    · ipureintro
      have hk : k.val < 10 := k.isLt
      exact row_trip hR L k acc _ hk (rd_row (F := F) gR k hk) hacc
    · iexact H2
  · unfold inv1
    isplitr
    · ipureintro
      show (scan .sum (k1_pay1 : IVec S16 32) (at1 15 (by decide))).toNat = _
      rw [scan_nil]; simp
    · iexact H2'
  iintro %acc HI
  unfold inv1
  icases HI with ⟨%hacc, H2'⟩
  sl_exec
  sl_for (inv2 (F := F) d L fS t) $$ [H0' H3']
  case region =>
    intro k pe
    unfold inv2
    iintro ⟨%hpos, %heqc, H0, %f, %hf, H3⟩
    sl_exec
    have hk : k.val < 40 := k.isLt
    have hn := num_lt L
    have hy := rd_sch (F := F) L fS k hk
    have hb : 640 * num L + 16 * k.val + 16 ≤ 20480 := by omega
    have hl : 640 * num L ≤ 640 * num L + 16 * k.val := by omega
    have hbn : 640 * num L + 16 * k.val + 16 ≤ 640 * num L + 640 := by omega
    have hchk : k1_chk1 (compact_body.sl.v50 d L fS gT k pe) := chk_trip (F := F) hT ha hy hb heqc hl hbn hpos
    rw [wp_assume_of _ _ _ _ hchk]
    ihave H3' := (Entails.of_eq (show ((b13).view.loc (tV d L) ↦{fullShare} f : sProp 𝕄)
      = (((b13).access (.whole S656)).loc (tV d L) ↦[((b13).access (.whole S656)).set]{fullShare} f) by
        rw [show ((b13).access (.whole S656)).set = Finset.univ from Memref.set_access_whole cc1_scratch3])) $$ H3
    iapply (SparseCore.wp_vectorStoreIdx 𝒱₀ (tV d L) none Set.univ (base := (b13))) $$ H3'
    iintro H3
    dsimp only
    sl_step
    isplitr
    · ipureintro; exact (pos_trip (F := F) hT ha hy hb heqc hl hpos).trans (by rw [show 640 * num L + 16 * (k.val + 1) = 640 * num L + 16 * k.val + 16 by omega])
    isplitr
    · ipureintro; exact (eqc_trip (F := F) hT hy hb heqc).trans (by rw [show 640 * num L + 16 * (k.val + 1) = 640 * num L + 16 * k.val + 16 by omega])
    isplitl [H0]; · iexact H0
    iexists (storeIdx (F := F) (e := .i32) f ![k1_pay9 (F := F) gT pe.1 pe.2 _] (k1_pay7 L k) (k1_pay6 (F := F) gT pe.2 _) false
      (k1_idx1_inb _ (chk_trip (F := F) hT ha hy hb heqc hl hbn hpos)))
    isplitr
    · ipureintro
      rw [show 640 * num L + 16 * (k.val + 1) = 640 * num L + 16 * k.val + 16 by omega]
      exact part_trip hT ha hy hb heqc hl hbn hpos _ (pay7_at L k) f hf _
    · iapply (Entails.of_eq (show (((b13).access (.whole S656)).loc (tV d L) ↦[((b13).access (.whole S656)).set]{fullShare} _ : sProp 𝕄)
        = ((b13).view.loc (tV d L) ↦{fullShare} _) by
          rw [show ((b13).access (.whole S656)).set = Finset.univ from Memref.set_access_whole cc1_scratch3, Memref.write_access_whole_univ, Memref.read_access_whole]
          rfl)) $$ H3
  · unfold inv2
    isplitr
    · ipureintro; show (0#32).toNat = _; simp
    isplitr
    · ipureintro
      show (extractAt ![15] (k1_pay3 acc) inpos_S16_p15).toNat = _
      rw [lane_at 15 (by decide)]
      refine hacc.trans ?_
      have hn := num_lt L
      have ht : Scf.trips k1_t1_loop.lb k1_t1_loop.ub k1_t1_loop.st = 10 := by decide
      rw [ht]
      congr 1; omega
    isplitl [H0']; · iexact H0'
    iexists f3
    isplitr
    · ipureintro; intro i h1 h2; omega
    · iexact H3'
  iintro %pe HI
  unfold inv2
  icases HI with ⟨%hpos, %heqc, H0', %f, %hf, H3'⟩
  sl_exec
  sl_step
  have ht : Scf.trips k1_t2_loop.lb k1_t2_loop.ub k1_t2_loop.st = 40 := by decide
  rw [ht] at hpos heqc hf
  have e4 : compact_body.sl.dma2 d L f4 pe = (k1_pay12 pe.1 : S16.Idx → BitVec 32) := by
    unfold compact_body.sl.dma2 compact_body.sl.H4'_1
    have h := Memref.write_access_unit_zero_univ (Elt F) cc1_scratch4 (off := ![0]) (by funext a; match a with | 0 => rfl) inb_S16_S16_0 f4
      (k1_pay12 pe.1 : S16.Idx → BitVec 32)
    exact h
  have hP : ∀ j : S656.Idx, (pRowK L).view.writes (Elt F) fP [⟨Rect.whole S656, compact_body.sl.dma2_1 d L f⟩] (Shape.pair (d := ![32, 656]) (wL L) (j 0)) = f j := by
    intro j
    rw [← pRowK_emb]
    exact writes_whole_emb (pRowK L).view fP _ j
  have hC : ∀ i ∈ (cRowK L).view.set, (cRowK L).view.writes (Elt F) fC [⟨Rect.whole S16, compact_body.sl.dma2 d L f4 pe⟩] i
      = (cnt (xs fS) t : Buf (Elt F) (aLoc main_v4_1 d)) i := by
    intro i hi
    obtain ⟨j, -, rfl⟩ := Finset.mem_map.mp hi
    refine (writes_whole_emb (cRowK L).view fC _ j).trans ?_
    rw [e4, cRowK_emb]
    show 0#32 + pe.1 = BitVec.ofNat 32 _
    apply BitVec.eq_of_toNat_eq
    rw [BitVec.zero_add, hpos, BitVec.toNat_ofNat]
    have h1 := count_gap (Sel (xs fS) t) (640 * num L) 640
    rw [show 640 * num L + 16 * 40 = 640 * num L + 640 by omega]
    show _ = (Nat.count (Sel (xs fS) t) (640 * num L + 640) - Nat.count (Sel (xs fS) t) (640 * num L)) % 2 ^ 32
    omega
  isplitl [Hs' Hp' Hc']
  · isplitl [Hs']; · iexact Hs'
    isplitl [Hp']
    · iexists ((pRowK L).view.writes (Elt F) fP [⟨Rect.whole S656, compact_body.sl.dma2_1 d L f⟩])
      isplitr
      · ipureintro
        intro i h1 h2 h3 h4
        exact (hP _).trans (hf i h1 h2 h3 h4)
      · iapply (Entails.of_eq (pts_pRowK (F := F) d L _)); iexact Hp'
    · iapply (Entails.of_eq ((pointsTo_congr hC).trans (pts_cRowK (F := F) d L _))); iexact Hc'
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [Hm0 Hm1 Hm2 Hm3 Hm4 Hsems]
  · isplitl [Hm0]; · iexact Hm0
    isplitl [Hm1]; · iexact Hm1
    isplitl [Hm2]; · iexact Hm2
    isplitl [Hm3]; · iexact Hm3
    isplitl [Hm4]; · iexact Hm4
    iexact Hsems
  iexists _
  isplitr
  rotate_left
  · iexact HO
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

end Cand

end
-- ==== Proof.MergeWords.lean ====
/-
  Word arithmetic of the merge: a running sum of the tasks' counts finds, for every place of the choice, the task that
  holds its row and where in the task's list it stands.
-/
module

public import proofs.«01_k».proof.Proof.Compact

@[expose] public section

noncomputable section

namespace Cand

open Cert.KernelIdeal Cert.KernelIdeal.Gen
open Idealize.ShloMosaic

variable {F : FTy → Type} [FloatOps F]

/-! ## Which list holds a place -/

/-- How many chosen rows come before task `p`'s. -/
def start (x : ℕ → ℤ) (t : ℤ) (p : ℕ) : ℕ := Nat.count (Sel x t) (640 * p)

theorem start_mono (x : ℕ → ℤ) (t : ℤ) {a b : ℕ} (h : a ≤ b) : start x t a ≤ start x t b := count_mono _ (by omega)
theorem start_le (x : ℕ → ℤ) (t : ℤ) (p : ℕ) : start x t p ≤ 640 * p := by
  have := count_gap (Sel x t) 0 (640 * p); rw [Nat.zero_add, Nat.count_zero, Nat.zero_add] at this; exact this
theorem start_zero (x : ℕ → ℤ) (t : ℤ) : start x t 0 = 0 := by unfold start; simp

/-- How many of the first `p` tasks begin at place `s` or before. -/
def upto (x : ℕ → ℤ) (t : ℤ) (s p : ℕ) : ℕ := Nat.count (fun p' => start x t p' ≤ s) p

variable {x : ℕ → ℤ} {t : ℤ}

theorem upto_all {s : ℕ} : ∀ {p : ℕ}, (∀ p' < p, start x t p' ≤ s) → upto x t s p = p := by
  intro p
  induction p with
  | zero => intro _; unfold upto; simp
  | succ p ih =>
    intro h
    have h1 := ih fun p' hp => h p' (by omega)
    unfold upto at h1 ⊢
    rw [Nat.count_succ, h1, if_pos (h p (by omega))]

theorem upto_le (s p : ℕ) : upto x t s p ≤ p := by
  unfold upto; have := count_gap (fun p' => start x t p' ≤ s) 0 p; simpa using this

theorem upto_succ (s p : ℕ) : upto x t s (p + 1) = upto x t s p + if start x t p ≤ s then 1 else 0 := by
  unfold upto; rw [Nat.count_succ]

/-- One step of the search in one lane. -/
theorem find_step {p s : ℕ} (hp : p < 32) (hs : s < 2048) {pref a pb sl : BitVec 32} (h0 : pref.toNat = start x t p) (h1 : sl.toNat = s)
    (h2 : a.toNat = upto x t s p) (h3 : pb.toNat = start x t (upto x t s p - 1)) :
    (a + if IntOp.cmpi .sle pref sl = 1#1 then 1#32 else 0#32).toNat = upto x t s (p + 1)
      ∧ (if IntOp.cmpi .sle pref sl = 1#1 then pref else pb).toNat = start x t (upto x t s (p + 1) - 1) := by
  have hle := start_le x t p
  have hu := upto_le (x := x) (t := t) s p
  have hc : IntOp.cmpi .sle pref sl = 1#1 ↔ start x t p ≤ s := by
    rw [cmp_sle, toInt_small _ (by omega), toInt_small _ (by omega), h0, h1]; omega
  rw [upto_succ]
  by_cases h : start x t p ≤ s
  · rw [if_pos (hc.mpr h), if_pos (hc.mpr h), if_pos h]
    have ha : upto x t s p = p := upto_all fun p' hp' => (start_mono x t (by omega)).trans h
    refine ⟨?_, ?_⟩
    · rw [BitVec.toNat_add, h2]; show (upto x t s p + 1) % _ = _; omega
    · rw [h0, ha]; rfl
  · rw [if_neg (fun q => h (hc.mp q)), if_neg (fun q => h (hc.mp q)), if_neg h]
    exact ⟨by rw [BitVec.toNat_add, h2]; show (upto x t s p + 0) % _ = _; omega, h3⟩

/-- The row of place `s`: the row chosen there, and for the places past the choice row 20000. -/
def pick (x : ℕ → ℤ) (t : ℤ) (s : ℕ) : ℕ := if s < 1000 then place (Sel x t) s else 20000

/-- Where the lists hold the row of place `s`. -/
def spot (x : ℕ → ℤ) (t : ℤ) (s : ℕ) : ℕ :=
  if s < 1000 then 656 * (place (Sel x t) s / 640) + (s - start x t (place (Sel x t) s / 640)) else 0

theorem pick_lt (h : Right x t) (s : ℕ) : pick x t s < 20480 := by
  unfold pick
  split
  · rename_i hs; exact (h.nth hs).2.2
  · decide

theorem start_spot (h : Right x t) {s : ℕ} (hs : s < 1000) :
    start x t (place (Sel x t) s / 640) ≤ s ∧ s - start x t (place (Sel x t) s / 640) < 640 := by
  obtain ⟨hsel, hc, hlt⟩ := h.nth hs
  have h1 : start x t (place (Sel x t) s / 640) ≤ s := (h.chunk hs _ (by omega)).mpr le_rfl
  have h2 := count_gap (Sel x t) (640 * (place (Sel x t) s / 640)) (place (Sel x t) s % 640)
  rw [Nat.div_add_mod, hc] at h2
  unfold start at h1 ⊢
  have := Nat.mod_lt (place (Sel x t) s) (show 0 < 640 by decide)
  omega

theorem spot_lt (h : Right x t) (s : ℕ) : spot x t s < 20992 := by
  unfold spot
  split
  · rename_i hs
    have h1 := (h.nth hs).2.2
    have h2 := (start_spot h hs).2
    omega
  · decide

/-- The search has found the list and the place in it. -/
theorem find_spot (hx : Right x t) {s : ℕ} (hs : s < 1024) {a pb sl : BitVec 32} (h1 : sl.toNat = s)
    (h2 : a.toNat = upto x t s 32) (h3 : pb.toNat = start x t (upto x t s 32 - 1)) :
    (if IntOp.cmpi .slt sl 1000#32 = 1#1 then (a - 1#32) * 656#32 + (sl - pb) else 0#32).toNat = spot x t s := by
  have hc : IntOp.cmpi .slt sl 1000#32 = 1#1 ↔ s < 1000 := by
    rw [cmp_slt, toInt_small _ (by omega), h1]
    show (s : ℤ) < 1000 ↔ _; omega
  unfold spot
  by_cases h : s < 1000
  · rw [if_pos (hc.mpr h), if_pos h]
    have hlt := (hx.nth h).2.2
    have hu : upto x t s 32 = place (Sel x t) s / 640 + 1 := by
      have hch := hx.chunk h
      have ht : ∀ n, n ≤ 32 → upto x t s n = min n (place (Sel x t) s / 640 + 1) := by
        intro n
        induction n with
        | zero => intro _; unfold upto; simp
        | succ n ih =>
          intro hn
          rw [upto_succ, ih (by omega)]
          have := hch n (by omega)
          unfold start
          by_cases hq : n ≤ place (Sel x t) s / 640
          · rw [if_pos (this.mpr hq)]; omega
          · rw [if_neg (fun z => hq (this.mp z))]; omega
      rw [ht 32 le_rfl]; omega
    rw [hu] at h2 h3
    obtain ⟨h4, h5⟩ := start_spot hx h
    rw [Nat.add_sub_cancel] at h3
    have e1 : (a - 1#32).toNat = place (Sel x t) s / 640 := by
      rw [BitVec.toNat_sub, h2]; show (2 ^ 32 - 1 + _) % _ = _; omega
    have e2 : (sl - pb).toNat = s - start x t (place (Sel x t) s / 640) := by
      rw [BitVec.toNat_sub, h1, h3]; omega
    have e3 : ((a - 1#32) * 656#32).toNat = 656 * (place (Sel x t) s / 640) := by
      rw [BitVec.toNat_mul, e1]; show (_ * 656) % _ = _; omega
    rw [BitVec.toNat_add, e2, e3]; omega
  · rw [if_neg (fun q => h (hc.mp q)), if_neg h]; rfl

/-! ## The lists and the counts as the merge reads them -/

/-- The thirty-two lists one after the other, each in 656 words. -/
def Lists (x : ℕ → ℤ) (t : ℤ) (f : S20992.Idx → BitVec 32) : Prop :=
  ∀ w (hw : w < 32), Part x t (640 * w) (640 * w + 640) fun j => f (at1 (656 * w + (j 0).val) (by
    have h : (j 0).val < 656 := (j 0).isLt; omega))

/-- The thirty-two counts, sixteen words apart. -/
def Counts (x : ℕ → ℤ) (t : ℤ) (g : S512.Idx → BitVec 32) : Prop :=
  ∀ w (hw : w < 32), (g (at1 (16 * w) (by omega))).toNat = start x t (w + 1) - start x t w

/-- The lists hold the chosen rows at their spots. -/
theorem Lists.at_spot {f : S20992.Idx → BitVec 32} (hf : Lists x t f) (hx : Right x t) {s : ℕ} (hs : s < 1000) :
    f (at1 (spot x t s) (spot_lt hx s)) = BitVec.ofNat 32 (place (Sel x t) s) := by
  obtain ⟨hsel, hc, hlt⟩ := hx.nth hs
  obtain ⟨h1, h2⟩ := start_spot hx hs
  have hd := Nat.div_add_mod (place (Sel x t) s) 640
  have hm := Nat.mod_lt (place (Sel x t) s) (show 0 < 640 by decide)
  have h := hf (place (Sel x t) s / 640) (by omega) (place (Sel x t) s) (by omega) (by omega) hsel (by rw [hc]; unfold start at h2; omega)
  refine Eq.trans (congrArg f ?_) h
  funext a
  match a with
  | 0 =>
    apply Fin.ext
    show spot x t s = 656 * (place (Sel x t) s / 640) + (Nat.count (Sel x t) (place (Sel x t) s) - Nat.count (Sel x t) (640 * (place (Sel x t) s / 640)))
    rw [hc]; unfold spot start; rw [if_pos hs]

/-! ## The merge's vectors by lane -/

/-- The task's number. -/
abbrev num2 (i : grid2.Coords) : ℕ := 2 * (i 1).val + (i 0).val

theorem num2_lt (i : grid2.Coords) : num2 i < 32 := by
  have h0 : (i 0).val < 2 := (i 0).isLt
  have h1 : (i 1).val < 16 := (i 1).isLt
  unfold num2; omega

variable (i : grid2.Coords)

theorem slot1_at (l : ℕ) (h : l < 16) : (k2_pay1 i (at1 l h)).toNat = 32 * num2 i + l := by
  have hn := num2_lt i
  have e : k2_pay1 i (at1 l h) = BitVec.ofNat 32 (32 * num2 i + l) := by
    show (BitVec.ofNat 32 (i 1).val * BitVec.ofNat 32 2 + BitVec.ofNat 32 (i 0).val) * BitVec.ofNat 32 32 + BitVec.ofNat 32 _ = _
    simp only [← BitVec.ofNat_mul, ← BitVec.ofNat_add]
    congr 1
    show ((i 1).val * 2 + (i 0).val) * 32 + (0 * 16 + l) = _
    unfold num2; omega
  rw [e, BitVec.toNat_ofNat]; omega

theorem slot2_at (l : ℕ) (h : l < 16) : (k2_pay2 i (at1 l h)).toNat = 32 * num2 i + 16 + l := by
  have hn := num2_lt i
  have e : k2_pay2 i (at1 l h) = BitVec.ofNat 32 (32 * num2 i + 16 + l) := by
    show (BitVec.ofNat 32 (i 1).val * BitVec.ofNat 32 2 + BitVec.ofNat 32 (i 0).val) * BitVec.ofNat 32 32 + BitVec.ofNat 32 16 + BitVec.ofNat 32 _ = _
    simp only [← BitVec.ofNat_mul, ← BitVec.ofNat_add]
    congr 1
    show ((i 1).val * 2 + (i 0).val) * 32 + 16 + (0 * 16 + l) = _
    unfold num2; omega
  rw [e, BitVec.toNat_ofNat]; omega

/-- Before trip `k` of the search: the running sum, and in every lane the lists begun so far and where the last began. -/
def Found (x : ℕ → ℤ) (t : ℤ) (i : grid2.Coords) (k : ℕ) (s : BitVec 32 × IVec S16 32 × IVec S16 32 × IVec S16 32 × IVec S16 32) : Prop :=
  s.1.toNat = start x t k
    ∧ (∀ l (h : l < 16), (s.2.1 (at1 l h)).toNat = upto x t (32 * num2 i + l) k
        ∧ (s.2.2.2.1 (at1 l h)).toNat = start x t (upto x t (32 * num2 i + l) k - 1))
    ∧ (∀ l (h : l < 16), (s.2.2.1 (at1 l h)).toNat = upto x t (32 * num2 i + 16 + l) k
        ∧ (s.2.2.2.2 (at1 l h)).toNat = start x t (upto x t (32 * num2 i + 16 + l) k - 1))

theorem found_zero : Found x t i 0 (0#32, k2_pay3, k2_pay3, k2_pay3, k2_pay3) := by
  have h : ∀ s, upto x t s 0 = 0 := fun s => by unfold upto; simp
  refine ⟨?_, fun l hl => ?_, fun l hl => ?_⟩
  · rw [start_zero]; rfl
  · rw [h, start_zero]; exact ⟨rfl, rfl⟩
  · rw [h, start_zero]; exact ⟨rfl, rfl⟩

theorem found_succ {k : ℕ} (hk : k < 32) {p : BitVec 32} {a1 a2 b1 b2 : IVec S16 32} (h : Found x t i k (p, a1, a2, b1, b2))
    (c : BitVec 32) (hc : c.toNat = start x t (k + 1) - start x t k) :
    Found x t i (k + 1) (Scalar.addi p c, k2_pay7 i p a1, k2_pay8 i p a2, k2_pay9 i p b1, k2_pay10 i p b2) := by
  obtain ⟨h0, h1, h2⟩ := h
  have hn := num2_lt i
  refine ⟨?_, fun l hl => ?_, fun l hl => ?_⟩
  · have hm := start_mono x t (show k ≤ k + 1 by omega)
    have hl := start_le x t (k + 1)
    show (p + c).toNat = _
    rw [BitVec.toNat_add, hc]
    have : p.toNat = start x t k := h0
    omega
  · exact find_step hk (by omega) h0 (slot1_at i l hl) (h1 l hl).1 (h1 l hl).2
  · exact find_step hk (by omega) h0 (slot2_at i l hl) (h2 l hl).1 (h2 l hl).2

/-- Sixteen words read again as sixteen words. -/
theorem cast16 {α : Type} (v : S16.Idx → α) (h : S16.ShapeCasts S16) : shapeCast S16 v h = v :=
  funext fun j => congrArg v (Shape.reshapeEquiv_eq_of_rowMajor _ rfl)

/-- The task's thirty-two spots, and its thirty-two rows. -/
def spots (x : ℕ → ℤ) (t : ℤ) (i : grid2.Coords) : S32.Idx → BitVec 32 := fun j => BitVec.ofNat 32 (spot x t (32 * num2 i + (j 0).val))
def picks (x : ℕ → ℤ) (t : ℤ) (i : grid2.Coords) : S32.Idx → BitVec 32 := fun j => BitVec.ofNat 32 (pick x t (32 * num2 i + (j 0).val))

theorem pay12_at (hx : Right x t) {s : BitVec 32 × IVec S16 32 × IVec S16 32 × IVec S16 32 × IVec S16 32} (h : Found x t i 32 s) (l : ℕ) (hl : l < 16) :
    k2_pay12 i s.2.1 s.2.2.2.1 (at1 l hl) = spots x t i (at1 l (by omega)) := by
  have hn := num2_lt i
  have h' := find_spot hx (by omega) (slot1_at i l hl) (h.2.1 l hl).1 (h.2.1 l hl).2
  unfold k2_pay12
  simp only [cast16]
  apply BitVec.eq_of_toNat_eq
  refine h'.trans ?_
  have := spot_lt hx (32 * num2 i + l)
  show _ = (BitVec.ofNat 32 (spot x t (32 * num2 i + l))).toNat
  rw [BitVec.toNat_ofNat]; omega

theorem pay13_at (hx : Right x t) {s : BitVec 32 × IVec S16 32 × IVec S16 32 × IVec S16 32 × IVec S16 32} (h : Found x t i 32 s) (l : ℕ) (hl : l < 16) :
    k2_pay13 (k2_pay11 i s.2.2.1 s.2.2.2.2) (at1 l hl) = spots x t i (at1 (16 + l) (by omega)) := by
  have hn := num2_lt i
  have h' := find_spot hx (by omega) (slot2_at i l hl) (h.2.2 l hl).1 (h.2.2 l hl).2
  unfold k2_pay13
  simp only [cast16]
  apply BitVec.eq_of_toNat_eq
  refine h'.trans ?_
  have := spot_lt hx (32 * num2 i + 16 + l)
  show _ = (BitVec.ofNat 32 (spot x t (32 * num2 i + (16 + l)))).toNat
  rw [BitVec.toNat_ofNat, ← Nat.add_assoc]; omega

theorem pick_word (hx : Right x t) {s : ℕ} (hs : s < 1024) {sl v : BitVec 32} (h1 : sl.toNat = s) (hv : s < 1000 → v = BitVec.ofNat 32 (place (Sel x t) s)) :
    (if IntOp.cmpi .slt sl 1000#32 = 1#1 then v else 20000#32) = BitVec.ofNat 32 (pick x t s) := by
  have hc : IntOp.cmpi .slt sl 1000#32 = 1#1 ↔ s < 1000 := by
    rw [cmp_slt, toInt_small _ (by omega), h1]
    show (s : ℤ) < 1000 ↔ _; omega
  unfold pick
  by_cases h : s < 1000
  · rw [if_pos (hc.mpr h), if_pos h, hv h]
  · rw [if_neg (fun q => h (hc.mp q)), if_neg h]

theorem pay14_at (hx : Right x t) (v : IVec S16 32)
    (hv : ∀ l (h : l < 16), 32 * num2 i + l < 1000 → v (at1 l h) = BitVec.ofNat 32 (place (Sel x t) (32 * num2 i + l))) (l : ℕ) (hl : l < 16) :
    k2_pay14 (F := F) (k2_pay1 i) v (at1 l hl) = picks x t i (at1 l (by omega)) := by
  have hn := num2_lt i
  unfold k2_pay14
  simp only [cast16]
  exact pick_word (s := 32 * num2 i + l) hx (by omega) (slot1_at i l hl) (hv l hl)

theorem pay15_at (hx : Right x t) (v : IVec S16 32)
    (hv : ∀ l (h : l < 16), 32 * num2 i + 16 + l < 1000 → v (at1 l h) = BitVec.ofNat 32 (place (Sel x t) (32 * num2 i + 16 + l))) (l : ℕ) (hl : l < 16) :
    k2_pay15 (F := F) (k2_pay2 i) v (at1 l hl) = picks x t i (at1 (16 + l) (by omega)) := by
  have hn := num2_lt i
  unfold k2_pay15
  simp only [cast16]
  refine (pick_word hx (by omega) (slot2_at i l hl) (hv l hl)).trans ?_
  show BitVec.ofNat 32 (pick x t (32 * num2 i + 16 + l)) = BitVec.ofNat 32 (pick x t (32 * num2 i + (16 + l)))
  rw [Nat.add_assoc]

end Cand

end
-- ==== Proof.Merge.lean ====
/-
  The merge's task: task `w` fetches the tasks' counts, finds the spots of its thirty-two places, gathers their rows'
  numbers from the lists, and gathers the rows of the six arrays into its block of the six results.
-/
module

public import proofs.«01_k».proof.Proof.MergeWords

@[expose] public section

noncomputable section

namespace Cand

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Separating a list of members from a family -/

/-- A set less the members of a list, one after the other. -/
def less {ι : Type} [DecidableEq ι] : Finset ι → List ι → Finset ι
  | s, [] => s
  | s, a :: l => less (s.erase a) l

/-- The members of a list beside a rest. -/
def each {ι : Type} (Φ : ι → sProp 𝕄) (R : sProp 𝕄) : List ι → sProp 𝕄
  | [] => R
  | a :: l => iprop(Φ a ∗ each Φ R l)

omit [FloatOps F] in
theorem bigSep_less {ι : Type} [DecidableEq ι] (Φ : ι → sProp 𝕄) :
    ∀ (l : List ι) (s : Finset ι), l.Nodup → (∀ a ∈ l, a ∈ s) → bigSep s Φ = each Φ (bigSep (less s l) Φ) l
  | [], _, _, _ => rfl
  | a :: l, s, hn, hs => by
    rw [SparseCore.bigSep_erase' (hs a (by simp))]
    refine congrArg (fun R => iprop(Φ a ∗ R)) (bigSep_less Φ l (s.erase a) (List.nodup_cons.mp hn).2 fun b hb => Finset.mem_erase.mpr ⟨?_, hs b (by simp [hb])⟩)
    rintro rfl
    exact (List.nodup_cons.mp hn).1 hb

/-! ## The arrays, the task's scratch and its blocks of the results -/

local notation "li2" => (Memref.whole Cert.KernelIdeal.main_v5_scv : Memref Cert.KernelIdeal.sig Kind.scVector Space.hbm Cert.KernelIdeal.S20992 EltTy.i32)
local notation "cn2" => (Memref.whole Cert.KernelIdeal.main_v6_scv : Memref Cert.KernelIdeal.sig Kind.scVector Space.hbm Cert.KernelIdeal.S512 EltTy.i32)
local notation "ar1" => (Memref.whole Cert.KernelIdeal.main_arg1_scv : Memref Cert.KernelIdeal.sig Kind.scVector Space.hbm Cert.KernelIdeal.S20480 EltTy.f32)
local notation "ar2" => (Memref.whole Cert.KernelIdeal.main_arg2_scv : Memref Cert.KernelIdeal.sig Kind.scVector Space.hbm Cert.KernelIdeal.S20480 EltTy.f32)
local notation "ar3" => (Memref.whole Cert.KernelIdeal.main_arg3_scv : Memref Cert.KernelIdeal.sig Kind.scVector Space.hbm Cert.KernelIdeal.S20480 EltTy.f32)
local notation "ar4" => (Memref.whole Cert.KernelIdeal.main_arg4_scv : Memref Cert.KernelIdeal.sig Kind.scVector Space.hbm Cert.KernelIdeal.S20480 EltTy.f32)
local notation "ar5" => (Memref.whole Cert.KernelIdeal.main_arg5_scv : Memref Cert.KernelIdeal.sig Kind.scVector Space.hbm Cert.KernelIdeal.S20480 EltTy.f32)
local notation "ar6" => (Memref.whole Cert.KernelIdeal.main_arg6_scv : Memref Cert.KernelIdeal.sig Kind.scVector Space.hbm Cert.KernelIdeal.S20480 EltTy.i32)
local notation "ou0" => (Memref.whole Cert.KernelIdeal.main_v7_0_scv : Memref Cert.KernelIdeal.sig Kind.scVector Space.hbm Cert.KernelIdeal.S1024 EltTy.f32)
local notation "ou1" => (Memref.whole Cert.KernelIdeal.main_v7_1_scv : Memref Cert.KernelIdeal.sig Kind.scVector Space.hbm Cert.KernelIdeal.S1024 EltTy.f32)
local notation "ou2" => (Memref.whole Cert.KernelIdeal.main_v7_2_scv : Memref Cert.KernelIdeal.sig Kind.scVector Space.hbm Cert.KernelIdeal.S1024 EltTy.f32)
local notation "ou3" => (Memref.whole Cert.KernelIdeal.main_v7_3_scv : Memref Cert.KernelIdeal.sig Kind.scVector Space.hbm Cert.KernelIdeal.S1024 EltTy.f32)
local notation "ou4" => (Memref.whole Cert.KernelIdeal.main_v7_4_scv : Memref Cert.KernelIdeal.sig Kind.scVector Space.hbm Cert.KernelIdeal.S1024 EltTy.f32)
local notation "ou5" => (Memref.whole Cert.KernelIdeal.main_v7_5_scv : Memref Cert.KernelIdeal.sig Kind.scVector Space.hbm Cert.KernelIdeal.S1024 EltTy.i32)
local notation "b20" => (Memref.whole Cert.KernelIdeal.cc2_scratch0 : Memref Cert.KernelIdeal.sig Kind.scVector Space.vmem Cert.KernelIdeal.S512 EltTy.i32)
local notation "b21" => (Memref.whole Cert.KernelIdeal.cc2_scratch1 : Memref Cert.KernelIdeal.sig Kind.scVector Space.vmem Cert.KernelIdeal.S32 EltTy.i32)
local notation "b22" => (Memref.whole Cert.KernelIdeal.cc2_scratch2 : Memref Cert.KernelIdeal.sig Kind.scVector Space.vmem Cert.KernelIdeal.S32 EltTy.i32)
local notation "b23" => (Memref.whole Cert.KernelIdeal.cc2_scratch3 : Memref Cert.KernelIdeal.sig Kind.scVector Space.vmem Cert.KernelIdeal.S32 EltTy.f32)
local notation "b24" => (Memref.whole Cert.KernelIdeal.cc2_scratch4 : Memref Cert.KernelIdeal.sig Kind.scVector Space.vmem Cert.KernelIdeal.S32 EltTy.f32)
local notation "b25" => (Memref.whole Cert.KernelIdeal.cc2_scratch5 : Memref Cert.KernelIdeal.sig Kind.scVector Space.vmem Cert.KernelIdeal.S32 EltTy.f32)
local notation "b26" => (Memref.whole Cert.KernelIdeal.cc2_scratch6 : Memref Cert.KernelIdeal.sig Kind.scVector Space.vmem Cert.KernelIdeal.S32 EltTy.f32)
local notation "b27" => (Memref.whole Cert.KernelIdeal.cc2_scratch7 : Memref Cert.KernelIdeal.sig Kind.scVector Space.vmem Cert.KernelIdeal.S32 EltTy.f32)
local notation "b28" => (Memref.whole Cert.KernelIdeal.cc2_scratch8 : Memref Cert.KernelIdeal.sig Kind.scVector Space.vmem Cert.KernelIdeal.S32 EltTy.i32)

theorem odiv : 32 ∣ S1024.size 0 := ⟨32, rfl⟩
/-- Block `w` of a result: 32 places. -/
abbrev oSet (w : Fin 32) : Finset S1024.Idx := (Rect.part (s := S1024) (a₀ := 0) odiv w).set

/-- A result: the rows of an array at the places' rows. -/
def outp {α : Type} (x : ℕ → ℤ) (t : ℤ) (f : S20480.Idx → α) : S1024.Idx → α :=
  fun j => f (at1 (min (pick x t (j 0).val) 20479) (by omega))

section Tile

variable (d : Dev nD) (L : grid2.Coords)

abbrev cV2 (L : grid2.Coords) : Fin τ.nSC := (L 0).castLE hcore2
abbrev jV2 (L : grid2.Coords) : Fin τ.nSub := (L 1).castLE hsub2
abbrev wL2 (L : grid2.Coords) : Fin 32 := ⟨num2 L, num2_lt L⟩
abbrev tV2 (d : Dev nD) (L : grid2.Coords) : Thread nD τ := V d (cV2 L) (jV2 L)

/-- The task's block of a result. -/
abbrev oRect (L : grid2.Coords) : Rect S1024 := Rect.unit (s := S1024) (k2_off2 L) S32.size (k2_off2_inb L)

theorem oRect_eq : oRect L = Rect.part (s := S1024) (a₀ := 0) odiv (wL2 L) := by
  unfold oRect Rect.part Rect.block
  congr 1 <;> funext a
  · rw [k2_off2_eq]
    match a with
    | 0 => show 64 * (L 1).val + 32 * (L 0).val = _; simp [Shape.partIx, Shape.partSize, num2]; omega
  · match a with
    | 0 => simp [Shape.partSize]

theorem oRect_emb (j : S32.Idx) : (oRect L).emb j = at1 (32 * num2 L + (j 0).val) (by
    have h := num2_lt L; have h' : (j 0).val < 32 := (j 0).isLt; omega) := by
  funext a
  apply Fin.ext
  match a with
  | 0 =>
    refine (congrArg (· + 1 * (j 0).val) (congrFun (k2_off2_eq L) 0)).trans ?_
    show 64 * (L 1).val + 32 * (L 0).val + 1 * (j 0).val = 32 * num2 L + (j 0).val
    unfold num2; omega

/-- The task's block of a result, as the program slices it. -/
abbrev oK {e : EltTy} (L : grid2.Coords) (m : Memref sig .scVector .hbm S1024 e) : Memref sig .scVector .hbm S32 e :=
  m.slice (oRect L) (fun _ => rfl)

theorem oRect_set : (oRect L).set = oSet (wL2 L) := by rw [oRect_eq]

/-- The counters the task uses. -/
abbrev sems2 : List (SemLoc sig) :=
  [.dma cc2_scratch9.sem, .dma cc2_scoped0.sem, .dma cc2_scoped1.sem, .dma cc2_scoped2.sem, .dma cc2_scoped3.sem, .dma cc2_scoped4.sem,
    .dma cc2_scoped5.sem, .dma cc2_scoped6.sem]
/-- The buffers the task uses. -/
abbrev bufs2 : List (Ref sig .scVector) :=
  [cc2_scratch0, cc2_scratch1, cc2_scratch2, cc2_scratch3, cc2_scratch4, cc2_scratch5, cc2_scratch6, cc2_scratch7, cc2_scratch8]

omit [FloatOps F] in
theorem ownSems2 :
    (ownSems0 (tV2 d L) : sProp 𝕄)
      = each (fun g => semVal g 0) (bigSep (less (ownCells (tV2 d L)) (sems2.map fun l => ((tV2 d L, l) : GSem nD τ sig))) fun g => semVal g 0)
          (sems2.map fun l => ((tV2 d L, l) : GSem nD τ sig)) := by
  unfold SparseCore.Cfg.ownSems0
  refine bigSep_less _ _ _ ((by decide : sems2.Nodup).map fun a b h => congrArg Prod.snd h) fun g hg => ?_
  obtain ⟨l, hl, rfl⟩ := List.mem_map.mp hg
  exact (mem_ownCells (g := (tV2 d L, l))).mpr ⟨rfl, (by decide : ∀ l ∈ sems2, l.isScoped .scVector = true) l hl⟩

omit [FloatOps F] in
theorem ownBufs2 :
    (ownBufs (tV2 d L) : sProp 𝕄)
      = each (fun b => iprop(∃ f, ((d, b) : Loc nD τ sig) ↦{fullShare} f))
          (bigSep (less (ownRefs (τ := τ) (sig := sig) (.scVector (cV2 L) (jV2 L))) (bufs2.map fun b => buf (cV2 L) (jV2 L) b))
            fun b => iprop(∃ f, ((d, b) : Loc nD τ sig) ↦{fullShare} f))
          (bufs2.map fun b => buf (cV2 L) (jV2 L) b) := by
  unfold SparseCore.Cfg.ownBufs
  refine bigSep_less _ _ _ ((by decide : bufs2.Nodup).map fun a b h => Proc.devRef_injective _ h) fun g hg => ?_
  obtain ⟨b, hb, rfl⟩ := List.mem_map.mp hg
  refine SparseCore.Cfg.mem_ownRefs_of_owner (p := Proc.scVector (cV2 L) (jV2 L)) (b := buf (cV2 L) (jV2 L) b) ?_
  simp only [List.mem_cons, List.not_mem_nil, or_false] at hb
  rcases hb with rfl | rfl | rfl | rfl | rfl | rfl | rfl | rfl | rfl <;> rfl

/-! ## What the task reads and writes -/

/-- Two stores of sixteen lanes fill thirty-two words. -/
theorem halves_emb {sig : RefSig} {κ : Kind} {sp : Space} {e : EltTy} (v : View sig κ sp S32 e) {Val : EltTy → Type} (f : v.ty.Contents Val)
    (w1 w2 : S16.Idx → Val e) (g : S32.Idx → Val e) (h1 : ∀ l (h : l < 16), w1 (at1 l h) = g (at1 l (by omega)))
    (h2 : ∀ l (h : l < 16), w2 (at1 l h) = g (at1 (16 + l) (by omega))) (j : S32.Idx) :
    v.writes Val f [⟨Rect.unit (s := S32) ![16] S16.size inb_S32_S16_16, w2⟩, ⟨Rect.unit (s := S32) ![0] S16.size inb_S32_S16_0, w1⟩] (v.emb j)
      = _root_.cast (congrArg Val v.elt_eq.symm) (g j) := by
  have hj : (j 0).val < 32 := (j 0).isLt
  rw [View.writes_cons]
  by_cases h : (j 0).val < 16
  · have hn : v.emb j ∉ (v.slice (Rect.unit (s := S32) ![16] S16.size inb_S32_S16_16)).setOn Finset.univ := by
      rw [View.setOn_univ]
      intro hm
      obtain ⟨y, -, hy⟩ := Finset.mem_map.mp hm
      have := congrArg (fun z : S32.Idx => (z 0).val) (v.emb.injective hy)
      have h3 : 16 + 1 * (y 0).val = (j 0).val := this
      omega
    rw [View.write_of_not_mem _ _ _ hn, View.writes_singleton]
    have he : (v.slice (Rect.unit (s := S32) ![0] S16.size inb_S32_S16_0)).emb (at1 (j 0).val h) = v.emb j :=
      congrArg v.emb (funext fun a => Fin.ext (by match a with | 0 => show 0 + 1 * (j 0).val = (j 0).val; omega))
    have hw := View.write_emb_of_mem (v := v.slice (Rect.unit (s := S32) ![0] S16.size inb_S32_S16_0)) (Val := Val) f w1 (M := Finset.univ)
      (x := at1 (j 0).val h) (Finset.mem_univ _)
    rw [he] at hw
    refine hw.trans (congrArg _ ((h1 _ h).trans (congrArg g (at1_eta j))))
  · have he : (v.slice (Rect.unit (s := S32) ![16] S16.size inb_S32_S16_16)).emb (at1 ((j 0).val - 16) (by omega)) = v.emb j :=
      congrArg v.emb (funext fun a => Fin.ext (by match a with | 0 => show 16 + 1 * ((j 0).val - 16) = (j 0).val; omega))
    have hw := View.write_emb_of_mem (v := v.slice (Rect.unit (s := S32) ![16] S16.size inb_S32_S16_16)) (Val := Val)
      (v.writes Val f [⟨Rect.unit (s := S32) ![0] S16.size inb_S32_S16_0, w1⟩]) w2 (M := Finset.univ)
      (x := at1 ((j 0).val - 16) (by omega)) (Finset.mem_univ _)
    rw [he] at hw
    refine hw.trans (congrArg _ ((h2 _ (by omega)).trans (congrArg g (funext fun a => Fin.ext ?_))))
    match a with | 0 => show 16 + ((j 0).val - 16) = (j 0).val; omega

/-- What a gather of the lists delivers. -/
theorem gather_list {e : EltTy} (g : S20992.Idx → Elt F e) (w : S32.Idx → BitVec 32) (hn : S32.numel = S32.size gathers_S20992_S32.axis')
    (h : ∀ j, (w j).toNat < S20992.size gathers_S20992_S32.axis) (j : S32.Idx) :
    SparseCore.gatherPayload gathers_S20992_S32 g (SparseCore.rows (F := F) w hn h) j = g (at1 (w j).toNat (h j)) := by
  refine congrArg g (funext fun a => Fin.ext ?_)
  match a with
  | 0 =>
    refine (congrArg Fin.val (Shape.Gathers.idx_axis gathers_S20992_S32 (SparseCore.rows (F := F) w hn h) j)).trans ?_
    show (w (S32.rowMajor.symm _)).toNat = (w j).toNat
    congr 2
    rw [Equiv.symm_apply_eq]
    exact Fin.ext (Shape.rowMajor_val_one (d := ![32]) j).symm

/-- What a gather of an array delivers. -/
theorem gather_rows {e : EltTy} (g : S20480.Idx → Elt F e) (w : S32.Idx → BitVec 32) (hn : S32.numel = S32.size gathers_S20480_S32.axis')
    (h : ∀ j, (w j).toNat < S20480.size gathers_S20480_S32.axis) (j : S32.Idx) :
    SparseCore.gatherPayload gathers_S20480_S32 g (SparseCore.rows (F := F) w hn h) j = g (at1 (w j).toNat (h j)) := by
  refine congrArg g (funext fun a => Fin.ext ?_)
  match a with
  | 0 =>
    refine (congrArg Fin.val (Shape.Gathers.idx_axis gathers_S20480_S32 (SparseCore.rows (F := F) w hn h) j)).trans ?_
    show (w (S32.rowMajor.symm _)).toNat = (w j).toNat
    congr 2
    rw [Equiv.symm_apply_eq]
    exact Fin.ext (Shape.rowMajor_val_one (d := ![32]) j).symm

/-- Sixteen lanes read back from a store of all thirty-two. -/
theorem read_back (w : S32.Idx → Elt F .i32) (o : ℕ) (inb : ∀ a, ![o] a + S16.size a ≤ S32.size a) (l : ℕ) (h : l < 16) (h' : o + l < 32) :
    (b22).view.readCov (Val := Elt F) [⟨Rect.whole S32, w⟩] (Rect.unit (s := S32) ![o] S16.size inb).toLoadRect (at1 l h) = w (at1 (o + l) h') := by
  have he := writes_whole_emb (b22).view (Val := Elt F) (b22).view.junk w (at1 (o + l) h')
  refine Eq.trans ?_ he
  refine congrArg ((b22).view.writes (Elt F) (b22).view.junk [⟨Rect.whole S32, w⟩]) ?_
  funext a; apply Fin.ext
  match a with
  | 0 => show o + 1 * l = o + l; omega

variable {x : ℕ → ℤ} {t : ℤ}

/-- The row of an array at a place's row is what the result holds at the place. -/
theorem outp_at {α : Type} (hx : Right x t) (f : S20480.Idx → α) (j : S32.Idx) (i : S20480.Idx) (hi : (i 0).val = (picks x t L j).toNat) :
    f i = outp x t f ((oRect L).emb j) := by
  refine congrArg f (funext fun a => Fin.ext ?_)
  match a with
  | 0 =>
    have hp := pick_lt hx (32 * num2 L + (j 0).val)
    have he : ((oRect L).emb j 0).val = 32 * num2 L + (j 0).val := by rw [oRect_emb]; rfl
    show (i 0).val = min (pick x t ((oRect L).emb j 0).val) 20479
    rw [hi, he]
    show (BitVec.ofNat 32 (pick x t (32 * num2 L + (j 0).val))).toNat = _
    rw [BitVec.toNat_ofNat]; omega

/-- Before trip `k` of the search. -/
def inv3 (gC : S512.Idx → BitVec 32) (x : ℕ → ℤ) (t : ℤ) (k : ℕ) (s : BitVec 32 × IVec S16 32 × IVec S16 32 × IVec S16 32 × IVec S16 32) : sProp 𝕄 :=
  iprop(⌜Found x t L k s⌝ ∗ ((b20).view.loc (tV2 d L) ↦{fullShare} (gC : Buf (Elt F) ((tV2 d L).loc cc2_scratch0))))

theorem rd_cnt (gC : S512.Idx → BitVec 32) (k : Fin k2_t1_loop.trips) (hk : k.val < 32) :
    View.readAt (Elt F) (b20).view (Rect.unit (s := S512) (k2_off1 k) S16.size (k2_off1_inb k)).toLoadRect (gC : Buf (Elt F) ((tV2 d L).loc cc2_scratch0))
        (at1 0 (by decide)) = gC (at1 (16 * k.val) (by omega)) := by
  refine congrArg gC (funext fun a => Fin.ext ?_)
  match a with
  | 0 => exact (congrArg (· + 1 * 0) (congrFun (k2_off1_eq k) 0)).trans (by show 16 * k.val + 1 * 0 = 16 * k.val; omega)

set_option maxHeartbeats 4000000 in
theorem merge_body (hF : (K (F := F)).Facts) (O : CellTallies nD τ sig (HIx 2)) (W : Waits sig (HIx 2)) (hO : ∀ g, O g none = 0)
    (q : PosShare TreeShare) (fL : Buf (Elt F) (aLoc main_v5 d)) (gC : Buf (Elt F) (aLoc main_v6 d))
    (f1 : Buf (Elt F) (aLoc main_arg1 d)) (f2 : Buf (Elt F) (aLoc main_arg2 d)) (f3 : Buf (Elt F) (aLoc main_arg3 d))
    (f4 : Buf (Elt F) (aLoc main_arg4 d)) (f5 : Buf (Elt F) (aLoc main_arg5 d)) (f6 : Buf (Elt F) (aLoc main_arg6 d))
    (o0 : Buf (Elt F) (aLoc main_v7_0 d)) (o1 : Buf (Elt F) (aLoc main_v7_1 d)) (o2 : Buf (Elt F) (aLoc main_v7_2 d))
    (o3 : Buf (Elt F) (aLoc main_v7_3 d)) (o4 : Buf (Elt F) (aLoc main_v7_4 d)) (o5 : Buf (Elt F) (aLoc main_v7_5 d))
    (hx : Right x t) (hL : Lists x t fL) (hC : Counts x t gC) :
    (iprop(levAts (K (F := F)).L (K (F := F)).lev ∗ emp
        ∗ ((aLoc main_v5 d ↦{q} fL) ∗ (aLoc main_v6 d ↦{q} gC)
          ∗ (aLoc main_arg1 d ↦{q} f1) ∗ (aLoc main_arg2 d ↦{q} f2) ∗ (aLoc main_arg3 d ↦{q} f3)
          ∗ (aLoc main_arg4 d ↦{q} f4) ∗ (aLoc main_arg5 d ↦{q} f5) ∗ (aLoc main_arg6 d ↦{q} f6)
          ∗ (aLoc main_v7_0 d ↦[oSet (wL2 L)]{fullShare} o0) ∗ (aLoc main_v7_1 d ↦[oSet (wL2 L)]{fullShare} o1)
          ∗ (aLoc main_v7_2 d ↦[oSet (wL2 L)]{fullShare} o2) ∗ (aLoc main_v7_3 d ↦[oSet (wL2 L)]{fullShare} o3)
          ∗ (aLoc main_v7_4 d ↦[oSet (wL2 L)]{fullShare} o4) ∗ (aLoc main_v7_5 d ↦[oSet (wL2 L)]{fullShare} o5))
        ∗ scopedBufs (tV2 d L) ∗ scopedSems0 (tV2 d L) ∗ owes (tV2 d L) O W) : sProp 𝕄)
      ⊢ wp frame (wpE (defs₀ (F := F)) 𝒱₀ (tV2 d L) none) Set.univ
          (cc2__merge_body L li2 (Memref.isWhole_whole _) cn2 (Memref.isWhole_whole _)
            ar1 (Memref.isWhole_whole _) ar2 (Memref.isWhole_whole _) ar3 (Memref.isWhole_whole _)
            ar4 (Memref.isWhole_whole _) ar5 (Memref.isWhole_whole _) ar6 (Memref.isWhole_whole _)
            ou0 (Memref.isWhole_whole _) ou1 (Memref.isWhole_whole _) ou2 (Memref.isWhole_whole _)
            ou3 (Memref.isWhole_whole _) ou4 (Memref.isWhole_whole _) ou5 (Memref.isWhole_whole _)
            b20 (Memref.isWhole_whole _) b21 (Memref.isWhole_whole _) b22 (Memref.isWhole_whole _) b23 (Memref.isWhole_whole _)
            b24 (Memref.isWhole_whole _) b25 (Memref.isWhole_whole _) b26 (Memref.isWhole_whole _) b27 (Memref.isWhole_whole _) b28 (Memref.isWhole_whole _)
            cc2_scratch9 cc2_scoped0 cc2_scoped1 cc2_scoped2 cc2_scoped3 cc2_scoped4 cc2_scoped5 cc2_scoped6)
          fun _ => iprop(((aLoc main_arg1 d ↦{q} f1) ∗ (aLoc main_arg2 d ↦{q} f2) ∗ (aLoc main_arg3 d ↦{q} f3)
              ∗ (aLoc main_arg4 d ↦{q} f4) ∗ (aLoc main_arg5 d ↦{q} f5) ∗ (aLoc main_arg6 d ↦{q} f6)
              ∗ (aLoc main_v7_0 d ↦[oSet (wL2 L)]{fullShare} (outp x t f1 : Buf (Elt F) (aLoc main_v7_0 d)))
              ∗ (aLoc main_v7_1 d ↦[oSet (wL2 L)]{fullShare} (outp x t f2 : Buf (Elt F) (aLoc main_v7_1 d)))
              ∗ (aLoc main_v7_2 d ↦[oSet (wL2 L)]{fullShare} (outp x t f3 : Buf (Elt F) (aLoc main_v7_2 d)))
              ∗ (aLoc main_v7_3 d ↦[oSet (wL2 L)]{fullShare} (outp x t f4 : Buf (Elt F) (aLoc main_v7_3 d)))
              ∗ (aLoc main_v7_4 d ↦[oSet (wL2 L)]{fullShare} (outp x t f5 : Buf (Elt F) (aLoc main_v7_4 d)))
              ∗ (aLoc main_v7_5 d ↦[oSet (wL2 L)]{fullShare} (outp x t f6 : Buf (Elt F) (aLoc main_v7_5 d))))
            ∗ scopedBufs (tV2 d L) ∗ scopedSems0 (tV2 d L)
            ∗ ∃ W', ⌜∀ p ∈ W', p ∈ W ∨ p.2 = none⌝ ∗ owes (tV2 d L) O W') := by
  simp only [cc2__merge_body_eq_skeleton]; unfold cc2__merge_body_skel; simp only [k2_part1_eq_skeleton, k2_part2_eq_skeleton]; unfold k2_part1_skel k2_part2_skel
  simp only [bind_assoc, pure_bind]
  rw [(K (F := F)).scopedBufs_V hF d (cV2 L) (jV2 L), SparseCore.Cfg.scopedSems0_V (Val := Elt F) d (cV2 L) (jV2 L), ownSems2, ownBufs2]
  simp only [List.map, each]
  iintro ⟨#Hlv, -, ⟨Hl, Hc, Ha1, Ha2, Ha3, Ha4, Ha5, Ha6, Ho0, Ho1, Ho2, Ho3, Ho4, Ho5⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, Hbufs⟩, ⟨Hm9, Hm0, Hm1, Hm2, Hm3, Hm4, Hm5, Hm6, Hsems⟩, HO⟩
  ihave Hmw := (show levAts (K (F := F)).L (K (F := F)).lev ⊢ (Transfers.MayWaits (tV2 d L) (default : HIx 2) O : sProp 𝕄) from
    (K (F := F)).mayWaits_none (thr := tV2 d L) hO) $$ Hlv
  ihave Hl' := (show (aLoc main_v5 d ↦{q} fL : sProp 𝕄) ⊢ ((li2).view.loc (tV2 d L) ↦{q} fL : sProp 𝕄) from .rfl) $$ Hl
  ihave Hc' := (show (aLoc main_v6 d ↦{q} gC : sProp 𝕄) ⊢ ((cn2).view.loc (tV2 d L) ↦{q} gC : sProp 𝕄) from .rfl) $$ Hc
  ihave Ha1' := (show (aLoc main_arg1 d ↦{q} f1 : sProp 𝕄) ⊢ ((ar1).view.loc (tV2 d L) ↦{q} f1 : sProp 𝕄) from .rfl) $$ Ha1
  ihave Ha2' := (show (aLoc main_arg2 d ↦{q} f2 : sProp 𝕄) ⊢ ((ar2).view.loc (tV2 d L) ↦{q} f2 : sProp 𝕄) from .rfl) $$ Ha2
  ihave Ha3' := (show (aLoc main_arg3 d ↦{q} f3 : sProp 𝕄) ⊢ ((ar3).view.loc (tV2 d L) ↦{q} f3 : sProp 𝕄) from .rfl) $$ Ha3
  ihave Ha4' := (show (aLoc main_arg4 d ↦{q} f4 : sProp 𝕄) ⊢ ((ar4).view.loc (tV2 d L) ↦{q} f4 : sProp 𝕄) from .rfl) $$ Ha4
  ihave Ha5' := (show (aLoc main_arg5 d ↦{q} f5 : sProp 𝕄) ⊢ ((ar5).view.loc (tV2 d L) ↦{q} f5 : sProp 𝕄) from .rfl) $$ Ha5
  ihave Ha6' := (show (aLoc main_arg6 d ↦{q} f6 : sProp 𝕄) ⊢ ((ar6).view.loc (tV2 d L) ↦{q} f6 : sProp 𝕄) from .rfl) $$ Ha6
  ihave H0' := (show ((tV2 d L).loc cc2_scratch0 ↦{fullShare} g0 : sProp 𝕄) ⊢ ((b20).view.loc (tV2 d L) ↦{fullShare} g0 : sProp 𝕄) from .rfl) $$ H0
  ihave H1' := (show ((tV2 d L).loc cc2_scratch1 ↦{fullShare} g1 : sProp 𝕄) ⊢ ((b21).view.loc (tV2 d L) ↦{fullShare} g1 : sProp 𝕄) from .rfl) $$ H1
  ihave H2' := (show ((tV2 d L).loc cc2_scratch2 ↦{fullShare} g2 : sProp 𝕄) ⊢ ((b22).view.loc (tV2 d L) ↦{fullShare} g2 : sProp 𝕄) from .rfl) $$ H2
  ihave H3' := (show ((tV2 d L).loc cc2_scratch3 ↦{fullShare} g3 : sProp 𝕄) ⊢ ((b23).view.loc (tV2 d L) ↦{fullShare} g3 : sProp 𝕄) from .rfl) $$ H3
  ihave H4' := (show ((tV2 d L).loc cc2_scratch4 ↦{fullShare} g4 : sProp 𝕄) ⊢ ((b24).view.loc (tV2 d L) ↦{fullShare} g4 : sProp 𝕄) from .rfl) $$ H4
  ihave H5' := (show ((tV2 d L).loc cc2_scratch5 ↦{fullShare} g5 : sProp 𝕄) ⊢ ((b25).view.loc (tV2 d L) ↦{fullShare} g5 : sProp 𝕄) from .rfl) $$ H5
  ihave H6' := (show ((tV2 d L).loc cc2_scratch6 ↦{fullShare} g6 : sProp 𝕄) ⊢ ((b26).view.loc (tV2 d L) ↦{fullShare} g6 : sProp 𝕄) from .rfl) $$ H6
  ihave H7' := (show ((tV2 d L).loc cc2_scratch7 ↦{fullShare} g7 : sProp 𝕄) ⊢ ((b27).view.loc (tV2 d L) ↦{fullShare} g7 : sProp 𝕄) from .rfl) $$ H7
  ihave H8' := (show ((tV2 d L).loc cc2_scratch8 ↦{fullShare} g8 : sProp 𝕄) ⊢ ((b28).view.loc (tV2 d L) ↦{fullShare} g8 : sProp 𝕄) from .rfl) $$ H8
  sl_exec (disch := exact View.amount_pos _ _ (show 0 < S512.numel by decide))
  have e0 : View.write (Elt F) (b20).view g0 (merge_body.sl.dma0 d gC) Finset.univ = (gC : Buf (Elt F) ((tV2 d L).loc cc2_scratch0)) := View.write_whole_univ _ _ _
  rw [e0]
  sl_for (inv3 (F := F) d L gC x t) $$ [H0']
  case region =>
    intro k s
    unfold inv3
    iintro ⟨%hs, H0⟩
    sl_exec
    sl_step
    isplitr
    · ipureintro
      have hk : k.val < 32 := k.isLt
      obtain ⟨p, a1, a2, b1, b2⟩ := s
      refine found_succ L hk hs _ ?_
      rw [← hC k.val hk]
      refine congrArg BitVec.toNat ?_
      show extractAt ![0] (extractStridedSlice S1 ![0] (shapeCast S16 _ shapeCasts_S16_S16) slices_S16_o0_S1) inpos_S1_p0 = _
      rw [cast16, slice_at 0 (by decide)]
      exact rd_cnt (F := F) gC k hk
    · iexact H0
  · unfold inv3
    isplitr
    · ipureintro; exact found_zero L
    · iexact H0'
  iintro %s HI
  unfold inv3
  icases HI with ⟨%hs, H0'⟩
  have ht : Scf.trips k2_t1_loop.lb k2_t1_loop.ub k2_t1_loop.st = 32 := by decide
  rw [ht] at hs
  sl_exec
  have e1 : (b21).view.writes (Elt F) (b21).view.junk (merge_body.sl.H1'_2 L s) = (spots x t L : Buf (Elt F) ((tV2 d L).loc cc2_scratch1)) := by
    unfold merge_body.sl.H1'_2
    funext j
    have h := halves_emb (b21).view (Val := Elt F) (b21).view.junk (k2_pay12 L s.2.1 s.2.2.2.1) (k2_pay13 (k2_pay11 L s.2.2.1 s.2.2.2.2)) (spots x t L)
      (pay12_at L hx hs) (pay13_at L hx hs) j
    exact h
  rw [e1]
  have hin1 : ∀ j, ((b21).view.read (Elt F) (spots x t L : Buf (Elt F) ((tV2 d L).loc cc2_scratch1)) j).toNat < S20992.size gathers_S20992_S32.axis := by
    intro j
    have h := spot_lt hx (32 * num2 L + (j 0).val)
    show (BitVec.ofNat 32 (spot x t (32 * num2 L + (j 0).val))).toNat < 20992
    rw [BitVec.toNat_ofNat]; omega
  sl_exec
  have hg : ∀ l (h : l < 32), 32 * num2 L + l < 1000 → merge_body.sl.gather0 d L fL hin1 (at1 l h) = BitVec.ofNat 32 (place (Sel x t) (32 * num2 L + l)) := by
    intro l h hs'
    unfold merge_body.sl.gather0
    refine (gather_list (F := F) _ _ _ hin1 _).trans ?_
    refine Eq.trans ?_ (hL.at_spot hx hs')
    refine congrArg fL ?_
    funext a; apply Fin.ext
    match a with
    | 0 =>
      have h2 := spot_lt hx (32 * num2 L + l)
      show 0 + 1 * (BitVec.ofNat 32 (spot x t (32 * num2 L + l))).toNat = spot x t (32 * num2 L + l)
      rw [BitVec.toNat_ofNat]; omega
  have e2 : (b22).view.writes (Elt F) (b22).view.junk (merge_body.sl.H2'_3 d L fL hin1) = (picks x t L : Buf (Elt F) ((tV2 d L).loc cc2_scratch2)) := by
    unfold merge_body.sl.H2'_3
    funext j
    have h := halves_emb (b22).view (Val := Elt F) ((b22).view.writes (Elt F) (b22).view.junk [⟨Rect.whole S32, merge_body.sl.gather0 d L fL hin1⟩]) (k2_pay14 (k2_pay1 L) (merge_body.sl.x d L fL hin1))
      (k2_pay15 (k2_pay2 L) (merge_body.sl.x_1 d L fL hin1)) (picks x t L)
      (fun l hl => pay14_at L hx _ (fun l h hs' => by
        unfold merge_body.sl.x
        refine (read_back (F := F) _ 0 _ l h (by omega)).trans ((hg (0 + l) (by omega) (by omega)).trans ?_)
        rw [Nat.zero_add]) l hl)
      (fun l hl => pay15_at L hx _ (fun l h hs' => by
        unfold merge_body.sl.x_1
        refine (read_back (F := F) _ 16 _ l h (by omega)).trans ((hg (16 + l) (by omega) (by omega)).trans ?_)
        rw [← Nat.add_assoc]) l hl) j
    exact h
  rw [e2]
  have hin2 : ∀ j, ((b22).view.read (Elt F) (picks x t L : Buf (Elt F) ((tV2 d L).loc cc2_scratch2)) j).toNat < S20480.size gathers_S20480_S32.axis := by
    intro j
    have h := pick_lt hx (32 * num2 L + (j 0).val)
    show (BitVec.ofNat 32 (pick x t (32 * num2 L + (j 0).val))).toNat < 20480
    rw [BitVec.toNat_ofNat]; omega
  have hs0 : (oK L ou0).view.set = oSet (wL2 L) := (View.set_slice_whole _ _).trans (oRect_set L)
  ihave Ho0' := (Entails.of_eq (show (aLoc main_v7_0 d ↦[oSet (wL2 L)]{fullShare} o0 : sProp 𝕄)
    = ((oK L ou0).view.loc (tV2 d L) ↦[(oK L ou0).view.set]{fullShare} o0) by rw [hs0])) $$ Ho0
  have hs1 : (oK L ou1).view.set = oSet (wL2 L) := (View.set_slice_whole _ _).trans (oRect_set L)
  ihave Ho1' := (Entails.of_eq (show (aLoc main_v7_1 d ↦[oSet (wL2 L)]{fullShare} o1 : sProp 𝕄)
    = ((oK L ou1).view.loc (tV2 d L) ↦[(oK L ou1).view.set]{fullShare} o1) by rw [hs1])) $$ Ho1
  have hs2 : (oK L ou2).view.set = oSet (wL2 L) := (View.set_slice_whole _ _).trans (oRect_set L)
  ihave Ho2' := (Entails.of_eq (show (aLoc main_v7_2 d ↦[oSet (wL2 L)]{fullShare} o2 : sProp 𝕄)
    = ((oK L ou2).view.loc (tV2 d L) ↦[(oK L ou2).view.set]{fullShare} o2) by rw [hs2])) $$ Ho2
  have hs3 : (oK L ou3).view.set = oSet (wL2 L) := (View.set_slice_whole _ _).trans (oRect_set L)
  ihave Ho3' := (Entails.of_eq (show (aLoc main_v7_3 d ↦[oSet (wL2 L)]{fullShare} o3 : sProp 𝕄)
    = ((oK L ou3).view.loc (tV2 d L) ↦[(oK L ou3).view.set]{fullShare} o3) by rw [hs3])) $$ Ho3
  have hs4 : (oK L ou4).view.set = oSet (wL2 L) := (View.set_slice_whole _ _).trans (oRect_set L)
  ihave Ho4' := (Entails.of_eq (show (aLoc main_v7_4 d ↦[oSet (wL2 L)]{fullShare} o4 : sProp 𝕄)
    = ((oK L ou4).view.loc (tV2 d L) ↦[(oK L ou4).view.set]{fullShare} o4) by rw [hs4])) $$ Ho4
  have hs5 : (oK L ou5).view.set = oSet (wL2 L) := (View.set_slice_whole _ _).trans (oRect_set L)
  ihave Ho5' := (Entails.of_eq (show (aLoc main_v7_5 d ↦[oSet (wL2 L)]{fullShare} o5 : sProp 𝕄)
    = ((oK L ou5).view.loc (tV2 d L) ↦[(oK L ou5).view.set]{fullShare} o5) by rw [hs5])) $$ Ho5
  sl_exec
  sl_step
  have hv0 : ∀ i ∈ (oK L ou0).view.set, (oK L ou0).view.writes (Elt F) o0 [⟨Rect.whole S32, merge_body.sl.dma0_1 d L f1 g3 hin2⟩] i
      = (outp x t f1 : Buf (Elt F) (aLoc main_v7_0 d)) i := by
    intro i hi
    obtain ⟨j, -, rfl⟩ := Finset.mem_map.mp hi
    refine (writes_whole_emb (oK L ou0).view o0 _ j).trans ?_
    have h1 : merge_body.sl.dma0_1 d L f1 g3 hin2 j = merge_body.sl.gather0_1 d L f1 hin2 j := by
      unfold merge_body.sl.dma0_1
      exact writes_whole_emb (b23).view (Val := Elt F) g3 _ j
    refine Eq.trans h1 ?_
    unfold merge_body.sl.gather0_1
    refine Eq.trans (gather_rows (F := F) _ _ _ hin2 j) ?_
    exact outp_at L hx f1 j _ (by
      show 0 + 1 * (picks x t L j).toNat = _
      omega)
  have hv1 : ∀ i ∈ (oK L ou1).view.set, (oK L ou1).view.writes (Elt F) o1 [⟨Rect.whole S32, merge_body.sl.dma0_2 d L f2 g4 hin2⟩] i
      = (outp x t f2 : Buf (Elt F) (aLoc main_v7_1 d)) i := by
    intro i hi
    obtain ⟨j, -, rfl⟩ := Finset.mem_map.mp hi
    refine (writes_whole_emb (oK L ou1).view o1 _ j).trans ?_
    have h1 : merge_body.sl.dma0_2 d L f2 g4 hin2 j = merge_body.sl.gather1 d L f2 hin2 j := by
      unfold merge_body.sl.dma0_2
      exact writes_whole_emb (b24).view (Val := Elt F) g4 _ j
    refine Eq.trans h1 ?_
    unfold merge_body.sl.gather1
    refine Eq.trans (gather_rows (F := F) _ _ _ hin2 j) ?_
    exact outp_at L hx f2 j _ (by
      show 0 + 1 * (picks x t L j).toNat = _
      omega)
  have hv2 : ∀ i ∈ (oK L ou2).view.set, (oK L ou2).view.writes (Elt F) o2 [⟨Rect.whole S32, merge_body.sl.dma0_3 d L f3 g5 hin2⟩] i
      = (outp x t f3 : Buf (Elt F) (aLoc main_v7_2 d)) i := by
    intro i hi
    obtain ⟨j, -, rfl⟩ := Finset.mem_map.mp hi
    refine (writes_whole_emb (oK L ou2).view o2 _ j).trans ?_
    have h1 : merge_body.sl.dma0_3 d L f3 g5 hin2 j = merge_body.sl.gather2 d L f3 hin2 j := by
      unfold merge_body.sl.dma0_3
      exact writes_whole_emb (b25).view (Val := Elt F) g5 _ j
    refine Eq.trans h1 ?_
    unfold merge_body.sl.gather2
    refine Eq.trans (gather_rows (F := F) _ _ _ hin2 j) ?_
    exact outp_at L hx f3 j _ (by
      show 0 + 1 * (picks x t L j).toNat = _
      omega)
  have hv3 : ∀ i ∈ (oK L ou3).view.set, (oK L ou3).view.writes (Elt F) o3 [⟨Rect.whole S32, merge_body.sl.dma0_4 d L f4 g6 hin2⟩] i
      = (outp x t f4 : Buf (Elt F) (aLoc main_v7_3 d)) i := by
    intro i hi
    obtain ⟨j, -, rfl⟩ := Finset.mem_map.mp hi
    refine (writes_whole_emb (oK L ou3).view o3 _ j).trans ?_
    have h1 : merge_body.sl.dma0_4 d L f4 g6 hin2 j = merge_body.sl.gather3 d L f4 hin2 j := by
      unfold merge_body.sl.dma0_4
      exact writes_whole_emb (b26).view (Val := Elt F) g6 _ j
    refine Eq.trans h1 ?_
    unfold merge_body.sl.gather3
    refine Eq.trans (gather_rows (F := F) _ _ _ hin2 j) ?_
    exact outp_at L hx f4 j _ (by
      show 0 + 1 * (picks x t L j).toNat = _
      omega)
  have hv4 : ∀ i ∈ (oK L ou4).view.set, (oK L ou4).view.writes (Elt F) o4 [⟨Rect.whole S32, merge_body.sl.dma0_5 d L f5 g7 hin2⟩] i
      = (outp x t f5 : Buf (Elt F) (aLoc main_v7_4 d)) i := by
    intro i hi
    obtain ⟨j, -, rfl⟩ := Finset.mem_map.mp hi
    refine (writes_whole_emb (oK L ou4).view o4 _ j).trans ?_
    have h1 : merge_body.sl.dma0_5 d L f5 g7 hin2 j = merge_body.sl.gather4 d L f5 hin2 j := by
      unfold merge_body.sl.dma0_5
      exact writes_whole_emb (b27).view (Val := Elt F) g7 _ j
    refine Eq.trans h1 ?_
    unfold merge_body.sl.gather4
    refine Eq.trans (gather_rows (F := F) _ _ _ hin2 j) ?_
    exact outp_at L hx f5 j _ (by
      show 0 + 1 * (picks x t L j).toNat = _
      omega)
  have hv5 : ∀ i ∈ (oK L ou5).view.set, (oK L ou5).view.writes (Elt F) o5 [⟨Rect.whole S32, merge_body.sl.dma0_6 d L f6 g8 hin2⟩] i
      = (outp x t f6 : Buf (Elt F) (aLoc main_v7_5 d)) i := by
    intro i hi
    obtain ⟨j, -, rfl⟩ := Finset.mem_map.mp hi
    refine (writes_whole_emb (oK L ou5).view o5 _ j).trans ?_
    have h1 : merge_body.sl.dma0_6 d L f6 g8 hin2 j = merge_body.sl.gather5 d L f6 hin2 j := by
      unfold merge_body.sl.dma0_6
      exact writes_whole_emb (b28).view (Val := Elt F) g8 _ j
    refine Eq.trans h1 ?_
    unfold merge_body.sl.gather5
    refine Eq.trans (gather_rows (F := F) _ _ _ hin2 j) ?_
    exact outp_at L hx f6 j _ (by
      show 0 + 1 * (picks x t L j).toNat = _
      omega)
  isplitl [Ha1' Ha2' Ha3' Ha4' Ha5' Ha6' Ho0' Ho1' Ho2' Ho3' Ho4' Ho5']
  · isplitl [Ha1']; · iexact Ha1'
    isplitl [Ha2']; · iexact Ha2'
    isplitl [Ha3']; · iexact Ha3'
    isplitl [Ha4']; · iexact Ha4'
    isplitl [Ha5']; · iexact Ha5'
    isplitl [Ha6']; · iexact Ha6'
    isplitl [Ho0']
    · iapply (Entails.of_eq ((pointsTo_congr hv0).trans (show ((oK L ou0).view.loc (tV2 d L) ↦[(oK L ou0).view.set]{fullShare} _ : sProp 𝕄) = (aLoc main_v7_0 d ↦[oSet (wL2 L)]{fullShare} _) by rw [hs0]))); iexact Ho0'
    isplitl [Ho1']
    · iapply (Entails.of_eq ((pointsTo_congr hv1).trans (show ((oK L ou1).view.loc (tV2 d L) ↦[(oK L ou1).view.set]{fullShare} _ : sProp 𝕄) = (aLoc main_v7_1 d ↦[oSet (wL2 L)]{fullShare} _) by rw [hs1]))); iexact Ho1'
    isplitl [Ho2']
    · iapply (Entails.of_eq ((pointsTo_congr hv2).trans (show ((oK L ou2).view.loc (tV2 d L) ↦[(oK L ou2).view.set]{fullShare} _ : sProp 𝕄) = (aLoc main_v7_2 d ↦[oSet (wL2 L)]{fullShare} _) by rw [hs2]))); iexact Ho2'
    isplitl [Ho3']
    · iapply (Entails.of_eq ((pointsTo_congr hv3).trans (show ((oK L ou3).view.loc (tV2 d L) ↦[(oK L ou3).view.set]{fullShare} _ : sProp 𝕄) = (aLoc main_v7_3 d ↦[oSet (wL2 L)]{fullShare} _) by rw [hs3]))); iexact Ho3'
    isplitl [Ho4']
    · iapply (Entails.of_eq ((pointsTo_congr hv4).trans (show ((oK L ou4).view.loc (tV2 d L) ↦[(oK L ou4).view.set]{fullShare} _ : sProp 𝕄) = (aLoc main_v7_4 d ↦[oSet (wL2 L)]{fullShare} _) by rw [hs4]))); iexact Ho4'
    iapply (Entails.of_eq ((pointsTo_congr hv5).trans (show ((oK L ou5).view.loc (tV2 d L) ↦[(oK L ou5).view.set]{fullShare} _ : sProp 𝕄) = (aLoc main_v7_5 d ↦[oSet (wL2 L)]{fullShare} _) by rw [hs5]))); iexact Ho5'
  isplitl [H0' H1' H2' H3' H4' H5' H6' H7' H8' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    isplitl [H6']; · iexists _; iexact H6'
    isplitl [H7']; · iexists _; iexact H7'
    isplitl [H8']; · iexists _; iexact H8'
    iexact Hbufs
  isplitl [Hm9 Hm0 Hm1 Hm2 Hm3 Hm4 Hm5 Hm6 Hsems]
  · isplitl [Hm9]; · iexact Hm9
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    iexact Hsems
  iexists _
  isplitr
  rotate_left
  · iexact HO
  · ipureintro
    intro p hp
    simp only [Finset.mem_insert] at hp
    rcases hp with rfl | rfl | rfl | rfl | rfl | rfl | rfl | rfl | rfl | rfl | rfl | rfl | rfl | rfl | hp
    all_goals first | exact .inr rfl | exact .inl hp

end Tile

end Cand

end
-- ==== Proof.ThreshWords.lean ====
/-
  The threshold kernel's words: its counts over the sheet of scores, the search by halving, and what it hands on.
-/
module

public import proofs.«01_k».proof.Proof.Merge

@[expose] public section

noncomputable section

namespace Cand

open Cert.KernelIdeal Cert.KernelIdeal.Gen

open Idealize.ShloMosaic

variable {F : FTy → Type} [FloatOps F]

set_option maxRecDepth 65536

/-! ## Counting over the sheet -/

/-- The sheet's words are the scores, row by row. -/
def Sheet (x : ℕ → ℤ) (v : S160x128.Idx → BitVec 32) : Prop := ∀ j, (v j).toInt = x (S160x128.rowMajor j).val

/-- The marks of a property of the rows. -/
def Marks (P : ℕ → Prop) [DecidablePred P] (w : S160x128.Idx → BitVec 32) : Prop :=
  ∀ j, (w j).toNat = if P (S160x128.rowMajor j).val then 1 else 0

theorem sum_marks (P : ℕ → Prop) [DecidablePred P] (n : ℕ) : (∑ k : Fin n, if P k.val then 1 else 0) = Nat.count P n := by
  rw [Fin.sum_univ_eq_sum_range (fun k => if P k then 1 else 0) n, Nat.count_eq_card_filter_range, Finset.card_filter]

/-- The marks of the whole sheet, added up. -/
theorem total_marks {P : ℕ → Prop} [DecidablePred P] {w : S160x128.Idx → BitVec 32} (hw : Marks P w) (i : S1.Idx) :
    (multiReductionI .add [1, 2] S1 (shapeCast S1x160x128 w shapeCasts_S160x128_S1x160x128) 0#32 reduces_S1x160x128_S1 rfl i).toNat
      = Nat.count P 20480 := by
  have hs : ∑ k ∈ Finset.univ.filter (fun k => reduces_S1x160x128_S1.drop k = i),
      (shapeCast S1x160x128 w shapeCasts_S160x128_S1x160x128 k).toNat = Nat.count P 20480 := by
    rw [Finset.filter_true_of_mem (fun k _ => funext fun a => Fin.ext (by
      have h1 : (reduces_S1x160x128_S1.drop k a).val < S1.size a := (reduces_S1x160x128_S1.drop k a).isLt
      have h2 : (i a).val < S1.size a := (i a).isLt
      match a with
      | 0 =>
        have h3 : S1.size 0 = 1 := rfl
        omega))]
    have hk : ∀ k : S1x160x128.Idx, (shapeCast S1x160x128 w shapeCasts_S160x128_S1x160x128 k).toNat
        = if P (S1x160x128.rowMajor k).val then 1 else 0 := fun k => by
      refine (hw _).trans ?_
      rw [Shape.rowMajor_reshapeEquiv]
    rw [Finset.sum_congr rfl fun k _ => hk k, ← Equiv.sum_comp S1x160x128.rowMajor.symm]
    simp only [Equiv.apply_symm_apply]
    exact sum_marks P 20480
  rw [WordSum.toNat_multiReductionI_add _ _ rfl i (by rw [hs]; exact (Nat.count_le _).trans_lt (by decide)), hs]

/-- The marks of one row of the sheet, added up. -/
theorem row_marks {P : ℕ → Prop} [DecidablePred P] {w : S160x128.Idx → BitVec 32} (hw : Marks P w) (r : ℕ) (hr : r < 160) :
    (multiReductionI .add [1] S160 w 0#32 reduces_S160x128_S160 rfl (at1 r hr)).toNat
      = Nat.count P (128 * (r + 1)) - Nat.count P (128 * r) := by
  have hs : ∑ k ∈ Finset.univ.filter (fun k => reduces_S160x128_S160.drop k = at1 r hr), (w k).toNat
      = Nat.count P (128 * (r + 1)) - Nat.count P (128 * r) := by
    rw [show 128 * (r + 1) = 128 * r + 128 by omega, Nat.count_add, Nat.add_sub_cancel_left, ← sum_marks]
    refine (Finset.sum_bij (fun (k : Fin 128) _ => (Shape.pair (d := ![160, 128]) ⟨r, hr⟩ k : S160x128.Idx)) ?_ ?_ ?_ ?_).symm
    · intro k _
      refine Finset.mem_filter.2 ⟨Finset.mem_univ _, funext fun a => Fin.ext ?_⟩
      match a with
      | 0 => exact Shape.Reduces.drop_apply_val_of_eq reduces_S160x128_S160 _ 0 0
    · intro k _ k' _ e
      exact congrFun e 1
    · intro j hj
      have h := congrArg (fun z : S160.Idx => (z 0).val) (Finset.mem_filter.1 hj).2
      have h1 : (j 0).val = r := (Shape.Reduces.drop_apply_val_of_eq reduces_S160x128_S160 j 0 0).symm.trans h
      refine ⟨j 1, Finset.mem_univ _, ?_⟩
      refine Eq.trans ?_ (Shape.pair_eta j)
      exact congrArg (fun z => (Shape.pair (d := ![160, 128]) z (j 1) : S160x128.Idx)) (Fin.ext h1.symm)
    · intro k _
      rw [hw]
      have e : (S160x128.rowMajor (Shape.pair (d := ![160, 128]) ⟨r, hr⟩ k)).val = 128 * r + k.val :=
        (Shape.rowMajor_pair_val (d := ![160, 128]) ⟨r, hr⟩ k).trans (by show r * 128 + k.val = 128 * r + k.val; omega)
      simp only [e]
  rw [WordSum.toNat_multiReductionI_add _ _ rfl _ (by
    rw [hs]; exact (Nat.sub_le _ _).trans_lt ((Nat.count_le _).trans_lt (by omega))), hs]

/-- The sheet's total, as the kernel takes it out. -/
theorem total_at {P : ℕ → Prop} [DecidablePred P] {w : S160x128.Idx → BitVec 32} (hw : Marks P w) :
    (extractAt ![0, 0, 0] (shapeCast S1x1x1 (multiReductionI .add [1, 2] S1 (shapeCast S1x160x128 w shapeCasts_S160x128_S1x160x128) 0#32
        reduces_S1x160x128_S1 rfl) shapeCasts_S1_S1x1x1) inpos_S1x1x1_p0_0_0).toNat = Nat.count P 20480 :=
  total_marks hw _

/-- The marks of a comparison of the sheet's words. -/
theorem marks_of {x : ℕ → ℤ} {P : ℕ → Prop} [DecidablePred P] {v : S160x128.Idx → BitVec 32} (hv : Sheet x v) (c : CmpIPredicate) (b : BitVec 32)
    (h : ∀ j : S160x128.Idx, IntOp.cmpi c (v j) b = 1#1 ↔ P (S160x128.rowMajor j).val) :
    Marks P (extui 32 (cmpi c (k0_pay1 (F := F) v) (broadcast S160x128 b)) natLt_1_32) := by
  intro j
  refine (toNat_extui _).trans ?_
  have e : (k0_pay1 (F := F) v) j = v j := by
    unfold k0_pay1
    exact congrArg v (Shape.reshapeEquiv_self _ j)
  have h' : (cmpi c (k0_pay1 (F := F) v) (broadcast S160x128 b)) j = 1#1 ↔ P (S160x128.rowMajor j).val := by
    show IntOp.cmpi c ((k0_pay1 (F := F) v) j) b = 1#1 ↔ _
    rw [e]; exact h j
  simp only [h']

theorem row_lt (j : S160x128.Idx) : (S160x128.rowMajor j).val < 20480 := (S160x128.rowMajor j).isLt

/-! ## The search -/

/-- One trip: the middle is kept as the least bound if a thousand rows are at or above it. -/
def step (v : S160x128.Idx → BitVec 32) (s : BitVec 32 × BitVec 32) : BitVec 32 × BitVec 32 :=
  (Scalar.select (Scalar.cmpi .sge (extractAt ![0, 0, 0] (k0_pay2 (F := F) v s.1 s.2) inpos_S1x1x1_p0_0_0) 1000#32)
      (Scalar.addi s.1 (Scalar.shrsi (Scalar.addi (Scalar.subi s.2 s.1) 1#32) 1#32)) s.1,
    Scalar.select (Scalar.cmpi .sge (extractAt ![0, 0, 0] (k0_pay2 (F := F) v s.1 s.2) inpos_S1x1x1_p0_0_0) 1000#32)
      s.2 (Scalar.subi (Scalar.addi s.1 (Scalar.shrsi (Scalar.addi (Scalar.subi s.2 s.1) 1#32) 1#32)) 1#32))

/-- The threshold's word. -/
def tword (v : S160x128.Idx → BitVec 32) : BitVec 32 :=
  (Scf.fold (n := k0_t1_loop.trips) (fun _ s => step (F := F) v s) (0#32, 1065353216#32)).1

/-- Enough rows score at least zero, and not too many score above the word of one. -/
def Enough (x : ℕ → ℤ) : Prop := 1000 ≤ Nat.count (Least x 0) 20480 ∧ above x 1065353216 ≤ 1000

/-- After `k` trips. -/
def Bracket (x : ℕ → ℤ) (k : ℕ) (s : BitVec 32 × BitVec 32) : Prop :=
  s.1.toNat ≤ s.2.toNat ∧ s.2.toNat ≤ 1065353216 ∧ s.2.toNat - s.1.toNat ≤ 1065353216 / 2 ^ k
    ∧ 1000 ≤ Nat.count (Least x s.1.toNat) 20480 ∧ above x s.2.toNat ≤ 1000

theorem mid_word (a b : BitVec 32) (h : a.toNat ≤ b.toNat) (hb : b.toNat ≤ 1065353216) :
    (Scalar.addi a (Scalar.shrsi (Scalar.addi (Scalar.subi b a) 1#32) 1#32)).toNat = a.toNat + (b.toNat - a.toNat + 1) / 2 := by
  have h1 : (Scalar.addi (Scalar.subi b a) 1#32).toNat = b.toNat - a.toNat + 1 := by
    show ((b - a) + 1#32).toNat = _
    rw [BitVec.toNat_add, BitVec.toNat_sub]; simp; omega
  have h2 : (Scalar.shrsi (Scalar.addi (Scalar.subi b a) 1#32) 1#32).toNat = (b.toNat - a.toNat + 1) / 2 := by
    show (IntOp.shrsi .scalar _ 1#32).toNat = _
    unfold IntOp.shrsi
    rw [if_pos (by decide)]
    show ((Scalar.addi (Scalar.subi b a) 1#32).sshiftRight (1#32 : BitVec 32).toNat).toNat = _
    rw [BitVec.sshiftRight_eq_of_msb_false (by rw [BitVec.msb_eq_false_iff_two_mul_lt, h1]; omega), BitVec.toNat_ushiftRight, h1]
    exact Nat.shiftRight_eq_div_pow _ 1
  show (a + _).toNat = _
  rw [BitVec.toNat_add, h2]; omega

theorem pay2_at {x : ℕ → ℤ} {v : S160x128.Idx → BitVec 32} (hv : Sheet x v) (a b : BitVec 32) (h : a.toNat ≤ b.toNat) (hb : b.toNat ≤ 1065353216) :
    (extractAt ![0, 0, 0] (k0_pay2 (F := F) v a b) inpos_S1x1x1_p0_0_0).toNat
      = Nat.count (Least x ((a.toNat + (b.toNat - a.toNat + 1) / 2 : ℕ) : ℤ)) 20480 := by
  have hm := mid_word a b h hb
  generalize hq : Scalar.addi a (Scalar.shrsi (Scalar.addi (Scalar.subi b a) 1#32) 1#32) = q at hm
  have hk : Marks (Least x (q.toNat : ℤ)) (extui 32 (cmpi .sge (k0_pay1 (F := F) v) (broadcast S160x128 q)) natLt_1_32) :=
    marks_of (F := F) hv .sge q fun j => by
      rw [cmp_sge, hv, toInt_small q (by omega)]
      exact ⟨fun hx => ⟨row_lt j, hx⟩, fun hx => hx.2⟩
  have := total_at hk
  rw [hm] at this
  refine Eq.trans ?_ this
  show (extractAt ![0, 0, 0] (shapeCast S1x1x1 (multiReductionI .add [1, 2] S1 (shapeCast S1x160x128 (extui 32 (cmpi .sge (k0_pay1 (F := F) v)
    (broadcast S160x128 (Scalar.addi a (Scalar.shrsi (Scalar.addi (Scalar.subi b a) 1#32) 1#32)))) natLt_1_32)
      shapeCasts_S160x128_S1x160x128) 0#32 reduces_S1x160x128_S1 rfl) shapeCasts_S1_S1x1x1) inpos_S1x1x1_p0_0_0).toNat = _
  rw [hq]

theorem select_one {α : Type} (c : BitVec 1) (a b : α) : Scalar.select c a b = if c = 1#1 then a else b := rfl

theorem above_pred (x : ℕ → ℤ) (n : ℕ) (hn : 0 < n) : above x ((n - 1 : ℕ) : ℤ) = Nat.count (Least x (n : ℤ)) 20480 := by
  unfold above
  have e : ∀ i, Above x ((n - 1 : ℕ) : ℤ) i ↔ Least x (n : ℤ) i := fun i => by
    unfold Above Least
    constructor
    · rintro ⟨h1, h2⟩; exact ⟨h1, by omega⟩
    · rintro ⟨h1, h2⟩; exact ⟨h1, by omega⟩
  rw [Nat.count_eq_card_filter_range, Nat.count_eq_card_filter_range]
  exact congrArg Finset.card (Finset.filter_congr fun i _ => e i)

theorem bracket_zero {x : ℕ → ℤ} (h : Enough x) : Bracket x 0 (0#32, 1065353216#32) := by
  refine ⟨by decide, by decide, by decide, ?_, ?_⟩
  · exact h.1
  · exact h.2

theorem bracket_succ {x : ℕ → ℤ} {v : S160x128.Idx → BitVec 32} (hv : Sheet x v) {k : ℕ} {s : BitVec 32 × BitVec 32} (h : Bracket x k s) :
    Bracket x (k + 1) (step (F := F) v s) := by
  obtain ⟨h1, h2, h3, h4, h5⟩ := h
  have hp := pay2_at (F := F) hv s.1 s.2 h1 h2
  have hm := mid_word s.1 s.2 h1 h2
  have hpow : 1065353216 / 2 ^ (k + 1) = 1065353216 / 2 ^ k / 2 := by rw [Nat.pow_succ, Nat.div_div_eq_div_mul]
  unfold step
  generalize hw : extractAt ![0, 0, 0] (k0_pay2 (F := F) v s.1 s.2) inpos_S1x1x1_p0_0_0 = w at hp
  generalize hq : Scalar.addi s.1 (Scalar.shrsi (Scalar.addi (Scalar.subi s.2 s.1) 1#32) 1#32) = q at hm
  have hle : Nat.count (Least x ((s.1.toNat + (s.2.toNat - s.1.toNat + 1) / 2 : ℕ) : ℤ)) 20480 ≤ 20480 := Nat.count_le _
  have hc : Scalar.cmpi .sge w 1000#32 = 1#1 ↔ 1000 ≤ w.toNat := by
    show IntOp.cmpi .sge w 1000#32 = 1#1 ↔ _
    rw [cmp_sge, toInt_small w (by omega)]
    have : (1000#32 : BitVec 32).toInt = 1000 := by decide
    rw [this]; omega
  rw [select_one, select_one]
  simp only [hc]
  rw [← hm] at hp
  by_cases h : 1000 ≤ w.toNat
  · rw [if_pos h, if_pos h]
    refine ⟨?_, h2, ?_, ?_, h5⟩
    · show q.toNat ≤ s.2.toNat; omega
    · show s.2.toNat - q.toNat ≤ _; rw [hpow]; omega
    · show 1000 ≤ Nat.count (Least x q.toNat) 20480; rw [← hp]; exact h
  · rw [if_neg h, if_neg h]
    have hne : s.1.toNat < q.toNat := by
      rcases Nat.lt_or_ge s.1.toNat q.toNat with h' | h'
      · exact h'
      · have : q.toNat = s.1.toNat := by omega
        rw [this] at hp; omega
    have e : (Scalar.subi q 1#32).toNat = q.toNat - 1 := by
      show (q - 1#32).toNat = _
      rw [BitVec.toNat_sub]; simp; omega
    refine ⟨?_, ?_, ?_, h4, ?_⟩
    · show s.1.toNat ≤ (Scalar.subi q 1#32).toNat; rw [e]; omega
    · show (Scalar.subi q 1#32).toNat ≤ _; rw [e]; omega
    · show (Scalar.subi q 1#32).toNat - s.1.toNat ≤ _; rw [e, hpow]; omega
    · show above x (Scalar.subi q 1#32).toNat ≤ 1000
      rw [e, above_pred x _ (by omega), ← hp]; omega

theorem bracket_fold {x : ℕ → ℤ} (f : BitVec 32 × BitVec 32 → BitVec 32 × BitVec 32) (hf : ∀ k s, Bracket x k s → Bracket x (k + 1) (f s))
    {α : Type} (l : List α) (k : ℕ) (s : BitVec 32 × BitVec 32) (h : Bracket x k s) : Bracket x (k + l.length) (l.foldl (fun s _ => f s) s) := by
  induction l generalizing k s with
  | nil => exact h
  | cons a l ih =>
    have := ih (k + 1) (f s) (hf k s h)
    rw [List.length_cons, show k + (l.length + 1) = k + 1 + l.length by omega]
    exact this

theorem bracket_end {x : ℕ → ℤ} {v : S160x128.Idx → BitVec 32} (hv : Sheet x v) (h : Enough x) :
    Bracket x 31 (Scf.fold (n := k0_t1_loop.trips) (fun _ s => step (F := F) v s) (0#32, 1065353216#32)) := by
  rw [Scf.fold_eq]
  have := bracket_fold (step (F := F) v) (fun k s hs => bracket_succ hv hs) (List.finRange k0_t1_loop.trips) 0 _ (bracket_zero h)
  rw [List.length_finRange, show 0 + k0_t1_loop.trips = 31 by decide] at this
  exact this

/-- The threshold the search ends at, as a signed number. -/
def thr (v : S160x128.Idx → BitVec 32) : ℤ := (tword (F := F) v).toInt

theorem tword_spec {x : ℕ → ℤ} {v : S160x128.Idx → BitVec 32} (hv : Sheet x v) (h : Enough x) : Right x (thr (F := F) v) := by
  obtain ⟨h1, h2, h3, h4, h5⟩ := bracket_end (F := F) hv h
  have e : thr (F := F) v = (tword (F := F) v).toNat := toInt_small _ (by unfold tword; omega)
  rw [e]
  unfold tword
  refine ⟨?_, h4⟩
  have : 1065353216 / 2 ^ 31 = 0 := by decide
  rw [show ((Scf.fold (n := k0_t1_loop.trips) (fun _ s => step (F := F) v s) (0#32, 1065353216#32)).1.toNat)
    = ((Scf.fold (n := k0_t1_loop.trips) (fun _ s => step (F := F) v s) (0#32, 1065353216#32)).2.toNat) by omega]
  exact h5

/-! ## What the kernel hands on -/

theorem pay3_at {x : ℕ → ℤ} {v : S160x128.Idx → BitVec 32} (hv : Sheet x v) (b : BitVec 32) (r : ℕ) (hr : r < 160) (j : S160x1.Idx)
    (hj : (S160x1.rowMajor j).val = r) :
    (k0_pay3 (F := F) v b j).toNat = Nat.count (At x b.toInt) (128 * (r + 1)) - Nat.count (At x b.toInt) (128 * r) := by
  have hk : Marks (At x b.toInt) (extui 32 (cmpi .eq (k0_pay1 (F := F) v) (broadcast S160x128 b)) natLt_1_32) :=
    marks_of (F := F) hv .eq b fun j => by
      rw [cmp_eq, hv]
      exact ⟨fun hx => ⟨row_lt j, hx⟩, fun hx => hx.2⟩
  have hr' := row_marks hk r hr
  refine Eq.trans (congrArg BitVec.toNat ?_) hr'
  unfold k0_pay3
  generalize extui 32 (cmpi .eq (k0_pay1 (F := F) v) (broadcast S160x128 b)) natLt_1_32 = w
  refine congrArg (multiReductionI .add [1] S160 w 0#32 reduces_S160x128_S160 rfl) ?_
  exact Shape.reshapeEquiv_eq_of_rowMajor _ (by rw [hj]; exact Shape.rowMajor_val_one (d := ![160]) (at1 r hr))

theorem pay4_zero (v : S160x128.Idx → BitVec 32) (b : BitVec 32) (j : S1x16.Idx) (hj : (S1x16.rowMajor j).val = 0) :
    k0_pay4 (F := F) v b j = b := by
  have h1 : (j 1).val = 0 := by
    have h := Shape.rowMajor_val_two (d := ![1, 16]) j
    have h' : (j 0).val < 1 := (j 0).isLt
    have h2 : (![1, 16] : Fin 2 → ℕ) 1 = 16 := rfl
    rw [h2] at h
    have h3 : ((⟨2, ![1, 16]⟩ : Shape).rowMajor j).val = 0 := hj
    omega
  have e : j = (Shape.pair (d := ![1, 16]) (⟨0, Nat.one_pos⟩ : Fin 1) (⟨0, by decide⟩ : Fin 16) : S1x16.Idx) := by
    funext a; apply Fin.ext
    match a with
    | 0 => have h' : (j 0).val < 1 := (j 0).isLt; show (j 0).val = 0; omega
    | 1 => exact h1
  subst e
  unfold k0_pay4
  have e : ∀ (c : BitVec 1) (p q : BitVec 32), c = 1#1 → Scalar.select c p q = p := by
    rintro c p q rfl; rfl
  exact e _ _ _ (by rfl)

theorem pay4_two {x : ℕ → ℤ} {v : S160x128.Idx → BitVec 32} (hv : Sheet x v) (b : BitVec 32) (hb : above x b.toInt ≤ 1000) (j : S1x16.Idx)
    (hj : (S1x16.rowMajor j).val = 2) : (k0_pay4 (F := F) v b j).toInt = 1000 - above x b.toInt := by
  have h1 : (j 1).val = 2 := by
    have h := Shape.rowMajor_val_two (d := ![1, 16]) j
    have h' : (j 0).val < 1 := (j 0).isLt
    have h2 : (![1, 16] : Fin 2 → ℕ) 1 = 16 := rfl
    rw [h2] at h
    have h3 : ((⟨2, ![1, 16]⟩ : Shape).rowMajor j).val = 2 := hj
    omega
  have e : j = (Shape.pair (d := ![1, 16]) (⟨0, Nat.one_pos⟩ : Fin 1) (⟨2, by decide⟩ : Fin 16) : S1x16.Idx) := by
    funext a; apply Fin.ext
    match a with
    | 0 => have h' : (j 0).val < 1 := (j 0).isLt; show (j 0).val = 0; omega
    | 1 => exact h1
  subst e
  have hk : Marks (Above x b.toInt) (extui 32 (cmpi .sgt (k0_pay1 (F := F) v) (broadcast S160x128 b)) natLt_1_32) :=
    marks_of (F := F) hv .sgt b fun j => by
      rw [cmp_sgt, hv]
      exact ⟨fun hx => ⟨row_lt j, hx⟩, fun hx => hx.2⟩
  have hw := total_at hk
  unfold k0_pay4
  dsimp only
  generalize extractAt ![0, 0, 0] (shapeCast S1x1x1 (multiReductionI .add [1, 2] S1 (shapeCast S1x160x128 (extui 32 (cmpi .sgt (k0_pay1 (F := F) v) (broadcast S160x128 b)) natLt_1_32) shapeCasts_S160x128_S1x160x128) 0#32
        reduces_S1x160x128_S1 rfl) shapeCasts_S1_S1x1x1) inpos_S1x1x1_p0_0_0 = w at hw
  have e : ∀ (c d e : BitVec 1) (p q r s : BitVec 32), c = 0#1 → d = 0#1 → e = 1#1 →
      Scalar.select c p (Scalar.select d q (Scalar.select e r s)) = r := by
    rintro c d e p q r s rfl rfl rfl; rfl
  refine (congrArg BitVec.toInt (e _ _ _ _ _ _ _ (by rfl) (by rfl) (by rfl))).trans ?_
  have hw' : w.toNat = above x b.toInt := hw
  show (1000#32 - w).toInt = _
  rw [BitVec.toInt_eq_toNat_of_lt (by rw [BitVec.toNat_sub]; simp; omega), BitVec.toNat_sub]
  simp; omega

end Cand

end
-- ==== Proof.Thresh.lean ====
/-
  The threshold kernel on the TensorCore: its body run once, its staging data, and the call as a step of @main that
  takes the sheet of scores to the threshold's words and the rows' counts.
-/
module

public import proofs.«01_k».proof.Proof.ThreshWords
public import Idealize.ShloMosaic.Lib.Pipeline.ValueKit.Geometry

@[expose] public section

noncomputable section

namespace Cand

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 2) (Elt F) ℕ UU ℕ

/-! ## The body -/

theorem thresh_body (c : Dev nD) (f0 : Buf (Elt F) ((c : Thread nD τ).loc cc0_stg0_0)) (f1 : Buf (Elt F) ((c : Thread nD τ).loc cc0_stg1_0))
    (f2 : Buf (Elt F) ((c : Thread nD τ).loc cc0_stg2_0)) (E : Set ℕ) (Q : PUnit → sProp 𝕄) :
    iprop(((c : Thread nD τ).loc cc0_stg0_0 ↦{fullShare} f0) ∗ ((c : Thread nD τ).loc cc0_stg1_0 ↦{fullShare} f1)
        ∗ ((c : Thread nD τ).loc cc0_stg2_0 ↦{fullShare} f2)
        ∗ (iprop(((c : Thread nD τ).loc cc0_stg0_0 ↦{fullShare} f0)
            ∗ ((c : Thread nD τ).loc cc0_stg1_0 ↦{fullShare} (k0_pay4 (F := F) f0 (tword (F := F) f0) : Buf (Elt F) ((c : Thread nD τ).loc cc0_stg1_0)))
            ∗ ((c : Thread nD τ).loc cc0_stg2_0 ↦{fullShare} (k0_pay3 (F := F) f0 (tword (F := F) f0) : Buf (Elt F) ((c : Thread nD τ).loc cc0_stg2_0)))) -∗ Q ⟨⟩))
      ⊢ wp frame (wpE (defs₀ (F := F)) 𝒱₀ c none) E
          (cc0__thresh_body (F := F) (Memref.whole cc0_stg0_0) (hstage0_0 0) (Memref.whole cc0_stg1_0) (hstage0_1 0) (Memref.whole cc0_stg2_0) (hstage0_2 0)) Q := by
  iintro ⟨H0, H1, H2, Hk⟩
  rw [cc0__thresh_body_eq_skeleton]
  unfold cc0__thresh_body_skel
  ihave H0' := (Entails.of_eq (show ((c : Thread nD τ).loc cc0_stg0_0 ↦{fullShare} f0 : sProp 𝕄)
    = ((Memref.whole cc0_stg0_0).view.loc (c : Thread nD τ) ↦{fullShare} f0) from rfl)) $$ H0
  ihave H1' := (Entails.of_eq (show ((c : Thread nD τ).loc cc0_stg1_0 ↦{fullShare} f1 : sProp 𝕄)
    = ((Memref.whole cc0_stg1_0).view.loc (c : Thread nD τ) ↦{fullShare} f1) from rfl)) $$ H1
  ihave H2' := (Entails.of_eq (show ((c : Thread nD τ).loc cc0_stg2_0 ↦{fullShare} f2 : sProp 𝕄)
    = ((Memref.whole cc0_stg2_0).view.loc (c : Thread nD τ) ↦{fullShare} f2) from rfl)) $$ H2
  sl_exec
  sl_step
  iapply Hk
  have hz1 : (![0, 0] : Fin 2 → ℕ) = fun _ => 0 := by funext a; fin_cases a <;> rfl
  have e0 : View.readAt (Elt F) (Memref.whole cc0_stg0_0).view
      (Rect.unit ![0, 0] S160x128.size inb_S160x128_S160x128_0_0).toLoadRect f0 = f0 :=
    Memref.readAt_unit_zero (Elt F) cc0_stg0_0 hz1 _ f0
  have er : (thresh_body.sl.r c f0).1 = tword (F := F) f0 :=
    congrArg (fun v => (Scf.fold (n := k0_t1_loop.trips) (fun _ s => step (F := F) v s) (0#32, 1065353216#32)).1) e0
  have e1 : ∀ w, (Memref.whole cc0_stg1_0).view.writes (Elt F) f1
      [⟨Rect.unit ![0, 0] S1x16.size inb_S1x16_S1x16_0_0, w⟩] = w := fun w =>
    Memref.write_access_unit_zero_univ (Elt F) cc0_stg1_0 hz1 inb_S1x16_S1x16_0_0 f1 w
  have e2 : ∀ w, (Memref.whole cc0_stg2_0).view.writes (Elt F) f2
      [⟨Rect.unit ![0, 0] S160x1.size inb_S160x1_S160x1_0_0, w⟩] = w := fun w =>
    Memref.write_access_unit_zero_univ (Elt F) cc0_stg2_0 hz1 inb_S160x1_S160x1_0_0 f2 w
  rw [e1, e2, er, e0]
  isplitl [H0']; · iexact H0'
  isplitl [H1']; · iexact H1'
  iexact H2'

/-! ## The call's data, at an entry valuation -/

abbrev adm : (p : Fin 1) → (pcfgs (F := F) p).Adm := fun p => (cfgs p).toPCfg_adm

variable (V : (c : Dev nD) → (b : Ref sig .tc) → Buf (Elt F) ((c : Thread nD τ).loc b))

/-- The sheet of scores as the kernel is given it. -/
abbrev stg (c : Dev nD) : S160x128.Idx → BitVec 32 := ((cfg0.win 0).blk t0_0).view.read (Elt F) (V c main_v0)

theorem stg_eq (c : Dev nD) : stg V c = V c main_v0 := by
  funext j
  show V c main_v0 (((cfg0.win 0).rect t0_0).emb j) = V c main_v0 j
  refine congrArg (V c main_v0) (funext fun a => Fin.ext ?_)
  fin_cases a
  · exact (congrArg (fun z => z + 1 * (j 0).val) (Nat.zero_mul 160)).trans (by show 0 + 1 * (j 0).val = (j 0).val; omega)
  · exact (congrArg (fun z => z + 1 * (j 1).val) (Nat.zero_mul 128)).trans (by show 0 + 1 * (j 1).val = (j 1).val; omega)

/-- The pairs a wait may have recorded before the call: those at the lowest level. -/
abbrev rec0 (c : Dev nD) : Set (SemLoc sig × HIx 2) := {p | (K (F := F)).lev (T c, p.1) p.2 ≤ 0}

def dat (c : Dev nD) : Dat τ (Elt F) (HIx 2) ℕ UU ℕ cfg0 c where
  A w := V c (Pipeline.arrRef spec0 w)
  after w _ := match w with
    | ⟨0, _⟩ => stg V c
    | ⟨1, _⟩ => k0_pay4 (F := F) (stg V c) (tword (F := F) (stg V c))
    | ⟨2, _⟩ => k0_pay3 (F := F) (stg V c) (tword (F := F) (stg V c))
  Φ _ := BI.emp
  q _ := fullShare
  owed _ := (K (F := F)).Otc c 0
  recorded _ := rec0 (F := F) c

def pdats : (p : Fin 1) → (c : Dev nD) → Dat τ (Elt F) (HIx 2) ℕ UU ℕ (Pipeline.pin (pcfgs (F := F)) adm p) c
  | ⟨0, _⟩ => fun c => dat V c

theorem before_in (c : Dev nD) (d : (cfg0.win 0).block.Idx → Elt F (cfg0.win 0).elt) : (dat V c).before 0 t0_0 d = stg V c := by
  unfold Dat.before; rw [if_pos (by decide)]; rfl

theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = BI.emp from rfl, show (dat V c).Φ t0_0.succ = BI.emp from rfl,
    show (dat V c).owesAt none t0_0.succ = (dat V c).owesAt none t0_0.castSucc from rfl]
  iintro ⟨HΦ, Howes, ⟨%d0, %f0, %hf0, H0⟩, ⟨%d1, %f1, -, H1⟩, ⟨%d2, %f2, -, H2⟩⟩
  rw [before_in] at hf0
  subst hf0
  iapply (thresh_body c _ f1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The call as a step of @main -/

-- the launch's lemmas are stated at the pinned configuration, which must unfold in a metavariable's type
set_option backward.isDefEq.respectTransparency.types false in
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_refl 0)
    (fun _ _ h => ⟨Finset.mem_univ _, Nat.lt_of_lt_of_le (Nat.succ_pos _) ((K (F := F)).lev_of_Otc_pos h)⟩)
  pre c := iprop((dat V c).arrays ((dat V c).arrAt · 0) ∗ ∃ W, ⌜(K (F := F)).WBelow (T c) W 0⌝ ∗ owes (T c) ((K (F := F)).Otc c 0) W)
  post c := iprop((dat V c).arrays ((dat V c).arrAt · cfg0.N) ∗ ∃ W, ⌜(K (F := F)).WBelow (T c) W 0⌝ ∗ owes (T c) ((K (F := F)).Otc c 0) W)
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.Dat.owesAt Pipeline.owesWithin
      icases HO with ⟨%W, %hW, HO⟩; iexists W; isplitr
      · ipureintro; exact fun p hp => Or.inl (hW p hp)
      iexact HO
    isplitr <;> iempintro
  hin c := by
    rw [show (pdats V 0 c).Φ 0 = BI.emp from rfl]
    iintro -; iempintro
  hout c := by
    rw [Pipeline.ownSems0_none, show (pdats V 0 c).Φ (Fin.last _) = BI.emp from rfl, show (Pipeline.scopedRest (Pipeline.pin (pcfgs (F := F)) adm 0).spec c : sProp 𝕄) = Pipeline.scopedRest spec0 c from rfl, scopedRest0_eq]
    iintro -
    isplitr; · iempintro
    isplitr; · iempintro
    iempintro
  hexit c := by
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, rfl⟩
      · exact h
      · exact le_refl 0
    iexact HO

set_option maxRecDepth 65536 in
/-- The arrays after the call. -/
theorem out_info (c : Dev nD) : (dat V c).arrAt 1 cfg0.N = (k0_pay4 (F := F) (V c main_v0) (tword (F := F) (V c main_v0)) : Buf (Elt F) ((c : Thread nD τ).loc main_v1_0)) :=
  (Pipeline.Dat.arrAt_eq_of_after_last (dat V c) 1 t0_0 (by decide +kernel) (k0_pay4 (F := F) (stg V c) (tword (F := F) (stg V c))) fun _ => rfl).trans
    (congrArg (fun v => k0_pay4 (F := F) v (tword (F := F) v)) (stg_eq V c))

set_option maxRecDepth 65536 in
theorem out_rows (c : Dev nD) : (dat V c).arrAt 2 cfg0.N = (k0_pay3 (F := F) (V c main_v0) (tword (F := F) (V c main_v0)) : Buf (Elt F) ((c : Thread nD τ).loc main_v1_1)) :=
  (Pipeline.Dat.arrAt_eq_of_after_last (dat V c) 2 t0_0 (by decide +kernel) (k0_pay3 (F := F) (stg V c) (tword (F := F) (stg V c))) fun _ => rfl).trans
    (congrArg (fun v => k0_pay3 (F := F) v (tword (F := F) v)) (stg_eq V c))

section Step

variable (d : Dev nD) (Wv Wv' : Valuation τ sig (Elt F))

/-- The valuation the arrays are held at, as the call's data take it. -/
abbrev atV (Wv : Valuation τ sig (Elt F)) : (c : Dev nD) → (b : Ref sig .tc) → Buf (Elt F) ((c : Thread nD τ).loc b) :=
  fun _ b => Wv (Proc.devRef .tc b)

theorem share_full (c : Dev nD) : ∀ w, (pdats V 0 c).share w = fullShare := (pdats V 0 c).share_full fun _ => rfl

omit [FloatOps F] in
/-- The parts of the call's state, put in the order the pipeline's rule takes them. -/
theorem regroup (B A O L G H A' O' P Q : sProp 𝕄) (h : P ⊢ Q) :
    iprop(B ∗ A ∗ O ∗ L ∗ G ∗ H ∗ ((B ∗ A' ∗ O') -∗ P)) ⊢ iprop(((B ∗ A' ∗ O') -∗ Q) ∗ B ∗ (A ∗ O) ∗ L ∗ G ∗ H) := by
  iintro ⟨Hb, Ha, HO, Hl, Hg, Ht, Hk⟩
  isplitl [Hk]
  · iintro H
    iapply h
    iapply Hk
    iexact H
  isplitl [Hb]; · iexact Hb
  isplitl [Ha HO]
  · isplitl [Ha] <;> iassumption
  isplitl [Hl]; · iexact Hl
  isplitl [Hg] <;> iassumption

/-- A program which has ended meets its postcondition. -/
theorem wp_ret_of (c : Dev nD) (Φ : PUnit → sProp 𝕄) :
    Φ ⟨⟩ ⊢ wp frame (wpE (Pipeline.defs (pcfgs (F := F)) (defs₀ (F := F))) 𝒱₀.lift (c.tc : Thread nD τ) none) Set.univ
      (.ret ⟨⟩ : Prog (TpuEff nD τ sig (Elt F) (ΛP (F := F)) .tc) PUnit) Φ := by
  rw [wp_ret]
  iintro H
  imodintro
  iexact H

set_option backward.isDefEq.respectTransparency.types false in
set_option maxRecDepth 65536 in
theorem thresh_step [∀ e, Nonempty (Elt F e)] (h0 : Wv' (Proc.devRef .tc main_v0) = Wv (Proc.devRef .tc main_v0))
    (h1 : Wv' (Proc.devRef .tc main_v1_0) = (k0_pay4 (F := F) (Wv (Proc.devRef .tc main_v0)) (tword (F := F) (Wv (Proc.devRef .tc main_v0))) : S1x16.Idx → BitVec 32))
    (h2 : Wv' (Proc.devRef .tc main_v1_1) = (k0_pay3 (F := F) (Wv (Proc.devRef .tc main_v0)) (tword (F := F) (Wv (Proc.devRef .tc main_v0))) : S160x1.Idx → BitVec 32))
    (Φ : PUnit → sProp 𝕄) :
    iprop(boundary (T d) ∗ StableHlo.held (T d) (Pipeline.arrRefs spec0) Wv
        ∗ (∃ W, ⌜(K (F := F)).WBelow (T d) W 0⌝ ∗ owes (T d) ((K (F := F)).Otc d 0) W)
        ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (T d) ∗ StableHlo.held (T d) (Pipeline.arrRefs spec0) Wv'
            ∗ (∃ W, ⌜(K (F := F)).WBelow (T d) W 0⌝ ∗ owes (T d) ((K (F := F)).Otc d 0) W)) -∗ Φ ⟨⟩))
      ⊢ wp frame (wpE ((K (F := F)).defs (D (F := F))) 𝒱 (T d) none) Set.univ
          (Prog.lift (.customCall (SparseCore.inner (Pipeline.entry 0)) ())) Φ := by
  have hG1 : (dat (atV Wv) d).arrAt 1 cfg0.N = Wv' (Proc.devRef .tc main_v1_0) := by
    rw [h1]; exact out_info (atV Wv) d
  have hG2 : (dat (atV Wv) d).arrAt 2 cfg0.N = Wv' (Proc.devRef .tc main_v1_1) := by
    rw [h2]; exact out_rows (atV Wv) d
  have hpre : (reg (atV Wv)).pre d = iprop(StableHlo.held (T d) (Pipeline.arrRefs spec0) Wv
      ∗ ∃ W, ⌜(K (F := F)).WBelow (T d) W 0⌝ ∗ owes (T d) ((K (F := F)).Otc d 0) W) :=
    congrArg (fun A : sProp 𝕄 => iprop(A ∗ ∃ W, ⌜(K (F := F)).WBelow (T d) W 0⌝ ∗ owes (T d) ((K (F := F)).Otc d 0) W))
      (Pipeline.arrays_held (pcfgs (F := F)) adm (pdats (atV Wv)) 0 launch0.toP d (share_full (atV Wv) d) ((dat (atV Wv) d).arrAt · 0) Wv fun _ => rfl)
  have hpost : (reg (atV Wv)).post d = iprop(StableHlo.held (T d) (Pipeline.arrRefs spec0) Wv'
      ∗ ∃ W, ⌜(K (F := F)).WBelow (T d) W 0⌝ ∗ owes (T d) ((K (F := F)).Otc d 0) W) :=
    congrArg (fun A : sProp 𝕄 => iprop(A ∗ ∃ W, ⌜(K (F := F)).WBelow (T d) W 0⌝ ∗ owes (T d) ((K (F := F)).Otc d 0) W))
      (Pipeline.arrays_held (pcfgs (F := F)) adm (pdats (atV Wv)) 0 launch0.toP d (share_full (atV Wv) d) ((dat (atV Wv) d).arrAt · cfg0.N) Wv' fun w => by
        fin_cases w
        · exact ((dat (atV Wv) d).arrAt_in 0 rfl _).trans h0.symm
        · exact hG1
        · exact hG2)
  have hl := (K (F := F)).wp_liftProg (D (F := F)) 𝒱 (T d) (Name := ℕ) (U := UU) Set.univ none
    (.op (.customCall (Pipeline.entry 0) ()) .ret : Prog (TpuEff nD τ sig (Elt F) (ΛP (F := F)) .tc) PUnit) Φ
  have e : (Prog.lift (.customCall (SparseCore.inner (Pipeline.entry 0)) ())
      : Prog (TpuEff nD τ sig (Elt F) (SparseCore.Sig (ΛP (F := F)) 2) .tc) PUnit)
      = SparseCore.liftProg (.op (.customCall (Pipeline.entry 0) ()) .ret : Prog (TpuEff nD τ sig (Elt F) (ΛP (F := F)) .tc) PUnit) := rfl
  rw [e]
  refine BI.Entails.trans ?_ hl
  have hinj : Function.Injective (Pipeline.cellOf (nD := nD) (τ := τ) (Pipeline.pin (pcfgs (F := F)) adm)) := cellOf_inj
  have hw := Pipeline.RegionSeg.wp (pcfgs (F := F)) adm (pdats (atV Wv)) none hinj EP (defs₀ (F := F)) 𝒱₀ (K (F := F)).L (K (F := F)).lev
    (reg (atV Wv)) d none (fun _ h => nomatch h) .ret Φ
  refine BI.Entails.trans ?_ hw
  rw [hpre, hpost]
  exact regroup _ _ _ _ _ _ _ _ _ _ (wp_ret_of _ _)

end Step

end Cand

end
-- ==== Proof.Arrays.lean ====
/-
  The arrays between the kernels, one shape read as another: the sheet of the scores, the threshold's words, the rows'
  counts, the tasks' lists and their counts.
-/
module

public import proofs.«01_k».proof.Proof.Thresh

@[expose] public section

set_option maxRecDepth 65536

noncomputable section

namespace Cand

open Cert.KernelIdeal Cert.KernelIdeal.Gen

open Idealize.ShloMosaic

variable {F : FTy → Type} [FloatOps F]

/-- A reshaped array read at an index is the array at an index of the same place. -/
theorem shapeCast_at {α : Type} {s t : Shape} (x : s.Idx → α) (h : s.ShapeCasts t) (j : t.Idx) :
    ∃ k : s.Idx, shapeCast t x h j = x k ∧ (s.rowMajor k).val = (t.rowMajor j).val :=
  ⟨_, rfl, Shape.rowMajor_reshapeEquiv h j⟩

theorem at1_place {n : ℕ} (i : ℕ) (h : i < n) : ((⟨1, ![n]⟩ : Shape).rowMajor (at1 i h)).val = i :=
  Shape.rowMajor_val_one (d := ![n]) (at1 i h)

theorem sheet_of (f : S20480.Idx → BitVec 32) : Sheet (xs f) (shapeCast S160x128 f shapeCasts_S20480_S160x128) := by
  intro j
  obtain ⟨k, e, hk⟩ := shapeCast_at f shapeCasts_S20480_S160x128 j
  rw [e, ← hk]
  have hk' : (S20480.rowMajor k).val = (k 0).val := Shape.rowMajor_val_one (d := ![20480]) k
  rw [hk']
  unfold xs
  rw [dif_pos (show (k 0).val < 20480 from (k 0).isLt)]
  exact congrArg (fun i => (f i).toInt) (at1_eta (n := 20480) k).symm

section

variable {x : ℕ → ℤ} {v : S160x128.Idx → BitVec 32} {b : BitVec 32}

theorem tinfo_of (hv : Sheet x v) (hb : above x b.toInt ≤ 1000) :
    TInfo x b.toInt (shapeCast S16 (k0_pay4 (F := F) v b) shapeCasts_S1x16_S16) := by
  constructor
  · obtain ⟨k, e, hk⟩ := shapeCast_at (k0_pay4 (F := F) v b) shapeCasts_S1x16_S16 (at1 0 (by decide))
    rw [e, pay4_zero v b k (hk.trans (at1_place 0 (by decide)))]
  · obtain ⟨k, e, hk⟩ := shapeCast_at (k0_pay4 (F := F) v b) shapeCasts_S1x16_S16 (at1 2 (by decide))
    rw [e]
    exact pay4_two hv b hb k (hk.trans (at1_place 2 (by decide)))

theorem rows_of (hv : Sheet x v) : Rows x b.toInt (shapeCast S160 (k0_pay3 (F := F) v b) shapeCasts_S160x1_S160) := by
  intro r hr
  obtain ⟨k, e, hk⟩ := shapeCast_at (k0_pay3 (F := F) v b) shapeCasts_S160x1_S160 (at1 r hr)
  rw [e]
  exact pay3_at hv b r hr k (hk.trans (at1_place r hr))

end

section

variable {x : ℕ → ℤ} {t : ℤ}

theorem lists_of {f : S32x656.Idx → BitVec 32} (hf : ∀ w, PartOK x t w f) : Lists x t (shapeCast S20992 f shapeCasts_S32x656_S20992) := by
  intro w hw
  have h := hf ⟨w, hw⟩
  unfold PartOK at h
  refine (congrArg (Part x t (640 * w) (640 * w + 640)) (funext fun j => ?_)).mp h
  refine (shapeCast_apply f shapeCasts_S32x656_S20992 _ (Shape.pair (d := ![32, 656]) ⟨w, hw⟩ (j 0)) ?_).symm
  refine (Shape.rowMajor_pair_val (d := ![32, 656]) ⟨w, hw⟩ (j 0)).trans ((?_ : w * 656 + (j 0).val = 656 * w + (j 0).val).trans
    (at1_place (n := 20992) (656 * w + (j 0).val) _).symm)
  omega

theorem counts_of : Counts x t (shapeCast S512 (cnt x t) shapeCasts_S32x16_S512) := by
  intro w hw
  have e : shapeCast S512 (cnt x t) shapeCasts_S32x16_S512 (at1 (16 * w) (by omega)) = cnt x t (Shape.pair (d := ![32, 16]) ⟨w, hw⟩ ⟨0, by decide⟩) := by
    refine shapeCast_apply (cnt x t) shapeCasts_S32x16_S512 _ _ ?_
    refine (Shape.rowMajor_pair_val (d := ![32, 16]) ⟨w, hw⟩ ⟨0, by decide⟩).trans ((?_ : w * 16 + 0 = 16 * w).trans
      (at1_place (n := 512) (16 * w) _).symm)
    omega
  rw [e]
  show (BitVec.ofNat 32 (Nat.count (Sel x t) (640 * w + 640) - Nat.count (Sel x t) (640 * w))).toNat = _
  have h1 := Nat.count_le (p := Sel x t) (n := 640 * w + 640)
  rw [BitVec.toNat_ofNat, Nat.mod_eq_of_lt (by omega)]
  rfl

end

end Cand

end
-- ==== Proof.Tasks.lean ====
/-
  What the handshakes of the two SparseCore calls carry, and the two kernels' tasks as the launch theorem asks for them.
-/
module

public import proofs.«01_k».proof.Proof.Arrays

@[expose] public section

noncomputable section

namespace Cand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The scores' words and the threshold of device `d`. -/
abbrev X (d : Dev nD) : ℕ → ℤ := xs (m (aLoc main_arg0 d) : S20480.Idx → BitVec 32)
abbrev tw (d : Dev nD) : BitVec 32 := tword (F := F) (shapeCast S160x128 (m (aLoc main_arg0 d) : S20480.Idx → BitVec 32) shapeCasts_S20480_S160x128)
abbrev th (d : Dev nD) : ℤ := (tw m d).toInt

/-- What the launch memory is asked for: enough scores that are not negative, few enough above one. -/
def AllEnough : Prop := ∀ d : Dev nD, Enough (X m d)

variable {m} in
theorem right_of (hE : AllEnough m) (d : Dev nD) : Right (X m d) (th m d) := tword_spec (F := F) (sheet_of _) (hE d)

/-! ## The payloads, by task -/

/-- Task `w` of the compaction is handed its shares of the scores, of the threshold's words and of the counts, and its rows of the results. -/
def go0 (d : Dev nD) (w : Fin 32) : sProp 𝕄 :=
  iprop((aLoc main_arg0 d ↦{sh w} m (aLoc main_arg0 d))
    ∗ (∃ g : Buf (Elt F) (aLoc main_v2 d), ⌜TInfo (X m d) (th m d) g⌝ ∗ aLoc main_v2 d ↦{sh w} g)
    ∗ (∃ g : Buf (Elt F) (aLoc main_v3 d), ⌜Rows (X m d) (th m d) g⌝ ∗ aLoc main_v3 d ↦{sh w} g)
    ∗ (∃ f : Buf (Elt F) (aLoc main_v4_0 d), aLoc main_v4_0 d ↦[pSet w]{fullShare} f)
    ∗ (∃ f : Buf (Elt F) (aLoc main_v4_1 d), aLoc main_v4_1 d ↦[cSet w]{fullShare} f))

/-- It hands back its share of the scores and its rows, written. -/
def td0 (d : Dev nD) (w : Fin 32) : sProp 𝕄 :=
  iprop((aLoc main_arg0 d ↦{sh w} m (aLoc main_arg0 d))
    ∗ (∃ f : Buf (Elt F) (aLoc main_v4_0 d), ⌜PartOK (X m d) (th m d) w f⌝ ∗ aLoc main_v4_0 d ↦[pSet w]{fullShare} f)
    ∗ (aLoc main_v4_1 d ↦[cSet w]{fullShare} (cnt (X m d) (th m d) : Buf (Elt F) (aLoc main_v4_1 d))))

/-- Task `w`'s shares of the six arrays. -/
def ins1 (d : Dev nD) (q : PosShare TreeShare) : sProp 𝕄 :=
  iprop((aLoc main_arg1 d ↦{q} m (aLoc main_arg1 d)) ∗ (aLoc main_arg2 d ↦{q} m (aLoc main_arg2 d)) ∗ (aLoc main_arg3 d ↦{q} m (aLoc main_arg3 d))
    ∗ (aLoc main_arg4 d ↦{q} m (aLoc main_arg4 d)) ∗ (aLoc main_arg5 d ↦{q} m (aLoc main_arg5 d)) ∗ (aLoc main_arg6 d ↦{q} m (aLoc main_arg6 d)))

/-- A set of places of the six results, at any contents; -/
def outs1 (d : Dev nD) (I : Finset S1024.Idx) : sProp 𝕄 :=
  iprop((∃ f : Buf (Elt F) (aLoc main_v7_0 d), aLoc main_v7_0 d ↦[I]{fullShare} f) ∗ (∃ f : Buf (Elt F) (aLoc main_v7_1 d), aLoc main_v7_1 d ↦[I]{fullShare} f)
    ∗ (∃ f : Buf (Elt F) (aLoc main_v7_2 d), aLoc main_v7_2 d ↦[I]{fullShare} f) ∗ (∃ f : Buf (Elt F) (aLoc main_v7_3 d), aLoc main_v7_3 d ↦[I]{fullShare} f)
    ∗ (∃ f : Buf (Elt F) (aLoc main_v7_4 d), aLoc main_v7_4 d ↦[I]{fullShare} f) ∗ (∃ f : Buf (Elt F) (aLoc main_v7_5 d), aLoc main_v7_5 d ↦[I]{fullShare} f))

/-- and at the chosen rows. -/
def res1 (d : Dev nD) (I : Finset S1024.Idx) : sProp 𝕄 :=
  iprop((aLoc main_v7_0 d ↦[I]{fullShare} (outp (X m d) (th m d) (m (aLoc main_arg1 d)) : Buf (Elt F) (aLoc main_v7_0 d)))
    ∗ (aLoc main_v7_1 d ↦[I]{fullShare} (outp (X m d) (th m d) (m (aLoc main_arg2 d)) : Buf (Elt F) (aLoc main_v7_1 d)))
    ∗ (aLoc main_v7_2 d ↦[I]{fullShare} (outp (X m d) (th m d) (m (aLoc main_arg3 d)) : Buf (Elt F) (aLoc main_v7_2 d)))
    ∗ (aLoc main_v7_3 d ↦[I]{fullShare} (outp (X m d) (th m d) (m (aLoc main_arg4 d)) : Buf (Elt F) (aLoc main_v7_3 d)))
    ∗ (aLoc main_v7_4 d ↦[I]{fullShare} (outp (X m d) (th m d) (m (aLoc main_arg5 d)) : Buf (Elt F) (aLoc main_v7_4 d)))
    ∗ (aLoc main_v7_5 d ↦[I]{fullShare} (outp (X m d) (th m d) (m (aLoc main_arg6 d)) : Buf (Elt F) (aLoc main_v7_5 d))))

def go1 (d : Dev nD) (w : Fin 32) : sProp 𝕄 :=
  iprop((∃ f : Buf (Elt F) (aLoc main_v5 d), ⌜Lists (X m d) (th m d) f⌝ ∗ aLoc main_v5 d ↦{sh w} f)
    ∗ (∃ g : Buf (Elt F) (aLoc main_v6 d), ⌜Counts (X m d) (th m d) g⌝ ∗ aLoc main_v6 d ↦{sh w} g)
    ∗ ins1 m d (sh w) ∗ outs1 d (oSet w))

def td1 (d : Dev nD) (w : Fin 32) : sProp 𝕄 := iprop(ins1 m d (sh w) ∗ res1 m d (oSet w))

instance (d : Dev nD) (w : Fin 32) : BI.Storable (upEmb : UEmb _ 𝕄) (go0 m d w) := by unfold go0; infer_instance
instance (d : Dev nD) (w : Fin 32) : BI.Storable (upEmb : UEmb _ 𝕄) (td0 m d w) := by unfold td0; infer_instance
instance (d : Dev nD) (q : PosShare TreeShare) : BI.Storable (upEmb : UEmb _ 𝕄) (ins1 m d q) := by unfold ins1; infer_instance
instance (d : Dev nD) (I : Finset S1024.Idx) : BI.Storable (upEmb : UEmb _ 𝕄) (outs1 d I) := by unfold outs1; infer_instance
instance (d : Dev nD) (I : Finset S1024.Idx) : BI.Storable (upEmb : UEmb _ 𝕄) (res1 m d I) := by unfold res1; infer_instance
instance (d : Dev nD) (w : Fin 32) : BI.Storable (upEmb : UEmb _ 𝕄) (go1 m d w) := by unfold go1; infer_instance
instance (d : Dev nD) (w : Fin 32) : BI.Storable (upEmb : UEmb _ 𝕄) (td1 m d w) := by unfold td1; infer_instance

def goQ (q : Fin 2) (d : Dev nD) (w : Fin 32) : sProp 𝕄 := match q with | 0 => go0 m d w | 1 => go1 m d w
def tdQ (q : Fin 2) (d : Dev nD) (w : Fin 32) : sProp 𝕄 := match q with | 0 => td0 m d w | 1 => td1 m d w

instance (q : Fin 2) (d : Dev nD) (w : Fin 32) : BI.Storable (upEmb : UEmb _ 𝕄) (goQ m q d w) :=
  match q with
  | 0 => (inferInstance : BI.Storable (upEmb : UEmb _ 𝕄) (go0 m d w))
  | 1 => (inferInstance : BI.Storable (upEmb : UEmb _ 𝕄) (go1 m d w))
instance (q : Fin 2) (d : Dev nD) (w : Fin 32) : BI.Storable (upEmb : UEmb _ 𝕄) (tdQ m q d w) :=
  match q with
  | 0 => (inferInstance : BI.Storable (upEmb : UEmb _ 𝕄) (td0 m d w))
  | 1 => (inferInstance : BI.Storable (upEmb : UEmb _ 𝕄) (td1 m d w))

/-- The handshakes' payloads: each SparseCore's sequencer carries its sixteen tasks' parts. -/
def P : (K (F := F)).Pay (nD := nD) (Val := Elt F) (Name := ℕ) (U := UU) where
  st := fun q d c => bigSep Finset.univ fun s : Fin 16 => goQ m q d (wid (Fin.cast (nCore_eq q) c) s)
  dn := fun q d c => bigSep Finset.univ fun s : Fin 16 => tdQ m q d (wid (Fin.cast (nCore_eq q) c) s)
  go := fun q d c s => goQ m q d (wid (Fin.cast (nCore_eq q) c) (Fin.cast (nSub_eq q) s))
  td := fun q d c s => tdQ m q d (wid (Fin.cast (nCore_eq q) c) (Fin.cast (nSub_eq q) s))
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

theorem st_eq (q : Fin 2) (d : Dev nD) : (bigSep Finset.univ fun c : Fin ((K (F := F)).nCore q) => (P m).st q d c) = bigSep Finset.univ (goQ m q d) := by
  rw [bigSep_wid (goQ m q d)]
  exact bigSep_core (F := F) q fun c => bigSep Finset.univ fun s : Fin 16 => goQ m q d (wid c s)

theorem dn_eq (q : Fin 2) (d : Dev nD) : (bigSep Finset.univ fun c : Fin ((K (F := F)).nCore q) => (P m).dn q d c) = bigSep Finset.univ (tdQ m q d) := by
  rw [bigSep_wid (tdQ m q d)]
  exact bigSep_core (F := F) q fun c => bigSep Finset.univ fun s : Fin 16 => tdQ m q d (wid c s)

theorem bigSep_sub (q : Fin 2) (Φ : Fin 16 → sProp 𝕄) :
    (bigSep Finset.univ fun s : Fin ((K (F := F)).nSub q) => Φ (Fin.cast (nSub_eq q) s)) = bigSep Finset.univ Φ := by
  match q with
  | 0 => rfl
  | 1 => rfl

/-- A sequencer deals its sixteen tasks' parts and gathers them again. -/
theorem vecSplit (q : Fin 2) : (K (F := F)).VecSplit' (P m) q := by
  intro d c
  show (bigSep Finset.univ fun s : Fin 16 => goQ m q d (wid (Fin.cast (nCore_eq q) c) s)) ⊢ |={Set.univ}=> iprop(
      (bigSep Finset.univ fun s : Fin ((K (F := F)).nSub q) => goQ m q d (wid (Fin.cast (nCore_eq q) c) (Fin.cast (nSub_eq q) s)))
      ∗ ((bigSep Finset.univ fun s : Fin ((K (F := F)).nSub q) => tdQ m q d (wid (Fin.cast (nCore_eq q) c) (Fin.cast (nSub_eq q) s)))
          -∗ bigSep Finset.univ fun s : Fin 16 => tdQ m q d (wid (Fin.cast (nCore_eq q) c) s)))
  rw [bigSep_sub (F := F) q fun s => goQ m q d (wid (Fin.cast (nCore_eq q) c) s),
    bigSep_sub (F := F) q fun s => tdQ m q d (wid (Fin.cast (nCore_eq q) c) s)]
  iintro H; imodintro
  isplitl [H]; · iexact H
  iintro H; iexact H

/-! ## The tasks -/

def coords1 (c : Fin (grid1.bound 0)) (s : Fin (grid1.bound 1)) : grid1.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

/-- The two kernels' bodies at a tile. -/
abbrev body1 (L : grid1.Coords) :=
  cc1__compact_body (F := F) L (Memref.whole main_arg0_scv) (Memref.isWhole_whole _) (Memref.whole main_v2_scv) (Memref.isWhole_whole _) (Memref.whole main_v3_scv) (Memref.isWhole_whole _)
    (Memref.whole main_v4_0_scv) (Memref.isWhole_whole _) (Memref.whole main_v4_1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    (Memref.whole cc1_scratch4) (Memref.isWhole_whole _) cc1_scoped0 cc1_scoped1 cc1_scoped2 cc1_scoped3 cc1_scoped4
abbrev body2 (L : grid2.Coords) :=
  cc2__merge_body (F := F) L (Memref.whole main_v5_scv) (Memref.isWhole_whole _) (Memref.whole main_v6_scv) (Memref.isWhole_whole _)
    (Memref.whole main_arg1_scv) (Memref.isWhole_whole _) (Memref.whole main_arg2_scv) (Memref.isWhole_whole _) (Memref.whole main_arg3_scv) (Memref.isWhole_whole _)
    (Memref.whole main_arg4_scv) (Memref.isWhole_whole _) (Memref.whole main_arg5_scv) (Memref.isWhole_whole _) (Memref.whole main_arg6_scv) (Memref.isWhole_whole _)
    (Memref.whole main_v7_0_scv) (Memref.isWhole_whole _) (Memref.whole main_v7_1_scv) (Memref.isWhole_whole _) (Memref.whole main_v7_2_scv) (Memref.isWhole_whole _)
    (Memref.whole main_v7_3_scv) (Memref.isWhole_whole _) (Memref.whole main_v7_4_scv) (Memref.isWhole_whole _) (Memref.whole main_v7_5_scv) (Memref.isWhole_whole _)
    (Memref.whole cc2_scratch0) (Memref.isWhole_whole _) (Memref.whole cc2_scratch1) (Memref.isWhole_whole _) (Memref.whole cc2_scratch2) (Memref.isWhole_whole _)
    (Memref.whole cc2_scratch3) (Memref.isWhole_whole _) (Memref.whole cc2_scratch4) (Memref.isWhole_whole _) (Memref.whole cc2_scratch5) (Memref.isWhole_whole _)
    (Memref.whole cc2_scratch6) (Memref.isWhole_whole _) (Memref.whole cc2_scratch7) (Memref.isWhole_whole _) (Memref.whole cc2_scratch8) (Memref.isWhole_whole _)
    cc2_scratch9 cc2_scoped0 cc2_scoped1 cc2_scoped2 cc2_scoped3 cc2_scoped4 cc2_scoped5 cc2_scoped6

theorem defs₀_1 (c : Fin τ.nSC) (s : Fin τ.nSub) :
    defs₀ (F := F) (.scVector c s) 1 () = SparseCore.onTile hcore1 hsub1 (fun c s => body1 (F := F) (coords1 c s)) ⟨⟩ c s := rfl
theorem defs₀_2 (c : Fin τ.nSC) (s : Fin τ.nSub) :
    defs₀ (F := F) (.scVector c s) 2 () = SparseCore.onTile hcore2 hsub2 (fun c s => body2 (F := F) (coords2 c s)) ⟨⟩ c s := rfl

theorem compact_task (hE : AllEnough m) (d : Dev nD) (L : grid1.Coords) (O : CellTallies nD τ sig (HIx 2)) (W : Waits sig (HIx 2)) (hO : ∀ g, O g none = 0) :
    iprop(levAts (K (F := F)).L (K (F := F)).lev ∗ emp ∗ go0 m d (wL L) ∗ scopedBufs (tV d L) ∗ scopedSems0 (tV d L) ∗ owes (tV d L) O W)
      ⊢ wp frame (wpE (defs₀ (F := F)) 𝒱₀ (tV d L) none) Set.univ (body1 (F := F) L)
        fun _ => iprop(td0 m d (wL L) ∗ scopedBufs (tV d L) ∗ scopedSems0 (tV d L)
          ∗ ∃ W', ⌜∀ p ∈ W', p ∈ W ∨ p.2 = none⌝ ∗ owes (tV d L) O W') := by
  unfold go0 td0
  iintro ⟨Hl, He, ⟨Ha, ⟨%gT, %hT, Ht⟩, ⟨%gR, %hR, Hr⟩, ⟨%fP, Hp⟩, ⟨%fC, Hc⟩⟩, Hb, Hs, HO⟩
  iapply (compact_body d L facts O W hO (sh (wL L)) (m (aLoc main_arg0 d)) gT gR fP fC hT (right_of hE d).1 hR) $$ [Hl He Ha Ht Hr Hp Hc Hb Hs HO]
  isplitl [Hl]; · iexact Hl
  isplitl [He]; · iexact He
  isplitl [Ha Ht Hr Hp Hc]
  · isplitl [Ha]; · iexact Ha
    isplitl [Ht]; · iexact Ht
    isplitl [Hr]; · iexact Hr
    isplitl [Hp]; · iexact Hp
    iexact Hc
  isplitl [Hb]; · iexact Hb
  isplitl [Hs]; · iexact Hs
  iexact HO

theorem merge_task (hE : AllEnough m) (d : Dev nD) (L : grid2.Coords) (O : CellTallies nD τ sig (HIx 2)) (W : Waits sig (HIx 2)) (hO : ∀ g, O g none = 0) :
    iprop(levAts (K (F := F)).L (K (F := F)).lev ∗ emp ∗ go1 m d (wL2 L) ∗ scopedBufs (tV2 d L) ∗ scopedSems0 (tV2 d L) ∗ owes (tV2 d L) O W)
      ⊢ wp frame (wpE (defs₀ (F := F)) 𝒱₀ (tV2 d L) none) Set.univ (body2 (F := F) L)
        fun _ => iprop(td1 m d (wL2 L) ∗ scopedBufs (tV2 d L) ∗ scopedSems0 (tV2 d L)
          ∗ ∃ W', ⌜∀ p ∈ W', p ∈ W ∨ p.2 = none⌝ ∗ owes (tV2 d L) O W') := by
  unfold go1 outs1
  iintro ⟨Hl, He, ⟨⟨%fL, %hL, H5⟩, ⟨%gC, %hC, H6⟩, Hi, ⟨%o0, Ho0⟩, ⟨%o1, Ho1⟩, ⟨%o2, Ho2⟩, ⟨%o3, Ho3⟩, ⟨%o4, Ho4⟩, ⟨%o5, Ho5⟩⟩, Hb, Hs, HO⟩
  have H := (merge_body d L facts O W hO (sh (wL2 L)) fL gC (m (aLoc main_arg1 d)) (m (aLoc main_arg2 d)) (m (aLoc main_arg3 d))
    (m (aLoc main_arg4 d)) (m (aLoc main_arg5 d)) (m (aLoc main_arg6 d)) o0 o1 o2 o3 o4 o5 (right_of hE d) hL hC).trans
      (wp_mono frame _ _ (Q' := fun _ => iprop(td1 m d (wL2 L) ∗ scopedBufs (tV2 d L) ∗ scopedSems0 (tV2 d L)
          ∗ ∃ W', ⌜∀ p ∈ W', p ∈ W ∨ p.2 = none⌝ ∗ owes (tV2 d L) O W')) fun _ => by
        unfold td1 ins1 res1
        iintro ⟨⟨H1, H2, H3, H4, H5, H6, H⟩, Hr⟩
        isplitr [Hr]
        · isplitr [H]
          · isplitl [H1]; · iexact H1
            isplitl [H2]; · iexact H2
            isplitl [H3]; · iexact H3
            isplitl [H4]; · iexact H4
            isplitl [H5]; · iexact H5
            iexact H6
          · iexact H
        iexact Hr)
  unfold ins1
  icases Hi with ⟨H1, H2, H3, H4, Hi5, Hi6⟩
  iapply H $$ [Hl He H5 H6 H1 H2 H3 H4 Hi5 Hi6 Ho0 Ho1 Ho2 Ho3 Ho4 Ho5 Hb Hs HO]
  isplitl [Hl]; · iexact Hl
  isplitl [He]; · iexact He
  isplitr [Hb Hs HO]
  · isplitl [H5]; · iexact H5
    isplitl [H6]; · iexact H6
    isplitl [H1]; · iexact H1
    isplitl [H2]; · iexact H2
    isplitl [H3]; · iexact H3
    isplitl [H4]; · iexact H4
    isplitl [Hi5]; · iexact Hi5
    isplitl [Hi6]; · iexact Hi6
    isplitl [Ho0]; · iexact Ho0
    isplitl [Ho1]; · iexact Ho1
    isplitl [Ho2]; · iexact Ho2
    isplitl [Ho3]; · iexact Ho3
    isplitl [Ho4]; · iexact Ho4
    iexact Ho5
  isplitl [Hb]; · iexact Hb
  isplitl [Hs]; · iexact Hs
  iexact HO

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl_0 (hE : AllEnough m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (compact_task m hE d (coords1 ⟨_, hci.1⟩ ⟨_, hci.2⟩) O W hO).trans (wp_mono frame _ _ fun _ => obl_post)

set_option maxRecDepth 16384 in
theorem tileObl_1 (hE : AllEnough m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_2]; simp only [SparseCore.onTile, hci, and_self, ↓reduceDIte]
  exact (merge_task m hE d (coords2 ⟨_, hci.1⟩ ⟨_, hci.2⟩) O W hO).trans (wp_mono frame _ _ fun _ => obl_post)

end Cand

end
-- ==== Proof.Deal.lean ====
/-
  The arrays dealt to the tasks of the two SparseCore calls and gathered from them.
-/
module

public import proofs.«01_k».proof.Proof.Tasks

@[expose] public section

noncomputable section

namespace Cand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## Rows and blocks -/

theorem pSet_disjoint : ∀ i ∈ (Finset.univ : Finset (Fin 32)), ∀ j ∈ (Finset.univ : Finset (Fin 32)), i ≠ j → Disjoint (pSet i) (pSet j) :=
  fun _ _ _ _ h => Rect.part_disjoint pdiv h
theorem cSet_disjoint : ∀ i ∈ (Finset.univ : Finset (Fin 32)), ∀ j ∈ (Finset.univ : Finset (Fin 32)), i ≠ j → Disjoint (cSet i) (cSet j) :=
  fun _ _ _ _ h => Rect.part_disjoint cdiv h
theorem oSet_disjoint : ∀ i ∈ (Finset.univ : Finset (Fin 32)), ∀ j ∈ (Finset.univ : Finset (Fin 32)), i ≠ j → Disjoint (oSet i) (oSet j) :=
  fun _ _ _ _ h => Rect.part_disjoint odiv h
theorem pSet_cover : (Finset.univ : Finset (Fin 32)).biUnion pSet = Finset.univ := Rect.biUnion_part pdiv
theorem cSet_cover : (Finset.univ : Finset (Fin 32)).biUnion cSet = Finset.univ := Rect.biUnion_part cdiv
theorem oSet_cover : (Finset.univ : Finset (Fin 32)).biUnion oSet = Finset.univ := Rect.biUnion_part odiv

theorem p_rows (d : Dev nD) (f : Buf (Elt F) (aLoc main_v4_0 d)) :
    (aLoc main_v4_0 d ↦{fullShare} f : sProp 𝕄) = bigSep Finset.univ fun w : Fin 32 => aLoc main_v4_0 d ↦[pSet w]{fullShare} f := by
  rw [← pointsTo_biUnion Finset.univ (ℓ := aLoc main_v4_0 d) pSet pSet_disjoint, pSet_cover]; try rfl
theorem c_rows (d : Dev nD) (f : Buf (Elt F) (aLoc main_v4_1 d)) :
    (aLoc main_v4_1 d ↦{fullShare} f : sProp 𝕄) = bigSep Finset.univ fun w : Fin 32 => aLoc main_v4_1 d ↦[cSet w]{fullShare} f := by
  rw [← pointsTo_biUnion Finset.univ (ℓ := aLoc main_v4_1 d) cSet cSet_disjoint, cSet_cover]; try rfl
theorem o_rows0 (d : Dev nD) (f : Buf (Elt F) (aLoc main_v7_0 d)) :
    (aLoc main_v7_0 d ↦{fullShare} f : sProp 𝕄) = bigSep Finset.univ fun w : Fin 32 => aLoc main_v7_0 d ↦[oSet w]{fullShare} f := by
  rw [← pointsTo_biUnion Finset.univ (ℓ := aLoc main_v7_0 d) oSet oSet_disjoint, oSet_cover]; try rfl
theorem o_rows1 (d : Dev nD) (f : Buf (Elt F) (aLoc main_v7_1 d)) :
    (aLoc main_v7_1 d ↦{fullShare} f : sProp 𝕄) = bigSep Finset.univ fun w : Fin 32 => aLoc main_v7_1 d ↦[oSet w]{fullShare} f := by
  rw [← pointsTo_biUnion Finset.univ (ℓ := aLoc main_v7_1 d) oSet oSet_disjoint, oSet_cover]; try rfl
theorem o_rows2 (d : Dev nD) (f : Buf (Elt F) (aLoc main_v7_2 d)) :
    (aLoc main_v7_2 d ↦{fullShare} f : sProp 𝕄) = bigSep Finset.univ fun w : Fin 32 => aLoc main_v7_2 d ↦[oSet w]{fullShare} f := by
  rw [← pointsTo_biUnion Finset.univ (ℓ := aLoc main_v7_2 d) oSet oSet_disjoint, oSet_cover]; try rfl
theorem o_rows3 (d : Dev nD) (f : Buf (Elt F) (aLoc main_v7_3 d)) :
    (aLoc main_v7_3 d ↦{fullShare} f : sProp 𝕄) = bigSep Finset.univ fun w : Fin 32 => aLoc main_v7_3 d ↦[oSet w]{fullShare} f := by
  rw [← pointsTo_biUnion Finset.univ (ℓ := aLoc main_v7_3 d) oSet oSet_disjoint, oSet_cover]; try rfl
theorem o_rows4 (d : Dev nD) (f : Buf (Elt F) (aLoc main_v7_4 d)) :
    (aLoc main_v7_4 d ↦{fullShare} f : sProp 𝕄) = bigSep Finset.univ fun w : Fin 32 => aLoc main_v7_4 d ↦[oSet w]{fullShare} f := by
  rw [← pointsTo_biUnion Finset.univ (ℓ := aLoc main_v7_4 d) oSet oSet_disjoint, oSet_cover]; try rfl
theorem o_rows5 (d : Dev nD) (f : Buf (Elt F) (aLoc main_v7_5 d)) :
    (aLoc main_v7_5 d ↦{fullShare} f : sProp 𝕄) = bigSep Finset.univ fun w : Fin 32 => aLoc main_v7_5 d ↦[oSet w]{fullShare} f := by
  rw [← pointsTo_biUnion Finset.univ (ℓ := aLoc main_v7_5 d) oSet oSet_disjoint, oSet_cover]; try rfl

/-! ## The compaction's call -/

variable {m} in
/-- The compaction's arrays are its tasks' parts. -/
theorem call0_in (d : Dev nD) {gT : Buf (Elt F) (aLoc main_v2 d)} {gR : Buf (Elt F) (aLoc main_v3 d)}
    (hT : TInfo (X m d) (th m d) gT) (hR : Rows (X m d) (th m d) gR) (fP : Buf (Elt F) (aLoc main_v4_0 d)) (fC : Buf (Elt F) (aLoc main_v4_1 d)) :
    (iprop((aLoc main_arg0 d ↦{fullShare} m (aLoc main_arg0 d)) ∗ (aLoc main_v2 d ↦{fullShare} gT) ∗ (aLoc main_v3 d ↦{fullShare} gR)
      ∗ (aLoc main_v4_0 d ↦{fullShare} fP) ∗ (aLoc main_v4_1 d ↦{fullShare} fC)) : sProp 𝕄) ⊢ bigSep Finset.univ (goQ m 0 d) := by
  rw [pointsTo_tasks (ℓ := aLoc main_arg0 d), pointsTo_tasks (ℓ := aLoc main_v2 d), pointsTo_tasks (ℓ := aLoc main_v3 d), p_rows, c_rows,
    ← bigSep_sep', ← bigSep_sep', ← bigSep_sep', ← bigSep_sep']
  refine bigSep_mono fun w _ => ?_
  show _ ⊢ go0 m d w
  unfold go0
  iintro ⟨H0, H2, H3, Hp, Hc⟩
  isplitl [H0]; · iexact H0
  isplitl [H2]
  · iexists gT; isplitr; · ipureintro; exact hT
    iexact H2
  isplitl [H3]
  · iexists gR; isplitr; · ipureintro; exact hR
    iexact H3
  isplitl [Hp]
  · iexists fP; iexact Hp
  iexists fC; iexact Hc

theorem pair_mem (w : Fin 32) (k : Fin 656) : Shape.pair (d := ![32, 656]) w k ∈ pSet w := by
  refine Rect.mem_set_unit.mpr fun a => ?_
  match a with
  | 0 => simp [Shape.partIx, Shape.partSize, Shape.pair]
  | 1 => simp [Shape.partIx, Shape.partSize, Shape.pair]

/-- What a row holds is read on the row alone. -/
theorem partOK_congr {x : ℕ → ℤ} {t : ℤ} {w : Fin 32} {f g : S32x656.Idx → BitVec 32} (h : ∀ i ∈ pSet w, g i = f i) (hf : PartOK x t w f) :
    PartOK x t w g := by
  unfold PartOK at hf ⊢
  exact (congrArg (Part x t (640 * w.val) (640 * w.val + 640)) (funext fun j => (h _ (pair_mem w (j 0))).symm)).mp hf

set_option maxRecDepth 4096 in
/-- What the compaction's tasks leave: the scores, every task's row of the lists, and the counts. -/
theorem call0_out (d : Dev nD) :
    bigSep Finset.univ (tdQ m 0 d) ⊢ (iprop((aLoc main_arg0 d ↦{fullShare} m (aLoc main_arg0 d))
      ∗ (∃ f : Buf (Elt F) (aLoc main_v4_0 d), ⌜∀ w, PartOK (X m d) (th m d) w f⌝ ∗ aLoc main_v4_0 d ↦{fullShare} f)
      ∗ (aLoc main_v4_1 d ↦{fullShare} (cnt (X m d) (th m d) : Buf (Elt F) (aLoc main_v4_1 d)))) : sProp 𝕄) := by
  show (bigSep Finset.univ fun w => td0 m d w) ⊢ _
  unfold td0
  rw [bigSep_sep', bigSep_sep', ← pointsTo_tasks, ← c_rows]
  iintro ⟨H0, Hp, Hc⟩
  isplitl [H0]; · iexact H0
  isplitr [Hc]
  · ihave H := (bigSep_exists_pi Finset.univ (fun (w : Fin 32) (f : Buf (Elt F) (aLoc main_v4_0 d)) =>
      iprop(⌜PartOK (X m d) (th m d) w f⌝ ∗ aLoc main_v4_0 d ↦[pSet w]{fullShare} f))) $$ Hp
    icases H with ⟨%fs, H⟩
    ihave H' := (BI.bigSep_pure_sep Finset.univ (fun w => PartOK (X m d) (th m d) w (fs w)) (fun w => aLoc main_v4_0 d ↦[pSet w]{fullShare} fs w)) $$ H
    icases H' with ⟨%hfs, H⟩
    ihave H' := (pointsTo_biUnion_join (ℓ := aLoc main_v4_0 d) (q := fullShare) (Val := Elt F) Finset.univ pSet fs (fs 0) pSet_disjoint) $$ H
    icases H' with ⟨%g, %hg, Hg⟩
    rw [pSet_cover]
    iexists g; isplitr
    · ipureintro; exact fun w => partOK_congr (hg w (Finset.mem_univ w)) (hfs w (Finset.mem_univ w))
    iexact Hg
  iexact Hc

/-! ## The merge's call -/

theorem ins1_tasks (d : Dev nD) : ins1 m d fullShare = bigSep Finset.univ fun w : Fin 32 => ins1 m d (sh w) := by
  unfold ins1
  rw [bigSep_sep', bigSep_sep', bigSep_sep', bigSep_sep', bigSep_sep']
  simp only [← pointsTo_tasks]

theorem res1_tasks (d : Dev nD) : res1 m d Finset.univ = bigSep Finset.univ fun w : Fin 32 => res1 m d (oSet w) := by
  unfold res1
  rw [bigSep_sep', bigSep_sep', bigSep_sep', bigSep_sep', bigSep_sep', ← o_rows0, ← o_rows1, ← o_rows2, ← o_rows3, ← o_rows4, ← o_rows5]

/-- The merge's arrays are its tasks' parts. -/
theorem call1_in (d : Dev nD) {fL : Buf (Elt F) (aLoc main_v5 d)} {gC : Buf (Elt F) (aLoc main_v6 d)}
    (hL : Lists (X m d) (th m d) fL) (hC : Counts (X m d) (th m d) gC)
    (o0 : Buf (Elt F) (aLoc main_v7_0 d)) (o1 : Buf (Elt F) (aLoc main_v7_1 d)) (o2 : Buf (Elt F) (aLoc main_v7_2 d))
    (o3 : Buf (Elt F) (aLoc main_v7_3 d)) (o4 : Buf (Elt F) (aLoc main_v7_4 d)) (o5 : Buf (Elt F) (aLoc main_v7_5 d)) :
    (iprop((aLoc main_v5 d ↦{fullShare} fL) ∗ (aLoc main_v6 d ↦{fullShare} gC) ∗ ins1 m d fullShare
      ∗ (aLoc main_v7_0 d ↦{fullShare} o0) ∗ (aLoc main_v7_1 d ↦{fullShare} o1) ∗ (aLoc main_v7_2 d ↦{fullShare} o2)
      ∗ (aLoc main_v7_3 d ↦{fullShare} o3) ∗ (aLoc main_v7_4 d ↦{fullShare} o4) ∗ (aLoc main_v7_5 d ↦{fullShare} o5)) : sProp 𝕄)
      ⊢ bigSep Finset.univ (goQ m 1 d) := by
  rw [pointsTo_tasks (ℓ := aLoc main_v5 d), pointsTo_tasks (ℓ := aLoc main_v6 d), ins1_tasks, o_rows0, o_rows1, o_rows2, o_rows3, o_rows4, o_rows5,
    ← bigSep_sep', ← bigSep_sep', ← bigSep_sep', ← bigSep_sep', ← bigSep_sep', ← bigSep_sep', ← bigSep_sep', ← bigSep_sep']
  refine bigSep_mono fun w _ => ?_
  show _ ⊢ go1 m d w
  unfold go1 outs1
  iintro ⟨H5, H6, Hi, H0, H1, H2, H3, H4, H7⟩
  isplitl [H5]
  · iexists fL; isplitr; · ipureintro; exact hL
    iexact H5
  isplitl [H6]
  · iexists gC; isplitr; · ipureintro; exact hC
    iexact H6
  isplitl [Hi]; · iexact Hi
  isplitl [H0]; · iexists o0; iexact H0
  isplitl [H1]; · iexists o1; iexact H1
  isplitl [H2]; · iexists o2; iexact H2
  isplitl [H3]; · iexists o3; iexact H3
  isplitl [H4]; · iexists o4; iexact H4
  iexists o5; iexact H7

/-- What the merge's tasks leave: the six arrays, and the six results at the chosen rows. -/
theorem call1_out (d : Dev nD) : bigSep Finset.univ (tdQ m 1 d) = iprop(ins1 m d fullShare ∗ res1 m d Finset.univ) := by
  rw [ins1_tasks, res1_tasks, ← bigSep_sep']
  rfl

end Cand

end
-- ==== Proof.Run.lean ====
/-
  The program's run: the scores laid out as a sheet, the threshold's call, the compaction's call, the merge's call, with the
  reshapes between them; from any launch memory with enough scores, the arguments are left as they were and the six
  results are the six arrays' rows at the chosen rows.
-/
module

public import proofs.«01_k».proof.Proof.Deal

@[expose] public section

noncomputable section

namespace Cand

open Cert.KernelIdeal Cert.KernelIdeal.Gen

open Idealize.ShloMosaic
open Idealize.ShloMosaic.StableHlo (held)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element -/

theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What the launch deals device `d`'s TensorCore for the threshold's call. -/
def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_one (Φ : Fin 1 → sProp 𝕄) : bigSep Finset.univ Φ = Φ 0 := bigSep_univ_of_subsingleton 0

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (show BI.own (((Emb.inl : Emb UP (UP × Counters)).trans (embR : Emb (UP × Counters) 𝕄)) _) ⊢ (BI.own (EP (F := F) _) : sProp 𝕄) from .rfl) $$ HP
  imod (Pipeline.fund_ghost (Pipeline.pin (pcfgs (F := F)) adm) EP pin_inj) $$ HP with ⟨Hc, Ht⟩
  imodintro
  isplitl [HH]; · iexact HH
  isplitl [Hc Ht]
  · unfold G
    rw [bigSep_sep']
    isplitl [Hc]
    · iapply (Entails.of_eq (bigSep_congr fun d _ => bigSep_one (F := F) fun p => Pipeline.cellsGhost (Pipeline.pin (pcfgs (F := F)) adm) EP p d)) $$ Hc
    · iapply (Entails.of_eq (bigSep_congr fun d _ => bigSep_one (F := F) fun p => Pipeline.toksInit (Pipeline.pin (pcfgs (F := F)) adm) EP p d)) $$ Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The arrays' contents -/

abbrev r (b : Ref sig .tc) : DevRef τ sig := Proc.devRef .tc b

abbrev op1 : HloOp τ sig (Elt F) := StableHlo.reshape main_arg0 main_v0 (rfl : (.i32 : EltTy) = .i32) shapeCasts_S20480_S160x128
abbrev op2 : HloOp τ sig (Elt F) := StableHlo.reshape main_v1_0 main_v2 (rfl : (.i32 : EltTy) = .i32) shapeCasts_S1x16_S16
abbrev op3 : HloOp τ sig (Elt F) := StableHlo.reshape main_v1_1 main_v3 (rfl : (.i32 : EltTy) = .i32) shapeCasts_S160x1_S160
abbrev op4 : HloOp τ sig (Elt F) := StableHlo.reshape main_v4_0 main_v5 (rfl : (.i32 : EltTy) = .i32) shapeCasts_S32x656_S20992
abbrev op5 : HloOp τ sig (Elt F) := StableHlo.reshape main_v4_1 main_v6 (rfl : (.i32 : EltTy) = .i32) shapeCasts_S32x16_S512

/-- The launch's contents, then after each step up to the compaction's call. -/
def V0 (d : Dev nD) : Valuation τ sig (Elt F) := fun b => m (d, b)
def V1 (d : Dev nD) : Valuation τ sig (Elt F) := (op1 (F := F)).result (V0 m d)
def V2 (d : Dev nD) : Valuation τ sig (Elt F) :=
  Function.update (Function.update (V1 m d) (r main_v1_0) (k0_pay4 (F := F) (V1 m d (r main_v0)) (tword (F := F) (V1 m d (r main_v0))) : S1x16.Idx → BitVec 32))
    (r main_v1_1) (k0_pay3 (F := F) (V1 m d (r main_v0)) (tword (F := F) (V1 m d (r main_v0))) : S160x1.Idx → BitVec 32)
def V3 (d : Dev nD) : Valuation τ sig (Elt F) := (op2 (F := F)).result (V2 m d)
def V4 (d : Dev nD) : Valuation τ sig (Elt F) := (op3 (F := F)).result (V3 m d)

theorem r_ne {a b : Ref sig .tc} (h : a ≠ b) : r a ≠ r b := fun e => h (Proc.devRef_injective _ e)

theorem V1_v0 (d : Dev nD) : V1 m d (r main_v0) = shapeCast S160x128 (m (aLoc main_arg0 d) : S20480.Idx → BitVec 32) shapeCasts_S20480_S160x128 :=
  StableHlo.reshape_result main_arg0 main_v0 (rfl : (.i32 : EltTy) = .i32) shapeCasts_S20480_S160x128 _ _ (V0 m d)

theorem V2_v0 (d : Dev nD) : V2 m d (r main_v0) = V1 m d (r main_v0) := by
  unfold V2
  rw [Function.update_of_ne (r_ne (by decide)), Function.update_of_ne (r_ne (by decide))]
theorem V2_v1_0 (d : Dev nD) : V2 m d (r main_v1_0)
    = (k0_pay4 (F := F) (V1 m d (r main_v0)) (tword (F := F) (V1 m d (r main_v0))) : S1x16.Idx → BitVec 32) := by
  unfold V2
  rw [Function.update_of_ne (r_ne (by decide)), Function.update_self]
theorem V2_v1_1 (d : Dev nD) : V2 m d (r main_v1_1)
    = (k0_pay3 (F := F) (V1 m d (r main_v0)) (tword (F := F) (V1 m d (r main_v0))) : S160x1.Idx → BitVec 32) := by
  unfold V2
  rw [Function.update_self]
theorem V2_other (d : Dev nD) (b : DevRef τ sig) (h0 : b ≠ r main_v1_0) (h1 : b ≠ r main_v1_1) : V2 m d b = V1 m d b := by
  unfold V2
  rw [Function.update_of_ne h1, Function.update_of_ne h0]

theorem V4_other (d : Dev nD) (b : Ref sig .tc) (h : b ≠ main_v0 ∧ b ≠ main_v1_0 ∧ b ≠ main_v1_1 ∧ b ≠ main_v2 ∧ b ≠ main_v3) :
    V4 m d (r b) = m (aLoc b d) :=
  (StableHlo.reshape_result_ne main_v1_1 main_v3 _ _ _ _ (V3 m d) h.2.2.2.2).trans
    ((StableHlo.reshape_result_ne main_v1_0 main_v2 _ _ _ _ (V2 m d) h.2.2.2.1).trans
      ((V2_other m d _ (r_ne h.2.1) (r_ne h.2.2.1)).trans (StableHlo.reshape_result_ne main_arg0 main_v0 _ _ _ _ (V0 m d) h.1)))

theorem V4_v2 (d : Dev nD) : V4 m d (r main_v2)
    = shapeCast S16 (k0_pay4 (F := F) (V1 m d (r main_v0)) (tword (F := F) (V1 m d (r main_v0)))) shapeCasts_S1x16_S16 :=
  (StableHlo.reshape_result_ne main_v1_1 main_v3 _ _ _ _ (V3 m d) (by decide)).trans
    ((StableHlo.reshape_result main_v1_0 main_v2 (rfl : (.i32 : EltTy) = .i32) shapeCasts_S1x16_S16 _ _ (V2 m d)).trans
      (congrArg (fun x : S1x16.Idx → BitVec 32 => shapeCast S16 x shapeCasts_S1x16_S16) (V2_v1_0 m d)))

theorem V4_v3 (d : Dev nD) : V4 m d (r main_v3)
    = shapeCast S160 (k0_pay3 (F := F) (V1 m d (r main_v0)) (tword (F := F) (V1 m d (r main_v0)))) shapeCasts_S160x1_S160 :=
  (StableHlo.reshape_result main_v1_1 main_v3 (rfl : (.i32 : EltTy) = .i32) shapeCasts_S160x1_S160 _ _ (V3 m d)).trans
    (congrArg (fun x : S160x1.Idx → BitVec 32 => shapeCast S160 x shapeCasts_S160x1_S160)
      ((StableHlo.reshape_result_ne main_v1_0 main_v2 _ _ _ _ (V2 m d) (by decide)).trans (V2_v1_1 m d)))

variable {m} in
theorem info_ok (hE : AllEnough m) (d : Dev nD) : TInfo (X m d) (th m d) (V4 m d (r main_v2)) := by
  rw [V4_v2, V1_v0]
  exact tinfo_of (sheet_of _) (right_of hE d).1
theorem rows_ok (d : Dev nD) : Rows (X m d) (th m d) (V4 m d (r main_v3)) := by
  rw [V4_v3, V1_v0]
  exact rows_of (sheet_of _)

/-! ## The arrays the calls take -/

/-- The arrays the rest of the program reads or writes. -/
abbrev TL : List (Ref sig .tc) :=
  [main_arg0, main_arg1, main_arg2, main_arg3, main_arg4, main_arg5, main_arg6, main_v2, main_v3, main_v4_0, main_v4_1,
    main_v5, main_v6, main_v7_0, main_v7_1, main_v7_2, main_v7_3, main_v7_4, main_v7_5]

theorem held_list (d : Dev nD) (W : Valuation τ sig (Elt F)) : ∀ l : List (Ref sig .tc), l.Nodup →
    (held (T d) (l.map r).toFinset W : sProp 𝕄) = l.foldr (fun b R => iprop((aLoc b d ↦{fullShare} W (r b)) ∗ R)) iprop(emp)
  | [], _ => rfl
  | a :: l, h => by
    have ha : r a ∉ (l.map r).toFinset := by
      rw [List.mem_toFinset, List.mem_map]
      rintro ⟨b, hb, e⟩
      exact (List.nodup_cons.mp h).1 (Proc.devRef_injective _ e ▸ hb)
    rw [List.map_cons, List.toFinset_cons]
    unfold StableHlo.held
    rw [SparseCore.bigSep_insert' ha]
    exact congrArg (fun R : sProp 𝕄 => iprop((aLoc a d ↦{fullShare} W (r a)) ∗ R)) (held_list d W l (List.nodup_cons.mp h).2)

def TT : Finset (DevRef τ sig) := (TL.map r).toFinset

theorem held_TT (d : Dev nD) (W : Valuation τ sig (Elt F)) :
    (held (T d) TT W : sProp 𝕄) = iprop((aLoc main_arg0 d ↦{fullShare} W (r main_arg0)) ∗ (aLoc main_arg1 d ↦{fullShare} W (r main_arg1))
      ∗ (aLoc main_arg2 d ↦{fullShare} W (r main_arg2)) ∗ (aLoc main_arg3 d ↦{fullShare} W (r main_arg3))
      ∗ (aLoc main_arg4 d ↦{fullShare} W (r main_arg4)) ∗ (aLoc main_arg5 d ↦{fullShare} W (r main_arg5))
      ∗ (aLoc main_arg6 d ↦{fullShare} W (r main_arg6)) ∗ (aLoc main_v2 d ↦{fullShare} W (r main_v2)) ∗ (aLoc main_v3 d ↦{fullShare} W (r main_v3))
      ∗ (aLoc main_v4_0 d ↦{fullShare} W (r main_v4_0)) ∗ (aLoc main_v4_1 d ↦{fullShare} W (r main_v4_1))
      ∗ (aLoc main_v5 d ↦{fullShare} W (r main_v5)) ∗ (aLoc main_v6 d ↦{fullShare} W (r main_v6))
      ∗ (aLoc main_v7_0 d ↦{fullShare} W (r main_v7_0)) ∗ (aLoc main_v7_1 d ↦{fullShare} W (r main_v7_1))
      ∗ (aLoc main_v7_2 d ↦{fullShare} W (r main_v7_2)) ∗ (aLoc main_v7_3 d ↦{fullShare} W (r main_v7_3))
      ∗ (aLoc main_v7_4 d ↦{fullShare} W (r main_v7_4)) ∗ (aLoc main_v7_5 d ↦{fullShare} W (r main_v7_5)) ∗ emp) :=
  held_list d W TL (by decide)

theorem held_two (d : Dev nD) (a b : Ref sig .tc) (h : a ≠ b) (W : Valuation τ sig (Elt F)) :
    (held (T d) {r a, r b} W : sProp 𝕄) = iprop((aLoc a d ↦{fullShare} W (r a)) ∗ (aLoc b d ↦{fullShare} W (r b))) := by
  unfold StableHlo.held
  rw [SparseCore.bigSep_insert' (by simpa using r_ne h), bigSep_singleton]

theorem TT_sub : TT ⊆ Pipeline.ucRefs τ sig := fun b hb => by
  obtain ⟨a, ha, rfl⟩ := List.mem_map.mp (List.mem_toFinset.mp hb)
  have h : ∀ a ∈ TL, a.isScoped = false := by decide
  exact Finset.mem_filter.mpr ⟨StableHlo.devRef_mem_tcRefs _, fun h' => Bool.false_ne_true ((h a ha).symm.trans h')⟩

theorem arr_sub : Pipeline.arrRefs spec0 ⊆ Pipeline.ucRefs τ sig := Pipeline.arrRefs_sub_ucRefs _ (by decide)
theorem v1_0_mem : r main_v1_0 ∈ Pipeline.arrRefs spec0 := by decide
theorem v1_1_mem : r main_v1_1 ∈ Pipeline.arrRefs spec0 := by decide

/-- What the program leaves: the seven arguments, and the six results at the chosen rows. -/
def FIN (d : Dev nD) : sProp 𝕄 := iprop((aLoc main_arg0 d ↦{fullShare} m (aLoc main_arg0 d)) ∗ ins1 m d fullShare ∗ res1 m d Finset.univ)

variable {m} in
/-- What the rest of the program needs of the arrays after the second reshape. -/
theorem held_V4 (d : Dev nD) : (held (T d) (Pipeline.ucRefs τ sig) (V4 m d) : sProp 𝕄) ⊢
    iprop((aLoc main_arg0 d ↦{fullShare} m (aLoc main_arg0 d)) ∗ ins1 m d fullShare
      ∗ (aLoc main_v2 d ↦{fullShare} V4 m d (r main_v2)) ∗ (aLoc main_v3 d ↦{fullShare} V4 m d (r main_v3))
      ∗ (aLoc main_v4_0 d ↦{fullShare} V0 m d (r main_v4_0)) ∗ (aLoc main_v4_1 d ↦{fullShare} V0 m d (r main_v4_1))
      ∗ (aLoc main_v5 d ↦{fullShare} V0 m d (r main_v5)) ∗ (aLoc main_v6 d ↦{fullShare} V0 m d (r main_v6))
      ∗ (aLoc main_v7_0 d ↦{fullShare} m (aLoc main_v7_0 d)) ∗ (aLoc main_v7_1 d ↦{fullShare} m (aLoc main_v7_1 d))
      ∗ (aLoc main_v7_2 d ↦{fullShare} m (aLoc main_v7_2 d)) ∗ (aLoc main_v7_3 d ↦{fullShare} m (aLoc main_v7_3 d))
      ∗ (aLoc main_v7_4 d ↦{fullShare} m (aLoc main_v7_4 d)) ∗ (aLoc main_v7_5 d ↦{fullShare} m (aLoc main_v7_5 d))) := by
  rw [StableHlo.held_sub_split _ TT_sub, held_TT, V4_other m d main_arg0 (by decide), V4_other m d main_arg1 (by decide), V4_other m d main_arg2 (by decide),
    V4_other m d main_arg3 (by decide), V4_other m d main_arg4 (by decide), V4_other m d main_arg5 (by decide), V4_other m d main_arg6 (by decide),
    V4_other m d main_v4_0 (by decide), V4_other m d main_v4_1 (by decide), V4_other m d main_v5 (by decide), V4_other m d main_v6 (by decide),
    V4_other m d main_v7_0 (by decide), V4_other m d main_v7_1 (by decide), V4_other m d main_v7_2 (by decide), V4_other m d main_v7_3 (by decide),
    V4_other m d main_v7_4 (by decide), V4_other m d main_v7_5 (by decide)]
  unfold ins1
  iintro ⟨⟨H0, H1, H2, H3, H4, H5, H6, Hv2, Hv3, Hp, Hc, Hv5, Hv6, Ho0, Ho1, Ho2, Ho3, Ho4, Ho5, -⟩, -⟩
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hv2]; · iexact Hv2
  isplitl [Hv3]; · iexact Hv3
  isplitl [Hp]; · iexact Hp
  isplitl [Hc]; · iexact Hc
  isplitl [Hv5]; · iexact Hv5
  isplitl [Hv6]; · iexact Hv6
  isplitl [Ho0]; · iexact Ho0
  isplitl [Ho1]; · iexact Ho1
  isplitl [Ho2]; · iexact Ho2
  isplitl [Ho3]; · iexact Ho3
  isplitl [Ho4]; · iexact Ho4
  iexact Ho5

variable {m} in
/-- The threshold's call within all the arrays. -/
theorem region_out (d : Dev nD) : iprop((held (T d) (Pipeline.arrRefs spec0) (V2 m d) : sProp 𝕄) ∗ held (T d) (Pipeline.ucRefs τ sig \ Pipeline.arrRefs spec0) (V1 m d))
    ⊢ held (T d) (Pipeline.ucRefs τ sig) (V2 m d) := by
  rw [StableHlo.held_sub_split _ arr_sub (V2 m d), StableHlo.held_congr (V := V1 m d) (V' := V2 m d)]
  intro b hb
  exact (V2_other m d b (fun e => (Finset.mem_sdiff.mp hb).2 (e ▸ v1_0_mem)) (fun e => (Finset.mem_sdiff.mp hb).2 (e ▸ v1_1_mem))).symm

/-- One array read in another's shape, over the two alone. -/
theorem two_result (d : Dev nD) {a b : Ref sig .tc} (h : a ≠ b) (op : HloOp τ sig (Elt F)) (W : Valuation τ sig (Elt F)) :
    (held (T d) {r a, r b} (op.result W) : sProp 𝕄) ⊢ aLoc b d ↦{fullShare} op.result W (r b) := by
  rw [held_two d a b h]
  exact sep_elim_right

/-- What the merge's call finds in the lists and in the counts. -/
def V5 (d : Dev nD) (f : Buf (Elt F) (aLoc main_v4_0 d)) : Valuation τ sig (Elt F) := Function.update (V0 m d) (r main_v4_0) f
def V6 (d : Dev nD) : Valuation τ sig (Elt F) :=
  Function.update (V0 m d) (r main_v4_1) (cnt (X m d) (th m d) : S32x16.Idx → BitVec 32)

variable {m} in
theorem lists_ok (d : Dev nD) {f : Buf (Elt F) (aLoc main_v4_0 d)} (hf : ∀ w, PartOK (X m d) (th m d) w f) :
    Lists (X m d) (th m d) ((op4 (F := F)).result (V5 m d f) (r main_v5)) := by
  refine (congrArg (Lists (X m d) (th m d)) ((StableHlo.reshape_result main_v4_0 main_v5 (rfl : (.i32 : EltTy) = .i32) shapeCasts_S32x656_S20992 _ _ (V5 m d f)).trans
    (congrArg (fun x : S32x656.Idx → BitVec 32 => shapeCast S20992 x shapeCasts_S32x656_S20992) (Function.update_self _ _ _)))).mpr (lists_of hf)

theorem counts_ok (d : Dev nD) : Counts (X m d) (th m d) ((op5 (F := F)).result (V6 m d) (r main_v6)) := by
  refine (congrArg (Counts (X m d) (th m d)) ((StableHlo.reshape_result main_v4_1 main_v6 (rfl : (.i32 : EltTy) = .i32) shapeCasts_S32x16_S512 _ _ (V6 m d)).trans
    (congrArg (fun x : S32x16.Idx → BitVec 32 => shapeCast S512 x shapeCasts_S32x16_S512) (Function.update_self _ _ _)))).mpr counts_of

theorem obufs1 : (op1 (F := F)).bufs ⊆ Pipeline.ucRefs τ sig := Pipeline.sub_ucRefs _ (StableHlo.reshape_bufs_sub ..)
theorem obufs2 : (op2 (F := F)).bufs ⊆ Pipeline.ucRefs τ sig := Pipeline.sub_ucRefs _ (StableHlo.reshape_bufs_sub ..)
theorem obufs3 : (op3 (F := F)).bufs ⊆ Pipeline.ucRefs τ sig := Pipeline.sub_ucRefs _ (StableHlo.reshape_bufs_sub ..)
theorem obufs4 : (op4 (F := F)).bufs ⊆ {r main_v4_0, r main_v5} := Finset.Subset.refl _
theorem obufs5 : (op5 (F := F)).bufs ⊆ {r main_v4_1, r main_v6} := Finset.Subset.refl _

theorem V0_v5 (d : Dev nD) (f : Buf (Elt F) (aLoc main_v4_0 d)) : V5 m d f (r main_v5) = V0 m d (r main_v5) :=
  Function.update_of_ne (r_ne (by decide)) _ _
theorem V5_self (d : Dev nD) (f : Buf (Elt F) (aLoc main_v4_0 d)) : V5 m d f (r main_v4_0) = f := Function.update_self _ _ _
theorem V0_v6 (d : Dev nD) : V6 m d (r main_v6) = V0 m d (r main_v6) := Function.update_of_ne (r_ne (by decide)) _ _
theorem V6_self (d : Dev nD) : V6 m d (r main_v4_1) = (cnt (X m d) (th m d) : S32x16.Idx → BitVec 32) := Function.update_self _ _ _

/-- The handshakes' state of the TensorCore before the first call: what it owes, and the rest. -/
theorem tcSt_zero (d : Dev nD) : ∃ R : sProp 𝕄, (K (F := F)).tcSt EH d 0
    = iprop((∃ W, ⌜(K (F := F)).WBelow (T d) W 0⌝ ∗ owes (T d) ((K (F := F)).Otc d 0) W) ∗ R) := ⟨_, rfl⟩

variable [∀ e, Nonempty (Elt F e)]

set_option maxHeartbeats 1000000 in
/-- The program on a device's TensorCore. -/
theorem hmain (hE : AllEnough m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R, hR⟩ := tcSt_zero (F := F) d
  unfold SparseCore.Cfg.tcRes SparseCore.Cfg.tcEnd G
  rw [show (unscopedBufs d (fun b => m ((SparseCore.T d).loc b)) : sProp 𝕄) = held (T d) (Pipeline.ucRefs τ sig) (V0 m d) from
    Pipeline.unscopedBufs_held d (V0 m d)]
  simp only [main, wp_bind, wp_pure]
  iintro ⟨#Hctx, Hst, ⟨Hb, Hheld, Hts, -⟩, Hg, Ht⟩
  -- the scores as a sheet
  iapply (StableHlo.wp_hlo_within 𝒱 (SparseCore.T d) none Set.univ (op := op1) (S := Pipeline.ucRefs τ sig) obufs1 (V := V0 m d)) $$ [Hb Hheld]
  · isplitl [Hb] <;> iassumption
  iintro ⟨Hb, Hheld⟩
  rw [wp_ret]; imodintro
  ihave Hheld := (show held (T d) (Pipeline.ucRefs τ sig) ((op1 (F := F)).result (V0 m d)) ⊢ (held (T d) (Pipeline.ucRefs τ sig) (V1 m d) : sProp 𝕄) from .rfl) $$ Hheld
  -- the threshold's call
  ihave Hh := (Entails.of_eq (StableHlo.held_sub_split (SparseCore.T d) arr_sub (V1 m d))) $$ Hheld
  icases Hh with ⟨Ha, Hrest⟩
  ihave Hst' := (Entails.of_eq hR) $$ Hst
  icases Hst' with ⟨HO, Hst⟩
  ihave Hlev := (SparseCore.Cfg.ctx_levAts (K := K (F := F)) (EH := EH) (P := P m) κ) $$ Hctx
  iapply (thresh_step d (V1 m d) (V2 m d) (V2_v0 m d) (V2_v1_0 m d) (V2_v1_1 m d)) $$ [-]
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  ihave Hst := (Entails.of_eq hR.symm) $$ [HO Hst]
  · isplitl [HO] <;> iassumption
  ihave Hheld := (region_out (m := m) d) $$ [Ha Hrest]
  · isplitl [Ha] <;> iassumption
  -- the threshold's words and the rows' counts
  iapply (StableHlo.wp_hlo_within 𝒱 (SparseCore.T d) none Set.univ (op := op2) (S := Pipeline.ucRefs τ sig) obufs2 (V := V2 m d)) $$ [Hb Hheld]
  · isplitl [Hb] <;> iassumption
  iintro ⟨Hb, Hheld⟩
  rw [wp_ret]; imodintro
  ihave Hheld := (show held (T d) (Pipeline.ucRefs τ sig) ((op2 (F := F)).result (V2 m d)) ⊢ (held (T d) (Pipeline.ucRefs τ sig) (V3 m d) : sProp 𝕄) from .rfl) $$ Hheld
  iapply (StableHlo.wp_hlo_within 𝒱 (SparseCore.T d) none Set.univ (op := op3) (S := Pipeline.ucRefs τ sig) obufs3 (V := V3 m d)) $$ [Hb Hheld]
  · isplitl [Hb] <;> iassumption
  iintro ⟨Hb, Hheld⟩
  rw [wp_ret]; imodintro
  ihave Hheld := (show held (T d) (Pipeline.ucRefs τ sig) ((op3 (F := F)).result (V3 m d)) ⊢ (held (T d) (Pipeline.ucRefs τ sig) (V4 m d) : sProp 𝕄) from .rfl) $$ Hheld
  ihave Hh := (held_V4 (m := m) d) $$ Hheld
  icases Hh with ⟨H0, Hi, Hv2, Hv3, Hp, Hc, Hv5, Hv6, Ho⟩
  -- the compaction's call
  iapply ((K (F := F)).wp_run (D (F := F)) 𝒱 (EH := EH) (P := P m) κ d 0) $$ [-]
  isplitr; · iexact Hctx
  isplitl [Hst]; · iexact Hst
  isplitl [H0 Hv2 Hv3 Hp Hc]
  · rw [st_eq]
    iapply (call0_in (m := m) d (info_ok hE d) (rows_ok m d) (V0 m d (r main_v4_0)) (V0 m d (r main_v4_1)))
    isplitl [H0]; · iexact H0
    isplitl [Hv2]; · iexact Hv2
    isplitl [Hv3]; · iexact Hv3
    isplitl [Hp] <;> iassumption
  iintro ⟨Hst, Hdn⟩
  ihave Hdn := (Entails.of_eq (dn_eq m 0 d)) $$ Hdn
  ihave Hdn := (call0_out m d) $$ Hdn
  icases Hdn with ⟨H0, ⟨%f, %hf, Hp⟩, Hc⟩
  -- the lists and the counts, flat
  iapply (StableHlo.wp_hlo_within 𝒱 (SparseCore.T d) none Set.univ (op := op4) (S := {r main_v4_0, r main_v5}) obufs4 (V := V5 m d f)) $$ [Hb Hp Hv5]
  · isplitl [Hb]; · iexact Hb
    rw [held_two d main_v4_0 main_v5 (by decide), V0_v5, V5_self]
    isplitl [Hp] <;> iassumption
  iintro ⟨Hb, Hh⟩
  rw [wp_ret]; imodintro
  ihave Hv5 := (two_result d (a := main_v4_0) (b := main_v5) (by decide) op4 (V5 m d f)) $$ Hh
  iapply (StableHlo.wp_hlo_within 𝒱 (SparseCore.T d) none Set.univ (op := op5) (S := {r main_v4_1, r main_v6}) obufs5 (V := V6 m d)) $$ [Hb Hc Hv6]
  · isplitl [Hb]; · iexact Hb
    rw [held_two d main_v4_1 main_v6 (by decide), V0_v6, V6_self]
    isplitl [Hc] <;> iassumption
  iintro ⟨Hb, Hh⟩
  rw [wp_ret]; imodintro
  ihave Hv6 := (two_result d (a := main_v4_1) (b := main_v6) (by decide) op5 (V6 m d)) $$ Hh
  -- the merge's call
  iapply ((K (F := F)).wp_run (D (F := F)) 𝒱 (EH := EH) (P := P m) κ d 1) $$ [-]
  isplitr; · iexact Hctx
  isplitl [Hst]; · iexact Hst
  isplitl [Hv5 Hv6 Hi Ho]
  · rw [st_eq]
    iapply (call1_in m d (lists_ok d hf) (counts_ok m d) (m (aLoc main_v7_0 d)) (m (aLoc main_v7_1 d)) (m (aLoc main_v7_2 d)) (m (aLoc main_v7_3 d))
      (m (aLoc main_v7_4 d)) (m (aLoc main_v7_5 d)))
    isplitl [Hv5]; · iexact Hv5
    isplitl [Hv6]; · iexact Hv6
    isplitl [Hi]; · iexact Hi
    iexact Ho
  iintro ⟨Hst, Hdn⟩
  ihave Hdn := (Entails.of_eq (dn_eq m 1 d)) $$ Hdn
  ihave Hdn := (Entails.of_eq (call1_out m d)) $$ Hdn
  icases Hdn with ⟨Hi, Hr⟩
  imodintro
  unfold FIN
  isplitl [Hst]; · iexact Hst
  isplitl [H0 Hi Hr]
  · isplitl [H0]; · iexact H0
    isplitl [Hi] <;> iassumption
  isplitl [Hb] <;> iassumption

/-! ## The final memory -/

/-- The arguments as at the launch, the six results at the chosen rows. -/
def fq (d : Dev nD) (s : MemSt nD τ sig (Elt F)) : Prop :=
  s.mem (aLoc main_arg0 d) = m (aLoc main_arg0 d) ∧ s.mem (aLoc main_arg1 d) = m (aLoc main_arg1 d) ∧ s.mem (aLoc main_arg2 d) = m (aLoc main_arg2 d)
    ∧ s.mem (aLoc main_arg3 d) = m (aLoc main_arg3 d) ∧ s.mem (aLoc main_arg4 d) = m (aLoc main_arg4 d) ∧ s.mem (aLoc main_arg5 d) = m (aLoc main_arg5 d)
    ∧ s.mem (aLoc main_arg6 d) = m (aLoc main_arg6 d)
    ∧ s.mem (aLoc main_v7_0 d) = (outp (X m d) (th m d) (m (aLoc main_arg1 d)) : Buf (Elt F) (aLoc main_v7_0 d))
    ∧ s.mem (aLoc main_v7_1 d) = (outp (X m d) (th m d) (m (aLoc main_arg2 d)) : Buf (Elt F) (aLoc main_v7_1 d))
    ∧ s.mem (aLoc main_v7_2 d) = (outp (X m d) (th m d) (m (aLoc main_arg3 d)) : Buf (Elt F) (aLoc main_v7_2 d))
    ∧ s.mem (aLoc main_v7_3 d) = (outp (X m d) (th m d) (m (aLoc main_arg4 d)) : Buf (Elt F) (aLoc main_v7_3 d))
    ∧ s.mem (aLoc main_v7_4 d) = (outp (X m d) (th m d) (m (aLoc main_arg5 d)) : Buf (Elt F) (aLoc main_v7_4 d))
    ∧ s.mem (aLoc main_v7_5 d) = (outp (X m d) (th m d) (m (aLoc main_arg6 d)) : Buf (Elt F) (aLoc main_v7_5 d))

omit [∀ e, Nonempty (Elt F e)] in
/-- An array held is the memory's. -/
theorem agree (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨Hf, HS⟩
  icombine HS Hf gives %h
  isplitr; · ipureintro; exact funext fun i => h i (Finset.mem_univ i)
  iexact HS

theorem hfin (d : Dev nD) (s : Phys nD τ sig (Elt F)) : iprop(FIN m d ∗ SI s) ⊢ (⌜fq m d s.mem⌝ : sProp 𝕄) := by
  unfold FIN ins1 res1
  iintro ⟨⟨H0, ⟨H1, H2, H3, H4, H5, H6⟩, ⟨R0, R1, R2, R3, R4, R5⟩⟩, HS⟩
  ihave H := (agree s _ _) $$ [H0 HS]; · isplitl [H0] <;> iassumption
  icases H with ⟨%h0, HS⟩
  ihave H := (agree s _ _) $$ [H1 HS]; · isplitl [H1] <;> iassumption
  icases H with ⟨%h1, HS⟩
  ihave H := (agree s _ _) $$ [H2 HS]; · isplitl [H2] <;> iassumption
  icases H with ⟨%h2, HS⟩
  ihave H := (agree s _ _) $$ [H3 HS]; · isplitl [H3] <;> iassumption
  icases H with ⟨%h3, HS⟩
  ihave H := (agree s _ _) $$ [H4 HS]; · isplitl [H4] <;> iassumption
  icases H with ⟨%h4, HS⟩
  ihave H := (agree s _ _) $$ [H5 HS]; · isplitl [H5] <;> iassumption
  icases H with ⟨%h5, HS⟩
  ihave H := (agree s _ _) $$ [H6 HS]; · isplitl [H6] <;> iassumption
  icases H with ⟨%h6, HS⟩
  ihave H := (agree s _ _) $$ [R0 HS]; · isplitl [R0] <;> iassumption
  icases H with ⟨%k0, HS⟩
  ihave H := (agree s _ _) $$ [R1 HS]; · isplitl [R1] <;> iassumption
  icases H with ⟨%k1, HS⟩
  ihave H := (agree s _ _) $$ [R2 HS]; · isplitl [R2] <;> iassumption
  icases H with ⟨%k2, HS⟩
  ihave H := (agree s _ _) $$ [R3 HS]; · isplitl [R3] <;> iassumption
  icases H with ⟨%k3, HS⟩
  ihave H := (agree s _ _) $$ [R4 HS]; · isplitl [R4] <;> iassumption
  icases H with ⟨%k4, HS⟩
  ihave H := (agree s _ _) $$ [R5 HS]; · isplitl [R5] <;> iassumption
  icases H with ⟨%k5, HS⟩
  ipureintro
  exact ⟨h0, h1, h2, h3, h4, h5, h6, k0, k1, k2, k3, k4, k5⟩

/-! ## The run -/

def QC : PUnit × MemSt nD τ sig (Elt F) → Prop := fun z => (∀ d : Dev nD, fq m d z.2) ∧ z.2.sem = fun _ => 0

theorem run_main (hE : AllEnough m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl_0 m hE | 1 => tileObl_1 m hE)
    (fun q _ => SparseCore.Cfg.VecSplit.of_plain (vecSplit m q))
    m ρ main (G (F := F)) (FIN m) (u₀ (F := F)) (sep_elim_left.trans (hu₀ m)) (hmain m ρ hE) (fun d s => fq m d s.mem) (hfin m) (QC m)
    (fun _ h hz => ⟨h, hz⟩)

end Cand

end
-- ==== Proof.Ref.lean ====
/-
  The reference: the 1000 greatest scores' rows in order of row, then row 20000 to fill the length, and the six arrays
  read at those rows. The precondition read as a count of rows.
-/
module

public import proofs.«01_k».proof.Proof.Merge
public import proofs.«01_k».proof.Proof.ThreshWords
public import proofs.«01_k».proof.Proof.Gen.ReferenceIdeal
public import proofs.«01_k».proof.Pre_enough
public import Idealize.ShloMosaic.Lib.SortPrefix
public import Idealize.ShloMosaic.Lib.IndicatorCount
public import Idealize.ShloMosaic.Lib.StableHlo.Predicate
public import Idealize.ShloMosaic.Lib.Pipeline.Value

@[expose] public section

noncomputable section

namespace Cand

open Idealize.ShloMosaic
open Idealize.ShloMosaic.StableHlo.Predicate

/-! ## The precondition -/

theorem pre_facts : Cert.Pre_enough.Facts := ⟨by decide, by decide, by decide, by decide⟩

theorem ofFin_at1 {n : ℕ} (k : Fin n) : Shape.Idx.ofFin k = at1 k.val k.isLt := by
  funext a; match a with | 0 => rfl

/-- A sum of marks over a vector counts the marked rows. -/
theorem reduce_marks {n : ℕ} (p : IVec ⟨1, ![n]⟩ 1) (P : ℕ → Prop) [DecidablePred P]
    (hP : ∀ i (h : i < n), P i ↔ p (at1 i h) = 1#1) (hw : 1 < 32) (h : (⟨1, ![n]⟩ : Shape).ReducesTo [0] ⟨0, ![]⟩)
    (hu : 0 < (⟨0, ![]⟩ : Shape).numel) (j : (⟨0, ![]⟩ : Shape).Idx) :
    Host.reduce IntOp.addi (extui 32 p hw) (constantI ⟨0, ![]⟩ 32 0#32) h hu j = BitVec.ofNat 32 (Nat.count P n) := by
  rw [Host.reduce_eq_fold]
  refine (IndicatorCount.fold_addi_setWidth_eq_card p _).trans (congrArg _ ?_)
  rw [Nat.count_eq_card_filter_range]
  refine Finset.card_bij (fun i _ => (i 0).val) (fun i hi => ?_) (fun a _ b _ e => ?_) (fun b hb => ?_)
  · have h1 := (Finset.mem_filter.mp hi).2
    have hl : (i 0).val < n := (i 0).isLt
    refine Finset.mem_filter.mpr ⟨Finset.mem_range.mpr hl, (hP _ hl).mpr ((congrArg p (at1_eta (n := n) i)).trans h1)⟩
  · rw [← at1_eta (n := n) a, ← at1_eta (n := n) b]
    congr 1
  · obtain ⟨h1, h2⟩ := Finset.mem_filter.mp hb
    have hl := Finset.mem_range.mp h1
    refine ⟨at1 b hl, Finset.mem_filter.mpr ⟨Finset.mem_filter.mpr ⟨Finset.mem_univ _, ?_⟩, (hP b hl).mp h2⟩, rfl⟩
    funext a; exact a.elim0

theorem and_both {a b : BitVec 1} (h : IntOp.andi a b = 1#1) : a = 1#1 ∧ b = 1#1 := by
  revert a b; decide

theorem xs_at (f : (⟨1, ![20480]⟩ : Shape).Idx → BitVec 32) (i : ℕ) (h : i < 20480) : xs f i = (f (at1 i h)).toInt := by
  unfold xs; rw [dif_pos h]

theorem count_le' (P : ℕ → Prop) [DecidablePred P] : Nat.count P 20480 ≤ 20480 := Nat.count_le (p := P)

/-- The precondition says the choice has enough rows and not too many. -/
theorem enough_of_pre {F : FTy → Type} [FloatOps F] (x : IVec ⟨1, ![20480]⟩ 32) (a b c d e : FVec F ⟨1, ![20480]⟩ .f32) (g : IVec ⟨1, ![20480]⟩ 32)
    (h : @Cert.Pre_enough.fn pre_facts F _ x a b c d e g = fun _ => 1#1) : Enough (xs x) := by
  have h0 : (0 : ℕ) < (⟨0, ![]⟩ : Shape).numel := by decide
  have hh := congrFun h (Shape.Idx.first h0)
  obtain ⟨h1, h2⟩ := and_both hh
  constructor
  · have e1 := reduce_marks (n := 20480)
      (cmpi .sge x (broadcastInDim ⟨1, ![20480]⟩ ![] (pre_facts.bcast_S_S20480) (constantI ⟨0, ![]⟩ 32 0#32)))
      (Least (xs x) 0) (fun i hi => by
        show _ ↔ BitVec.ofBool (BitVec.sle 0#32 (x (at1 i hi))) = 1#1
        rw [ofBool_eq_one_iff, BitVec.sle, decide_eq_true_eq]
        unfold Least
        rw [xs_at x i hi]
        exact ⟨fun q => q.2, fun q => ⟨hi, q⟩⟩) pre_facts.natLt_1_32 pre_facts.reducesTo_S20480_S_d0 pre_facts.h_S_ (Shape.Idx.first h0)
    have h3 : IntOp.cmpi .sge (BitVec.ofNat 32 (Nat.count (Least (xs x) 0) 20480)) 1000#32 = 1#1 := by
      rw [← e1]; exact h1
    exact (sle_ofNat_iff 1000 _ (by omega) (by have := count_le' (Least (xs x) 0); omega)).mp h3
  · have e1 := reduce_marks (n := 20480)
      (cmpi .sgt x (broadcastInDim ⟨1, ![20480]⟩ ![] (pre_facts.bcast_S_S20480) (constantI ⟨0, ![]⟩ 32 1065353216#32)))
      (Above (xs x) 1065353216) (fun i hi => by
        show _ ↔ BitVec.ofBool (BitVec.slt 1065353216#32 (x (at1 i hi))) = 1#1
        rw [ofBool_eq_one_iff, BitVec.slt, decide_eq_true_eq]
        unfold Above
        rw [xs_at x i hi]
        exact ⟨fun q => q.2, fun q => ⟨hi, q⟩⟩) pre_facts.natLt_1_32 pre_facts.reducesTo_S20480_S_d0 pre_facts.h_S_ (Shape.Idx.first h0)
    have h3 : IntOp.cmpi .sle (BitVec.ofNat 32 (Nat.count (Above (xs x) 1065353216) 20480)) 1000#32 = 1#1 := by
      rw [← e1]; exact h2
    exact (sle_ofNat_iff (Nat.count (Above (xs x) 1065353216) 20480) 1000 (by have := count_le' (Above (xs x) 1065353216); omega) (by omega)).mp h3

/-! ## The order of a stable sort -/

/-- Two comparators that agree on every pair a list holds later first sort it alike. -/
theorem stableSort_later {ι : Type} (R B : ι → ι → Bool) (l : List ι) (h : l.Pairwise fun a b => R b a = B b a) :
    stableSort R l = stableSort B l := by
  induction l with
  | nil => rfl
  | cons a l ih =>
    obtain ⟨ha, hl⟩ := List.pairwise_cons.mp h
    unfold stableSort
    rw [ih hl]
    exact insertBefore_congr R B a _ fun b hb => ha b ((perm_stableSort B l).mem_iff.mp hb)

/-- Greater key first, equal keys in order of position. -/
def rankB {n : ℕ} (key : Fin n → ℤ) : Fin n → Fin n → Bool :=
  fun k k' => decide (key k' < key k) || (decide (key k = key k') && decide (k < k'))

theorem rankB_total {n : ℕ} (key : Fin n → ℤ) : StrictTotalBefore (rankB key) :=
  StrictTotalBefore.of_key_then_position (fun a b : ℤ => decide (b < a)) key (fun a => by simp)
    (fun a b c h1 h2 => by simp only [decide_eq_true_eq] at *; omega)
    (fun a b => by simp only [decide_eq_true_eq]; omega)

theorem sortedFrom_rank {n : ℕ} (key : Fin n → ℤ) :
    sortedFrom (fun a b => decide (key b < key a)) = sortedFrom (rankB key) := by
  funext k
  unfold sortedFrom
  have : sortPositions n (fun a b => decide (key b < key a)) = sortPositions n (rankB key) := by
    unfold sortPositions
    refine stableSort_later _ _ _ ((List.pairwise_lt_finRange n).imp fun {a b} hab => ?_)
    unfold rankB
    rw [decide_eq_false (show ¬ b < a from not_lt.mpr hab.le), Bool.and_false, Bool.or_false]
  rw [List.get_of_eq this]
  rfl

theorem rank_before {n : ℕ} (key : Fin n → ℤ) (i j : Fin n) (h : i < j) :
    key (sortedFrom (fun a b => decide (key b < key a)) j) < key (sortedFrom (fun a b => decide (key b < key a)) i)
      ∨ (key (sortedFrom (fun a b => decide (key b < key a)) i) = key (sortedFrom (fun a b => decide (key b < key a)) j)
        ∧ sortedFrom (fun a b => decide (key b < key a)) i < sortedFrom (fun a b => decide (key b < key a)) j) := by
  rw [sortedFrom_rank]
  have hB := rankB_total key
  have hn := sortedFrom_noInversion (rankB key) (rankB key) (fun a b h => hB.asymm a b h) (fun _ _ h => h) hB.negTrans i j h
  have hne : sortedFrom (rankB key) i ≠ sortedFrom (rankB key) j := fun e => (ne_of_lt h) (sortedFrom_injective _ e)
  rcases hB.total _ _ hne with ht | ht
  · unfold rankB at ht
    simp only [Bool.or_eq_true, Bool.and_eq_true, decide_eq_true_eq] at ht
    exact ht
  · rw [hn] at ht; exact absurd ht (by decide)

/-! ## The chosen rows -/

theorem topK_idx {n k : ℕ} (x : IVec ⟨1, ![n]⟩ 32) (h : (⟨1, ![n]⟩ : Shape).Slices (fun _ => 0) ⟨1, ![k]⟩) (i : ℕ) (hi : i < k) (hn : i < n) :
    (Host.topK ⟨1, ![k]⟩ 0 (IntOp.cmpi .sgt) x h).2 (at1 i hi)
      = BitVec.ofNat 32 (sortedFrom (fun a b : Fin n => decide ((x (at1 b.val b.isLt)).toInt < (x (at1 a.val a.isLt)).toInt)) ⟨i, hn⟩).val := by
  have hc : (fun a b : Fin n => IntOp.cmpi .sgt (x (at1 a.val a.isLt)) (x (at1 b.val b.isLt)) == 1#1)
      = fun a b : Fin n => decide ((x (at1 b.val b.isLt)).toInt < (x (at1 a.val a.isLt)).toInt) := by
    funext a b
    rw [Bool.eq_iff_iff, beq_iff_eq, decide_eq_true_eq]
    show BitVec.ofBool (BitVec.slt _ _) = 1#1 ↔ _
    rw [ofBool_eq_one_iff, BitVec.slt, decide_eq_true_eq]
  rw [← hc]
  have hj : (fun a : Fin 1 => (⟨0 + ((at1 i hi : (⟨1, ![k]⟩ : Shape).Idx) (a.cast h.1.symm)).val,
      Nat.lt_of_lt_of_le (Nat.add_lt_add_left ((at1 i hi : (⟨1, ![k]⟩ : Shape).Idx) (a.cast h.1.symm)).isLt 0) (h.2 a)⟩ : Fin ((⟨1, ![n]⟩ : Shape).size a)))
      = (at1 i hn : (⟨1, ![n]⟩ : Shape).Idx) := by
    funext a; match a with | 0 => exact Fin.ext (Nat.zero_add i)
  refine (congrArg (Host.sort2 (⟨1, ![n]⟩ : Shape) 0 (fun l r => IntOp.cmpi .sgt l.1 r.1) x
    (fun i => if hd : 0 < (⟨1, ![n]⟩ : Shape).rank then iotaInDim (⟨1, ![n]⟩ : Shape) 32 ⟨0, hd⟩ i else 0#32)).2 hj).trans ?_
  unfold Host.sort2
  rw [dif_pos (show 0 < (⟨1, ![n]⟩ : Shape).rank from Nat.one_pos)]
  have hal : ∀ q : Fin n, Shape.Idx.along (at1 i hn : (⟨1, ![n]⟩ : Shape).Idx) (0 : Fin 1) q = at1 q.val q.isLt :=
    fun q => (Shape.Idx.along_rank1 _ q).trans (ofFin_at1 q)
  have hf : (fun a b : Fin n => IntOp.cmpi .sgt (x (Shape.Idx.along (at1 i hn : (⟨1, ![n]⟩ : Shape).Idx) (0 : Fin 1) a))
      (x (Shape.Idx.along (at1 i hn : (⟨1, ![n]⟩ : Shape).Idx) (0 : Fin 1) b)) == 1#1)
      = fun a b : Fin n => IntOp.cmpi .sgt (x (at1 a.val a.isLt)) (x (at1 b.val b.isLt)) == 1#1 := by
    funext a b
    exact congrArg₂ (fun p q => IntOp.cmpi .sgt (x p) (x q) == 1#1) (hal a) (hal b)
  exact (congrArg (fun q : (⟨1, ![n]⟩ : Shape).Idx => BitVec.ofNat 32 (q (0 : Fin 1)).val) (hal _)).trans
    (congrArg (fun π => BitVec.ofNat 32 (sortedFrom π (⟨i, hn⟩ : Fin n)).val) hf)

/-- The reference's list of rows: the rows of the greatest scores, ascending. -/
theorem sorted_rows (x : IVec ⟨1, ![20480]⟩ 32) (t : ℤ) (hR : Right (xs x) t)
    (w : IVec ⟨1, ![1000]⟩ 32) (cmp : BitVec 32 → BitVec 32 → BitVec 1) (hcmp : cmp = IntOp.cmpi .slt)
    (hw : ∀ i (hi : i < 1000), w (at1 i hi) = BitVec.ofNat 32 (sortedFrom (fun a b : Fin 20480 =>
      decide ((x (at1 b.val b.isLt)).toInt < (x (at1 a.val a.isLt)).toInt)) ⟨i, by omega⟩).val)
    (i : ℕ) (hi : i < 1000) :
    Host.sort ⟨1, ![1000]⟩ 0 cmp w (at1 i hi) = BitVec.ofNat 32 (place (Sel (xs x) t) i) := by
  subst hcmp
  obtain ⟨σ, hσ⟩ : ∃ σ : Fin 20480 → Fin 20480, σ = sortedFrom (fun a b : Fin 20480 =>
      decide ((x (at1 b.val b.isLt)).toInt < (x (at1 a.val a.isLt)).toInt)) := ⟨_, rfl⟩
  have hinj : Function.Injective σ := by rw [hσ]; exact sortedFrom_injective _
  have hsur : Function.Surjective σ := by rw [hσ]; exact sortedFrom_surjective _
  have hord : ∀ a b : Fin 20480, a < b → xs x (σ b).val < xs x (σ a).val ∨ (xs x (σ a).val = xs x (σ b).val ∧ (σ a).val < (σ b).val) := by
    intro a b hab
    have := rank_before (fun a : Fin 20480 => (x (at1 a.val a.isLt)).toInt) a b hab
    rw [← hσ] at this
    rw [xs_at x _ (σ a).isLt, xs_at x _ (σ b).isLt]
    exact this
  rw [← hσ] at hw
  clear hσ
  have hg1 : ∀ k : Fin 1000, k.val < 20480 := fun k => by have := k.isLt; omega
  obtain ⟨g, hg⟩ : ∃ g : Fin 1000 → ℕ, ∀ k, g k = (σ ⟨k.val, hg1 k⟩).val := ⟨_, fun _ => rfl⟩
  have hgl : ∀ k, g k < 20480 := fun k => by rw [hg]; exact (σ _).isLt
  have hginj : Function.Injective g := fun a b e => by
    rw [hg, hg] at e
    have := hinj (Fin.ext e)
    exact Fin.ext (Fin.mk.inj this)
  have hsel : ∀ i, Sel (xs x) t i ↔ ∃ k, g k = i := hR.eq_of_first g hginj hgl (fun i hi hne k => by
    obtain ⟨j, hj⟩ := hsur ⟨i, hi⟩
    have hjv : (σ j).val = i := congrArg Fin.val hj
    have hjk : 1000 ≤ j.val := by
      by_contra hlt
      refine hne ⟨j.val, by omega⟩ ?_
      rw [hg]; exact hjv
    have hk := k.isLt
    have := hord ⟨k.val, hg1 k⟩ j (show k.val < j.val by omega)
    rw [hjv, ← hg] at this
    exact this)
  obtain ⟨τ, hτ⟩ : ∃ τ : Fin 1000 → Fin 1000, τ = sortedFrom (fun a b => IntOp.cmpi .slt (w (Shape.Idx.ofFin a)) (w (Shape.Idx.ofFin b)) == 1#1) := ⟨_, rfl⟩
  have hcmp : (fun a b : Fin 1000 => IntOp.cmpi .slt (w (Shape.Idx.ofFin a)) (w (Shape.Idx.ofFin b)) == 1#1) = fun a b => decide (g a < g b) := by
    funext a b
    rw [ofFin_at1, ofFin_at1, hw _ a.isLt, hw _ b.isLt, Bool.eq_iff_iff, beq_iff_eq, decide_eq_true_eq]
    rw [hg, hg]
    exact slt_ofNat_iff _ _ (by have := (σ ⟨a.val, hg1 a⟩).isLt; omega) (by have := (σ ⟨b.val, hg1 b⟩).isLt; omega)
  have hsort : Host.sort ⟨1, ![1000]⟩ 0 (IntOp.cmpi .slt) w (at1 i hi) = BitVec.ofNat 32 (g (τ ⟨i, hi⟩)) := by
    rw [Host.sort_rank1, ← hτ, ofFin_at1]
    have e := hw (τ ⟨i, hi⟩).val (τ ⟨i, hi⟩).isLt
    rw [hg]
    exact e
  rw [hsort]
  rw [hcmp] at hτ
  have hmono : StrictMono fun k => g (τ k) := fun a b hab => by
    have h1 := sortedFrom_noInversion (fun a b => decide (g a < g b)) (fun a b => decide (g a < g b))
      (fun a b h => by simp only [decide_eq_true_eq, decide_eq_false_iff_not] at *; omega) (fun _ _ h => h)
      (fun a b c h1 h2 => by simp only [decide_eq_false_iff_not] at *; omega) a b hab
    rw [← hτ, decide_eq_false_iff_not] at h1
    have h2 : g (τ a) ≠ g (τ b) := fun e => (ne_of_lt hab) (by
      have := hginj e; rw [hτ] at this; exact sortedFrom_injective _ this)
    show g (τ a) < g (τ b)
    omega
  have hτs : Function.Surjective τ := by rw [hτ]; exact sortedFrom_surjective _
  rw [nth_of_strictMono (Sel (xs x) t) (fun k => g (τ k)) hmono (fun i => (hsel i).trans
    ⟨fun ⟨k, hk⟩ => by obtain ⟨k', e⟩ := hτs k; exact ⟨k', by rw [e]; exact hk⟩, fun ⟨k, hk⟩ => ⟨τ k, hk⟩⟩) ⟨i, hi⟩]

section Value

open Cert.ReferenceIdeal Cert.ReferenceIdeal.Gen

/-- The reference's list of rows with the fill. -/
def rows (x : IVec S20480 32) : IVec S1024 32 :=
  concatenate S1024 0 [⟨S1000, (Host.sort S1000 0 comparator_i32_d0 ((Host.topK S1000 0 (IntOp.cmpi .sgt) x sliceFits_S20480_S1000).2))⟩,
    ⟨S24, (broadcastInDim S24 ![] bcast_S_S24 (constantI S_ 32 20000#32))⟩] concatenates_S1000_S24_S1024_d0

theorem rows_at (x : IVec S20480 32) (t : ℤ) (hR : Right (xs x) t) (s : ℕ) (hs : s < 1024) :
    rows x (at1 s hs) = BitVec.ofNat 32 (pick (xs x) t s) := by
  unfold rows pick
  by_cases h : s < 1000
  · rw [if_pos h]
    refine (concatenate_pair_apply_left (t := S1024) (s₁ := S1000) (s₂ := S24) 0 _ _ concatenates_S1000_S24_S1024_d0 (at1 s hs) rfl (at1 s h)
      (fun b => by match b with | 0 => rfl)).trans ?_
    exact sorted_rows x t hR _ _ rfl (fun i hi => topK_idx x sliceFits_S20480_S1000 i hi (by omega)) s h
  · rw [if_neg h]
    exact concatenate_pair_apply_right (t := S1024) (s₁ := S1000) (s₂ := S24) 0 _ _ concatenates_S1000_S24_S1024_d0 (at1 s hs) rfl rfl
      (at1 (s - 1000) (by omega)) (fun b hb => by match b with | 0 => exact absurd rfl hb) (by show s - 1000 + 1000 = s; omega)

/-- A list of rows below the length is kept by the wrap of negative ones. -/
theorem keep_at (v z w : IVec S1024 32) (j : S1024.Idx) (a : ℕ) (ha : a < 2 ^ 31) (hv : v j = BitVec.ofNat 32 a) (hz : z j = 0#32) :
    select (cmpi .slt v z) w v j = BitVec.ofNat 32 a := by
  show Scalar.select (IntOp.cmpi .slt (v j) (z j)) (w j) (v j) = _
  rw [hv, hz]
  have hneg : ¬ IntOp.cmpi .slt (BitVec.ofNat 32 a) 0#32 = 1#1 := fun e =>
    absurd ((slt_ofNat_iff a 0 ha (by decide)).mp e) (Nat.not_lt_zero a)
  exact if_neg hneg

theorem at1_congr {α : Type} {n : ℕ} (f : (⟨1, ![n]⟩ : Shape).Idx → α) {a b : ℕ} (e : a = b) (ha : a < n) (hb : b < n) :
    f (at1 a ha) = f (at1 b hb) := by subst e; rfl

/-- An array read at a list of rows. -/
theorem take_at {α : Type} {N n : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (h₁ : (⟨1, ![n]⟩ : Shape).BroadcastsInDim ⟨2, ![n, 1]⟩ ![0])
    (f : (⟨1, ![N]⟩ : Shape).Idx → α) (v : IVec ⟨1, ![n]⟩ 32) (j : (⟨1, ![n]⟩ : Shape).Idx) (a : ℕ) (ha : a < 2 ^ 31) (hN : 0 < N)
    (hv : v j = BitVec.ofNat 32 a) :
    Host.gather d f (broadcastInDim ⟨2, ![n, 1]⟩ ![0] h₁ v) j = f (at1 (min a (N - 1)) (by omega)) := by
  obtain ⟨p, rfl⟩ : ∃ p : Fin n, Shape.Idx.ofFin p = j := ⟨j 0, (Shape.Idx.eq_ofFin (n := n) j).symm⟩
  have hi : (broadcastInDim ⟨2, ![n, 1]⟩ ![0] h₁ v) (ixP p) = BitVec.ofNat 32 a :=
    (bcast_col1 (n := n) h₁ v p).trans hv
  have hval : (broadcastInDim ⟨2, ![n, 1]⟩ ![0] h₁ v (ixP p)).toInt.toNat = a := by
    rw [hi, toInt_ofNat_small _ ha]; rfl
  rw [gather_take d hcoll hob hsim hivd f _ p hN, ofFin_at1]
  exact at1_congr f (congrArg (fun q => min q (N - 1)) hval) _ _

/-- One result of the reference: an array at the rows. -/
theorem ref_out {α : Type} (x : IVec S20480 32) (t : ℤ) (hR : Right (xs x) t) (f : S20480.Idx → α) :
    Host.gather gather_S20480_S1024x1_S1024_n_0_n_n_0_1_1 f (broadcastInDim S1024x1 ![0] bcast_S1024_S1024x1_0
      (select (cmpi .slt (rows x) (broadcastInDim S1024 ![] bcast_S_S1024 (constantI S_ 32 0#32)))
        (addi (rows x) (broadcastInDim S1024 ![] bcast_S_S1024 (constantI S_ 32 20480#32))) (rows x))) = outp (xs x) t f := by
  funext j
  have hp : pick (xs x) t (j 0).val < 2 ^ 31 := lt_trans (pick_lt hR (j 0).val) (by norm_num)
  have hv : rows x j = BitVec.ofNat 32 (pick (xs x) t (j 0).val) :=
    (congrArg (rows x) (at1_eta (n := 1024) j)).symm.trans (rows_at x t hR (j 0).val (j 0).isLt)
  exact take_at (N := 20480) (n := 1024) gather_S20480_S1024x1_S1024_n_0_n_n_0_1_1 rfl rfl rfl rfl bcast_S1024_S1024x1_0 f _ j _ hp (by decide)
    (keep_at _ _ _ j _ hp hv rfl)

end Value

end Cand

end
-- ==== Proof.Sup.lean ====
/-
  The suppression kernel's body as a run of one function of what the six staged arrays hold, and the call among @main's
  operations: every memory the program ends in, its arguments as launched, its counters at zero.
-/
module

public import proofs.«01_k».proof.Proof.Gen.SuppressIdeal.Frame
public import Idealize.ShloMosaic.Lib.Claim
public import Idealize.ShloMosaic.Lib.Pipeline.Value
public import Idealize.ShloMosaic.Lib.Pipeline.ValueKit.Geometry

@[expose] public section

set_option maxRecDepth 16384

noncomputable section

namespace Nms

open Cert.SuppressIdeal Cert.SuppressIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One trip -/

/-- The candidates' numbers, 128 to a row. -/
def pos : IVec S8x128 32 :=
  addi (muli (iota .tc S8x128 32 [0] iota_S8x128_d0_w32) (broadcast S8x128 128#32)) (iota .tc S8x128 32 [1] iota_S8x128_d1_w32)

def zero : F .f32 := Scalar.ofBits .f32 0x00000000#32
def low : F .f32 := Scalar.ofBits .f32 0xCE6E6B28#32

/-- The highest of the scores. -/
def top (s : FVec F S8x128 .f32) : F .f32 :=
  extractAt ![0, 0, 0] (shapeCast S1x1x1 (multiReduction .maximumf [1, 2] S1 (shapeCast S1x8x128 s shapeCasts_S8x128_S1x8x128) 0xFF800000#32
    reduces_S1x8x128_S1 (.inl rfl) rfl) shapeCasts_S1_S1x1x1) inpos_S1x1x1_p0_0_0

def least (v : IVec S8x128 32) : BitVec 32 :=
  extractAt ![0, 0, 0] (shapeCast S1x1x1 (multiReductionI .minsi [1, 2] S1 (shapeCast S1x8x128 v shapeCasts_S8x128_S1x8x128) 2147483647#32
    reduces_S1x8x128_S1 rfl) shapeCasts_S1_S1x1x1) inpos_S1x1x1_p0_0_0

def total (v : FVec F S8x128 .f32) : F .f32 :=
  extractAt ![0, 0, 0] (shapeCast S1x1x1 (multiReduction .add [1, 2] S1 (shapeCast S1x8x128 v shapeCasts_S8x128_S1x8x128) 0x00000000#32
    reduces_S1x8x128_S1 (.inl rfl) rfl) shapeCasts_S1_S1x1x1) inpos_S1x1x1_p0_0_0

/-- The first candidate of the highest score. -/
def firstTop (s : FVec F S8x128 .f32) : BitVec 32 :=
  least (select (cmpf .oeq s (broadcast S8x128 (top s))) pos (broadcast S8x128 1073741824#32))

/-- The candidate a trip takes: the first of the highest score while a score is above the mark, the first trip's after. -/
def taken (s : FVec F S8x128 .f32) (i0 : BitVec 32) : BitVec 32 :=
  Scalar.select (Scalar.cmpf .ogt (top s) low) (firstTop s) i0

/-- What an array holds of candidate `i`. -/
def pick (i : BitVec 32) (x : FVec F S8x128 .f32) : F .f32 :=
  total (select (cmpi .eq pos (broadcast S8x128 i)) x (broadcast S8x128 zero))

/-- The boxes' areas. -/
def areas (x1 y1 x2 y2 : FVec F S8x128 .f32) : FVec F S8x128 .f32 :=
  mulf (maximumf (subf x2 x1) (broadcast S8x128 zero)) (maximumf (subf y2 y1) (broadcast S8x128 zero))

/-- The areas shared with one box. -/
def shared (x1 y1 x2 y2 : FVec F S8x128 .f32) (a b c d : F .f32) : FVec F S8x128 .f32 :=
  mulf (maximumf (subf (minimumf (broadcast S8x128 c) x2) (maximumf (broadcast S8x128 a) x1)) (broadcast S8x128 zero))
    (maximumf (subf (minimumf (broadcast S8x128 d) y2) (maximumf (broadcast S8x128 b) y1)) (broadcast S8x128 zero))

/-- The scores after one box's overlaps have dropped. -/
def dropped (x1 y1 x2 y2 s : FVec F S8x128 .f32) (a b c d : F .f32) : FVec F S8x128 .f32 :=
  select (cmpf .ogt (divf (shared x1 y1 x2 y2 a b c d)
      (addf (subf (addf (broadcast S8x128 (Scalar.mulf (Scalar.maximumf (Scalar.subf c a) zero) (Scalar.maximumf (Scalar.subf d b) zero)))
        (areas x1 y1 x2 y2)) (shared x1 y1 x2 y2 a b c d)) (broadcast S8x128 (Scalar.ofBits .f32 0x3089705F#32))))
    (broadcast S8x128 (Scalar.ofBits .f32 0x3F000000#32))) (broadcast S8x128 low) s

def col : IVec S100x8 32 := iota .tc S100x8 32 [1] iota_S100x8_d1_w32

/-- The row a trip writes, in every row. -/
def line (a b c d m l : F .f32) : FVec F S100x8 .f32 :=
  select (cmpi .eq col (broadcast S100x8 0#32)) (broadcast S100x8 a)
    (select (cmpi .eq col (broadcast S100x8 1#32)) (broadcast S100x8 b)
      (select (cmpi .eq col (broadcast S100x8 2#32)) (broadcast S100x8 c)
        (select (cmpi .eq col (broadcast S100x8 3#32)) (broadcast S100x8 d)
          (select (cmpi .eq col (broadcast S100x8 4#32)) (broadcast S100x8 m)
            (select (cmpi .eq col (broadcast S100x8 5#32)) (broadcast S100x8 l) (broadcast S100x8 zero))))))

/-- One trip: the scores, the first trip's candidate and the rows written so far. -/
def trip (x1 y1 x2 y2 l : FVec F S8x128 .f32) (k : Fin k0_t1_loop.trips) (a : FVec F S8x128 .f32 × BitVec 32 × FVec F S100x8 .f32) :
    FVec F S8x128 .f32 × BitVec 32 × FVec F S100x8 .f32 :=
  let i := taken a.1 a.2.1
  (dropped x1 y1 x2 y2 a.1 (pick i x1) (pick i y1) (pick i x2) (pick i y2),
   Scalar.select (Scalar.cmpi .eq (Scf.iv 0#32 1#32 k) 0#32) i a.2.1,
   select (cmpi .eq (iota .tc S100x8 32 [0] iota_S100x8_d0_w32) (broadcast S100x8 (Scf.iv 0#32 1#32 k)))
     (line (pick i x1) (pick i y1) (pick i x2) (pick i y2) (top a.1) (pick i l)) a.2.2)

/-- The array the kernel makes. -/
def made (x1 y1 x2 y2 s l : FVec F S8x128 .f32) : FVec F S100x8 .f32 :=
  (Scf.fold (n := k0_t1_loop.trips) (fun k a => trip x1 y1 x2 y2 l k a) (s, 0#32, broadcast S100x8 zero)).2.2

theorem body_eq (arg0 : Memref sig .tc .vmem S8x128 .f32) (h0 : arg0.IsWhole) (arg1 : Memref sig .tc .vmem S8x128 .f32) (h1 : arg1.IsWhole) (arg2 : Memref sig .tc .vmem S8x128 .f32) (h2 : arg2.IsWhole) (arg3 : Memref sig .tc .vmem S8x128 .f32) (h3 : arg3.IsWhole) (arg4 : Memref sig .tc .vmem S8x128 .f32) (h4 : arg4.IsWhole) (arg5 : Memref sig .tc .vmem S8x128 .f32) (h5 : arg5.IsWhole) (arg6 : Memref sig .tc .vmem S100x8 .f32) (h6 : arg6.IsWhole) :
    cc0__nms_body (F := F) arg0 h0 arg1 h1 arg2 h2 arg3 h3 arg4 h4 arg5 h5 arg6 h6 = (do
      let v0 : Vec F S8x128 .f32 ← Prog.lift (.load arg0 (Rect.unit (s := S8x128) ![0, 0] S8x128.size inb_S8x128_S8x128_0_0).toLoadRect (View.loadsAt_vmem h_S8x128))
      let v2 : Vec F S8x128 .f32 ← Prog.lift (.load arg1 (Rect.unit (s := S8x128) ![0, 0] S8x128.size inb_S8x128_S8x128_0_0).toLoadRect (View.loadsAt_vmem h_S8x128))
      let v4 : Vec F S8x128 .f32 ← Prog.lift (.load arg2 (Rect.unit (s := S8x128) ![0, 0] S8x128.size inb_S8x128_S8x128_0_0).toLoadRect (View.loadsAt_vmem h_S8x128))
      let v6 : Vec F S8x128 .f32 ← Prog.lift (.load arg3 (Rect.unit (s := S8x128) ![0, 0] S8x128.size inb_S8x128_S8x128_0_0).toLoadRect (View.loadsAt_vmem h_S8x128))
      let v8 : Vec F S8x128 .f32 ← Prog.lift (.load arg5 (Rect.unit (s := S8x128) ![0, 0] S8x128.size inb_S8x128_S8x128_0_0).toLoadRect (View.loadsAt_vmem h_S8x128))
      let v10 : Vec F S8x128 .f32 ← Prog.lift (.load arg4 (Rect.unit (s := S8x128) ![0, 0] S8x128.size inb_S8x128_S8x128_0_0).toLoadRect (View.loadsAt_vmem h_S8x128))
      let r ← Scf.Loop.for k0_t1_loop k0_t1_ok (shapeCast S8x128 v10 shapeCasts_S8x128_S8x128, 0#32, broadcast S100x8 zero) fun k a =>
        pure (trip (shapeCast S8x128 v0 shapeCasts_S8x128_S8x128) (shapeCast S8x128 v2 shapeCasts_S8x128_S8x128)
          (shapeCast S8x128 v4 shapeCasts_S8x128_S8x128) (shapeCast S8x128 v6 shapeCasts_S8x128_S8x128) (shapeCast S8x128 v8 shapeCasts_S8x128_S8x128) k a)
      let _v29 : Vec F S100x8 .f32 ← Prog.lift (.load arg6 (Rect.unit (s := S100x8) ![0, 0] S100x8.size inb_S100x8_S100x8_0_0).toLoadRect (View.loadsAt_vmem h_S100x8))
      Prog.lift (.store arg6 (Rect.unit (s := S100x8) ![0, 0] S100x8.size inb_S100x8_S100x8_0_0) r.2.2 Finset.univ (View.stores_vmem_bits_univ h_S100x8 rfl) (.inl rfl))
      pure ⟨⟩) := by
  rfl

/-! ## The body and the call -/

local notation "𝕄" => MT nD τ sig Unit (Elt F) ℕ (UR sig nD τ) ℕ

section Body
variable (c : Dev nD)

theorem sound_body (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0))
    (f4 : Buf (Elt F) ((c : Thread nD τ).loc cc0_stg4_0)) (f5 : Buf (Elt F) ((c : Thread nD τ).loc cc0_stg5_0))
    (f6 : Buf (Elt F) ((c : Thread nD τ).loc cc0_stg6_0)) (E : Set ℕ) (Q : PUnit → sProp 𝕄) :
    iprop(((c : Thread nD τ).loc cc0_stg0_0 ↦{fullShare} f0) ∗ ((c : Thread nD τ).loc cc0_stg1_0 ↦{fullShare} f1)
        ∗ ((c : Thread nD τ).loc cc0_stg2_0 ↦{fullShare} f2) ∗ ((c : Thread nD τ).loc cc0_stg3_0 ↦{fullShare} f3)
        ∗ ((c : Thread nD τ).loc cc0_stg4_0 ↦{fullShare} f4) ∗ ((c : Thread nD τ).loc cc0_stg5_0 ↦{fullShare} f5)
        ∗ ((c : Thread nD τ).loc cc0_stg6_0 ↦{fullShare} f6)
        ∗ (iprop(((c : Thread nD τ).loc cc0_stg0_0 ↦{fullShare} f0) ∗ ((c : Thread nD τ).loc cc0_stg1_0 ↦{fullShare} f1)
            ∗ ((c : Thread nD τ).loc cc0_stg2_0 ↦{fullShare} f2) ∗ ((c : Thread nD τ).loc cc0_stg3_0 ↦{fullShare} f3)
            ∗ ((c : Thread nD τ).loc cc0_stg4_0 ↦{fullShare} f4) ∗ ((c : Thread nD τ).loc cc0_stg5_0 ↦{fullShare} f5)
            ∗ ((c : Thread nD τ).loc cc0_stg6_0 ↦{fullShare} (made (F := F) f0 f1 f2 f3 f4 f5 : Buf (Elt F) ((c : Thread nD τ).loc cc0_stg6_0)))) -∗ Q ⟨⟩))
      ⊢ wp frame (wpE (defs₀ (F := F)) Variants.none c none) E
          (cc0__nms_body (F := F) (Memref.whole cc0_stg0_0) (hstage0_0 0) (Memref.whole cc0_stg1_0) (hstage0_1 0) (Memref.whole cc0_stg2_0) (hstage0_2 0)
            (Memref.whole cc0_stg3_0) (hstage0_3 0) (Memref.whole cc0_stg4_0) (hstage0_4 0) (Memref.whole cc0_stg5_0) (hstage0_5 0) (Memref.whole cc0_stg6_0) (hstage0_6 0)) Q := by
  iintro ⟨H0, H1, H2, H3, H4, H5, H6, Hk⟩
  rw [body_eq]
  ihave H0' := (Entails.of_eq (show ((c : Thread nD τ).loc cc0_stg0_0 ↦{fullShare} f0 : sProp 𝕄)
    = ((Memref.whole cc0_stg0_0).view.loc (c : Thread nD τ) ↦{fullShare} f0) from rfl)) $$ H0
  ihave H1' := (Entails.of_eq (show ((c : Thread nD τ).loc cc0_stg1_0 ↦{fullShare} f1 : sProp 𝕄)
    = ((Memref.whole cc0_stg1_0).view.loc (c : Thread nD τ) ↦{fullShare} f1) from rfl)) $$ H1
  ihave H2' := (Entails.of_eq (show ((c : Thread nD τ).loc cc0_stg2_0 ↦{fullShare} f2 : sProp 𝕄)
    = ((Memref.whole cc0_stg2_0).view.loc (c : Thread nD τ) ↦{fullShare} f2) from rfl)) $$ H2
  ihave H3' := (Entails.of_eq (show ((c : Thread nD τ).loc cc0_stg3_0 ↦{fullShare} f3 : sProp 𝕄)
    = ((Memref.whole cc0_stg3_0).view.loc (c : Thread nD τ) ↦{fullShare} f3) from rfl)) $$ H3
  ihave H4' := (Entails.of_eq (show ((c : Thread nD τ).loc cc0_stg4_0 ↦{fullShare} f4 : sProp 𝕄)
    = ((Memref.whole cc0_stg4_0).view.loc (c : Thread nD τ) ↦{fullShare} f4) from rfl)) $$ H4
  ihave H5' := (Entails.of_eq (show ((c : Thread nD τ).loc cc0_stg5_0 ↦{fullShare} f5 : sProp 𝕄)
    = ((Memref.whole cc0_stg5_0).view.loc (c : Thread nD τ) ↦{fullShare} f5) from rfl)) $$ H5
  ihave H6' := (Entails.of_eq (show ((c : Thread nD τ).loc cc0_stg6_0 ↦{fullShare} f6 : sProp 𝕄)
    = ((Memref.whole cc0_stg6_0).view.loc (c : Thread nD τ) ↦{fullShare} f6) from rfl)) $$ H6
  sl_exec
  sl_step
  iapply Hk
  have hz : (![0, 0] : Fin 2 → ℕ) = fun _ => 0 := by funext a; fin_cases a <;> rfl
  have e0 : View.readAt (Elt F) (Memref.whole cc0_stg0_0).view
      (Rect.unit ![0, 0] S8x128.size inb_S8x128_S8x128_0_0).toLoadRect f0 = f0 :=
    Memref.readAt_unit_zero (Elt F) cc0_stg0_0 hz _ f0
  have e1 : View.readAt (Elt F) (Memref.whole cc0_stg1_0).view
      (Rect.unit ![0, 0] S8x128.size inb_S8x128_S8x128_0_0).toLoadRect f1 = f1 :=
    Memref.readAt_unit_zero (Elt F) cc0_stg1_0 hz _ f1
  have e2 : View.readAt (Elt F) (Memref.whole cc0_stg2_0).view
      (Rect.unit ![0, 0] S8x128.size inb_S8x128_S8x128_0_0).toLoadRect f2 = f2 :=
    Memref.readAt_unit_zero (Elt F) cc0_stg2_0 hz _ f2
  have e3 : View.readAt (Elt F) (Memref.whole cc0_stg3_0).view
      (Rect.unit ![0, 0] S8x128.size inb_S8x128_S8x128_0_0).toLoadRect f3 = f3 :=
    Memref.readAt_unit_zero (Elt F) cc0_stg3_0 hz _ f3
  have e4 : View.readAt (Elt F) (Memref.whole cc0_stg4_0).view
      (Rect.unit ![0, 0] S8x128.size inb_S8x128_S8x128_0_0).toLoadRect f4 = f4 :=
    Memref.readAt_unit_zero (Elt F) cc0_stg4_0 hz _ f4
  have e5 : View.readAt (Elt F) (Memref.whole cc0_stg5_0).view
      (Rect.unit ![0, 0] S8x128.size inb_S8x128_S8x128_0_0).toLoadRect f5 = f5 :=
    Memref.readAt_unit_zero (Elt F) cc0_stg5_0 hz _ f5
  have er : (sound_body.sl.r c f0 f1 f2 f3 f4 f5).2.2 = made (F := F) f0 f1 f2 f3 f4 f5 := by
    unfold sound_body.sl.r made
    simp only [shapeCast_self, e0, e1, e2, e3, e4, e5]
  have e6 : ∀ w, (Memref.whole cc0_stg6_0).view.writes (Elt F) f6
      [⟨Rect.unit ![0, 0] S100x8.size inb_S100x8_S100x8_0_0, w⟩] = w := fun w =>
    Memref.write_access_unit_zero_univ (Elt F) cc0_stg6_0 hz inb_S100x8_S100x8_0_0 f6 w
  rw [e6, er]
  isplitl [H0']; · iexact H0'
  isplitl [H1']; · iexact H1'
  isplitl [H2']; · iexact H2'
  isplitl [H3']; · iexact H3'
  isplitl [H4']; · iexact H4'
  isplitl [H5']; · iexact H5'
  iexact H6'

end Body

section Run

variable (m : (ℓ : Loc nD τ sig) → Buf (Elt F) ℓ) (ρ : Dev nD → PrngReg)

/-- The array the call makes of the memory the program starts in. -/
def out (c : Dev nD) : FVec F S100x8 .f32 :=
  made (F := F) (iblk m c 0 t0_0) (iblk m c 1 t0_0) (iblk m c 2 t0_0) (iblk m c 3 t0_0) (iblk m c 4 t0_0) (iblk m c 5 t0_0)

def dats : (p : Fin 1) → (c : Dev nD) → Dat τ (Elt F) Unit ℕ (UR sig nD τ) ℕ (cfgs p) c
  | ⟨0, _⟩ => fun c =>
    { A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => iblk m c 5 t
        | ⟨6, _⟩ => out m c
      Φ := fun _ => Pipeline.ΦA spec0 c
      q := fun _ => fullShare
      owed := fun _ => 0 }

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

theorem body_obligation (c : Dev nD) : BodyObligation (dats (F := F) m 0 c) (defs₀ (F := F)) Variants.none () Set.univ := fun t => by
  obtain rfl := fin_N0 t
  rw [bigSep_W0, bigSep_W0]
  simp only [before_0, before_1, before_2, before_3, before_4, before_5]
  rw [show (dats m 0 c).Φ t0_0.castSucc = Pipeline.ΦA spec0 c from rfl, show (dats m 0 c).Φ t0_0.succ = Pipeline.ΦA spec0 c from rfl,
    show (dats m 0 c).owesAt () t0_0.succ = (dats m 0 c).owesAt () t0_0.castSucc from rfl]
  simp only [owns_whole_eq]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  iapply (sound_body c _ _ _ _ _ _ f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  isplitl [H5]; · iexists _; isplitr; swap; (· iexact H5); ipureintro; dsimp only [dats]
  iexists _; isplitr; swap; (· iexact H6); ipureintro; dsimp only [dats]; rfl

set_option backward.isDefEq.respectTransparency.types false in
set_option maxHeartbeats 800000 in
/-- Every memory the program ends in, its counters at zero. -/
theorem ends : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (ends m ρ)))
    ((θ_run defs _ _).mono (fun _ h => h.2) (ends m ρ))

end Run

end Nms

end
-- ==== Proof.SupRes.lean ====
/-
  The suppression call's two results: the first five columns of the rows the kernel writes, and the sixth as whole numbers.
-/
module

public import proofs.«01_k».proof.Proof.Sup
public import Idealize.ShloMosaic.Lib.Pipeline.FrameTail

@[expose] public section

set_option maxRecDepth 16384

noncomputable section

namespace Nms

open Cert.SuppressIdeal Cert.SuppressIdeal.Gen
open Idealize.ShloMosaic
open Idealize.ShloMosaic.TcCoe
open Idealize.SL.Sem
open Idealize.ShloMosaic.Pipeline (Dat Cfg)

variable {F : FTy → Type} [FloatOps F]
variable (m : (ℓ : Loc nD τ sig) → Buf (Elt F) ℓ) (ρ : Dev nD → PrngReg)

/-- An argument as launched. -/
abbrev arg (c : Dev nD) (b : Ref sig .tc) : Buf (Elt F) ((c : Thread nD τ).loc b) := m ((c : Thread nD τ).loc b)

/-- The rows the kernel writes, of the arguments. -/
def rows (c : Dev nD) : FVec F S100x8 .f32 :=
  made (F := F) (shapeCast S8x128 (arg m c main_arg0) shapeCasts_S1024_S8x128) (shapeCast S8x128 (arg m c main_arg1) shapeCasts_S1024_S8x128)
    (shapeCast S8x128 (arg m c main_arg2) shapeCasts_S1024_S8x128) (shapeCast S8x128 (arg m c main_arg3) shapeCasts_S1024_S8x128)
    (shapeCast S8x128 (arg m c main_arg4) shapeCasts_S1024_S8x128)
    (shapeCast S8x128 (sitofp (F := F) .f32 (show IVec S1024 32 from arg m c main_arg5)) shapeCasts_S1024_S8x128)

theorem v1_eq (c : Dev nD) : V m c main_v1 = (shapeCast S8x128 (arg m c main_arg0) shapeCasts_S1024_S8x128 : FVec F S8x128 .f32) := by
  show StableHlo.after (List.flatten [hostOps0]) _ _ = _
  simp only [List.flatten_cons, List.flatten_nil, List.append_nil]
  after_region_results
  rfl
theorem v2_eq (c : Dev nD) : V m c main_v2 = (shapeCast S8x128 (arg m c main_arg1) shapeCasts_S1024_S8x128 : FVec F S8x128 .f32) := by
  show StableHlo.after (List.flatten [hostOps0]) _ _ = _
  simp only [List.flatten_cons, List.flatten_nil, List.append_nil]
  after_region_results
  rfl
theorem v3_eq (c : Dev nD) : V m c main_v3 = (shapeCast S8x128 (arg m c main_arg2) shapeCasts_S1024_S8x128 : FVec F S8x128 .f32) := by
  show StableHlo.after (List.flatten [hostOps0]) _ _ = _
  simp only [List.flatten_cons, List.flatten_nil, List.append_nil]
  after_region_results
  rfl
theorem v4_eq (c : Dev nD) : V m c main_v4 = (shapeCast S8x128 (arg m c main_arg3) shapeCasts_S1024_S8x128 : FVec F S8x128 .f32) := by
  show StableHlo.after (List.flatten [hostOps0]) _ _ = _
  simp only [List.flatten_cons, List.flatten_nil, List.append_nil]
  after_region_results
  rfl
theorem v5_eq (c : Dev nD) : V m c main_v5 = (shapeCast S8x128 (arg m c main_arg4) shapeCasts_S1024_S8x128 : FVec F S8x128 .f32) := by
  show StableHlo.after (List.flatten [hostOps0]) _ _ = _
  simp only [List.flatten_cons, List.flatten_nil, List.append_nil]
  after_region_results
  rfl
theorem v6_eq (c : Dev nD) : V m c main_v6
    = (shapeCast S8x128 (sitofp (F := F) .f32 (show IVec S1024 32 from arg m c main_arg5)) shapeCasts_S1024_S8x128 : FVec F S8x128 .f32) := by
  show StableHlo.after (List.flatten [hostOps0]) _ _ = _
  simp only [List.flatten_cons, List.flatten_nil, List.append_nil]
  after_region_results
  rfl

theorem blk_eq (j : S8x128.Idx) (y : S8x128.Idx) (h0 : (y 0).val = 0 * 8 + 1 * (j 0).val) (h1 : (y 1).val = 0 * 128 + 1 * (j 1).val) : y = j := by
  refine funext fun a => Fin.ext ?_
  match a with
  | 0 => exact h0.trans (by omega)
  | 1 => exact h1.trans (by omega)

theorem i0_eq (c : Dev nD) : iblk m c 0 t0_0 = (V m c main_v1 : FVec F S8x128 .f32) := by
  funext j
  exact congrArg (V m c main_v1) (blk_eq j (((cfg0.win 0).rect t0_0).emb j) rfl rfl)
theorem i1_eq (c : Dev nD) : iblk m c 1 t0_0 = (V m c main_v2 : FVec F S8x128 .f32) := by
  funext j
  exact congrArg (V m c main_v2) (blk_eq j (((cfg0.win 1).rect t0_0).emb j) rfl rfl)
theorem i2_eq (c : Dev nD) : iblk m c 2 t0_0 = (V m c main_v3 : FVec F S8x128 .f32) := by
  funext j
  exact congrArg (V m c main_v3) (blk_eq j (((cfg0.win 2).rect t0_0).emb j) rfl rfl)
theorem i3_eq (c : Dev nD) : iblk m c 3 t0_0 = (V m c main_v4 : FVec F S8x128 .f32) := by
  funext j
  exact congrArg (V m c main_v4) (blk_eq j (((cfg0.win 3).rect t0_0).emb j) rfl rfl)
theorem i4_eq (c : Dev nD) : iblk m c 4 t0_0 = (V m c main_v5 : FVec F S8x128 .f32) := by
  funext j
  exact congrArg (V m c main_v5) (blk_eq j (((cfg0.win 4).rect t0_0).emb j) rfl rfl)
theorem i5_eq (c : Dev nD) : iblk m c 5 t0_0 = (V m c main_v6 : FVec F S8x128 .f32) := by
  funext j
  exact congrArg (V m c main_v6) (blk_eq j (((cfg0.win 5).rect t0_0).emb j) rfl rfl)

theorem out_rows (c : Dev nD) : out m c = rows m c := by
  unfold out rows
  rw [i0_eq, i1_eq, i2_eq, i3_eq, i4_eq, i5_eq, v1_eq, v2_eq, v3_eq, v4_eq, v5_eq, v6_eq]

set_option maxRecDepth 65536 in
theorem arr_out (c : Dev nD) : (dats m 0 c).arrAt 6 cfg0.N = (out m c : Buf (Elt F) ((c : Thread nD τ).loc main_v7)) :=
  Pipeline.Dat.arrAt_eq_of_after_last (dats m 0 c) 6 t0_0 (by decide +kernel) (out m c) fun _ => rfl

/-- The boxes and scores, and the labels, of the rows written. -/
def boxesOf (v : FVec F S100x8 .f32) : FVec F S100x5 .f32 := extractStridedSlice S100x5 ![0, 0] v slices_S100x8_S100x5_0_0
def labelsOf (v : FVec F S100x8 .f32) : IVec S100 32 :=
  fptosi 32 (shapeCast S100 (extractStridedSlice S100x1 ![0, 5] v slices_S100x8_S100x1_0_5) shapeCasts_S100x1_S100)

theorem after_v7 (c : Dev nD) (A : (w : Fin cfg0.W) → Buf (Elt F) ((spec0 w).arr.view.loc (c.tc : Thread nD τ))) :
    Pipeline.withArrays spec0 c (V0 m c) A (Proc.devRef .tc main_v7) = A 6 :=
  Pipeline.withArrays_arr spec0 launch0.win.arr_inj c (V0 m c) A 6

theorem tail_v8 (c : Dev nD) : Pipeline.afterTail₀ cfgs (dats m) 0 (V0 m) [hostOps1] c main_v8 = boxesOf (rows m c) := by
  have h : ∀ W : Valuation τ sig (Elt F), StableHlo.after (List.flatten [hostOps1]) W (Proc.devRef .tc main_v8) = boxesOf (F := F) (W (Proc.devRef .tc main_v7)) := fun W => by
    simp only [List.flatten_cons, List.flatten_nil, List.append_nil]
    after_region_results
    rfl
  exact (h _).trans (congrArg boxesOf ((after_v7 m c _).trans ((arr_out m c).trans (out_rows m c))))

theorem tail_v11 (c : Dev nD) : Pipeline.afterTail₀ cfgs (dats m) 0 (V0 m) [hostOps1] c main_v11 = labelsOf (rows m c) := by
  have h : ∀ W : Valuation τ sig (Elt F), StableHlo.after (List.flatten [hostOps1]) W (Proc.devRef .tc main_v11) = labelsOf (F := F) (W (Proc.devRef .tc main_v7)) := fun W => by
    simp only [List.flatten_cons, List.flatten_nil, List.append_nil]
    after_region_results
    rfl
  exact (h _).trans (congrArg labelsOf ((after_v7 m c _).trans ((arr_out m c).trans (out_rows m c))))

/-- The call's results and its arguments at the end. -/
theorem results : θ_run defs (onTc (τ := τ) (main (F := F))) ⟨m, fun _ => 0, ρ⟩ (fun r => ∀ c : Dev nD,
      r.2.mem ((c.tc : Thread nD τ).loc main_v8) = boxesOf (rows m c)
      ∧ r.2.mem ((c.tc : Thread nD τ).loc main_v11) = labelsOf (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1.1 c).2 main_v8 (Pipeline.mem_restRefs_of main_v8 (by decide) (by decide))).trans (tail_v8 m c),
      ((h.1.1 c).2 main_v11 (Pipeline.mem_restRefs_of main_v11 (by decide) (by decide))).trans (tail_v11 m c), h.2.1 c⟩)
    (θ_run_and (ends m ρ) (kept m ρ))

end Nms

end
-- ==== Proof.SupMath.lean ====
/-
  The suppression on the candidates as they come and on the candidates in order of score: the two take the same
  candidates, round by round. The first of the greatest elements of a list, by a stable sort and by two folds.
-/
module

public import proofs.«01_k».proof.Proof.Ref

@[expose] public section

noncomputable section

namespace Nms

open Idealize.ShloMosaic
open Idealize.ShloMosaic.StableHlo.Predicate
open Cand

/-! ## The two orders -/

/-- The first position of the greatest element. -/
def FirstTop {n : ℕ} {α : Type} [LinearOrder α] (s : Fin n → α) (i : Fin n) : Prop :=
  (∀ j, s j ≤ s i) ∧ ∀ j, s j = s i → i ≤ j

theorem FirstTop.unique {n : ℕ} {α : Type} [LinearOrder α] {s : Fin n → α} {i j : Fin n} (hi : FirstTop s i) (hj : FirstTop s j) : i = j :=
  le_antisymm (hi.2 j (le_antisymm (hi.1 j) (hj.1 i))) (hj.2 i (le_antisymm (hj.1 i) (hi.1 j)))

/-- The rounds on the candidates as they come (`sk`, `ik`) and on the candidates in the order `π` (`sr`, `ir`). -/
theorem rounds {n : ℕ} {α : Type} [LinearOrder α] (low : α) (π : Fin n → Fin n) (hπ : Function.Bijective π)
    (drop : Fin n → Fin n → α → α) (hd : ∀ i j v, drop i j v = low ∨ drop i j v = v)
    (sk sr : ℕ → Fin n → α) (ik ir : ℕ → Fin n) (z : Fin n) (hz : ∀ a, z ≤ a)
    (hsort : ∀ a b, a < b → sk 0 (π b) < sk 0 (π a) ∨ (sk 0 (π a) = sk 0 (π b) ∧ π a < π b))
    (habove : ∃ j, low < sk 0 j)
    (h0 : ∀ a, sr 0 a = sk 0 (π a))
    (hk : ∀ k j, sk (k + 1) j = drop (ik k) j (sk k j))
    (hr : ∀ k a, sr (k + 1) a = drop (π (ir k)) (π a) (sr k a))
    (hik : ∀ k, (∃ j, low < sk k j) → FirstTop (sk k) (ik k))
    (hik0 : ∀ k, ¬ (∃ j, low < sk k j) → ik k = ik 0)
    (hir : ∀ k, FirstTop (sr k) (ir k)) (k : ℕ) :
    (∀ a, sr k a = sk k (π a)) ∧ ik k = π (ir k) := by
  have hkeep : ∀ k j, sk k j = low ∨ sk k j = sk 0 j := by
    intro k
    induction k with
    | zero => intro j; exact Or.inr rfl
    | succ k ih =>
      intro j
      rw [hk]
      rcases hd (ik k) j (sk k j) with e | e
      · exact Or.inl e
      · rw [e]; exact ih j
  have hz0 : ik 0 = π z := by
    refine (hik 0 habove).unique ⟨fun j => ?_, fun j hj => ?_⟩
    · obtain ⟨a, rfl⟩ := hπ.2 j
      rcases (hz a).eq_or_lt with rfl | h
      · exact le_refl _
      · rcases hsort z a h with h1 | h1
        · exact h1.le
        · exact h1.1.ge
    · obtain ⟨a, rfl⟩ := hπ.2 j
      rcases (hz a).eq_or_lt with rfl | h
      · exact le_refl _
      · rcases hsort z a h with h1 | h1
        · exact absurd hj h1.ne
        · exact h1.2.le
  have hlow : low < sk 0 (π z) := by
    obtain ⟨j, hj⟩ := habove
    rw [← hz0]
    exact lt_of_lt_of_le hj ((hik 0 ⟨j, hj⟩).1 j)
  have hpick : ∀ k, (∀ a, sr k a = sk k (π a)) → ik k = π (ir k) := by
    intro k hs
    by_cases hm : ∃ j, low < sk k j
    · have hi := hik k hm
      obtain ⟨a, ha⟩ := hπ.2 (ik k)
      have hgt : low < sk k (ik k) := by
        obtain ⟨j, hj⟩ := hm
        exact lt_of_lt_of_le hj (hi.1 j)
      have hra : FirstTop (sr k) a := by
        refine ⟨fun b => ?_, fun b hb => ?_⟩
        · rw [hs, hs, ha]; exact hi.1 _
        · rw [hs, hs, ha] at hb
          by_contra hlt
          have hlt : b < a := not_le.mp hlt
          have hle : ik k ≤ π b := hi.2 _ hb
          have e1 : sk k (π b) = sk 0 (π b) := (hkeep k (π b)).resolve_left fun e => by
            rw [e] at hb; rw [← hb] at hgt; exact lt_irrefl _ hgt
          have e2 : sk k (ik k) = sk 0 (ik k) := (hkeep k (ik k)).resolve_left fun e => by
            rw [e] at hgt; exact lt_irrefl _ hgt
          rw [e1, e2] at hb
          rcases hsort b a hlt with h1 | h1
          · rw [ha] at h1; exact absurd hb h1.ne'
          · rw [ha] at h1; exact absurd hle (not_le.mpr h1.2)
      rw [(hir k).unique hra, ha]
    · have hle : ∀ j, sk k j ≤ low := fun j => not_lt.mp fun h => hm ⟨j, h⟩
      have hsz : sk k (π z) = low := (hkeep k (π z)).resolve_right fun e => absurd (hle (π z)) (not_le.mpr (e ▸ hlow))
      have hra : FirstTop (sr k) z := ⟨fun b => by rw [hs, hs, hsz]; exact hle _, fun b _ => hz b⟩
      rw [(hir k).unique hra, ← hz0]
      exact hik0 k hm
  have hall : ∀ k a, sr k a = sk k (π a) := by
    intro k
    induction k with
    | zero => exact h0
    | succ k ih => intro a; rw [hr, hk, hpick k ih, ih]
  exact ⟨hall k, hpick k (hall k)⟩

/-- The greatest element is the taken candidate's. -/
theorem rounds_top {n : ℕ} {α : Type} [LinearOrder α] {π : Fin n → Fin n} (hπ : Function.Bijective π) {sk sr : Fin n → α} {ik ir : Fin n}
    (hs : ∀ a, sr a = sk (π a)) (hi : ik = π ir) (hir : FirstTop sr ir) (j : Fin n) : sk j ≤ sk ik := by
  obtain ⟨a, rfl⟩ := hπ.2 j
  rw [hi, ← hs, ← hs]
  exact hir.1 a

/-! ## The stable sort, greatest first -/

def beforeB {n : ℕ} {α : Type} [LinearOrder α] (key : Fin n → α) : Fin n → Fin n → Bool :=
  fun k k' => decide (key k' < key k) || (decide (key k = key k') && decide (k < k'))

theorem beforeB_total {n : ℕ} {α : Type} [LinearOrder α] (key : Fin n → α) : StrictTotalBefore (beforeB key) :=
  StrictTotalBefore.of_key_then_position (fun a b : α => decide (b < a)) key (fun a => by simp)
    (fun a b c h1 h2 => by simp only [decide_eq_true_eq] at *; exact h2.trans h1)
    (fun a b => by simp only [decide_eq_true_eq]; exact (lt_trichotomy b a).imp id (Or.imp Eq.symm id))

theorem sortedFrom_before {n : ℕ} {α : Type} [LinearOrder α] (key : Fin n → α) :
    sortedFrom (fun a b => decide (key b < key a)) = sortedFrom (beforeB key) := by
  funext k
  unfold sortedFrom
  have : sortPositions n (fun a b => decide (key b < key a)) = sortPositions n (beforeB key) := by
    unfold sortPositions
    refine stableSort_later _ _ _ ((List.pairwise_lt_finRange n).imp fun {a b} hab => ?_)
    unfold beforeB
    rw [decide_eq_false (show ¬ b < a from not_lt.mpr hab.le), Bool.and_false, Bool.or_false]
  rw [List.get_of_eq this]
  rfl

/-- The positions by their keys, greatest first. -/
def perm {n : ℕ} {α : Type} [LinearOrder α] (key : Fin n → α) : Fin n → Fin n := sortedFrom fun a b => decide (key b < key a)

theorem perm_bijective {n : ℕ} {α : Type} [LinearOrder α] (key : Fin n → α) : Function.Bijective (perm key) :=
  Finite.injective_iff_bijective.mp (sortedFrom_injective _)

theorem perm_sorted {n : ℕ} {α : Type} [LinearOrder α] (key : Fin n → α) (i j : Fin n) (h : i < j) :
    key (perm key j) < key (perm key i) ∨ (key (perm key i) = key (perm key j) ∧ perm key i < perm key j) := by
  unfold perm
  rw [sortedFrom_before]
  have hB := beforeB_total key
  have hn := sortedFrom_noInversion (beforeB key) (beforeB key) (fun a b h => hB.asymm a b h) (fun _ _ h => h) hB.negTrans i j h
  have hne : sortedFrom (beforeB key) i ≠ sortedFrom (beforeB key) j := fun e => (ne_of_lt h) (sortedFrom_injective _ e)
  rcases hB.total _ _ hne with ht | ht
  · unfold beforeB at ht
    simp only [Bool.or_eq_true, Bool.and_eq_true, decide_eq_true_eq] at ht
    exact ht
  · rw [hn] at ht; exact absurd ht (by decide)

/-- The first position is the first of the greatest. -/
theorem perm_first {n : ℕ} {α : Type} [LinearOrder α] (key : Fin n → α) (z : Fin n) (hz : ∀ a, z ≤ a) : FirstTop key (perm key z) := by
  have hc : ∀ j, key j < key (perm key z) ∨ (key (perm key z) = key j ∧ perm key z ≤ j) := fun j => by
    obtain ⟨a, rfl⟩ := (perm_bijective key).2 j
    rcases (hz a).eq_or_lt with rfl | h
    · exact Or.inr ⟨rfl, le_refl _⟩
    · exact (perm_sorted key z a h).imp id fun h1 => ⟨h1.1, h1.2.le⟩
  refine ⟨fun j => ?_, fun j hj => ?_⟩
  · rcases hc j with h1 | h1
    · exact h1.le
    · exact h1.1.ge
  · rcases hc j with h1 | h1
    · exact absurd hj h1.ne
    · exact h1.2

/-! ## A list's greatest elements and their positions -/

section TopK
variable {n k : ℕ} (x : FVec Ideal ⟨1, ![n]⟩ .f32) (h : (⟨1, ![n]⟩ : Shape).Slices (fun _ => 0) ⟨1, ![k]⟩) (i : ℕ) (hi : i < k) (hn : i < n)

/-- A list's elements by number. -/
def el {α : Type} {n : ℕ} (x : (⟨1, ![n]⟩ : Shape).Idx → α) : Fin n → α := fun a => x (at1 a.val a.isLt)

theorem gt_eq : (fun a b : Fin n => FloatOps.cmpfTotal (F := Ideal) (φ := .f32) .gt (x (at1 a.val a.isLt)) (x (at1 b.val b.isLt)) == 1#1)
    = fun a b : Fin n => decide (@LT.lt EReal _ (el x b) (el x a)) := by
  funext a b
  rw [Bool.eq_iff_iff, beq_iff_eq, decide_eq_true_eq]
  show BitVec.ofBool (decide _) = 1#1 ↔ _
  rw [ofBool_eq_one_iff, decide_eq_true_eq]
  rfl

theorem topK_pos : (fun a : Fin 1 => (⟨0 + ((at1 i hi : (⟨1, ![k]⟩ : Shape).Idx) (a.cast h.1.symm)).val,
      Nat.lt_of_lt_of_le (Nat.add_lt_add_left ((at1 i hi : (⟨1, ![k]⟩ : Shape).Idx) (a.cast h.1.symm)).isLt 0) (h.2 a)⟩ : Fin ((⟨1, ![n]⟩ : Shape).size a)))
      = (at1 i hn : (⟨1, ![n]⟩ : Shape).Idx) := by
  funext a; match a with | 0 => exact Fin.ext (Nat.zero_add i)

theorem along_at (q : Fin n) : Shape.Idx.along (at1 i hn : (⟨1, ![n]⟩ : Shape).Idx) (0 : Fin 1) q = at1 q.val q.isLt :=
  (Shape.Idx.along_rank1 _ q).trans (ofFin_at1 q)

theorem from_eq : sortedFrom (fun a b : Fin n => FloatOps.cmpfTotal (F := Ideal) (φ := .f32) .gt (x (Shape.Idx.along (at1 i hn : (⟨1, ![n]⟩ : Shape).Idx) (0 : Fin 1) a))
      (x (Shape.Idx.along (at1 i hn : (⟨1, ![n]⟩ : Shape).Idx) (0 : Fin 1) b)) == 1#1) = perm (α := EReal) (el x) := by
  unfold perm
  rw [← gt_eq]
  refine congrArg _ (funext fun a => funext fun b => ?_)
  exact congrArg₂ (fun p q => FloatOps.cmpfTotal (F := Ideal) (φ := .f32) .gt (x p) (x q) == 1#1) (along_at i hn a) (along_at i hn b)

theorem topF_idx : (Host.topK ⟨1, ![k]⟩ 0 (FloatOps.cmpfTotal (F := Ideal) (φ := .f32) .gt) x h).2 (at1 i hi)
      = BitVec.ofNat 32 (perm (α := EReal) (el x) ⟨i, hn⟩).val := by
  refine (congrArg (Host.sort2 (⟨1, ![n]⟩ : Shape) 0 (fun l r => FloatOps.cmpfTotal (F := Ideal) (φ := .f32) .gt l.1 r.1) x
    (fun i => if hd : 0 < (⟨1, ![n]⟩ : Shape).rank then iotaInDim (⟨1, ![n]⟩ : Shape) 32 ⟨0, hd⟩ i else 0#32)).2 (topK_pos h i hi hn)).trans ?_
  unfold Host.sort2
  rw [dif_pos (show 0 < (⟨1, ![n]⟩ : Shape).rank from Nat.one_pos)]
  exact (congrArg (fun q : (⟨1, ![n]⟩ : Shape).Idx => BitVec.ofNat 32 (q (0 : Fin 1)).val) (along_at i hn _)).trans
    (congrArg (fun π : Fin n → Fin n => BitVec.ofNat 32 (π (⟨i, hn⟩ : Fin n)).val) (from_eq x i hn))

theorem topF_val : (Host.topK ⟨1, ![k]⟩ 0 (FloatOps.cmpfTotal (F := Ideal) (φ := .f32) .gt) x h).1 (at1 i hi)
      = el x (perm (α := EReal) (el x) ⟨i, hn⟩) := by
  refine (congrArg (Host.sort2 (⟨1, ![n]⟩ : Shape) 0 (fun l r => FloatOps.cmpfTotal (F := Ideal) (φ := .f32) .gt l.1 r.1) x
    (fun i => if hd : 0 < (⟨1, ![n]⟩ : Shape).rank then iotaInDim (⟨1, ![n]⟩ : Shape) 32 ⟨0, hd⟩ i else 0#32)).1 (topK_pos h i hi hn)).trans ?_
  unfold Host.sort2
  rw [dif_pos (show 0 < (⟨1, ![n]⟩ : Shape).rank from Nat.one_pos)]
  exact (congrArg x (along_at i hn _)).trans
    (congrArg (fun π : Fin n → Fin n => el x (π (⟨i, hn⟩ : Fin n))) (from_eq x i hn))

end TopK

/-! ## A fold of an operation that takes one of its two -/

theorem fold_takes {ι β : Type} [DecidableEq ι] (op : β → β → β) [Std.Commutative op] [Std.Associative op] (le : β → β → Prop)
    (hrefl : ∀ a, le a a) (htrans : ∀ a b c, le a b → le b c → le a c)
    (hop : ∀ a b, (op a b = a ∨ op a b = b) ∧ le (op a b) a ∧ le (op a b) b) (b : β) (f : ι → β) (S : Finset ι) :
    (S.fold op b f = b ∨ ∃ x ∈ S, S.fold op b f = f x) ∧ (∀ x ∈ S, le (S.fold op b f) (f x)) ∧ le (S.fold op b f) b := by
  induction S using Finset.induction with
  | empty => exact ⟨Or.inl rfl, fun x hx => absurd hx (Finset.notMem_empty x), hrefl _⟩
  | insert a S ha ih =>
    rw [Finset.fold_insert ha]
    obtain ⟨h1, h2, h3⟩ := ih
    obtain ⟨o1, o2, o3⟩ := hop (f a) (S.fold op b f)
    refine ⟨?_, fun x hx => ?_, htrans _ _ _ o3 h3⟩
    · rcases o1 with e | e
      · exact Or.inr ⟨a, Finset.mem_insert_self a S, e⟩
      · rw [e]
        exact h1.imp id fun ⟨x, hx, e⟩ => ⟨x, Finset.mem_insert_of_mem hx, e⟩
    · rcases Finset.mem_insert.mp hx with rfl | hx
      · exact o2
      · exact htrans _ _ _ o3 (h2 x hx)

end Nms

end
-- ==== Proof.SupKernel.lean ====
/-
  The suppression's trips over the extended reals: the candidate a trip takes, the scores it drops and the row it
  writes, candidate by candidate.
-/
module

public import proofs.«01_k».proof.Proof.Sup
public import proofs.«01_k».proof.Proof.SupMath
public import Idealize.ShloMosaic.PureOps.Ideal.Laws

@[expose] public section

set_option maxRecDepth 16384

noncomputable section

namespace Nms

open Cert.SuppressIdeal Cert.SuppressIdeal.Gen
open Idealize.ShloMosaic
open Idealize.ShloMosaic.StableHlo.Predicate
open Cand (at1 at1_eta at1_congr)

/-! ## The suppression over candidates by number -/

/-- The value a suppressed score drops to. -/
def mark : EReal := low (F := Ideal)

/-- A score after one box is taken: dropped when the two boxes' shared area is more than half of their union. -/
def dropTo (a b c d x1 y1 x2 y2 s : Ideal .f32) : Ideal .f32 :=
  let sh := FloatOps.mulf (FloatOps.maximumf (FloatOps.subf (FloatOps.minimumf c x2) (FloatOps.maximumf a x1)) zero)
    (FloatOps.maximumf (FloatOps.subf (FloatOps.minimumf d y2) (FloatOps.maximumf b y1)) zero)
  Scalar.select (FloatOps.cmpf .ogt (FloatOps.divf sh
    (FloatOps.addf (FloatOps.subf (FloatOps.addf
      (FloatOps.mulf (FloatOps.maximumf (FloatOps.subf c a) zero) (FloatOps.maximumf (FloatOps.subf d b) zero))
      (FloatOps.mulf (FloatOps.maximumf (FloatOps.subf x2 x1) zero) (FloatOps.maximumf (FloatOps.subf y2 y1) zero))) sh)
      (Scalar.ofBits .f32 0x3089705F#32))) (Scalar.ofBits .f32 0x3F000000#32)) low s

theorem select_or {α : Type} (c : BitVec 1) (a b : α) : Scalar.select c a b = a ∨ Scalar.select c a b = b := by
  unfold Scalar.select
  exact (ite_eq_or_eq _ _ _)

theorem dropTo_or (a b c d x1 y1 x2 y2 s : Ideal .f32) : dropTo a b c d x1 y1 x2 y2 s = mark ∨ dropTo a b c d x1 y1 x2 y2 s = s :=
  select_or _ _ _

section Model
variable (x1 y1 x2 y2 s : Fin 1024 → EReal)

def drop (i j : Fin 1024) (v : EReal) : EReal := dropTo (x1 i) (y1 i) (x2 i) (y2 i) (x1 j) (y1 j) (x2 j) (y2 j) v

open Classical in
/-- The candidate a round takes: the first of the highest score while a score is above the mark, else the given one. -/
def chosen (s : Fin 1024 → EReal) (i0 : Fin 1024) : Fin 1024 := if ∃ j, mark < s j then perm s 0 else i0

/-- The scores before each round. -/
def seq : ℕ → Fin 1024 → EReal
  | 0 => s
  | k + 1 => fun j => drop x1 y1 x2 y2 (chosen (seq k) (perm s 0)) j (seq k j)

/-- The candidate of each round. -/
def pickAt (k : ℕ) : Fin 1024 := chosen (seq x1 y1 x2 y2 s k) (perm s 0)

theorem first0 (s : Fin 1024 → EReal) : FirstTop s (perm s 0) := perm_first s 0 fun a => Fin.zero_le a

end Model

/-! ## The candidates as 8 rows of 128 -/

/-- Candidate `j`'s place. -/
def cell (j : Fin 1024) : S8x128.Idx := fun a => match a with
  | 0 => ⟨j.val / 128, by have := j.isLt; show _ < 8; omega⟩
  | 1 => ⟨j.val % 128, Nat.mod_lt _ (by show 0 < 128; omega)⟩

theorem cell_surj (p : S8x128.Idx) : ∃ j, cell j = p := by
  have h0 : (p 0).val < 8 := (p 0).isLt
  have h1 : (p 1).val < 128 := (p 1).isLt
  refine ⟨⟨(p 0).val * 128 + (p 1).val, by omega⟩, funext fun a => ?_⟩
  match a with
  | 0 => exact Fin.ext (by show ((p 0).val * 128 + (p 1).val) / 128 = (p 0).val; omega)
  | 1 => exact Fin.ext (by show ((p 0).val * 128 + (p 1).val) % 128 = (p 1).val; omega)

theorem pos_cell (j : Fin 1024) : pos (cell j) = BitVec.ofNat 32 j.val := by
  have hj := j.isLt
  show BitVec.ofNat 32 (0 * 8 + j.val / 128) * 128#32 + BitVec.ofNat 32 (0 * 128 + j.val % 128) = _
  apply BitVec.eq_of_toNat_eq
  simp only [BitVec.toNat_add, BitVec.toNat_mul, BitVec.toNat_ofNat]
  omega

theorem ofNat_inj {a b : ℕ} (ha : a < 2 ^ 32) (hb : b < 2 ^ 32) (h : BitVec.ofNat 32 a = BitVec.ofNat 32 b) : a = b := by
  have := congrArg BitVec.toNat h
  simp only [BitVec.toNat_ofNat] at this
  omega

theorem cell_inj {i j : Fin 1024} (h : cell i = cell j) : i = j := by
  have := congrArg pos h
  rw [pos_cell, pos_cell] at this
  exact Fin.ext (ofNat_inj (by omega) (by omega) this)

/-- An array's elements by candidate. -/
def flat (v : S8x128.Idx → EReal) : Fin 1024 → EReal := fun j => v (cell j)

/-! ## The reductions -/

theorem size_one (b : Fin S1.rank) : S1.size b = 1 := by match b with | 0 => rfl

theorem drop_univ (j : S1.Idx) : (Finset.univ.filter fun i => reduces_S1x8x128_S1.drop i = j) = Finset.univ :=
  Finset.filter_true_of_mem fun i _ => funext fun b => Fin.ext (by
    have := (reduces_S1x8x128_S1.drop i b).isLt; have := (j b).isLt; have := size_one b; omega)

theorem total_eq (v : FVec Ideal S8x128 .f32) : total v = ∑ p : S8x128.Idx, (v p : EReal) := by
  obtain ⟨j, hj⟩ : ∃ j, total v = multiReduction (F := Ideal) .add [1, 2] S1 (shapeCast S1x8x128 v shapeCasts_S8x128_S1x8x128) 0x00000000#32
    reduces_S1x8x128_S1 (.inl rfl) rfl j := ⟨_, rfl⟩
  rw [hj]
  refine (Ideal.multiReduction_add_total _ _ _ size_one _ _ j).trans ?_
  exact Equiv.sum_comp (Shape.reshapeEquiv shapeCasts_S8x128_S1x8x128) (fun p => (v p : EReal))

theorem pick_eq (x : FVec Ideal S8x128 .f32) (i : Fin 1024) : pick (BitVec.ofNat 32 i.val) x = flat x i := by
  unfold pick
  rw [total_eq]
  refine (Finset.sum_eq_single (cell i) (fun p _ hp => ?_) (fun h => absurd (Finset.mem_univ _) h)).trans ?_
  · obtain ⟨j, rfl⟩ := cell_surj p
    show Scalar.select (IntOp.cmpi .eq (pos (cell j)) (BitVec.ofNat 32 i.val)) (x (cell j)) (zero (F := Ideal)) = _
    rw [pos_cell]
    have : BitVec.ofNat 32 j.val ≠ BitVec.ofNat 32 i.val := fun e =>
      hp (congrArg cell (Fin.ext (ofNat_inj (by omega) (by omega) e)))
    unfold Scalar.select
    rw [if_neg (by show ¬ BitVec.ofBool (_ == _) = 1#1; rw [ofBool_eq_one_iff]; simpa using this)]
    exact Ideal.ofBits_zero_f32
  · show Scalar.select (IntOp.cmpi .eq (pos (cell i)) (BitVec.ofNat 32 i.val)) (x (cell i)) (zero (F := Ideal)) = _
    rw [pos_cell]
    unfold Scalar.select
    rw [if_pos (by show BitVec.ofBool (_ == _) = 1#1; rw [ofBool_eq_one_iff]; simp)]
    rfl

theorem top_spec (s : FVec Ideal S8x128 .f32) : (∃ i, flat s i = top s) ∧ ∀ i, @LE.le EReal _ (flat s i) (top s) := by
  classical
  obtain ⟨j, hj⟩ : ∃ j, top s = multiReduction (F := Ideal) .maximumf [1, 2] S1 (shapeCast S1x8x128 s shapeCasts_S8x128_S1x8x128) 0xFF800000#32
    reduces_S1x8x128_S1 (.inl rfl) rfl j := ⟨_, rfl⟩
  have hf := multiReduction_maximumf_eq_fold (F := Ideal) (φ := .f32) (shapeCast S1x8x128 s shapeCasts_S8x128_S1x8x128) 0xFF800000#32
    reduces_S1x8x128_S1 (.inl rfl) rfl j
  rw [drop_univ] at hf
  obtain ⟨h1, h2, _⟩ := fold_takes (β := EReal) (FloatOps.maximumf (F := Ideal) (φ := .f32)) (fun a b => b ≤ a) le_refl (fun a b c h1 h2 => le_trans h2 h1)
    (fun a b => ⟨max_choice a b, le_max_left a b, le_max_right a b⟩) (FloatOps.ofBits (F := Ideal) .f32 0xFF800000#32)
    (shapeCast S1x8x128 s shapeCasts_S8x128_S1x8x128) Finset.univ
  rw [← hf, ← hj] at h1 h2
  have hall : ∀ i, @LE.le EReal _ (flat s i) (top s) := fun i => by
    have := h2 ((Shape.reshapeEquiv shapeCasts_S8x128_S1x8x128).symm (cell i)) (Finset.mem_univ _)
    unfold shapeCast at this
    rw [Equiv.apply_symm_apply] at this
    exact this
  refine ⟨?_, hall⟩
  rcases h1 with e | ⟨p, _, e⟩
  · refine ⟨0, le_antisymm (hall 0) ?_⟩
    rw [e]
    have hb : (FloatOps.ofBits (F := Ideal) .f32 0xFF800000#32) = (⊥ : EReal) := by
      show Ideal.ofBits .f32 0xFF800000#32 = _
      simp [Ideal.ofBits, Ideal.ieee]
    rw [hb]
    exact bot_le
  · obtain ⟨i, hi⟩ := cell_surj (Shape.reshapeEquiv shapeCasts_S8x128_S1x8x128 p)
    exact ⟨i, (congrArg s hi).trans e.symm⟩

theorem top_eq (s : FVec Ideal S8x128 .f32) : top s = flat s (perm (flat s) 0) := by
  obtain ⟨⟨i, hi⟩, h⟩ := top_spec s
  exact le_antisymm (hi ▸ (first0 (flat s)).1 i) (h _)

theorem least_spec (v : IVec S8x128 32) (i : Fin 1024) (hi : v (cell i) = BitVec.ofNat 32 i.val)
    (hv : ∀ j, (i.val : ℤ) ≤ (v (cell j)).toInt) : least v = BitVec.ofNat 32 i.val := by
  classical
  obtain ⟨j, hj⟩ : ∃ j, least v = multiReductionI .minsi [1, 2] S1 (shapeCast S1x8x128 v shapeCasts_S8x128_S1x8x128) 2147483647#32
    reduces_S1x8x128_S1 rfl j := ⟨_, rfl⟩
  have hf := multiReductionI_eq_fold .minsi (shapeCast S1x8x128 v shapeCasts_S8x128_S1x8x128) 2147483647#32
    reduces_S1x8x128_S1 rfl j
  rw [drop_univ] at hf
  obtain ⟨h1, h2, h3⟩ := fold_takes (β := BitVec 32) (IKind.minsi.op) (fun a b => a.toInt ≤ b.toInt) (fun a => Int.le_refl _) (fun a b c h1 h2 => Int.le_trans h1 h2)
    (fun a b => by
      show (IntOp.minsi a b = a ∨ IntOp.minsi a b = b) ∧ (IntOp.minsi a b).toInt ≤ a.toInt ∧ (IntOp.minsi a b).toInt ≤ b.toInt
      unfold IntOp.minsi
      split <;> rename_i h <;> simp only [BitVec.slt, BitVec.sle, decide_eq_true_eq] at h
      · exact ⟨Or.inl rfl, by omega, by omega⟩
      · exact ⟨Or.inr rfl, by omega, by omega⟩) 2147483647#32
    (shapeCast S1x8x128 v shapeCasts_S8x128_S1x8x128) Finset.univ
  rw [← hf, ← hj] at h1 h2 h3
  have hii := i.isLt
  have ei : (BitVec.ofNat 32 i.val).toInt = i.val := toInt_ofNat_small _ (by omega)
  have hle : (least v).toInt ≤ i.val := by
    have := h2 ((Shape.reshapeEquiv shapeCasts_S8x128_S1x8x128).symm (cell i)) (Finset.mem_univ _)
    unfold shapeCast at this
    rw [Equiv.apply_symm_apply, hi, ei] at this
    exact this
  have hge : (i.val : ℤ) ≤ (least v).toInt := by
    rcases h1 with e | ⟨p, _, e⟩
    · rw [e, show (2147483647#32).toInt = 2147483647 by decide]; omega
    · obtain ⟨a, ha⟩ := cell_surj (Shape.reshapeEquiv shapeCasts_S8x128_S1x8x128 p)
      rw [e]
      show _ ≤ (v (Shape.reshapeEquiv shapeCasts_S8x128_S1x8x128 p)).toInt
      rw [← ha]
      exact hv a
  exact BitVec.eq_of_toInt_eq (by rw [ei]; omega)

theorem oeq_iff (a b : Ideal .f32) : FloatOps.cmpf (F := Ideal) (φ := .f32) .oeq a b = 1#1 ↔ a = b := by
  show BitVec.ofBool (decide _) = 1#1 ↔ _
  rw [ofBool_eq_one_iff, decide_eq_true_eq]

theorem ogt_iff (a b : Ideal .f32) : FloatOps.cmpf (F := Ideal) (φ := .f32) .ogt a b = 1#1 ↔ @LT.lt EReal _ b a := by
  show BitVec.ofBool (decide _) = 1#1 ↔ _
  rw [ofBool_eq_one_iff, decide_eq_true_eq]

theorem marks_at (s : FVec Ideal S8x128 .f32) (m : Ideal .f32) (v : IVec S8x128 32) (w : BitVec 32) (p : S8x128.Idx) :
    select (cmpf .oeq s (broadcast S8x128 m)) v (broadcast S8x128 w) p = Scalar.select (FloatOps.cmpf .oeq (s p) m) (v p) w := rfl

theorem firstTop_eq (s : FVec Ideal S8x128 .f32) : firstTop s = BitVec.ofNat 32 (perm (flat s) 0).val := by
  have hF := first0 (flat s)
  have hat : ∀ j : Fin 1024, (select (cmpf .oeq s (broadcast S8x128 (top s))) pos (broadcast S8x128 1073741824#32)) (cell j)
      = if flat s j = flat s (perm (flat s) 0) then BitVec.ofNat 32 j.val else 1073741824#32 := fun j => by
    rw [marks_at, pos_cell, top_eq]
    unfold Scalar.select
    exact if_congr (oeq_iff _ _) rfl rfl
  unfold firstTop
  refine least_spec _ _ ?_ fun j => ?_
  · rw [hat, if_pos rfl]
  · rw [hat]
    have h1 := (perm (flat s) 0).isLt
    have h2 := j.isLt
    split
    · rename_i h
      have h3 : perm (flat s) 0 ≤ j := hF.2 j h
      have h3 : (perm (flat s) 0).val ≤ j.val := h3
      rw [toInt_ofNat_small _ (by omega)]
      omega
    · rw [show (1073741824#32).toInt = 1073741824 by decide]; omega

theorem taken_eq (s : FVec Ideal S8x128 .f32) (i0 : BitVec 32) (j0 : Fin 1024) (h0 : (∃ j, mark < flat s j) ∨ i0 = BitVec.ofNat 32 j0.val) :
    taken s i0 = BitVec.ofNat 32 (chosen (flat s) j0).val := by
  have hF := first0 (flat s)
  unfold taken Scalar.select chosen
  have hc : Scalar.cmpf .ogt (top s) (low (F := Ideal)) = 1 ↔ ∃ j, mark < flat s j := by
    refine (ogt_iff _ _).trans ?_
    rw [top_eq]
    exact ⟨fun h => ⟨_, h⟩, fun ⟨j, hj⟩ => lt_of_lt_of_le hj (hF.1 j)⟩
  by_cases h : ∃ j, mark < flat s j
  · rw [if_pos (hc.mpr h), if_pos h, firstTop_eq]
  · rw [if_neg fun e => h (hc.mp e), if_neg h]
    exact h0.resolve_left h

theorem dropped_eq (x1 y1 x2 y2 s : FVec Ideal S8x128 .f32) (a b c d : Ideal .f32) (j : Fin 1024) :
    flat (dropped x1 y1 x2 y2 s a b c d) j = dropTo a b c d (flat x1 j) (flat y1 j) (flat x2 j) (flat y2 j) (flat s j) := rfl

/-! ## The trips -/

theorem trips_eq : k0_t1_loop.trips = 100 := by decide

section Trips
variable (x1 y1 x2 y2 s l : FVec Ideal S8x128 .f32)

/-- One trip, by its number. -/
def turn (k : ℕ) (a : FVec Ideal S8x128 .f32 × BitVec 32 × FVec Ideal S100x8 .f32) : FVec Ideal S8x128 .f32 × BitVec 32 × FVec Ideal S100x8 .f32 :=
  (dropped x1 y1 x2 y2 a.1 (pick (taken a.1 a.2.1) x1) (pick (taken a.1 a.2.1) y1) (pick (taken a.1 a.2.1) x2) (pick (taken a.1 a.2.1) y2),
   Scalar.select (Scalar.cmpi .eq (BitVec.ofNat 32 k) 0#32) (taken a.1 a.2.1) a.2.1,
   select (cmpi .eq (iota .tc S100x8 32 [0] iota_S100x8_d0_w32) (broadcast S100x8 (BitVec.ofNat 32 k)))
     (line (pick (taken a.1 a.2.1) x1) (pick (taken a.1 a.2.1) y1) (pick (taken a.1 a.2.1) x2) (pick (taken a.1 a.2.1) y2) (top a.1)
       (pick (taken a.1 a.2.1) l)) a.2.2)

theorem trip_turn (k : Fin k0_t1_loop.trips) (a) : trip x1 y1 x2 y2 l k a = turn x1 y1 x2 y2 l k.val a := by
  have e : Scf.iv 0#32 1#32 k.val = BitVec.ofNat 32 k.val := by
    unfold Scf.iv
    rw [BitVec.mul_one, BitVec.zero_add]
  unfold trip turn
  rw [e]

/-- What the trips before `k` leave. -/
def left : ℕ → FVec Ideal S8x128 .f32 × BitVec 32 × FVec Ideal S100x8 .f32
  | 0 => (s, 0#32, broadcast S100x8 (zero (F := Ideal)))
  | k + 1 => turn x1 y1 x2 y2 l k (left k)

theorem foldl_turn (n : ℕ) : (List.range n).foldl (fun a k => turn x1 y1 x2 y2 l k a) (left x1 y1 x2 y2 s l 0) = left x1 y1 x2 y2 s l n := by
  induction n with
  | zero => rfl
  | succ n ih => rw [List.range_succ, List.foldl_append, ih]; rfl

theorem made_left : made x1 y1 x2 y2 s l = (left x1 y1 x2 y2 s l 100).2.2 := by
  unfold made
  rw [Scf.fold_eq]
  have h : (fun (acc : FVec Ideal S8x128 .f32 × BitVec 32 × FVec Ideal S100x8 .f32) (k : Fin k0_t1_loop.trips) => trip x1 y1 x2 y2 l k acc)
      = fun acc k => turn x1 y1 x2 y2 l k.val acc := by
    funext a k; exact trip_turn x1 y1 x2 y2 l k a
  rw [h, ← trips_eq, ← foldl_turn, ← List.map_coe_finRange_eq_range, List.foldl_map]
  rfl

/-- The candidate trip `k` takes. -/
def at' (k : ℕ) : Fin 1024 := pickAt (flat x1) (flat y1) (flat x2) (flat y2) (flat s) k

/-- The scores trip `k` finds. -/
def sc (k : ℕ) : Fin 1024 → EReal := seq (flat x1) (flat y1) (flat x2) (flat y2) (flat s) k

theorem left_state (hab : ∃ j, mark < flat s j) (k : ℕ) (hk : k < 2 ^ 32) : flat (left x1 y1 x2 y2 s l k).1 = sc x1 y1 x2 y2 s k
    ∧ ((left x1 y1 x2 y2 s l k).2.1 = BitVec.ofNat 32 (perm (flat s) 0).val ∨ k = 0)
    ∧ taken (left x1 y1 x2 y2 s l k).1 (left x1 y1 x2 y2 s l k).2.1 = BitVec.ofNat 32 (at' x1 y1 x2 y2 s k).val := by
  have hT : ∀ k, flat (left x1 y1 x2 y2 s l k).1 = sc x1 y1 x2 y2 s k →
      ((left x1 y1 x2 y2 s l k).2.1 = BitVec.ofNat 32 (perm (flat s) 0).val ∨ k = 0) →
      taken (left x1 y1 x2 y2 s l k).1 (left x1 y1 x2 y2 s l k).2.1 = BitVec.ofNat 32 (at' x1 y1 x2 y2 s k).val := fun k h1 h2 => by
    have := taken_eq (left x1 y1 x2 y2 s l k).1 (left x1 y1 x2 y2 s l k).2.1 (perm (flat s) 0) (by
      rcases h2 with h2 | rfl
      · exact Or.inr h2
      · exact Or.inl hab)
    rw [this, h1]
    rfl
  have hs : ∀ k, k < 2 ^ 32 → flat (left x1 y1 x2 y2 s l k).1 = sc x1 y1 x2 y2 s k
      ∧ ((left x1 y1 x2 y2 s l k).2.1 = BitVec.ofNat 32 (perm (flat s) 0).val ∨ k = 0) := by
    intro k
    induction k with
    | zero => exact fun _ => ⟨rfl, Or.inr rfl⟩
    | succ k ih =>
      intro hk
      replace ih := ih (by omega)
      have ht := hT k ih.1 ih.2
      constructor
      · show flat (turn x1 y1 x2 y2 l k (left x1 y1 x2 y2 s l k)).1 = _
        unfold turn
        rw [ht, pick_eq, pick_eq, pick_eq, pick_eq]
        funext j
        rw [dropped_eq, ih.1]
        rfl
      · left
        show Scalar.select (IntOp.cmpi .eq (BitVec.ofNat 32 k) 0#32) (taken (left x1 y1 x2 y2 s l k).1 (left x1 y1 x2 y2 s l k).2.1) (left x1 y1 x2 y2 s l k).2.1 = _
        rcases Nat.eq_zero_or_pos k with rfl | hp
        · rw [ht]
          unfold Scalar.select
          rw [if_pos (by decide)]
          show BitVec.ofNat 32 (chosen (flat s) (perm (flat s) 0)).val = _
          unfold chosen
          rw [if_pos hab]
        · rw [← ih.2.resolve_right (by omega)]
          unfold Scalar.select
          rw [if_neg]
          show ¬ BitVec.ofBool (_ == _) = 1#1
          rw [ofBool_eq_one_iff, beq_iff_eq]
          intro e
          have := ofNat_inj (a := k) (b := 0) (by omega) (by omega) e
          omega
  exact ⟨(hs k hk).1, (hs k hk).2, hT k (hs k hk).1 (hs k hk).2⟩

/-- The row trip `t` writes. -/
def rowOf (t : ℕ) : FVec Ideal S100x8 .f32 :=
  line (F := Ideal) (flat x1 (at' x1 y1 x2 y2 s t)) (flat y1 (at' x1 y1 x2 y2 s t)) (flat x2 (at' x1 y1 x2 y2 s t)) (flat y2 (at' x1 y1 x2 y2 s t))
    (sc x1 y1 x2 y2 s t (perm (sc x1 y1 x2 y2 s t) 0)) (flat l (at' x1 y1 x2 y2 s t))

theorem rows_at' (p : S100x8.Idx) (k : ℕ) (a b : FVec Ideal S100x8 .f32) :
    select (cmpi .eq (iota .tc S100x8 32 [0] iota_S100x8_d0_w32) (broadcast S100x8 (BitVec.ofNat 32 k))) a b p
      = Scalar.select (IntOp.cmpi .eq (BitVec.ofNat 32 (0 * 100 + (p 0).val)) (BitVec.ofNat 32 k)) (a p) (b p) := rfl

theorem select_nat {α : Type} (a b : ℕ) (ha : a < 2 ^ 32) (hb : b < 2 ^ 32) (u v : α) :
    Scalar.select (IntOp.cmpi .eq (BitVec.ofNat 32 a) (BitVec.ofNat 32 b)) u v = if a = b then u else v := by
  unfold Scalar.select
  refine if_congr ?_ rfl rfl
  show BitVec.ofBool (_ == _) = 1#1 ↔ _
  rw [ofBool_eq_one_iff, beq_iff_eq]
  exact ⟨ofNat_inj ha hb, congrArg _⟩

theorem left_row (hab : ∃ j, mark < flat s j) (p : S100x8.Idx) (k : ℕ) (hk : k ≤ 100) (ht : (p 0).val < k) :
    (left x1 y1 x2 y2 s l k).2.2 p = rowOf x1 y1 x2 y2 s l (p 0).val p := by
  induction k with
  | zero => omega
  | succ k ih =>
    obtain ⟨h1, _, h3⟩ := left_state x1 y1 x2 y2 s l hab k (by omega)
    show (turn x1 y1 x2 y2 l k (left x1 y1 x2 y2 s l k)).2.2 p = _
    unfold turn
    rw [h3, pick_eq, pick_eq, pick_eq, pick_eq, pick_eq, top_eq, h1]
    refine (rows_at' p k _ _).trans ?_
    rw [select_nat _ _ (by omega) (by omega)]
    by_cases e : (p 0).val = k
    · rw [if_pos (by omega), e]
      rfl
    · rw [if_neg (by omega)]
      exact ih (by omega) (by omega)

theorem line_at (a b c d m l : Ideal .f32) (p : S100x8.Idx) : line a b c d m l p
    = if (p 1).val = 0 then a else if (p 1).val = 1 then b else if (p 1).val = 2 then c else if (p 1).val = 3 then d
      else if (p 1).val = 4 then m else if (p 1).val = 5 then l else zero (F := Ideal) := by
  have hp : (p 1).val < 8 := (p 1).isLt
  have h : ∀ (k : ℕ) (hk : k < 2 ^ 32) (u : Ideal .f32) (v : FVec Ideal S100x8 .f32),
      select (cmpi .eq col (broadcast S100x8 (BitVec.ofNat 32 k))) (broadcast S100x8 u) v p = if (p 1).val = k then u else v p := fun k hk u v => by
    refine (show _ = Scalar.select (IntOp.cmpi .eq (BitVec.ofNat 32 (0 * 8 + (p 1).val)) (BitVec.ofNat 32 k)) u (v p) from rfl).trans ?_
    rw [select_nat _ _ (by omega) hk]
    exact if_congr (by omega) rfl rfl
  unfold line
  rw [h 0 (by decide), h 1 (by decide), h 2 (by decide), h 3 (by decide), h 4 (by decide), h 5 (by decide)]
  rfl

/-- The array the kernel makes, row by row. -/
theorem made_at (hab : ∃ j, mark < flat s j) (p : S100x8.Idx) : made x1 y1 x2 y2 s l p = rowOf x1 y1 x2 y2 s l (p 0).val p := by
  rw [made_left]
  exact left_row x1 y1 x2 y2 s l hab p 100 (le_refl _) (p 0).isLt

end Trips

end Nms

end
-- ==== Proof.SupRef.lean ====
/-
  The suppression's reference over the extended reals: the candidates in order of score, the candidate each round takes,
  the scores it drops and the entries it writes.
-/
module

public import proofs.«01_k».proof.Proof.SupKernel
public import proofs.«01_k».proof.Proof.Gen.DetectionsIdeal.Step

@[expose] public section

set_option maxRecDepth 16384

noncomputable section

namespace Nms

open Cert.DetectionsIdeal Cert.DetectionsIdeal.Gen Cert.DetectionsIdeal.Step
open Idealize.ShloMosaic
open Idealize.ShloMosaic.StableHlo.Predicate
open Cand (at1 at1_eta at1_congr take_at)

theorem keep_word {n : ℕ} (v z w : IVec ⟨1, ![n]⟩ 32) (j : (⟨1, ![n]⟩ : Shape).Idx) (a : ℕ) (ha : a < 2 ^ 31) (hv : v j = BitVec.ofNat 32 a) (hz : z j = 0#32) :
    select (cmpi .slt v z) w v j = BitVec.ofNat 32 a := by
  show Scalar.select (IntOp.cmpi .slt (v j) (z j)) (w j) (v j) = _
  rw [hv, hz]
  have hneg : ¬ IntOp.cmpi .slt (BitVec.ofNat 32 a) 0#32 = 1#1 := fun e =>
    absurd ((slt_ofNat_iff a 0 ha (by decide)).mp e) (Nat.not_lt_zero a)
  exact if_neg hneg

/-- An array read at the rows a list of numbers names, negative ones wrapped. -/
theorem gather_el {α : Type} {n : ℕ} (d : GatherDims ⟨1, ![1024]⟩ ⟨2, ![n, 1]⟩ ⟨1, ![n]⟩)
    (hcoll : d.collapsedSliceDims = [0]) (hob : d.operandBatchingDims = [])
    (hsim : d.startIndexMap = [0]) (hivd : d.indexVectorDim = 1)
    (h₁ : (⟨1, ![n]⟩ : Shape).BroadcastsInDim ⟨2, ![n, 1]⟩ ![0])
    (f : (⟨1, ![1024]⟩ : Shape).Idx → α) (v z w : IVec ⟨1, ![n]⟩ 32) (j : (⟨1, ![n]⟩ : Shape).Idx) (a : Fin 1024)
    (hv : v j = BitVec.ofNat 32 a.val) (hz : z j = 0#32) :
    Host.gather d f (broadcastInDim ⟨2, ![n, 1]⟩ ![0] h₁ (select (cmpi .slt v z) w v)) j = el f a :=
  (take_at (N := 1024) (n := n) d hcoll hob hsim hivd h₁ f _ j a.val (by omega) (by decide) (keep_word v z w j a.val (by omega) hv hz)).trans
    (at1_congr f (by omega) _ _)

section Round
variable (k : ℕ) (s : State Ideal)

/-- The position a round takes. -/
def pickR (s : State Ideal) : Fin 1024 := perm (α := EReal) (el s.main_v38_8) 0

theorem b2_eq : b2 (F := Ideal) k s = fun _ => el s.main_v38_8 (pickR s) := by
  funext j
  rw [← at1_eta (n := 1) j]
  have hj : (j 0).val = 0 := by have : (j 0).val < 1 := (j 0).isLt; omega
  refine (at1_congr (n := 1) (b2 k s) hj _ (by decide)).trans ?_
  exact topF_val (n := 1024) (k := 1) s.main_v38_8 sliceFits_S1024_S1 0 (by decide) (by decide)

theorem b3_eq : b3 (F := Ideal) k s = fun _ => BitVec.ofNat 32 (pickR s).val := by
  funext j
  rw [← at1_eta (n := 1) j]
  have hj : (j 0).val = 0 := by have : (j 0).val < 1 := (j 0).isLt; omega
  refine (at1_congr (n := 1) (b3 k s) hj _ (by decide)).trans ?_
  exact topF_idx (n := 1024) (k := 1) s.main_v38_8 sliceFits_S1024_S1 0 (by decide) (by decide)

theorem b12_eq : b12 (F := Ideal) k s = fun _ => el s.main_v38_0 (pickR s) := by
  funext j
  exact gather_el (n := 1) gather_S1024_S1x1_S1_n_0_n_n_0_1_1 rfl rfl rfl rfl bcast_S1_S1x1_0 s.main_v38_0 (b3 k s) (b5 k s) (b9 k s) j (pickR s)
    (congrFun (b3_eq k s) j) rfl

theorem b21_eq : b21 (F := Ideal) k s = fun _ => el s.main_v38_1 (pickR s) := by
  funext j
  exact gather_el (n := 1) gather_S1024_S1x1_S1_n_0_n_n_0_1_1 rfl rfl rfl rfl bcast_S1_S1x1_0 s.main_v38_1 (b3 k s) (b14 k s) (b18 k s) j (pickR s)
    (congrFun (b3_eq k s) j) rfl

theorem b30_eq : b30 (F := Ideal) k s = fun _ => el s.main_v38_2 (pickR s) := by
  funext j
  exact gather_el (n := 1) gather_S1024_S1x1_S1_n_0_n_n_0_1_1 rfl rfl rfl rfl bcast_S1_S1x1_0 s.main_v38_2 (b3 k s) (b23 k s) (b27 k s) j (pickR s)
    (congrFun (b3_eq k s) j) rfl

theorem b39_eq : b39 (F := Ideal) k s = fun _ => el s.main_v38_3 (pickR s) := by
  funext j
  exact gather_el (n := 1) gather_S1024_S1x1_S1_n_0_n_n_0_1_1 rfl rfl rfl rfl bcast_S1_S1x1_0 s.main_v38_3 (b3 k s) (b32 k s) (b36 k s) j (pickR s)
    (congrFun (b3_eq k s) j) rfl

theorem b122_eq : b122 (F := Ideal) k s = fun _ => el s.main_v38_5 (pickR s) := by
  funext j
  exact gather_el (n := 1) gather_S1024_S1x1_S1_n_0_n_n_0_1_1 rfl rfl rfl rfl bcast_S1_S1x1_0 s.main_v38_5 (b3 k s) (b115 k s) (b119 k s) j (pickR s)
    (congrFun (b3_eq k s) j) rfl

theorem scores_step (a : Fin 1024) : el (b113 (F := Ideal) k s) a
    = drop (el s.main_v38_0) (el s.main_v38_1) (el s.main_v38_2) (el s.main_v38_3) (pickR s) a (el s.main_v38_8 a) := by
  unfold b113 b112 b111 b110 b109 b108 b107 b81 b80 b79 b78 b77 b76 b75 b74 b73 b72 b71 b70 b69 b68 b67 b66 b65 b64 b63 b62 b61 b60 b59 b58 b57 b56 b55 b54
    b53 b52 b51 b50 b49 b48 b47 b46 b45 b44 b43 b42 b41 b40
  rw [b12_eq, b21_eq, b30_eq, b39_eq]
  rfl

theorem put_at {α : Type} (v old : S100.Idx → α) (t : ℕ) (ht : t < 100) (hk : k < 2 ^ 32) :
    select (cmpi .eq (K_main_v35 (F := Ideal)) (broadcastInDim S100 ![] bcast_S_S100 (id (constantI S_ 32 (BitVec.ofNat 32 k))))) v old (at1 t ht)
      = if t = k then v (at1 t ht) else old (at1 t ht) :=
  (show _ = Scalar.select (IntOp.cmpi .eq (BitVec.ofNat 32 t) (BitVec.ofNat 32 k)) (v (at1 t ht)) (old (at1 t ht)) from rfl).trans
    (select_nat t k (by omega) hk _ _)

variable (hk : k < 2 ^ 32) (t : ℕ) (ht : t < 100)
include hk

theorem col0_step : b86 (F := Ideal) k s (at1 t ht) = if t = k then el s.main_v38_0 (pickR s) else s.main_v38_9 (at1 t ht) := by
  unfold b86 b85; rw [b12_eq]; exact put_at k _ _ t ht hk
theorem col1_step : b91 (F := Ideal) k s (at1 t ht) = if t = k then el s.main_v38_1 (pickR s) else s.main_v38_10 (at1 t ht) := by
  unfold b91 b90; rw [b21_eq]; exact put_at k _ _ t ht hk
theorem col2_step : b96 (F := Ideal) k s (at1 t ht) = if t = k then el s.main_v38_2 (pickR s) else s.main_v38_11 (at1 t ht) := by
  unfold b96 b95; rw [b30_eq]; exact put_at k _ _ t ht hk
theorem col3_step : b101 (F := Ideal) k s (at1 t ht) = if t = k then el s.main_v38_3 (pickR s) else s.main_v38_12 (at1 t ht) := by
  unfold b101 b100; rw [b39_eq]; exact put_at k _ _ t ht hk
theorem col4_step : b106 (F := Ideal) k s (at1 t ht) = if t = k then el s.main_v38_8 (pickR s) else s.main_v38_13 (at1 t ht) := by
  unfold b106 b105; rw [b2_eq]; exact put_at k _ _ t ht hk
theorem col5_step : b127 (F := Ideal) k s (at1 t ht) = if t = k then el s.main_v38_5 (pickR s) else s.main_v38_14 (at1 t ht) := by
  unfold b127 b126; rw [b122_eq]; exact put_at k _ _ t ht hk

end Round

section Rounds
variable (a0 a1 a2 a3 a4 : FVec Ideal S1024 .f32) (a5 : IVec S1024 32)

/-- The states before each round. -/
def stR : ℕ → State Ideal
  | 0 => init a0 a1 a2 a3 a4 a5
  | k + 1 => step k (stR k)

abbrev order : Fin 1024 → Fin 1024 := perm (α := EReal) (el a4)

theorem idx_at (i : Fin 1024) : A_main_indices (F := Ideal) a0 a1 a2 a3 a4 a5 (at1 i.val i.isLt) = BitVec.ofNat 32 (order a4 i).val :=
  topF_idx (n := 1024) (k := 1024) a4 sliceFits_S1024_S1024 i.val i.isLt i.isLt

theorem start_s (i : Fin 1024) : el (stR a0 a1 a2 a3 a4 a5 0).main_v38_8 i = el a4 (order a4 i) :=
  topF_val (n := 1024) (k := 1024) a4 sliceFits_S1024_S1024 i.val i.isLt i.isLt

theorem start_of {α : Type} (f : S1024.Idx → α) (v z w : IVec S1024 32) (i a : Fin 1024) (hv : v (at1 i.val i.isLt) = BitVec.ofNat 32 a.val) (hz : z = fun _ => 0#32) :
    Host.gather gather_S1024_S1024x1_S1024_n_0_n_n_0_1_1 f (broadcastInDim S1024x1 ![0] bcast_S1024_S1024x1_0 (select (cmpi .slt v z) w v)) (at1 i.val i.isLt) = el f a :=
  gather_el (n := 1024) gather_S1024_S1024x1_S1024_n_0_n_n_0_1_1 rfl rfl rfl rfl bcast_S1024_S1024x1_0 f v z w (at1 i.val i.isLt) a hv (congrFun hz _)

theorem gathered_0 : (stR a0 a1 a2 a3 a4 a5 0).main_v38_0 = A_main_v6 (F := Ideal) a0 a1 a2 a3 a4 a5 := rfl
theorem start_0 (i : Fin 1024) : el (stR a0 a1 a2 a3 a4 a5 0).main_v38_0 i = el a0 (order a4 i) := by
  rw [gathered_0]
  unfold A_main_v6 A_main_v5 A_main_v4 A_main_v1
  exact start_of a0 _ (K_main_v0 (F := Ideal)) _ i (order a4 i) (idx_at a0 a1 a2 a3 a4 a5 i) rfl

theorem gathered_1 : (stR a0 a1 a2 a3 a4 a5 0).main_v38_1 = A_main_v13 (F := Ideal) a0 a1 a2 a3 a4 a5 := rfl
theorem start_1 (i : Fin 1024) : el (stR a0 a1 a2 a3 a4 a5 0).main_v38_1 i = el a1 (order a4 i) := by
  rw [gathered_1]
  unfold A_main_v13 A_main_v12 A_main_v11 A_main_v8
  exact start_of a1 _ (K_main_v7 (F := Ideal)) _ i (order a4 i) (idx_at a0 a1 a2 a3 a4 a5 i) rfl

theorem gathered_2 : (stR a0 a1 a2 a3 a4 a5 0).main_v38_2 = A_main_v20 (F := Ideal) a0 a1 a2 a3 a4 a5 := rfl
theorem start_2 (i : Fin 1024) : el (stR a0 a1 a2 a3 a4 a5 0).main_v38_2 i = el a2 (order a4 i) := by
  rw [gathered_2]
  unfold A_main_v20 A_main_v19 A_main_v18 A_main_v15
  exact start_of a2 _ (K_main_v14 (F := Ideal)) _ i (order a4 i) (idx_at a0 a1 a2 a3 a4 a5 i) rfl

theorem gathered_3 : (stR a0 a1 a2 a3 a4 a5 0).main_v38_3 = A_main_v27 (F := Ideal) a0 a1 a2 a3 a4 a5 := rfl
theorem start_3 (i : Fin 1024) : el (stR a0 a1 a2 a3 a4 a5 0).main_v38_3 i = el a3 (order a4 i) := by
  rw [gathered_3]
  unfold A_main_v27 A_main_v26 A_main_v25 A_main_v22
  exact start_of a3 _ (K_main_v21 (F := Ideal)) _ i (order a4 i) (idx_at a0 a1 a2 a3 a4 a5 i) rfl

theorem gathered_5 : (stR a0 a1 a2 a3 a4 a5 0).main_v38_5 = A_main_v34 (F := Ideal) a0 a1 a2 a3 a4 a5 := rfl
theorem start_5 (i : Fin 1024) : el (stR a0 a1 a2 a3 a4 a5 0).main_v38_5 i = el a5 (order a4 i) := by
  rw [gathered_5]
  unfold A_main_v34 A_main_v33 A_main_v32 A_main_v29
  exact start_of a5 _ (K_main_v28 (F := Ideal)) _ i (order a4 i) (idx_at a0 a1 a2 a3 a4 a5 i) rfl

/-- The boxes and labels stay in order of score. -/
theorem boxes (k : ℕ) (i : Fin 1024) : el (stR a0 a1 a2 a3 a4 a5 k).main_v38_0 i = el a0 (order a4 i)
    ∧ el (stR a0 a1 a2 a3 a4 a5 k).main_v38_1 i = el a1 (order a4 i) ∧ el (stR a0 a1 a2 a3 a4 a5 k).main_v38_2 i = el a2 (order a4 i)
    ∧ el (stR a0 a1 a2 a3 a4 a5 k).main_v38_3 i = el a3 (order a4 i) ∧ el (stR a0 a1 a2 a3 a4 a5 k).main_v38_5 i = el a5 (order a4 i) := by
  induction k with
  | zero => exact ⟨start_0 a0 a1 a2 a3 a4 a5 i, start_1 a0 a1 a2 a3 a4 a5 i, start_2 a0 a1 a2 a3 a4 a5 i, start_3 a0 a1 a2 a3 a4 a5 i, start_5 a0 a1 a2 a3 a4 a5 i⟩
  | succ k ih => exact ih

/-- The candidate round `k` takes, and the score it writes. -/
theorem taken_ref (hab : ∃ j, mark < el a4 j) (k : ℕ) :
    order a4 (pickR (stR a0 a1 a2 a3 a4 a5 k)) = pickAt (el a0) (el a1) (el a2) (el a3) (el a4) k
    ∧ el (stR a0 a1 a2 a3 a4 a5 k).main_v38_8 (pickR (stR a0 a1 a2 a3 a4 a5 k))
      = seq (el a0) (el a1) (el a2) (el a3) (el a4) k (perm (seq (el a0) (el a1) (el a2) (el a3) (el a4) k) 0) := by
  have h := rounds (n := 1024) (α := EReal) mark (order a4) (perm_bijective _) (drop (el a0) (el a1) (el a2) (el a3))
    (fun i j v => dropTo_or _ _ _ _ _ _ _ _ _) (seq (el a0) (el a1) (el a2) (el a3) (el a4))
    (fun k => el (stR a0 a1 a2 a3 a4 a5 k).main_v38_8) (pickAt (el a0) (el a1) (el a2) (el a3) (el a4))
    (fun k => pickR (stR a0 a1 a2 a3 a4 a5 k)) 0 (fun a => Fin.zero_le a) (perm_sorted (α := EReal) (el a4)) hab
    (start_s a0 a1 a2 a3 a4 a5) (fun k j => rfl)
    (fun k i => by
      refine (scores_step k (stR a0 a1 a2 a3 a4 a5 k) i).trans ?_
      obtain ⟨e0, e1, e2, e3, _⟩ := boxes a0 a1 a2 a3 a4 a5 k i
      obtain ⟨f0, f1, f2, f3, _⟩ := boxes a0 a1 a2 a3 a4 a5 k (pickR (stR a0 a1 a2 a3 a4 a5 k))
      unfold drop
      rw [e0, e1, e2, e3, f0, f1, f2, f3])
    (fun k hm => by unfold pickAt chosen; rw [if_pos hm]; exact first0 _)
    (fun k hm => by
      unfold pickAt chosen
      rw [if_neg hm]
      exact (if_pos hab).symm)
    (fun k => first0 _) k
  have hF : FirstTop (el (stR a0 a1 a2 a3 a4 a5 k).main_v38_8) (pickR (stR a0 a1 a2 a3 a4 a5 k)) := first0 _
  refine ⟨h.2.symm, (h.1 _).trans ?_⟩
  refine le_antisymm ((first0 (seq (el a0) (el a1) (el a2) (el a3) (el a4) k)).1 _) ?_
  rw [← h.2]
  exact rounds_top (perm_bijective (α := EReal) (el a4)) h.1 h.2 hF _

/-- The entries the rounds before `k` write. -/
theorem written (t : ℕ) (ht : t < 100) (k : ℕ) (hk : k ≤ 100) (htk : t < k) :
    (stR a0 a1 a2 a3 a4 a5 k).main_v38_9 (at1 t ht) = el a0 (order a4 (pickR (stR a0 a1 a2 a3 a4 a5 t)))
    ∧ (stR a0 a1 a2 a3 a4 a5 k).main_v38_10 (at1 t ht) = el a1 (order a4 (pickR (stR a0 a1 a2 a3 a4 a5 t)))
    ∧ (stR a0 a1 a2 a3 a4 a5 k).main_v38_11 (at1 t ht) = el a2 (order a4 (pickR (stR a0 a1 a2 a3 a4 a5 t)))
    ∧ (stR a0 a1 a2 a3 a4 a5 k).main_v38_12 (at1 t ht) = el a3 (order a4 (pickR (stR a0 a1 a2 a3 a4 a5 t)))
    ∧ (stR a0 a1 a2 a3 a4 a5 k).main_v38_13 (at1 t ht) = el (stR a0 a1 a2 a3 a4 a5 t).main_v38_8 (pickR (stR a0 a1 a2 a3 a4 a5 t))
    ∧ (stR a0 a1 a2 a3 a4 a5 k).main_v38_14 (at1 t ht) = el a5 (order a4 (pickR (stR a0 a1 a2 a3 a4 a5 t))) := by
  induction k with
  | zero => omega
  | succ k ih =>
    have c0 := col0_step k (stR a0 a1 a2 a3 a4 a5 k) (by omega) t ht
    have c1 := col1_step k (stR a0 a1 a2 a3 a4 a5 k) (by omega) t ht
    have c2 := col2_step k (stR a0 a1 a2 a3 a4 a5 k) (by omega) t ht
    have c3 := col3_step k (stR a0 a1 a2 a3 a4 a5 k) (by omega) t ht
    have c4 := col4_step k (stR a0 a1 a2 a3 a4 a5 k) (by omega) t ht
    have c5 := col5_step k (stR a0 a1 a2 a3 a4 a5 k) (by omega) t ht
    obtain ⟨f0, f1, f2, f3, f5⟩ := boxes a0 a1 a2 a3 a4 a5 k (pickR (stR a0 a1 a2 a3 a4 a5 k))
    by_cases e : t = k
    · subst e
      rw [if_pos rfl] at c0 c1 c2 c3 c4 c5
      exact ⟨c0.trans f0, c1.trans f1, c2.trans f2, c3.trans f3, c4, c5.trans f5⟩
    · rw [if_neg e] at c0 c1 c2 c3 c4 c5
      obtain ⟨i0, i1, i2, i3, i4, i5⟩ := ih (by omega) (by omega)
      exact ⟨c0.trans i0, c1.trans i1, c2.trans i2, c3.trans i3, c4.trans i4, c5.trans i5⟩

end Rounds

end Nms

end
-- ==== Proof.SupOut.lean ====
/-
  The suppression call's results are the reference's: the rows entry by entry.
-/
module

public import proofs.«01_k».proof.Proof.SupRef
public import proofs.«01_k».proof.Proof.SupRes
public import proofs.«01_k».proof.Pre_above
public import Idealize.ShloMosaic.Lib.Pipeline.ValueKit
public import Idealize.ShloMosaic.Lib.Pointwise.Reshape

@[expose] public section

set_option maxRecDepth 16384

noncomputable section

namespace Nms

open Cert.SuppressIdeal Cert.SuppressIdeal.Gen
open Idealize.ShloMosaic
open Idealize.ShloMosaic.StableHlo.Predicate
open Cand (at1 at1_eta at1_congr)

/-! ## The precondition -/

theorem above_facts : Cert.Pre_above.Facts := ⟨by decide, by decide⟩

theorem above_of_pre (a0 a1 a2 a3 a4 : FVec Ideal S1024 .f32) (a5 : IVec S1024 32)
    (h : @Cert.Pre_above.fn above_facts Ideal _ a0 a1 a2 a3 a4 a5 = fun _ => 1#1) : ∃ j, mark < el (α := EReal) a4 j := by
  classical
  have h0 : (0 : ℕ) < (⟨0, ![]⟩ : Shape).numel := by decide
  have hh := congrFun h (Shape.Idx.first h0)
  have h1 : FloatOps.cmpf (F := Ideal) (φ := .f32) .ogt
      (Host.reduce (FloatOps.maximumf (F := Ideal) (φ := .f32)) a4 (constant (F := Ideal) ⟨0, ![]⟩ .f32 0xFF800000#32)
        above_facts.reducesTo_S1024_S_d0 above_facts.h_S_ (Shape.Idx.first h0)) mark = 1#1 := hh
  rw [Host.reduce_eq_fold] at h1
  have hlt := (ogt_iff _ _).mp h1
  obtain ⟨e | ⟨p, _, e⟩, _⟩ := fold_takes (β := EReal) (FloatOps.maximumf (F := Ideal) (φ := .f32)) (fun a b => b ≤ a) le_refl (fun a b c h1 h2 => le_trans h2 h1)
    (fun a b => ⟨max_choice a b, le_max_left a b, le_max_right a b⟩) (FloatOps.ofBits (F := Ideal) .f32 0xFF800000#32)
    a4 (Finset.univ.filter fun i => Shape.ReducesTo.drop above_facts.reducesTo_S1024_S_d0 i = Shape.Idx.first h0)
  · exfalso
    have hb : (FloatOps.ofBits (F := Ideal) .f32 0xFF800000#32) = (⊥ : EReal) := by
      show Ideal.ofBits .f32 0xFF800000#32 = _
      simp [Ideal.ofBits, Ideal.ieee]
    rw [hb] at e
    exact not_lt_bot (lt_of_lt_of_eq hlt e)
  · refine ⟨p 0, lt_of_lt_of_eq hlt (e.trans ?_)⟩
    exact congrArg a4 (at1_eta (n := 1024) p).symm

/-! ## The staged arrays -/

theorem flat_cast (x : FVec Ideal S1024 .f32) : flat (shapeCast S8x128 x shapeCasts_S1024_S8x128) = el (α := EReal) x := by
  funext j
  refine congrArg x (Shape.reshapeEquiv_eq_of_vals shapeCasts_S1024_S8x128 (cell j) (at1 j.val j.isLt) j.val j.val ?_ ?_ rfl)
  · rw [Shape.rowMajor_val_one]; rfl
  · rw [Shape.rowMajor_val_two]
    show j.val / 128 * 128 + j.val % 128 = j.val
    omega

theorem whole_back (w : BitVec 32) : FloatOps.fptosi (F := Ideal) (φ := .f32) 32 (FloatOps.sitofp (F := Ideal) .f32 w) = w := by
  show Ideal.fptosi 32 (((w.toInt : ℝ)) : EReal) = w
  unfold Ideal.fptosi
  have h1 := BitVec.le_toInt w
  have h2 := BitVec.toInt_lt (x := w)
  have e : Ideal.toIntClamped (-(2 ^ (32 - 1) : Nat)) ((2 ^ (32 - 1) : Nat) - 1) (((w.toInt : ℝ)) : EReal) = w.toInt := by
    show max _ (min _ (if (0 : ℝ) ≤ (w.toInt : ℝ) then ⌊(w.toInt : ℝ)⌋ else ⌈(w.toInt : ℝ)⌉)) = _
    rw [Int.floor_intCast, Int.ceil_intCast, ite_self]
    norm_num at h1 h2 ⊢
    omega
  rw [e, BitVec.ofInt_toInt]

/-! ## The results -/

/-- The entry of row `t` and column `c` that a state of the reference holds. -/
def entry (S : Cert.DetectionsIdeal.Step.State Ideal) (t : ℕ) (ht : t < 100) (c : ℕ) : EReal :=
  if c = 0 then S.main_v38_9 (at1 t ht) else if c = 1 then S.main_v38_10 (at1 t ht)
  else if c = 2 then S.main_v38_11 (at1 t ht) else if c = 3 then S.main_v38_12 (at1 t ht)
  else if c = 4 then S.main_v38_13 (at1 t ht)
  else if c = 5 then FloatOps.sitofp (F := Ideal) .f32 (S.main_v38_14 (at1 t ht)) else zero (F := Ideal)

theorem boxes_at (S : Cert.DetectionsIdeal.Step.State Ideal) (j : S100x5.Idx) (hj0 : (j 0).val < 100) :
    Cert.DetectionsIdeal.Step.R_main_v44 S j = entry S (j 0).val hj0 (j 1).val := by
  have hv : ∀ (f : S100.Idx → EReal) (i : (⟨2, ![100, 1]⟩ : Shape).Idx) (h : (⟨1, ![100]⟩ : Shape).BroadcastsInDim ⟨2, ![100, 1]⟩ ![0]),
      (i 0).val = (j 0).val → broadcastInDim ⟨2, ![100, 1]⟩ ![0] h f i = f (at1 (j 0).val hj0) := fun f i h e => by
    have hi : i = ixP (⟨(j 0).val, hj0⟩ : Fin 100) := funext fun a => Fin.ext (by
      match a with
      | 0 => exact e
      | 1 => have : (i 1).val < 1 := (i 1).isLt
             show (i 1).val = 0
             omega)
    rw [hi]
    exact (bcast_col1 h f _).trans (congrArg f (Cand.ofFin_at1 _))
  have hp : ∀ (c : ℕ) (f : FVec Ideal S100 .f32), entry S (j 0).val hj0 c = f (at1 (j 0).val hj0) →
      PieceAt (t := Cert.DetectionsIdeal.S100x5) 1 j (entry S (j 0).val hj0 (j 1).val) Cert.DetectionsIdeal.S100x1
        (broadcastInDim Cert.DetectionsIdeal.S100x1 ![0] Cert.DetectionsIdeal.Gen.bcast_S100_S100x1_0 f) c := fun c f hc e _ i _ hb =>
    (hv f i Cert.DetectionsIdeal.Gen.bcast_S100_S100x1_0 (hb 0 (by decide))).trans (by rw [e]; exact hc.symm)
  refine concatenate_unit_eq (v := entry S (j 0).val hj0 (j 1).val) 1 _ _ j rfl ?_
  exact ⟨hp 0 S.main_v38_9 rfl, hp 1 S.main_v38_10 rfl, hp 2 S.main_v38_11 rfl, hp 3 S.main_v38_12 rfl, hp 4 S.main_v38_13 rfl, trivial⟩

section
variable (a0 a1 a2 a3 a4 : FVec Ideal S1024 .f32) (a5 : IVec S1024 32)

abbrev c8 (x : FVec Ideal S1024 .f32) : FVec Ideal S8x128 .f32 := shapeCast S8x128 x shapeCasts_S1024_S8x128

/-- The rows the kernel writes. -/
def rowsK : FVec Ideal S100x8 .f32 := made (F := Ideal) (c8 a0) (c8 a1) (c8 a2) (c8 a3) (c8 a4) (c8 (sitofp (F := Ideal) .f32 a5))

/-- The reference's last state. -/
abbrev lastR := stR a0 a1 a2 a3 a4 a5 100

theorem row_entry (hab : ∃ j, mark < el (α := EReal) a4 j) (q : S100x8.Idx) (t : ℕ) (ht : t < 100) (hq : (q 0).val = t) :
    rowsK a0 a1 a2 a3 a4 a5 q = entry (lastR a0 a1 a2 a3 a4 a5) t ht (q 1).val := by
  unfold entry
  subst hq
  obtain ⟨w0, w1, w2, w3, w4, w5⟩ := written a0 a1 a2 a3 a4 a5 (q 0).val ht 100 (le_refl _) ht
  obtain ⟨p0, p1⟩ := taken_ref a0 a1 a2 a3 a4 a5 hab (q 0).val
  rw [w0, w1, w2, w3, w4, w5, p0, p1]
  unfold rowsK
  refine (made_at (c8 a0) (c8 a1) (c8 a2) (c8 a3) (c8 a4) (c8 (sitofp (F := Ideal) .f32 a5)) (by rw [flat_cast]; exact hab) q).trans ?_
  unfold rowOf at' sc
  rw [line_at, flat_cast, flat_cast, flat_cast, flat_cast, flat_cast, flat_cast]
  rfl

theorem boxes_eq (hab : ∃ j, mark < el (α := EReal) a4 j) :
    Cert.DetectionsIdeal.Step.R_main_v44 (lastR a0 a1 a2 a3 a4 a5) = boxesOf (rowsK a0 a1 a2 a3 a4 a5) := by
  funext j
  have hj0 : (j 0).val < 100 := (j 0).isLt
  have hj1 : (j 1).val < 5 := (j 1).isLt
  have hr := row_entry a0 a1 a2 a3 a4 a5 hab (fun a => ⟨(![0, 0] : Fin 2 → ℕ) a + (j a).val, by
    match a with
    | 0 => show 0 + (j 0).val < 100; omega
    | 1 => show 0 + (j 1).val < 8; omega⟩) (j 0).val hj0 (by show 0 + (j 0).val = (j 0).val; omega)
  exact (boxes_at (lastR a0 a1 a2 a3 a4 a5) j hj0).trans
    ((congrArg (entry (lastR a0 a1 a2 a3 a4 a5) (j 0).val hj0) (Nat.zero_add _).symm).trans hr.symm)

theorem labels_eq (hab : ∃ j, mark < el (α := EReal) a4 j) :
    (lastR a0 a1 a2 a3 a4 a5).main_v38_14 = labelsOf (rowsK a0 a1 a2 a3 a4 a5) := by
  funext j
  rw [← at1_eta (n := 100) j]
  have hj0 : (j 0).val < 100 := (j 0).isLt
  have hq := row_entry a0 a1 a2 a3 a4 a5 hab (fun a => match a with | 0 => ⟨(j 0).val, hj0⟩ | 1 => ⟨5, by decide⟩) (j 0).val hj0 rfl
  refine Eq.symm ?_
  have e : Shape.reshapeEquiv shapeCasts_S100x1_S100 (at1 (j 0).val hj0) = (fun a => match a with | 0 => ⟨(j 0).val, hj0⟩ | 1 => ⟨0, by decide⟩ : S100x1.Idx) :=
    Shape.reshapeEquiv_eq_of_vals shapeCasts_S100x1_S100 _ _ (j 0).val (j 0).val
      (by rw [Shape.rowMajor_val_two]; show (j 0).val * 1 + 0 = _; omega) (by rw [Shape.rowMajor_val_one]; rfl) rfl
  show FloatOps.fptosi (F := Ideal) (φ := .f32) 32 (extractStridedSlice S100x1 ![0, 5] (rowsK a0 a1 a2 a3 a4 a5) slices_S100x8_S100x1_0_5
    (Shape.reshapeEquiv shapeCasts_S100x1_S100 (at1 (j 0).val hj0))) = _
  rw [e]
  refine (congrArg (FloatOps.fptosi (F := Ideal) (φ := .f32) 32) ((congrArg (rowsK a0 a1 a2 a3 a4 a5) (funext fun a => Fin.ext ?_)).trans hq)).trans (whole_back _)
  match a with
  | 0 => show 0 + (j 0).val = (j 0).val; omega
  | 1 => rfl

end

end Nms

end
-- ==== Proof.Heads.lean ====
/-
  The heads' body as a run of functions of what the staged arrays hold, and the call: the six columns' blocks at each point are
  these functions of some arrays that agree with the launched ones on the rows inside them; the arguments are kept and the
  counters end at zero.
-/
module

public import proofs.«01_k».proof.Proof.Gen.HeadsIdeal.Frame
public import Idealize.ShloMosaic.Lib.Claim
public import Idealize.ShloMosaic.Lib.Pipeline.Value
public import Idealize.ShloMosaic.Lib.Pipeline.ArrRel
public import Idealize.ShloMosaic.Lib.Pipeline.DatRel
public import Idealize.ShloMosaic.Lib.Pipeline.ValueKit.Geometry

@[expose] public section

set_option maxRecDepth 16384

noncomputable section

namespace Nms.Heads

open Cert.HeadsIdeal Cert.HeadsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

/-! ## One block of rows -/

/-- A hidden layer. -/
def hidden (x : FVec F S512x256 .f32) (w : FVec F S256x256 .f32) (b : FVec F S1x256 .f32) : FVec F S512x256 .f32 :=
  maximumf (addf (matmul dot_S512x256_S256x256_S512x256_1_0_0_1_n_n none x w (constant S512x256 .f32 0x00000000#32))
    (broadcastTo S512x256 (shapeCast S1x256 b shapeCasts_S1x256_S1x256) broadcasts_S1x256_S512x256))
    (broadcast S512x256 (Scalar.ofBits .f32 0x00000000#32))

/-- The classes' logits. -/
def logits (x : FVec F S512x256 .f32) (w1 : FVec F S256x256 .f32) (b1 : FVec F S1x256 .f32) (w2 : FVec F S256x80 .f32)
    (b2 : FVec F S1x80 .f32) : FVec F S512x80 .f32 :=
  addf (matmul dot_S512x256_S256x80_S512x80_1_0_0_1_n_n none (hidden x w1 b1) w2 (constant S512x80 .f32 0x00000000#32))
    (broadcastTo S512x80 (shapeCast S1x80 b2 shapeCasts_S1x80_S1x80) broadcasts_S1x80_S512x80)

/-- The boxes' offsets. -/
def offsets (x : FVec F S512x256 .f32) (w3 : FVec F S256x256 .f32) (b3 : FVec F S1x256 .f32) (w4 : FVec F S256x4 .f32)
    (b4 : FVec F S1x4 .f32) : FVec F S512x4 .f32 :=
  addf (matmul dot_S512x256_S256x4_S512x4_1_0_0_1_n_n none (hidden x w3 b3) w4 (constant S512x4 .f32 0x00000000#32))
    (broadcastTo S512x4 (shapeCast S1x4 b4 shapeCasts_S1x4_S1x4) broadcasts_S1x4_S512x4)

/-- The highest logit of each row. -/
def best (l : FVec F S512x80 .f32) : FVec F S512x1 .f32 :=
  shapeCast S512x1 (multiReduction .maximumf [1] S512 l 0xFF800000#32 reduces_S512x80_S512 (.inl rfl) rfl) shapeCasts_S512_S512x1

/-- The first class of the highest logit. -/
def label (l : FVec F S512x80 .f32) : IVec S512x1 32 :=
  shapeCast S512x1 (multiReductionI .minsi [1] S512 (select (cmpf .oeq l (broadcastTo S512x80 (best l) broadcasts_S512x1_S512x80))
    (iota .tc S512x80 32 [1] iota_S512x80_d1_w32) (broadcast S512x80 80#32)) 2147483647#32 reduces_S512x80_S512 rfl) shapeCasts_S512_S512x1

/-- Which rows of the block at a point are rows of the arrays. -/
def inside (i : grid0.Coords) : IVec S512x1 1 :=
  cmpi .slt (addi (broadcast S512x1 (Scalar.muli (BitVec.ofNat 32 (i 0).val) 512#32)) (iota .tc S512x1 32 [0] iota_S512x1_d0_w32))
    (broadcast S512x1 20000#32)

def col0 (v : FVec F S512x4 .f32) : FVec F S512x1 .f32 := extractStridedSlice S512x1 ![0, 0] v slices_S512x4_o0_0_S512x1
def col1 (v : FVec F S512x4 .f32) : FVec F S512x1 .f32 := extractStridedSlice S512x1 ![0, 1] v slices_S512x4_o0_1_S512x1
def col2 (v : FVec F S512x4 .f32) : FVec F S512x1 .f32 := extractStridedSlice S512x1 ![0, 2] v slices_S512x4_o0_2_S512x1
def col3 (v : FVec F S512x4 .f32) : FVec F S512x1 .f32 := extractStridedSlice S512x1 ![0, 3] v slices_S512x4_o0_3_S512x1

def nought : FVec F S512x1 .f32 := broadcast S512x1 (Scalar.ofBits .f32 0x00000000#32)
def half (v : FVec F S512x1 .f32) : FVec F S512x1 .f32 := mulf (broadcast S512x1 (Scalar.ofBits .f32 0x3F000000#32)) v

/-- The boxes' centres and sizes. -/
def cx (o a : FVec F S512x4 .f32) : FVec F S512x1 .f32 := addf (col0 a) (mulf (tanh (col0 o)) (col2 a))
def cy (o a : FVec F S512x4 .f32) : FVec F S512x1 .f32 := addf (col1 a) (mulf (tanh (col1 o)) (col3 a))
def bw (o a : FVec F S512x4 .f32) : FVec F S512x1 .f32 := mulf (col2 a) (exp (tanh (col2 o)))
def bh (o a : FVec F S512x4 .f32) : FVec F S512x1 .f32 := mulf (col3 a) (exp (tanh (col3 o)))

/-- What the body stores at a point, column by column. -/
def outS (i : grid0.Coords) (l : FVec F S512x80 .f32) : FVec F S512x1 .f32 :=
  select (inside i) (logistic (best l)) (broadcast S512x1 (Scalar.ofBits .f32 0xCE6E6B28#32))
def outX1 (i : grid0.Coords) (o a : FVec F S512x4 .f32) : FVec F S512x1 .f32 := select (inside i) (subf (cx o a) (half (bw o a))) nought
def outY1 (i : grid0.Coords) (o a : FVec F S512x4 .f32) : FVec F S512x1 .f32 := select (inside i) (subf (cy o a) (half (bh o a))) nought
def outX2 (i : grid0.Coords) (o a : FVec F S512x4 .f32) : FVec F S512x1 .f32 := select (inside i) (addf (cx o a) (half (bw o a))) nought
def outY2 (i : grid0.Coords) (o a : FVec F S512x4 .f32) : FVec F S512x1 .f32 := select (inside i) (addf (cy o a) (half (bh o a))) nought
def outL (i : grid0.Coords) (l : FVec F S512x80 .f32) : IVec S512x1 32 := select (inside i) (label l) (broadcast S512x1 0#32)

/-! ## The body -/

local notation "𝕄" => MT nD τ sig Unit (Elt F) ℕ (UR sig nD τ) ℕ

theorem zeros2 : (![0, 0] : Fin 2 → ℕ) = fun _ => 0 := by funext a; fin_cases a <;> rfl

/-- A load of a whole array reads what the array reads. -/
theorem load_all {sp : Space} {s : Shape} {e : EltTy} (v : View sig .tc sp s e) (f : v.ty.Contents (Elt F)) {off : Fin s.rank → ℕ}
    (h : off = fun _ => 0) (inb : ∀ a, off a + s.size a ≤ s.size a) :
    v.readAt (Elt F) (Rect.unit off s.size inb).toLoadRect f = v.read (Elt F) f := by
  rw [View.readAt_eq_ld]; exact View.ld_unit_zero h inb _

/-- A store of a whole array leaves what is stored. -/
theorem store_all {sp : Space} {s : Shape} {e : EltTy} (v : View sig .tc sp s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  rw [View.read_writes_eq_canon v f _ fun y => ⟨_, List.mem_singleton_self _, View.mem_set_unit_zero h inb y⟩]
  exact View.canon_unit_zero h inb w

theorem body_eq (i : grid0.Coords) (a1 : Memref sig .tc .vmem S512x256 .f32) (h1 : a1.IsWhole) (a2 : Memref sig .tc .vmem S512x4 .f32) (h2 : a2.IsWhole) (a3 : Memref sig .tc .vmem S256x256 .f32) (h3 : a3.IsWhole) (a4 : Memref sig .tc .vmem S1x256 .f32) (h4 : a4.IsWhole) (a5 : Memref sig .tc .vmem S256x80 .f32) (h5 : a5.IsWhole) (a6 : Memref sig .tc .vmem S1x80 .f32) (h6 : a6.IsWhole) (a7 : Memref sig .tc .vmem S256x256 .f32) (h7 : a7.IsWhole) (a8 : Memref sig .tc .vmem S1x256 .f32) (h8 : a8.IsWhole) (a9 : Memref sig .tc .vmem S256x4 .f32) (h9 : a9.IsWhole) (a10 : Memref sig .tc .vmem S1x4 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (a16 : Memref sig .tc .vmem S512x1 .i32) (h16 : a16.IsWhole) :
    cc0__heads_body (F := F) i a1 h1 a2 h2 a3 h3 a4 h4 a5 h5 a6 h6 a7 h7 a8 h8 a9 h9 a10 h10 a11 h11 a12 h12 a13 h13 a14 h14 a15 h15 a16 h16 = (do
      let x : Vec F S512x256 .f32 ← Prog.lift (.load a1 (Rect.unit (s := S512x256) ![0, 0] S512x256.size inb_S512x256_S512x256_0_0).toLoadRect (View.loadsAt_vmem h_S512x256))
      let w1 : Vec F S256x256 .f32 ← Prog.lift (.load a3 (Rect.unit (s := S256x256) ![0, 0] S256x256.size inb_S256x256_S256x256_0_0).toLoadRect (View.loadsAt_vmem h_S256x256))
      let b1 : Vec F S1x256 .f32 ← Prog.lift (.load a4 (Rect.unit (s := S1x256) ![0, 0] S1x256.size inb_S1x256_S1x256_0_0).toLoadRect (View.loadsAt_vmem h_S1x256))
      let w2 : Vec F S256x80 .f32 ← Prog.lift (.load a5 (Rect.unit (s := S256x80) ![0, 0] S256x80.size inb_S256x80_S256x80_0_0).toLoadRect (View.loadsAt_vmem h_S256x80))
      let b2 : Vec F S1x80 .f32 ← Prog.lift (.load a6 (Rect.unit (s := S1x80) ![0, 0] S1x80.size inb_S1x80_S1x80_0_0).toLoadRect (View.loadsAt_vmem h_S1x80))
      let w3 : Vec F S256x256 .f32 ← Prog.lift (.load a7 (Rect.unit (s := S256x256) ![0, 0] S256x256.size inb_S256x256_S256x256_0_0).toLoadRect (View.loadsAt_vmem h_S256x256))
      let b3 : Vec F S1x256 .f32 ← Prog.lift (.load a8 (Rect.unit (s := S1x256) ![0, 0] S1x256.size inb_S1x256_S1x256_0_0).toLoadRect (View.loadsAt_vmem h_S1x256))
      let w4 : Vec F S256x4 .f32 ← Prog.lift (.load a9 (Rect.unit (s := S256x4) ![0, 0] S256x4.size inb_S256x4_S256x4_0_0).toLoadRect (View.loadsAt_vmem h_S256x4))
      let b4 : Vec F S1x4 .f32 ← Prog.lift (.load a10 (Rect.unit (s := S1x4) ![0, 0] S1x4.size inb_S1x4_S1x4_0_0).toLoadRect (View.loadsAt_vmem h_S1x4))
      let an : Vec F S512x4 .f32 ← Prog.lift (.load a2 (Rect.unit (s := S512x4) ![0, 0] S512x4.size inb_S512x4_S512x4_0_0).toLoadRect (View.loadsAt_vmem h_S512x4))
      let _p11 : Vec F S512x1 .f32 ← Prog.lift (.load a11 (Rect.unit (s := S512x1) ![0, 0] S512x1.size inb_S512x1_S512x1_0_0).toLoadRect (View.loadsAt_vmem h_S512x1))
      Prog.lift (.store a11 (Rect.unit (s := S512x1) ![0, 0] S512x1.size inb_S512x1_S512x1_0_0) (outS i (logits x w1 b1 w2 b2)) Finset.univ (View.stores_vmem_bits_univ h_S512x1 rfl) (.inl rfl))
      let _p12 : Vec F S512x1 .f32 ← Prog.lift (.load a12 (Rect.unit (s := S512x1) ![0, 0] S512x1.size inb_S512x1_S512x1_0_0).toLoadRect (View.loadsAt_vmem h_S512x1))
      Prog.lift (.store a12 (Rect.unit (s := S512x1) ![0, 0] S512x1.size inb_S512x1_S512x1_0_0) (outX1 i (offsets x w3 b3 w4 b4) an) Finset.univ (View.stores_vmem_bits_univ h_S512x1 rfl) (.inl rfl))
      let _p13 : Vec F S512x1 .f32 ← Prog.lift (.load a13 (Rect.unit (s := S512x1) ![0, 0] S512x1.size inb_S512x1_S512x1_0_0).toLoadRect (View.loadsAt_vmem h_S512x1))
      Prog.lift (.store a13 (Rect.unit (s := S512x1) ![0, 0] S512x1.size inb_S512x1_S512x1_0_0) (outY1 i (offsets x w3 b3 w4 b4) an) Finset.univ (View.stores_vmem_bits_univ h_S512x1 rfl) (.inl rfl))
      let _p14 : Vec F S512x1 .f32 ← Prog.lift (.load a14 (Rect.unit (s := S512x1) ![0, 0] S512x1.size inb_S512x1_S512x1_0_0).toLoadRect (View.loadsAt_vmem h_S512x1))
      Prog.lift (.store a14 (Rect.unit (s := S512x1) ![0, 0] S512x1.size inb_S512x1_S512x1_0_0) (outX2 i (offsets x w3 b3 w4 b4) an) Finset.univ (View.stores_vmem_bits_univ h_S512x1 rfl) (.inl rfl))
      let _p15 : Vec F S512x1 .f32 ← Prog.lift (.load a15 (Rect.unit (s := S512x1) ![0, 0] S512x1.size inb_S512x1_S512x1_0_0).toLoadRect (View.loadsAt_vmem h_S512x1))
      Prog.lift (.store a15 (Rect.unit (s := S512x1) ![0, 0] S512x1.size inb_S512x1_S512x1_0_0) (outY2 i (offsets x w3 b3 w4 b4) an) Finset.univ (View.stores_vmem_bits_univ h_S512x1 rfl) (.inl rfl))
      let _p16 : Vec F S512x1 .i32 ← Prog.lift (.load a16 (Rect.unit (s := S512x1) ![0, 0] S512x1.size inb_S512x1_S512x1_0_0).toLoadRect (View.loadsAt_vmem h_S512x1))
      Prog.lift (.store a16 (Rect.unit (s := S512x1) ![0, 0] S512x1.size inb_S512x1_S512x1_0_0) (outL i (logits x w1 b1 w2 b2)) Finset.univ (View.stores_vmem_bits_univ h_S512x1 rfl) (.inl rfl))
      pure ⟨⟩) := by
  rfl

section Body
variable (c : Dev nD)

set_option maxHeartbeats 3200000 in
theorem sound_body (i : grid0.Coords) (a1 : Memref sig .tc .vmem S512x256 .f32) (h1 : a1.IsWhole) (a2 : Memref sig .tc .vmem S512x4 .f32) (h2 : a2.IsWhole)
    (a3 : Memref sig .tc .vmem S256x256 .f32) (h3 : a3.IsWhole) (a4 : Memref sig .tc .vmem S1x256 .f32) (h4 : a4.IsWhole)
    (a5 : Memref sig .tc .vmem S256x80 .f32) (h5 : a5.IsWhole) (a6 : Memref sig .tc .vmem S1x80 .f32) (h6 : a6.IsWhole)
    (a7 : Memref sig .tc .vmem S256x256 .f32) (h7 : a7.IsWhole) (a8 : Memref sig .tc .vmem S1x256 .f32) (h8 : a8.IsWhole)
    (a9 : Memref sig .tc .vmem S256x4 .f32) (h9 : a9.IsWhole) (a10 : Memref sig .tc .vmem S1x4 .f32) (h10 : a10.IsWhole)
    (a11 : Memref sig .tc .vmem S512x1 .f32) (h11 : a11.IsWhole) (a12 : Memref sig .tc .vmem S512x1 .f32) (h12 : a12.IsWhole)
    (a13 : Memref sig .tc .vmem S512x1 .f32) (h13 : a13.IsWhole) (a14 : Memref sig .tc .vmem S512x1 .f32) (h14 : a14.IsWhole)
    (a15 : Memref sig .tc .vmem S512x1 .f32) (h15 : a15.IsWhole) (a16 : Memref sig .tc .vmem S512x1 .i32) (h16 : a16.IsWhole)
    (x : FVec F S512x256 .f32) (an : FVec F S512x4 .f32) (w1 : FVec F S256x256 .f32) (b1 : FVec F S1x256 .f32) (w2 : FVec F S256x80 .f32)
    (b2 : FVec F S1x80 .f32) (w3 : FVec F S256x256 .f32) (b3 : FVec F S1x256 .f32) (w4 : FVec F S256x4 .f32) (b4 : FVec F S1x4 .f32)
    (y11 y12 y13 y14 y15 : FVec F S512x1 .f32) (y16 : IVec S512x1 32) (E : Set ℕ) (Q : PUnit → sProp 𝕄) :
    iprop(owns (c : Thread nD τ) a1 fullShare x ∗ owns (c : Thread nD τ) a2 fullShare an ∗ owns (c : Thread nD τ) a3 fullShare w1
        ∗ owns (c : Thread nD τ) a4 fullShare b1 ∗ owns (c : Thread nD τ) a5 fullShare w2 ∗ owns (c : Thread nD τ) a6 fullShare b2
        ∗ owns (c : Thread nD τ) a7 fullShare w3 ∗ owns (c : Thread nD τ) a8 fullShare b3 ∗ owns (c : Thread nD τ) a9 fullShare w4
        ∗ owns (c : Thread nD τ) a10 fullShare b4 ∗ owns (c : Thread nD τ) a11 fullShare y11 ∗ owns (c : Thread nD τ) a12 fullShare y12
        ∗ owns (c : Thread nD τ) a13 fullShare y13 ∗ owns (c : Thread nD τ) a14 fullShare y14 ∗ owns (c : Thread nD τ) a15 fullShare y15
        ∗ owns (c : Thread nD τ) a16 fullShare (y16 : S512x1.Idx → Elt F .i32)
        ∗ (iprop(owns (c : Thread nD τ) a1 fullShare x ∗ owns (c : Thread nD τ) a2 fullShare an ∗ owns (c : Thread nD τ) a3 fullShare w1
            ∗ owns (c : Thread nD τ) a4 fullShare b1 ∗ owns (c : Thread nD τ) a5 fullShare w2 ∗ owns (c : Thread nD τ) a6 fullShare b2
            ∗ owns (c : Thread nD τ) a7 fullShare w3 ∗ owns (c : Thread nD τ) a8 fullShare b3 ∗ owns (c : Thread nD τ) a9 fullShare w4
            ∗ owns (c : Thread nD τ) a10 fullShare b4 ∗ owns (c : Thread nD τ) a11 fullShare (outS i (logits x w1 b1 w2 b2))
            ∗ owns (c : Thread nD τ) a12 fullShare (outX1 i (offsets x w3 b3 w4 b4) an) ∗ owns (c : Thread nD τ) a13 fullShare (outY1 i (offsets x w3 b3 w4 b4) an)
            ∗ owns (c : Thread nD τ) a14 fullShare (outX2 i (offsets x w3 b3 w4 b4) an) ∗ owns (c : Thread nD τ) a15 fullShare (outY2 i (offsets x w3 b3 w4 b4) an)
            ∗ owns (c : Thread nD τ) a16 fullShare (outL i (logits x w1 b1 w2 b2) : S512x1.Idx → Elt F .i32)) -∗ Q ⟨⟩))
      ⊢ wp frame (wpE (defs₀ (F := F)) Variants.none c none) E
          (cc0__heads_body (F := F) i a1 h1 a2 h2 a3 h3 a4 h4 a5 h5 a6 h6 a7 h7 a8 h8 a9 h9 a10 h10 a11 h11 a12 h12 a13 h13 a14 h14 a15 h15 a16 h16) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, -, H11⟩, ⟨%f12, -, H12⟩, ⟨%f13, -, H13⟩, ⟨%f14, -, H14⟩, ⟨%f15, -, H15⟩, ⟨%f16, -, H16⟩, Hk⟩
  subst e1 e2 e3 e4 e5 e6 e7 e8 e9 e10
  rw [body_eq]
  sl_exec
  sl_step
  iapply Hk
  have l1 : a1.view.readAt (Elt F) (Rect.unit (s := S512x256) ![0, 0] S512x256.size inb_S512x256_S512x256_0_0).toLoadRect f1 = a1.view.read (Elt F) f1 :=
    load_all _ _ zeros2 _
  have l2 : a2.view.readAt (Elt F) (Rect.unit (s := S512x4) ![0, 0] S512x4.size inb_S512x4_S512x4_0_0).toLoadRect f2 = a2.view.read (Elt F) f2 :=
    load_all _ _ zeros2 _
  have l3 : a3.view.readAt (Elt F) (Rect.unit (s := S256x256) ![0, 0] S256x256.size inb_S256x256_S256x256_0_0).toLoadRect f3 = a3.view.read (Elt F) f3 :=
    load_all _ _ zeros2 _
  have l4 : a4.view.readAt (Elt F) (Rect.unit (s := S1x256) ![0, 0] S1x256.size inb_S1x256_S1x256_0_0).toLoadRect f4 = a4.view.read (Elt F) f4 :=
    load_all _ _ zeros2 _
  have l5 : a5.view.readAt (Elt F) (Rect.unit (s := S256x80) ![0, 0] S256x80.size inb_S256x80_S256x80_0_0).toLoadRect f5 = a5.view.read (Elt F) f5 :=
    load_all _ _ zeros2 _
  have l6 : a6.view.readAt (Elt F) (Rect.unit (s := S1x80) ![0, 0] S1x80.size inb_S1x80_S1x80_0_0).toLoadRect f6 = a6.view.read (Elt F) f6 :=
    load_all _ _ zeros2 _
  have l7 : a7.view.readAt (Elt F) (Rect.unit (s := S256x256) ![0, 0] S256x256.size inb_S256x256_S256x256_0_0).toLoadRect f7 = a7.view.read (Elt F) f7 :=
    load_all _ _ zeros2 _
  have l8 : a8.view.readAt (Elt F) (Rect.unit (s := S1x256) ![0, 0] S1x256.size inb_S1x256_S1x256_0_0).toLoadRect f8 = a8.view.read (Elt F) f8 :=
    load_all _ _ zeros2 _
  have l9 : a9.view.readAt (Elt F) (Rect.unit (s := S256x4) ![0, 0] S256x4.size inb_S256x4_S256x4_0_0).toLoadRect f9 = a9.view.read (Elt F) f9 :=
    load_all _ _ zeros2 _
  have l10 : a10.view.readAt (Elt F) (Rect.unit (s := S1x4) ![0, 0] S1x4.size inb_S1x4_S1x4_0_0).toLoadRect f10 = a10.view.read (Elt F) f10 :=
    load_all _ _ zeros2 _
  rw [l1, l2, l3, l4, l5, l6, l7, l8, l9, l10]
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]
  · iexists _; isplitr; swap; (· iexact H11); ipureintro
    rw [store_all _ _ zeros2]
  isplitl [H12]
  · iexists _; isplitr; swap; (· iexact H12); ipureintro
    rw [store_all _ _ zeros2]
  isplitl [H13]
  · iexists _; isplitr; swap; (· iexact H13); ipureintro
    rw [store_all _ _ zeros2]
  isplitl [H14]
  · iexists _; isplitr; swap; (· iexact H14); ipureintro
    rw [store_all _ _ zeros2]
  isplitl [H15]
  · iexists _; isplitr; swap; (· iexact H15); ipureintro
    rw [store_all _ _ zeros2]
  iexists _; isplitr; swap; (· iexact H16); ipureintro
  rw [store_all _ _ zeros2]

end Body

section Run

variable (m : (ℓ : Loc nD τ sig) → Buf (Elt F) ℓ) (ρ : Dev nD → PrngReg)

/-- Block contents that agree with the two arrays cut into blocks on the rows inside the arrays. -/
def Agree (c : Dev nD) (t : Fin cfg0.N) (x : FVec F S512x256 .f32) (an : FVec F S512x4 .f32) : Prop :=
  win0_0.cut (grid0.coords t) x = iblk m c 0 t ∧ win0_1.cut (grid0.coords t) an = iblk m c 1 t

def blockLogits (c : Dev nD) (t : Fin cfg0.N) (x : FVec F S512x256 .f32) : FVec F S512x80 .f32 :=
  logits x (iblk m c 2 t) (iblk m c 3 t) (iblk m c 4 t) (iblk m c 5 t)
def blockOffsets (c : Dev nD) (t : Fin cfg0.N) (x : FVec F S512x256 .f32) : FVec F S512x4 .f32 :=
  offsets x (iblk m c 6 t) (iblk m c 7 t) (iblk m c 8 t) (iblk m c 9 t)

/-- What each column's block may be after a point. -/
def Left (c : Dev nD) (w : Fin cfg0.W) (t : Fin cfg0.N) (X : (cfg0.win w).block.Idx → Elt F (cfg0.win w).elt) : Prop :=
  match w, X with
  | ⟨10, _⟩, X => ∃ x an, Agree m c t x an ∧ X = outS (grid0.coords t) (blockLogits m c t x)
  | ⟨11, _⟩, X => ∃ x an, Agree m c t x an ∧ X = outX1 (grid0.coords t) (blockOffsets m c t x) an
  | ⟨12, _⟩, X => ∃ x an, Agree m c t x an ∧ X = outY1 (grid0.coords t) (blockOffsets m c t x) an
  | ⟨13, _⟩, X => ∃ x an, Agree m c t x an ∧ X = outX2 (grid0.coords t) (blockOffsets m c t x) an
  | ⟨14, _⟩, X => ∃ x an, Agree m c t x an ∧ X = outY2 (grid0.coords t) (blockOffsets m c t x) an
  | ⟨15, _⟩, X => ∃ x an, Agree m c t x an ∧ X = outL (F := F) (grid0.coords t) (blockLogits m c t x)
  | _, _ => True

/-- The columns are held to `Left`. -/
def column : Fin cfg0.W → Bool := fun
  | 0 => false | 1 => false | 2 => false | 3 => false | 4 => false | 5 => false | 6 => false | 7 => false | 8 => false | 9 => false | 10 => true | 11 => true | 12 => true | 13 => true | 14 => true | 15 => true
  | ⟨_ + 16, h⟩ => absurd h (Nat.not_lt.2 (Nat.le_add_left _ _))

def dats : (p : Fin 1) → (c : Dev nD) → Dat τ (Elt F) Unit ℕ (UR sig nD τ) ℕ (cfgs p) c
  | ⟨0, _⟩ => fun c =>
    { A := fun w => V m c (Pipeline.arrRef spec0 w)
      after := fun w t => match w with
        | ⟨0, _⟩ => win0_0.fill (grid0.coords t) (fun _ => Scalar.ofBits .f32 0x00000000#32) (iblk m c 0 t)
        | ⟨1, _⟩ => win0_1.fill (grid0.coords t) (fun _ => Scalar.ofBits .f32 0x00000000#32) (iblk m c 1 t)
        | ⟨2, _⟩ => iblk m c 2 t
        | ⟨3, _⟩ => iblk m c 3 t
        | ⟨4, _⟩ => iblk m c 4 t
        | ⟨5, _⟩ => iblk m c 5 t
        | ⟨6, _⟩ => iblk m c 6 t
        | ⟨7, _⟩ => iblk m c 7 t
        | ⟨8, _⟩ => iblk m c 8 t
        | ⟨9, _⟩ => iblk m c 9 t
        | ⟨10, _⟩ => fun _ => Scalar.ofBits .f32 0x00000000#32
        | ⟨11, _⟩ => fun _ => Scalar.ofBits .f32 0x00000000#32
        | ⟨12, _⟩ => fun _ => Scalar.ofBits .f32 0x00000000#32
        | ⟨13, _⟩ => fun _ => Scalar.ofBits .f32 0x00000000#32
        | ⟨14, _⟩ => fun _ => Scalar.ofBits .f32 0x00000000#32
        | ⟨15, _⟩ => fun _ => 0#32
        | ⟨_ + 16, h⟩ => absurd h (Nat.not_lt.2 (Nat.le_add_left _ _))
      Φ := fun _ => Pipeline.ΦA spec0 c
      q := fun _ => fullShare
      owed := fun _ => 0 }

theorem A_eq (c : Dev nD) (w : Fin cfg0.W) : (dats m 0 c).A w = V m c (Pipeline.arrRef spec0 w) := by
  dsimp only [dats]

theorem fetch_0 (t : Fin cfg0.N) : (cfg0.win 0).fetch t = true := (by decide +kernel : ∀ t : Fin grid0.N, (cfg0.win 0).fetch t = true) t
theorem fetch_1 (t : Fin cfg0.N) : (cfg0.win 1).fetch t = true := (by decide +kernel : ∀ t : Fin grid0.N, (cfg0.win 1).fetch t = true) t

theorem before_0 (c : Dev nD) (t : Fin cfg0.N) (d) :
    (dats m 0 c).before 0 t d = win0_0.fill (grid0.coords t) d (iblk m c 0 t) := by
  unfold Dat.before; rw [if_pos (fetch_0 t)]; rfl
theorem before_1 (c : Dev nD) (t : Fin cfg0.N) (d) :
    (dats m 0 c).before 1 t d = win0_1.fill (grid0.coords t) d (iblk m c 1 t) := by
  unfold Dat.before; rw [if_pos (fetch_1 t)]; rfl
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d

theorem body_obligation (c : Dev nD) :
    BodyObligationRel (dats (F := F) m 0 c) (defs₀ (F := F)) Variants.none () Set.univ column (Left m c) := fun t => by
  rw [bigSep_W0, bigSep_W0]
  simp only [column]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, -, H10⟩, ⟨%Y11, -, H11⟩, ⟨%Y12, -, H12⟩, ⟨%Y13, -, H13⟩, ⟨%Y14, -, H14⟩, ⟨%Y15, -, H15⟩⟩
  rw [before_0 m c t d0, before_1 m c t d1, before_2 m c t d2, before_3 m c t d3, before_4 m c t d4, before_5 m c t d5,
    before_6 m c t d6, before_7 m c t d7, before_8 m c t d8, before_9 m c t d9]
  have hag : Agree m c t (win0_0.fill (grid0.coords t) d0 (iblk m c 0 t)) (win0_1.fill (grid0.coords t) d1 (iblk m c 1 t)) :=
    ⟨Window.cut_fill _ _ _ _, Window.cut_fill _ _ _ _⟩
  iapply (sound_body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15))
    (win0_0.fill (grid0.coords t) d0 (iblk m c 0 t)) (win0_1.fill (grid0.coords t) d1 (iblk m c 1 t)) (iblk m c 2 t) (iblk m c 3 t) (iblk m c 4 t)
    (iblk m c 5 t) (iblk m c 6 t) (iblk m c 7 t) (iblk m c 8 t) (iblk m c 9 t) Y10 Y11 Y12 Y13 Y14 Y15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [HΦ]; · iexact HΦ
  isplitl [Ho]; · iexact Ho
  isplitl [H0]
  · iexists d0
    rw [show (cfg0.win 0).cut (cfg0.grid.coords t) ((dats m 0 c).after 0 t) = iblk m c 0 t from Window.cut_fill win0_0 _ _ _]
    iexact H0
  isplitl [H1]
  · iexists d1
    rw [show (cfg0.win 1).cut (cfg0.grid.coords t) ((dats m 0 c).after 1 t) = iblk m c 1 t from Window.cut_fill win0_1 _ _ _]
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; (· iexact H10); ipureintro
    exact ⟨_, _, hag, rfl⟩
  isplitl [H11]
  · iexists _; isplitr; swap; (· iexact H11); ipureintro
    exact ⟨_, _, hag, rfl⟩
  isplitl [H12]
  · iexists _; isplitr; swap; (· iexact H12); ipureintro
    exact ⟨_, _, hag, rfl⟩
  isplitl [H13]
  · iexists _; isplitr; swap; (· iexact H13); ipureintro
    exact ⟨_, _, hag, rfl⟩
  isplitl [H14]
  · iexists _; isplitr; swap; (· iexact H14); ipureintro
    exact ⟨_, _, hag, rfl⟩
  iexists _; isplitr; swap; (· iexact H15); ipureintro
  exact ⟨_, _, hag, rfl⟩

/-- The run's data: exact for the inputs, `Left` for the columns. -/
def rdat (c : Dev nD) : RDat τ (Elt F) Unit ℕ (UR sig nD τ) ℕ cfg0 c := (dats m 0 c).toRRel column (Left m c)

set_option backward.isDefEq.respectTransparency.types false in
set_option maxHeartbeats 800000 in
/-- Every memory the program ends in, its counters at zero. -/
theorem ends : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (fun c => (body_obligation m c).toRRel) (fun c => (dats m 0 c).share_full fun _ => rfl)
    (fun _ _ => rfl) (V m) (hmain m Variants.none) (fun c w => A_eq m c w) (fun _ _ => rfl) _ (fun _ h => h)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 4 rfl).trans ((A_eq m c 4).trans (V_main_arg4 m c)),
      ((h.1 c).2 main_arg5 (Pipeline.mem_restRefs_of main_arg5 (by decide) (by decide))).trans (V_main_arg5 m c),
      (h.1.arr_in c 6 rfl).trans ((A_eq m c 6).trans (V_main_arg6 m c)),
      ((h.1 c).2 main_arg7 (Pipeline.mem_restRefs_of main_arg7 (by decide) (by decide))).trans (V_main_arg7 m c),
      (h.1.arr_in c 8 rfl).trans ((A_eq m c 8).trans (V_main_arg8 m c)),
      ((h.1 c).2 main_arg9 (Pipeline.mem_restRefs_of main_arg9 (by decide) (by decide))).trans (V_main_arg9 m c)⟩, h.2⟩) (ends m ρ)

end Run

end Nms.Heads

end
-- ==== Proof.HeadsRow.lean ====
/-
  The heads row by row over the extended reals: the logits and offsets of one row of features, the best class and its label, and
  what the body's blocks hold in each row.
-/
module

public import proofs.«01_k».proof.Proof.Heads
public import proofs.«01_k».proof.Proof.SupMath
public import Idealize.ShloMosaic.Lib.Pointwise

@[expose] public section

set_option maxRecDepth 16384

noncomputable section

namespace Nms.Heads

open Cert.HeadsIdeal Cert.HeadsIdeal.Gen
open Idealize.ShloMosaic
open Idealize.ShloMosaic.StableHlo.Predicate

/-! ## One row -/

/-- A row's hidden layer. -/
def hidR (x : Fin 256 → EReal) (w : Fin 256 → Fin 256 → EReal) (b : Fin 256 → EReal) (k : Fin 256) : EReal := max (∑ j, x j * w j k + b k) 0

/-- A row's outputs of a second layer of `n`. -/
def outR {n : ℕ} (h : Fin 256 → EReal) (w : Fin 256 → Fin n → EReal) (b : Fin n → EReal) (c : Fin n) : EReal := ∑ k, h k * w k c + b c

theorem hidden_apply (x : FVec Ideal S512x256 .f32) (w : FVec Ideal S256x256 .f32) (b : FVec Ideal S1x256 .f32) (r : Fin 512) (k : Fin 256) :
    hidden x w b (ix2 r k) = hidR (fun j => x (ix2 r j)) (fun j k => w (ix2 j k)) (fun k => b (ix2 0 k)) k := by
  unfold hidden
  pointwise
  rfl

theorem logits_apply (x : FVec Ideal S512x256 .f32) (w1 : FVec Ideal S256x256 .f32) (b1 : FVec Ideal S1x256 .f32) (w2 : FVec Ideal S256x80 .f32)
    (b2 : FVec Ideal S1x80 .f32) (r : Fin 512) (c : Fin 80) :
    logits x w1 b1 w2 b2 (ix2 r c) = outR (hidR (fun j => x (ix2 r j)) (fun j k => w1 (ix2 j k)) (fun k => b1 (ix2 0 k))) (fun k c => w2 (ix2 k c)) (fun c => b2 (ix2 0 c)) c := by
  unfold logits
  pointwise [hidden_apply]
  rfl

theorem offsets_apply (x : FVec Ideal S512x256 .f32) (w1 : FVec Ideal S256x256 .f32) (b1 : FVec Ideal S1x256 .f32) (w2 : FVec Ideal S256x4 .f32)
    (b2 : FVec Ideal S1x4 .f32) (r : Fin 512) (c : Fin 4) :
    offsets x w1 b1 w2 b2 (ix2 r c) = outR (hidR (fun j => x (ix2 r j)) (fun j k => w1 (ix2 j k)) (fun k => b1 (ix2 0 k))) (fun k c => w2 (ix2 k c)) (fun c => b2 (ix2 0 c)) c := by
  unfold offsets
  pointwise [hidden_apply]
  rfl

/-! ## The best class -/

theorem fin_zero_le (a : Fin 80) : 0 ≤ a := Fin.zero_le a

theorem best_apply (l : FVec Ideal S512x80 .f32) (r : Fin 512) :
    best l (ix2 r 0) = (fun c : Fin 80 => (l (ix2 r c) : EReal)) (perm (α := EReal) (fun c : Fin 80 => l (ix2 r c)) 0) := by
  have hf : best l (ix2 r 0) = Finset.fold max (Ideal.ofBits FTy.f32 4286578688#32) (fun c => (l (ix2 r c) : EReal)) Finset.univ := by
    unfold best
    pointwise
  have hp := perm_first (α := EReal) (fun c : Fin 80 => l (ix2 r c)) 0 fin_zero_le
  obtain ⟨h1, h2, -⟩ := fold_takes (β := EReal) max (fun a b => b ≤ a) le_refl (fun a b c h1 h2 => le_trans h2 h1)
    (fun a b => ⟨max_choice a b, le_max_left a b, le_max_right a b⟩) (Ideal.ofBits .f32 4286578688#32) (fun c => (l (ix2 r c) : EReal)) Finset.univ
  rw [hf]
  refine le_antisymm ?_ (h2 _ (Finset.mem_univ _))
  rcases h1 with e | ⟨p, _, e⟩
  · rw [e]
    have hb : Ideal.ofBits .f32 4286578688#32 = (⊥ : EReal) := by simp [Ideal.ofBits, Ideal.ieee]
    rw [hb]
    exact bot_le
  · rw [e]
    exact hp.1 p

theorem label_apply (l : FVec Ideal S512x80 .f32) (r : Fin 512) :
    label l (ix2 r 0) = BitVec.ofNat 32 (perm (α := EReal) (fun c : Fin 80 => l (ix2 r c)) 0).val := by
  have hf : label l (ix2 r 0) = Finset.fold IntOp.minsi (2147483647#32)
      (fun x : Fin 80 => if (l (ix2 r x) : EReal) = best l (ix2 r 0) then BitVec.ofNat 32 x.val else 80#32) Finset.univ := by
    unfold label
    pointwise
  rw [hf, best_apply]
  have hp := perm_first (α := EReal) (fun c : Fin 80 => l (ix2 r c)) 0 fin_zero_le
  generalize perm (α := EReal) (fun c : Fin 80 => l (ix2 r c)) 0 = i at hp
  have hi := i.isLt
  obtain ⟨h1, h2, -⟩ := fold_takes (β := BitVec 32) IntOp.minsi (fun a b => a.toInt ≤ b.toInt) (fun a => Int.le_refl _) (fun a b c h1 h2 => Int.le_trans h1 h2)
    (fun a b => by
      unfold IntOp.minsi
      split <;> rename_i h <;> simp only [BitVec.slt, BitVec.sle, decide_eq_true_eq] at h
      · exact ⟨Or.inl rfl, by omega, by omega⟩
      · exact ⟨Or.inr rfl, by omega, by omega⟩) 2147483647#32
    (fun x : Fin 80 => if (l (ix2 r x) : EReal) = l (ix2 r i) then BitVec.ofNat 32 x.val else 80#32) Finset.univ
  have ei : (BitVec.ofNat 32 i.val).toInt = i.val := toInt_ofNat_small _ (by omega)
  refine BitVec.eq_of_toInt_eq (le_antisymm ?_ ?_)
  · have := h2 i (Finset.mem_univ _)
    rw [if_pos rfl] at this
    exact this
  · rw [ei]
    rcases h1 with e | ⟨p, _, e⟩
    · rw [e, show (2147483647#32).toInt = 2147483647 by decide]; omega
    · rw [e]
      have hpl := p.isLt
      split
      · rename_i hq
        rw [toInt_ofNat_small _ (by omega)]
        exact_mod_cast hp.2 p hq
      · rw [show (80#32).toInt = 80 by decide]; omega

/-! ## The blocks' rows -/

/-- A row's score and label, of its logits. -/
def scoreR (f : Fin 80 → EReal) : EReal := Ideal.logistic (f (perm f 0))
def classR (f : Fin 80 → EReal) : BitVec 32 := BitVec.ofNat 32 (perm f 0).val

/-- A row's box, of its offsets and its anchor. -/
def midR (o a : Fin 4 → EReal) (p q : Fin 4) : EReal := a p + Ideal.tanh (o p) * a q
def sideR (o a : Fin 4 → EReal) (q : Fin 4) : EReal := Ideal.ofBits .f32 0x3F000000#32 * (a q * Ideal.exp (Ideal.tanh (o q)))

theorem inside_word (n r : ℕ) (hn : n < 40) (hr : r < 512) :
    IntOp.cmpi .slt (IntOp.addi (Scalar.muli (BitVec.ofNat 32 n) 512#32) (BitVec.ofNat 32 r)) 20000#32 = BitVec.ofBool (decide (n * 512 + r < 20000)) := by
  have h : IntOp.addi (Scalar.muli (BitVec.ofNat 32 n) 512#32) (BitVec.ofNat 32 r) = BitVec.ofNat 32 (n * 512 + r) := by
    show BitVec.ofNat 32 n * 512#32 + BitVec.ofNat 32 r = _
    apply BitVec.eq_of_toNat_eq
    simp only [BitVec.toNat_add, BitVec.toNat_mul, BitVec.toNat_ofNat]
    omega
  rw [h]
  show BitVec.ofBool ((BitVec.ofNat 32 (n * 512 + r)).slt 20000#32) = _
  congr 1
  unfold BitVec.slt
  rw [toInt_ofNat_small _ (by omega), show (20000#32).toInt = 20000 by decide]
  exact decide_eq_decide.mpr (by omega)

theorem select_inside {α : Type} (p : Prop) [Decidable p] (a b : α) : Scalar.select (BitVec.ofBool (decide p)) a b = if p then a else b := by
  unfold Scalar.select
  by_cases h : p <;> simp [h]

section Rows
variable (i : grid0.Coords) (l : FVec Ideal S512x80 .f32) (o a : FVec Ideal S512x4 .f32) (r : Fin 512)

theorem outS_apply : outS i l (ix2 r 0) = if (i 0).val * 512 + r.val < 20000 then scoreR (fun c => l (ix2 r c)) else Ideal.ofBits .f32 0xCE6E6B28#32 := by
  unfold outS inside
  pointwise
  rw [inside_word _ _ (i 0).isLt r.isLt, select_inside, best_apply]
  rfl

theorem outL_apply : outL i l (ix2 r 0) = if (i 0).val * 512 + r.val < 20000 then classR (fun c => l (ix2 r c)) else 0#32 := by
  unfold outL inside
  pointwise
  rw [inside_word _ _ (i 0).isLt r.isLt, select_inside, label_apply]
  rfl

theorem outX1_apply : outX1 i o a (ix2 r 0) = if (i 0).val * 512 + r.val < 20000
    then midR (fun q => o (ix2 r q)) (fun q => a (ix2 r q)) 0 2 - sideR (fun q => o (ix2 r q)) (fun q => a (ix2 r q)) 2 else 0 := by
  unfold outX1
  pointwise [inside, cx, cy, bw, bh, half, nought, col0, col1, col2, col3]
  rw [inside_word _ _ (i 0).isLt r.isLt, select_inside]
  rfl

theorem outY1_apply : outY1 i o a (ix2 r 0) = if (i 0).val * 512 + r.val < 20000
    then midR (fun q => o (ix2 r q)) (fun q => a (ix2 r q)) 1 3 - sideR (fun q => o (ix2 r q)) (fun q => a (ix2 r q)) 3 else 0 := by
  unfold outY1
  pointwise [inside, cx, cy, bw, bh, half, nought, col0, col1, col2, col3]
  rw [inside_word _ _ (i 0).isLt r.isLt, select_inside]
  rfl

theorem outX2_apply : outX2 i o a (ix2 r 0) = if (i 0).val * 512 + r.val < 20000
    then midR (fun q => o (ix2 r q)) (fun q => a (ix2 r q)) 0 2 + sideR (fun q => o (ix2 r q)) (fun q => a (ix2 r q)) 2 else 0 := by
  unfold outX2
  pointwise [inside, cx, cy, bw, bh, half, nought, col0, col1, col2, col3]
  rw [inside_word _ _ (i 0).isLt r.isLt, select_inside]
  rfl

theorem outY2_apply : outY2 i o a (ix2 r 0) = if (i 0).val * 512 + r.val < 20000
    then midR (fun q => o (ix2 r q)) (fun q => a (ix2 r q)) 1 3 + sideR (fun q => o (ix2 r q)) (fun q => a (ix2 r q)) 3 else 0 := by
  unfold outY2
  pointwise [inside, cx, cy, bw, bh, half, nought, col0, col1, col2, col3]
  rw [inside_word _ _ (i 0).isLt r.isLt, select_inside]
  rfl

end Rows

/-! ## Whole columns -/

/-- Every row's outputs of two layers. -/
def rowO {n : ℕ} (X : (⟨2, ![20000, 256]⟩ : Shape).Idx → EReal) (W1 : (⟨2, ![256, 256]⟩ : Shape).Idx → EReal) (B1 : (⟨1, ![256]⟩ : Shape).Idx → EReal)
    (W2 : (⟨2, ![256, n]⟩ : Shape).Idx → EReal) (B2 : (⟨1, ![n]⟩ : Shape).Idx → EReal) (R : Fin 20000) : Fin n → EReal :=
  outR (hidR (fun j => X (ix2 R j)) (fun j k => W1 (ix2 j k)) (fun k => B1 (ix1 k))) (fun k c => W2 (ix2 k c)) (fun c => B2 (ix1 c))

/-- A column of 20480 of the 20000 rows' values, the rest the given value. -/
def padded {α : Type} (z : α) (g : Fin 20000 → α) (y : (⟨2, ![20480, 1]⟩ : Shape).Idx) : α :=
  if h : (y 0).val < 20000 then g ⟨(y 0).val, h⟩ else z

section Columns
variable (L : Fin 20000 → Fin 80 → EReal) (O : Fin 20000 → Fin 4 → EReal) (A : (⟨2, ![20000, 4]⟩ : Shape).Idx → EReal)

def colS : (⟨2, ![20480, 1]⟩ : Shape).Idx → EReal := padded (Ideal.ofBits .f32 0xCE6E6B28#32) fun R => scoreR (L R)
def colL : (⟨2, ![20480, 1]⟩ : Shape).Idx → BitVec 32 := padded 0#32 fun R => classR (L R)
def colX1 : (⟨2, ![20480, 1]⟩ : Shape).Idx → EReal := padded 0 fun R => midR (O R) (fun q => A (ix2 R q)) 0 2 - sideR (O R) (fun q => A (ix2 R q)) 2
def colY1 : (⟨2, ![20480, 1]⟩ : Shape).Idx → EReal := padded 0 fun R => midR (O R) (fun q => A (ix2 R q)) 1 3 - sideR (O R) (fun q => A (ix2 R q)) 3
def colX2 : (⟨2, ![20480, 1]⟩ : Shape).Idx → EReal := padded 0 fun R => midR (O R) (fun q => A (ix2 R q)) 0 2 + sideR (O R) (fun q => A (ix2 R q)) 2
def colY2 : (⟨2, ![20480, 1]⟩ : Shape).Idx → EReal := padded 0 fun R => midR (O R) (fun q => A (ix2 R q)) 1 3 + sideR (O R) (fun q => A (ix2 R q)) 3

end Columns

end Nms.Heads

end
-- ==== Proof.HeadsOut.lean ====
/-
  The heads' results over the extended reals: each of the six columns, row by row, of what the arguments hold.
-/
module

public import proofs.«01_k».proof.Proof.HeadsRow
public import Idealize.ShloMosaic.Lib.StableHlo.ReadAt

@[expose] public section

set_option maxRecDepth 16384

noncomputable section

namespace Nms.Heads

open Cert.HeadsIdeal Cert.HeadsIdeal.Gen
open Idealize.ShloMosaic
open Idealize.ShloMosaic.TcCoe Idealize.ShloMosaic.Tactic
open Idealize.SL.Sem
open Idealize.ShloMosaic.Pipeline (Dat RDat Cfg Window)

variable (m : (ℓ : Loc nD τ sig) → Buf (Elt Ideal) ℓ) (ρ : Dev nD → PrngReg)

/-! ## Where the blocks lie -/

theorem coord_eq : ∀ t : Fin cfg0.N, (grid0.coords t 0).val = t.val := (by decide +kernel : ∀ t : Fin grid0.N, _)
theorem point_lt (t : Fin cfg0.N) : t.val < 40 := t.isLt

theorem idx2 : ∀ t : Fin cfg0.N, win0_2.index t (0 : Fin 2) = 0 ∧ win0_2.index t (1 : Fin 2) = 0 := (by decide +kernel : ∀ t : Fin grid0.N, _)
theorem emb2 (t : Fin cfg0.N) (j : S256x256.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 256 + 1 * (j 1).val = (j 1).val; omega
theorem at2 (c : Dev nD) (t : Fin cfg0.N) : (iblk m c 2 t : S256x256.Idx → EReal) = m ((c.tc : Thread nD τ).loc main_arg2) := by
  funext j
  show V m c main_arg2 (((cfg0.win 2).blk t).view.emb j) = _
  rw [emb2, V_main_arg2]

theorem idx3 : ∀ t : Fin cfg0.N, win0_3.index t (0 : Fin 2) = 0 ∧ win0_3.index t (1 : Fin 2) = 0 := (by decide +kernel : ∀ t : Fin grid0.N, _)
theorem emb3 (t : Fin cfg0.N) (j : S1x256.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega
theorem at3 (c : Dev nD) (t : Fin cfg0.N) (k : Fin 256) : (iblk m c 3 t : S1x256.Idx → EReal) (ix2 0 k) = m ((c.tc : Thread nD τ).loc main_arg3) (ix1 k) := by
  show V m c main_v0 (((cfg0.win 3).blk t).view.emb (ix2 0 k : S1x256.Idx)) = _
  rw [emb3]
  unfold V
  after_reads_at

theorem idx4 : ∀ t : Fin cfg0.N, win0_4.index t (0 : Fin 2) = 0 ∧ win0_4.index t (1 : Fin 2) = 0 := (by decide +kernel : ∀ t : Fin grid0.N, _)
theorem emb4 (t : Fin cfg0.N) (j : S256x80.Idx) : ((cfg0.win 4).blk t).view.emb j = j := by
  obtain ⟨e0, e1⟩ := idx4 t
  funext a; apply Fin.ext
  match a with
  | ⟨0, _⟩ => show win0_4.index t (0 : Fin 2) * 256 + 1 * (j 0).val = (j 0).val; omega
  | ⟨1, _⟩ => show win0_4.index t (1 : Fin 2) * 80 + 1 * (j 1).val = (j 1).val; omega
theorem at4 (c : Dev nD) (t : Fin cfg0.N) : (iblk m c 4 t : S256x80.Idx → EReal) = m ((c.tc : Thread nD τ).loc main_arg4) := by
  funext j
  show V m c main_arg4 (((cfg0.win 4).blk t).view.emb j) = _
  rw [emb4, V_main_arg4]

theorem idx5 : ∀ t : Fin cfg0.N, win0_5.index t (0 : Fin 2) = 0 ∧ win0_5.index t (1 : Fin 2) = 0 := (by decide +kernel : ∀ t : Fin grid0.N, _)
theorem emb5 (t : Fin cfg0.N) (j : S1x80.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 80 + 1 * (j 1).val = (j 1).val; omega
theorem at5 (c : Dev nD) (t : Fin cfg0.N) (k : Fin 80) : (iblk m c 5 t : S1x80.Idx → EReal) (ix2 0 k) = m ((c.tc : Thread nD τ).loc main_arg5) (ix1 k) := by
  show V m c main_v1 (((cfg0.win 5).blk t).view.emb (ix2 0 k : S1x80.Idx)) = _
  rw [emb5]
  unfold V
  after_reads_at

theorem idx6 : ∀ t : Fin cfg0.N, win0_6.index t (0 : Fin 2) = 0 ∧ win0_6.index t (1 : Fin 2) = 0 := (by decide +kernel : ∀ t : Fin grid0.N, _)
theorem emb6 (t : Fin cfg0.N) (j : S256x256.Idx) : ((cfg0.win 6).blk t).view.emb j = j := by
  obtain ⟨e0, e1⟩ := idx6 t
  funext a; apply Fin.ext
  match a with
  | ⟨0, _⟩ => show win0_6.index t (0 : Fin 2) * 256 + 1 * (j 0).val = (j 0).val; omega
  | ⟨1, _⟩ => show win0_6.index t (1 : Fin 2) * 256 + 1 * (j 1).val = (j 1).val; omega
theorem at6 (c : Dev nD) (t : Fin cfg0.N) : (iblk m c 6 t : S256x256.Idx → EReal) = m ((c.tc : Thread nD τ).loc main_arg6) := by
  funext j
  show V m c main_arg6 (((cfg0.win 6).blk t).view.emb j) = _
  rw [emb6, V_main_arg6]

theorem idx7 : ∀ t : Fin cfg0.N, win0_7.index t (0 : Fin 2) = 0 ∧ win0_7.index t (1 : Fin 2) = 0 := (by decide +kernel : ∀ t : Fin grid0.N, _)
theorem emb7 (t : Fin cfg0.N) (j : S1x256.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega
theorem at7 (c : Dev nD) (t : Fin cfg0.N) (k : Fin 256) : (iblk m c 7 t : S1x256.Idx → EReal) (ix2 0 k) = m ((c.tc : Thread nD τ).loc main_arg7) (ix1 k) := by
  show V m c main_v2 (((cfg0.win 7).blk t).view.emb (ix2 0 k : S1x256.Idx)) = _
  rw [emb7]
  unfold V
  after_reads_at

theorem idx8 : ∀ t : Fin cfg0.N, win0_8.index t (0 : Fin 2) = 0 ∧ win0_8.index t (1 : Fin 2) = 0 := (by decide +kernel : ∀ t : Fin grid0.N, _)
theorem emb8 (t : Fin cfg0.N) (j : S256x4.Idx) : ((cfg0.win 8).blk t).view.emb j = j := by
  obtain ⟨e0, e1⟩ := idx8 t
  funext a; apply Fin.ext
  match a with
  | ⟨0, _⟩ => show win0_8.index t (0 : Fin 2) * 256 + 1 * (j 0).val = (j 0).val; omega
  | ⟨1, _⟩ => show win0_8.index t (1 : Fin 2) * 4 + 1 * (j 1).val = (j 1).val; omega
theorem at8 (c : Dev nD) (t : Fin cfg0.N) : (iblk m c 8 t : S256x4.Idx → EReal) = m ((c.tc : Thread nD τ).loc main_arg8) := by
  funext j
  show V m c main_arg8 (((cfg0.win 8).blk t).view.emb j) = _
  rw [emb8, V_main_arg8]

theorem idx9 : ∀ t : Fin cfg0.N, win0_9.index t (0 : Fin 2) = 0 ∧ win0_9.index t (1 : Fin 2) = 0 := (by decide +kernel : ∀ t : Fin grid0.N, _)
theorem emb9 (t : Fin cfg0.N) (j : S1x4.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 4 + 1 * (j 1).val = (j 1).val; omega
theorem at9 (c : Dev nD) (t : Fin cfg0.N) (k : Fin 4) : (iblk m c 9 t : S1x4.Idx → EReal) (ix2 0 k) = m ((c.tc : Thread nD τ).loc main_arg9) (ix1 k) := by
  show V m c main_v3 (((cfg0.win 9).blk t).view.emb (ix2 0 k : S1x4.Idx)) = _
  rw [emb9]
  unfold V
  after_reads_at

theorem idx0 : ∀ t : Fin cfg0.N, win0_0.index t (0 : Fin 2) = t.val ∧ win0_0.index t (1 : Fin 2) = 0 := (by decide +kernel : ∀ t : Fin grid0.N, _)
theorem size0 : ∀ t : Fin cfg0.N, (win0_0.xblock (grid0.coords t)).size (0 : Fin 2) = min 512 (20000 - t.val * 512)
    ∧ (win0_0.xblock (grid0.coords t)).size (1 : Fin 2) = 256 := (by decide +kernel : ∀ t : Fin grid0.N, _)

/-- A row of a block that agrees with the array is the array's row. -/
theorem row0 (c : Dev nD) (t : Fin cfg0.N) (x : FVec Ideal S512x256 .f32) (hx : win0_0.cut (grid0.coords t) x = iblk m c 0 t) (r : Fin 512)
    (h : t.val * 512 + r.val < 20000) (j : Fin 256) : x (ix2 r j) = m ((c.tc : Thread nD τ).loc main_arg0) (ix2 ⟨t.val * 512 + r.val, h⟩ j) := by
  obtain ⟨s0, s1⟩ := size0 t
  obtain ⟨e0, e1⟩ := idx0 t
  have hb : ∀ a : Fin 2, (ix2 r j a : Fin (S512x256.size a)).val < (win0_0.xblock (grid0.coords t)).size a := fun a => by
    match a with
    | ⟨0, _⟩ => have := r.isLt; exact lt_of_lt_of_eq (show r.val < min 512 (20000 - t.val * 512) by omega) s0.symm
    | ⟨1, _⟩ => exact lt_of_lt_of_eq j.isLt s1.symm
  have hc := congrFun hx (fun a => ⟨(ix2 r j a : Fin (S512x256.size a)).val, hb a⟩)
  refine Eq.trans (congrArg x ?_) (hc.trans ?_)
  · funext a
    match a with
    | ⟨0, _⟩ => rfl
    | ⟨1, _⟩ => rfl
  · show V m c main_arg0 (((cfg0.win 0).blk t).view.emb _) = _
    rw [V_main_arg0]
    refine congrArg _ ?_
    funext a; apply Fin.ext
    match a with
    | ⟨0, _⟩ => show win0_0.index t (0 : Fin 2) * 512 + 1 * r.val = t.val * 512 + r.val; omega
    | ⟨1, _⟩ => show win0_0.index t (1 : Fin 2) * 256 + 1 * j.val = j.val; omega

theorem idx1 : ∀ t : Fin cfg0.N, win0_1.index t (0 : Fin 2) = t.val ∧ win0_1.index t (1 : Fin 2) = 0 := (by decide +kernel : ∀ t : Fin grid0.N, _)
theorem size1 : ∀ t : Fin cfg0.N, (win0_1.xblock (grid0.coords t)).size (0 : Fin 2) = min 512 (20000 - t.val * 512)
    ∧ (win0_1.xblock (grid0.coords t)).size (1 : Fin 2) = 4 := (by decide +kernel : ∀ t : Fin grid0.N, _)

/-- A row of a block that agrees with the array is the array's row. -/
theorem row1 (c : Dev nD) (t : Fin cfg0.N) (x : FVec Ideal S512x4 .f32) (hx : win0_1.cut (grid0.coords t) x = iblk m c 1 t) (r : Fin 512)
    (h : t.val * 512 + r.val < 20000) (j : Fin 4) : x (ix2 r j) = m ((c.tc : Thread nD τ).loc main_arg1) (ix2 ⟨t.val * 512 + r.val, h⟩ j) := by
  obtain ⟨s0, s1⟩ := size1 t
  obtain ⟨e0, e1⟩ := idx1 t
  have hb : ∀ a : Fin 2, (ix2 r j a : Fin (S512x4.size a)).val < (win0_1.xblock (grid0.coords t)).size a := fun a => by
    match a with
    | ⟨0, _⟩ => have := r.isLt; exact lt_of_lt_of_eq (show r.val < min 512 (20000 - t.val * 512) by omega) s0.symm
    | ⟨1, _⟩ => exact lt_of_lt_of_eq j.isLt s1.symm
  have hc := congrFun hx (fun a => ⟨(ix2 r j a : Fin (S512x4.size a)).val, hb a⟩)
  refine Eq.trans (congrArg x ?_) (hc.trans ?_)
  · funext a
    match a with
    | ⟨0, _⟩ => rfl
    | ⟨1, _⟩ => rfl
  · show V m c main_arg1 (((cfg0.win 1).blk t).view.emb _) = _
    rw [V_main_arg1]
    refine congrArg _ ?_
    funext a; apply Fin.ext
    match a with
    | ⟨0, _⟩ => show win0_1.index t (0 : Fin 2) * 512 + 1 * r.val = t.val * 512 + r.val; omega
    | ⟨1, _⟩ => show win0_1.index t (1 : Fin 2) * 4 + 1 * j.val = j.val; omega

/-! ## The rows -/

/-- The logits and offsets, row by row, of what the arguments hold. -/
def L (c : Dev nD) : Fin 20000 → Fin 80 → EReal :=
  rowO (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))
def O (c : Dev nD) : Fin 20000 → Fin 4 → EReal :=
  rowO (m ((c.tc : Thread nD τ).loc main_arg0)) (m ((c.tc : Thread nD τ).loc main_arg6)) (m ((c.tc : Thread nD τ).loc main_arg7))
    (m ((c.tc : Thread nD τ).loc main_arg8)) (m ((c.tc : Thread nD τ).loc main_arg9))

section Point
variable (c : Dev nD) (t : Fin cfg0.N) (x : FVec Ideal S512x256 .f32) (an : FVec Ideal S512x4 .f32) (hag : Agree m c t x an) (r : Fin 512)
  (h : t.val * 512 + r.val < 20000)
include hag

theorem logits_row : (fun k : Fin 80 => (blockLogits m c t x (ix2 r k) : EReal)) = L m c ⟨t.val * 512 + r.val, h⟩ := by
  funext k
  unfold blockLogits L rowO
  refine (logits_apply _ _ _ _ _ r k).trans ?_
  rw [at2 m c t, at4 m c t, funext (at3 m c t), funext (at5 m c t), funext (row0 m c t x hag.1 r h)]

theorem offsets_row : (fun k : Fin 4 => (blockOffsets m c t x (ix2 r k) : EReal)) = O m c ⟨t.val * 512 + r.val, h⟩ := by
  funext k
  unfold blockOffsets O rowO
  refine (offsets_apply _ _ _ _ _ r k).trans ?_
  rw [at6 m c t, at8 m c t, funext (at7 m c t), funext (at9 m c t), funext (row0 m c t x hag.1 r h)]

theorem anchor_row : (fun k : Fin 4 => (an (ix2 r k) : EReal)) = fun k => m ((c.tc : Thread nD τ).loc main_arg1) (ix2 ⟨t.val * 512 + r.val, h⟩ k) :=
  funext (row1 m c t an hag.2 r h)

end Point

theorem if_padded {α : Type} (z : α) (g : Fin 20000 → α) (y : (⟨2, ![20480, 1]⟩ : Shape).Idx) (n : ℕ) (hn : (y 0).val = n) (v : α)
    (hv : ∀ h : n < 20000, v = g ⟨n, h⟩) : (if n < 20000 then v else z) = padded z g y := by
  subst hn
  unfold padded
  by_cases h : (y 0).val < 20000
  · rw [if_pos h, dif_pos h, hv h]
  · rw [if_neg h, dif_neg h]

/-! ## The columns -/

theorem idx10 : ∀ t : Fin cfg0.N, win0_10.index t (0 : Fin 2) = t.val := (by decide +kernel : ∀ t : Fin grid0.N, _)
theorem fits10 (c : Dev nD) (after : (w' : Fin cfg0.W) → Fin cfg0.N → (cfg0.win w').block.Idx → Elt Ideal (cfg0.win w').elt)
    (hl : ∀ t, (cfg0.win 10).flush t = true → Left m c 10 t (after 10 t)) : ((rdat m c).withAfter after).arrAt 10 cfg0.N = colS (L m c) := by
  refine Dat.arrAt_eq_of_covers _ 10 _ (by decide +kernel) fun t hf y => ?_
  obtain ⟨x, an, hag, e⟩ := hl t hf
  have e0 := idx10 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outS_apply (grid0.coords t) _ r).trans ?_
  rw [coord_eq t]
  refine if_padded _ _ _ _ ?_ _ fun h => ?_
  · show win0_10.index t (0 : Fin 2) * 512 + 1 * r.val = _; omega
  · rw [logits_row m c t x an hag r h]

theorem idx11 : ∀ t : Fin cfg0.N, win0_11.index t (0 : Fin 2) = t.val := (by decide +kernel : ∀ t : Fin grid0.N, _)
theorem fits11 (c : Dev nD) (after : (w' : Fin cfg0.W) → Fin cfg0.N → (cfg0.win w').block.Idx → Elt Ideal (cfg0.win w').elt)
    (hl : ∀ t, (cfg0.win 11).flush t = true → Left m c 11 t (after 11 t)) : ((rdat m c).withAfter after).arrAt 11 cfg0.N = colX1 (O m c) (m ((c.tc : Thread nD τ).loc main_arg1)) := by
  refine Dat.arrAt_eq_of_covers _ 11 _ (by decide +kernel) fun t hf y => ?_
  obtain ⟨x, an, hag, e⟩ := hl t hf
  have e0 := idx11 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outX1_apply (grid0.coords t) _ _ r).trans ?_
  rw [coord_eq t]
  refine if_padded _ _ _ _ ?_ _ fun h => ?_
  · show win0_11.index t (0 : Fin 2) * 512 + 1 * r.val = _; omega
  · rw [offsets_row m c t x an hag r h, anchor_row m c t x an hag r h]

theorem idx12 : ∀ t : Fin cfg0.N, win0_12.index t (0 : Fin 2) = t.val := (by decide +kernel : ∀ t : Fin grid0.N, _)
theorem fits12 (c : Dev nD) (after : (w' : Fin cfg0.W) → Fin cfg0.N → (cfg0.win w').block.Idx → Elt Ideal (cfg0.win w').elt)
    (hl : ∀ t, (cfg0.win 12).flush t = true → Left m c 12 t (after 12 t)) : ((rdat m c).withAfter after).arrAt 12 cfg0.N = colY1 (O m c) (m ((c.tc : Thread nD τ).loc main_arg1)) := by
  refine Dat.arrAt_eq_of_covers _ 12 _ (by decide +kernel) fun t hf y => ?_
  obtain ⟨x, an, hag, e⟩ := hl t hf
  have e0 := idx12 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outY1_apply (grid0.coords t) _ _ r).trans ?_
  rw [coord_eq t]
  refine if_padded _ _ _ _ ?_ _ fun h => ?_
  · show win0_12.index t (0 : Fin 2) * 512 + 1 * r.val = _; omega
  · rw [offsets_row m c t x an hag r h, anchor_row m c t x an hag r h]

theorem idx13 : ∀ t : Fin cfg0.N, win0_13.index t (0 : Fin 2) = t.val := (by decide +kernel : ∀ t : Fin grid0.N, _)
theorem fits13 (c : Dev nD) (after : (w' : Fin cfg0.W) → Fin cfg0.N → (cfg0.win w').block.Idx → Elt Ideal (cfg0.win w').elt)
    (hl : ∀ t, (cfg0.win 13).flush t = true → Left m c 13 t (after 13 t)) : ((rdat m c).withAfter after).arrAt 13 cfg0.N = colX2 (O m c) (m ((c.tc : Thread nD τ).loc main_arg1)) := by
  refine Dat.arrAt_eq_of_covers _ 13 _ (by decide +kernel) fun t hf y => ?_
  obtain ⟨x, an, hag, e⟩ := hl t hf
  have e0 := idx13 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outX2_apply (grid0.coords t) _ _ r).trans ?_
  rw [coord_eq t]
  refine if_padded _ _ _ _ ?_ _ fun h => ?_
  · show win0_13.index t (0 : Fin 2) * 512 + 1 * r.val = _; omega
  · rw [offsets_row m c t x an hag r h, anchor_row m c t x an hag r h]

theorem idx14 : ∀ t : Fin cfg0.N, win0_14.index t (0 : Fin 2) = t.val := (by decide +kernel : ∀ t : Fin grid0.N, _)
theorem fits14 (c : Dev nD) (after : (w' : Fin cfg0.W) → Fin cfg0.N → (cfg0.win w').block.Idx → Elt Ideal (cfg0.win w').elt)
    (hl : ∀ t, (cfg0.win 14).flush t = true → Left m c 14 t (after 14 t)) : ((rdat m c).withAfter after).arrAt 14 cfg0.N = colY2 (O m c) (m ((c.tc : Thread nD τ).loc main_arg1)) := by
  refine Dat.arrAt_eq_of_covers _ 14 _ (by decide +kernel) fun t hf y => ?_
  obtain ⟨x, an, hag, e⟩ := hl t hf
  have e0 := idx14 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outY2_apply (grid0.coords t) _ _ r).trans ?_
  rw [coord_eq t]
  refine if_padded _ _ _ _ ?_ _ fun h => ?_
  · show win0_14.index t (0 : Fin 2) * 512 + 1 * r.val = _; omega
  · rw [offsets_row m c t x an hag r h, anchor_row m c t x an hag r h]

theorem idx15 : ∀ t : Fin cfg0.N, win0_15.index t (0 : Fin 2) = t.val := (by decide +kernel : ∀ t : Fin grid0.N, _)
theorem fits15 (c : Dev nD) (after : (w' : Fin cfg0.W) → Fin cfg0.N → (cfg0.win w').block.Idx → Elt Ideal (cfg0.win w').elt)
    (hl : ∀ t, (cfg0.win 15).flush t = true → Left m c 15 t (after 15 t)) : ((rdat m c).withAfter after).arrAt 15 cfg0.N = colL (L m c) := by
  refine Dat.arrAt_eq_of_covers _ 15 _ (by decide +kernel) fun t hf y => ?_
  obtain ⟨x, an, hag, e⟩ := hl t hf
  have e0 := idx15 t
  rw [RDat.withAfter_after, e]
  obtain ⟨r, rfl⟩ : ∃ r : Fin 512, y = (ix2 r 0 : S512x1.Idx) := ⟨y 0, by
    funext a
    match a with
    | ⟨0, _⟩ => rfl
    | ⟨1, _⟩ => exact Fin.ext (Nat.lt_one_iff.mp (y 1).isLt)⟩
  refine (outL_apply (grid0.coords t) _ r).trans ?_
  rw [coord_eq t]
  refine if_padded _ _ _ _ ?_ _ fun h => ?_
  · show win0_15.index t (0 : Fin 2) * 512 + 1 * r.val = _; omega
  · rw [logits_row m c t x an hag r h]

theorem values : θ_run (defs (F := Ideal)) (onTc (τ := τ) (main (F := Ideal))) ⟨m, fun _ => 0, ρ⟩ (fun r => ∀ c : Dev nD,
      r.2.mem ((c.tc : Thread nD τ).loc main_v4_0) = colS (L m c)
      ∧ r.2.mem ((c.tc : Thread nD τ).loc main_v4_1) = colX1 (O m c) (m ((c.tc : Thread nD τ).loc main_arg1))
      ∧ r.2.mem ((c.tc : Thread nD τ).loc main_v4_2) = colY1 (O m c) (m ((c.tc : Thread nD τ).loc main_arg1))
      ∧ r.2.mem ((c.tc : Thread nD τ).loc main_v4_3) = colX2 (O m c) (m ((c.tc : Thread nD τ).loc main_arg1))
      ∧ r.2.mem ((c.tc : Thread nD τ).loc main_v4_4) = colY2 (O m c) (m ((c.tc : Thread nD τ).loc main_arg1))
      ∧ r.2.mem ((c.tc : Thread nD τ).loc main_v4_5) = colL (L m c)) :=
  (θ_run _ _ _).mono (fun r h c => by
    obtain ⟨after, hl, ha⟩ := h.1.exists_exact c
    have hL : ∀ w t, column w = true → (cfg0.win w).flush t = true → Left m c w t (after w t) := fun w t hw hf =>
      Dat.toRRel_leaves (dats m 0 c) hw (hl w t hf)
    exact ⟨(ha 10).trans (fits10 m c after fun t => hL 10 t rfl), (ha 11).trans (fits11 m c after fun t => hL 11 t rfl),
      (ha 12).trans (fits12 m c after fun t => hL 12 t rfl), (ha 13).trans (fits13 m c after fun t => hL 13 t rfl),
      (ha 14).trans (fits14 m c after fun t => hL 14 t rfl), (ha 15).trans (fits15 m c after fun t => hL 15 t rfl)⟩) (ends m ρ)

end Nms.Heads

end
-- ==== Proof.HeadsRef.lean ====
/-
  The heads' reference over the extended reals: its six results, row by row.
-/
module

public import proofs.«01_k».proof.Proof.HeadsRow
public import proofs.«01_k».proof.Proof.Gen.ScoredIdeal.Run

@[expose] public section

set_option maxRecDepth 16384

noncomputable section

namespace Nms.Heads.Ref

open Cert.ScoredIdeal Cert.ScoredIdeal.Gen
open Idealize.ShloMosaic
open Idealize.ShloMosaic.TcCoe Idealize.SL.Sem
open Idealize.ShloMosaic.StableHlo.Predicate

/-! ## The best class by a sort -/

theorem logistic_mono : StrictMono Ideal.logistic := by
  intro a b h
  induction a using EReal.rec with
  | bot =>
    induction b using EReal.rec with
    | bot => exact absurd h (lt_irrefl _)
    | coe r =>
      rw [Ideal.logistic_bot, Ideal.logistic_coe]
      exact EReal.coe_pos.mpr (by positivity)
    | top => rw [Ideal.logistic_bot, Ideal.logistic_top]; exact zero_lt_one
  | coe q =>
    induction b using EReal.rec with
    | bot => exact absurd h (not_lt_bot)
    | coe r =>
      rw [Ideal.logistic_coe, Ideal.logistic_coe, EReal.coe_lt_coe_iff]
      have hq : q < r := EReal.coe_lt_coe_iff.mp h
      refine inv_strictAnti₀ (by positivity) ?_
      have := Real.exp_lt_exp.mpr (neg_lt_neg hq)
      linarith
    | top =>
      rw [Ideal.logistic_coe, Ideal.logistic_top, ← EReal.coe_one, EReal.coe_lt_coe_iff]
      have := Real.exp_pos (-q)
      exact inv_lt_one_of_one_lt₀ (by linarith)
  | top => exact absurd h not_top_lt

/-- The first of the greatest is the same of the logits and of their logistics. -/
theorem perm_logistic (f : Fin 80 → EReal) : perm (fun c => Ideal.logistic (f c)) 0 = perm f 0 := by
  have h1 := perm_first (fun c => Ideal.logistic (f c)) 0 fin_zero_le
  have h2 := perm_first f 0 fin_zero_le
  refine FirstTop.unique (s := fun c => Ideal.logistic (f c)) h1 ⟨fun j => logistic_mono.monotone (h2.1 j), fun j hj => h2.2 j (logistic_mono.injective hj)⟩

section TopK
variable (x : FVec Ideal S20000x80 .f32) (r : Fin 20000)

theorem along_row (c q : Fin 80) : Shape.Idx.along (ix2 r c : S20000x80.Idx) (1 : Fin 2) q = ix2 r q := by
  funext a
  match a with
  | 0 => rfl
  | 1 => rfl

theorem gt_row : (fun a b : Fin 80 => FloatOps.cmpfTotal (F := Ideal) (φ := .f32) .gt (x (Shape.Idx.along (ix2 r 0 : S20000x80.Idx) (1 : Fin 2) a))
      (x (Shape.Idx.along (ix2 r 0 : S20000x80.Idx) (1 : Fin 2) b)) == 1#1)
    = fun a b : Fin 80 => decide (@LT.lt EReal _ (x (ix2 r b)) (x (ix2 r a))) := by
  funext a b
  rw [along_row, along_row, Bool.eq_iff_iff, beq_iff_eq, decide_eq_true_eq]
  show BitVec.ofBool (decide _) = 1#1 ↔ _
  rw [ofBool_eq_one_iff, decide_eq_true_eq]

theorem topK_row : (fun a : Fin 2 => (⟨0 + ((ix2 r 0 : S20000x1.Idx) (a.cast sliceFits_S20000x80_S20000x1.1.symm)).val,
      Nat.lt_of_lt_of_le (Nat.add_lt_add_left ((ix2 r 0 : S20000x1.Idx) (a.cast sliceFits_S20000x80_S20000x1.1.symm)).isLt 0) (sliceFits_S20000x80_S20000x1.2 a)⟩ : Fin (S20000x80.size a)))
      = (ix2 r 0 : S20000x80.Idx) := by
  funext a
  match a with
  | 0 => exact Fin.ext (Nat.zero_add r.val)
  | 1 => exact Fin.ext rfl

theorem top_idx : (Host.topK S20000x1 1 (FloatOps.cmpfTotal (F := Ideal) (φ := .f32) .gt) x sliceFits_S20000x80_S20000x1).2 (ix2 r 0)
      = BitVec.ofNat 32 (perm (α := EReal) (fun c : Fin 80 => x (ix2 r c)) 0).val := by
  refine (congrArg (Host.sort2 S20000x80 1 (fun l r => FloatOps.cmpfTotal (F := Ideal) (φ := .f32) .gt l.1 r.1) x
    (fun i => if hd : 1 < S20000x80.rank then iotaInDim S20000x80 32 ⟨1, hd⟩ i else 0#32)).2 (topK_row r)).trans ?_
  unfold Host.sort2
  rw [dif_pos (show 1 < S20000x80.rank from Nat.one_lt_two)]
  exact (congrArg (fun q : S20000x80.Idx => BitVec.ofNat 32 (q (1 : Fin 2)).val) (along_row r 0 _)).trans
    (congrArg (fun R : Fin 80 → Fin 80 → Bool => BitVec.ofNat 32 (sortedFrom R (0 : Fin 80)).val) (gt_row x r))

theorem top_val : (Host.topK S20000x1 1 (FloatOps.cmpfTotal (F := Ideal) (φ := .f32) .gt) x sliceFits_S20000x80_S20000x1).1 (ix2 r 0)
      = x (ix2 r (perm (α := EReal) (fun c : Fin 80 => x (ix2 r c)) 0)) := by
  refine (congrArg (Host.sort2 S20000x80 1 (fun l r => FloatOps.cmpfTotal (F := Ideal) (φ := .f32) .gt l.1 r.1) x
    (fun i => if hd : 1 < S20000x80.rank then iotaInDim S20000x80 32 ⟨1, hd⟩ i else 0#32)).1 (topK_row r)).trans ?_
  unfold Host.sort2
  rw [dif_pos (show 1 < S20000x80.rank from Nat.one_lt_two)]
  exact (congrArg x (along_row r 0 _)).trans
    (congrArg (fun R : Fin 80 → Fin 80 → Bool => x (ix2 r (sortedFrom R (0 : Fin 80)))) (gt_row x r))

end TopK

/-! ## The reference's steps -/

def hid (x : FVec Ideal S20000x256 .f32) (w : FVec Ideal S256x256 .f32) (b : FVec Ideal S256 .f32) : FVec Ideal S20000x256 .f32 :=
  maximumf (addf (Host.dotGeneral dot_S20000x256_S256x256_S20000x256_1_0_0_1_n_n none x w)
    (broadcastInDim S20000x256 ![0, 1] bcast_S1x256_S20000x256_0_1 (broadcastInDim S1x256 ![1] bcast_S256_S1x256_1 b)))
    (broadcastInDim S20000x256 ![] bcast_S_S20000x256 (constant S_ .f32 0x00000000#32))

def logs (x : FVec Ideal S20000x256 .f32) (w1 : FVec Ideal S256x256 .f32) (b1 : FVec Ideal S256 .f32) (w2 : FVec Ideal S256x80 .f32)
    (b2 : FVec Ideal S80 .f32) : FVec Ideal S20000x80 .f32 :=
  addf (Host.dotGeneral dot_S20000x256_S256x80_S20000x80_1_0_0_1_n_n none (hid x w1 b1) w2)
    (broadcastInDim S20000x80 ![0, 1] bcast_S1x80_S20000x80_0_1 (broadcastInDim S1x80 ![1] bcast_S80_S1x80_1 b2))

def offs (x : FVec Ideal S20000x256 .f32) (w1 : FVec Ideal S256x256 .f32) (b1 : FVec Ideal S256 .f32) (w2 : FVec Ideal S256x4 .f32)
    (b2 : FVec Ideal S4 .f32) : FVec Ideal S20000x4 .f32 :=
  addf (Host.dotGeneral dot_S20000x256_S256x4_S20000x4_1_0_0_1_n_n none (hid x w1 b1) w2)
    (broadcastInDim S20000x4 ![0, 1] bcast_S1x4_S20000x4_0_1 (broadcastInDim S1x4 ![1] bcast_S4_S1x4_1 b2))

def prob (l : FVec Ideal S20000x80 .f32) : FVec Ideal S20000x80 .f32 :=
  Host.divf (broadcastInDim S20000x80 ![] bcast_S_S20000x80 (constant S_ .f32 0x3F800000#32))
    (addf (broadcastInDim S20000x80 ![] bcast_S_S20000x80 (constant S_ .f32 0x3F800000#32)) (Host.exp (Host.negf l)))

theorem hid_apply (x : FVec Ideal S20000x256 .f32) (w : FVec Ideal S256x256 .f32) (b : FVec Ideal S256 .f32) (r : Fin 20000) (k : Fin 256) :
    hid x w b (ix2 r k) = hidR (fun j => x (ix2 r j)) (fun j k => w (ix2 j k)) (fun k => b (ix1 k)) k := by
  unfold hid
  pointwise
  rfl

theorem logs_apply (x : FVec Ideal S20000x256 .f32) (w1 : FVec Ideal S256x256 .f32) (b1 : FVec Ideal S256 .f32) (w2 : FVec Ideal S256x80 .f32)
    (b2 : FVec Ideal S80 .f32) (r : Fin 20000) (c : Fin 80) : logs x w1 b1 w2 b2 (ix2 r c) = rowO x w1 b1 w2 b2 r c := by
  unfold logs
  pointwise [hid_apply]
  rfl

theorem offs_apply (x : FVec Ideal S20000x256 .f32) (w1 : FVec Ideal S256x256 .f32) (b1 : FVec Ideal S256 .f32) (w2 : FVec Ideal S256x4 .f32)
    (b2 : FVec Ideal S4 .f32) (r : Fin 20000) (c : Fin 4) : offs x w1 b1 w2 b2 (ix2 r c) = rowO x w1 b1 w2 b2 r c := by
  unfold offs
  pointwise [hid_apply]
  rfl

theorem prob_apply (l : FVec Ideal S20000x80 .f32) (r : Fin 20000) (c : Fin 80) : prob l (ix2 r c) = Ideal.logistic (l (ix2 r c)) := by
  unfold prob
  pointwise
  rfl

/-! ## The columns -/

def resS (l : FVec Ideal S20000x80 .f32) : FVec Ideal S20480x1 .f32 :=
  broadcastInDim S20480x1 ![0] bcast_S20480_S20480x1_0 (concatenate S20480 0 [⟨S20000, (shapeCast _ ((Host.topK S20000x1 1 (FloatOps.cmpfTotal .gt) (prob l) sliceFits_S20000x80_S20000x1).1) shapeCasts_S20000x1_S20000)⟩, ⟨S480, (broadcastInDim S480 ![] bcast_S_S480 (constant S_ .f32 0xCE6E6B28#32))⟩] concatenates_S20000_S480_S20480_d0)

def resL (l : FVec Ideal S20000x80 .f32) : IVec S20480x1 32 :=
  broadcastInDim S20480x1 ![0] bcast_S20480_S20480x1_0 (concatenate S20480 0 [⟨S20000, (shapeCast _ ((Host.topK S20000x1 1 (FloatOps.cmpfTotal .gt) (prob l) sliceFits_S20000x80_S20000x1).2) shapeCasts_S20000x1_S20000)⟩, ⟨S480, (broadcastInDim S480 ![] bcast_S_S480 (constantI S_ 32 0#32))⟩] concatenates_S20000_S480_S20480_d0)

theorem resS_eq (l : FVec Ideal S20000x80 .f32) : resS l = colS fun r c => l (ix2 r c) := by
  funext y
  idx_vars y
  obtain rfl := Subsingleton.elim y1 0
  unfold resS colS padded
  pointwise
  refine dite_congr rfl (fun h => ?_) fun _ => rfl
  rw [top_val, prob_apply]
  simp only [prob_apply]
  rw [perm_logistic]
  rfl

theorem resL_eq (l : FVec Ideal S20000x80 .f32) : resL l = colL fun r c => l (ix2 r c) := by
  funext y
  idx_vars y
  obtain rfl := Subsingleton.elim y1 0
  unfold resL colL padded
  pointwise
  refine dite_congr rfl (fun h => ?_) fun _ => rfl
  rw [top_idx]
  simp only [prob_apply]
  rw [perm_logistic]
  rfl

/-- The boxes' corners. -/
def mid (o a : FVec Ideal S20000x4 .f32) : FVec Ideal S20000x2 .f32 :=
  addf (extractStridedSlice S20000x2 ![0, 0] a slices_S20000x4_S20000x2_0_0)
    (mulf (Host.tanh (extractStridedSlice S20000x2 ![0, 0] o slices_S20000x4_S20000x2_0_0)) (extractStridedSlice S20000x2 ![0, 2] a slices_S20000x4_S20000x2_0_2))
def side (o a : FVec Ideal S20000x4 .f32) : FVec Ideal S20000x2 .f32 :=
  mulf (broadcastInDim S20000x2 ![] bcast_S_S20000x2 (constant S_ .f32 0x3F000000#32))
    (mulf (extractStridedSlice S20000x2 ![0, 2] a slices_S20000x4_S20000x2_0_2) (Host.exp (Host.tanh (extractStridedSlice S20000x2 ![0, 2] o slices_S20000x4_S20000x2_0_2))))
def corners (o a : FVec Ideal S20000x4 .f32) : FVec Ideal S20000x4 .f32 :=
  concatenate S20000x4 1 [⟨S20000x2, subf (mid o a) (side o a)⟩, ⟨S20000x2, addf (mid o a) (side o a)⟩] concatenates_S20000x2_S20000x2_S20000x4_d1

def tall (v : FVec Ideal S20000x1 .f32) : FVec Ideal S20480x1 .f32 :=
  broadcastInDim S20480x1 ![0] bcast_S20480_S20480x1_0 (concatenate S20480 0 [⟨S20000, (shapeCast _ v shapeCasts_S20000x1_S20000)⟩, ⟨S480, (broadcastInDim S480 ![] bcast_S_S480 (constant S_ .f32 0x00000000#32))⟩] concatenates_S20000_S480_S20480_d0)

theorem resX1_eq (o a : FVec Ideal S20000x4 .f32) :
    tall (extractStridedSlice S20000x1 ![0, 0] (corners o a) slices_S20000x4_S20000x1_0_0) = colX1 (fun r c => o (ix2 r c)) a := by
  funext y
  idx_vars y
  obtain rfl := Subsingleton.elim y1 0
  unfold tall corners colX1 padded
  pointwise [mid, side]
  rfl

theorem resY1_eq (o a : FVec Ideal S20000x4 .f32) :
    tall (extractStridedSlice S20000x1 ![0, 1] (corners o a) slices_S20000x4_S20000x1_0_1) = colY1 (fun r c => o (ix2 r c)) a := by
  funext y
  idx_vars y
  obtain rfl := Subsingleton.elim y1 0
  unfold tall corners colY1 padded
  pointwise [mid, side]
  rfl

theorem resX2_eq (o a : FVec Ideal S20000x4 .f32) :
    tall (extractStridedSlice S20000x1 ![0, 2] (corners o a) slices_S20000x4_S20000x1_0_2) = colX2 (fun r c => o (ix2 r c)) a := by
  funext y
  idx_vars y
  obtain rfl := Subsingleton.elim y1 0
  unfold tall corners colX2 padded
  pointwise [mid, side]
  rfl

theorem resY2_eq (o a : FVec Ideal S20000x4 .f32) :
    tall (extractStridedSlice S20000x1 ![0, 3] (corners o a) slices_S20000x4_S20000x1_0_3) = colY2 (fun r c => o (ix2 r c)) a := by
  funext y
  idx_vars y
  obtain rfl := Subsingleton.elim y1 0
  unfold tall corners colY2 padded
  pointwise [mid, side]
  rfl

/-! ## The run -/

/-- The reference's logits and offsets, row by row, of what its arguments hold. -/
def L (m : (ℓ : Loc nD τ sig) → Buf (Elt Ideal) ℓ) (c : Dev nD) : Fin 20000 → Fin 80 → EReal :=
  rowO (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))
def O (m : (ℓ : Loc nD τ sig) → Buf (Elt Ideal) ℓ) (c : Dev nD) : Fin 20000 → Fin 4 → EReal :=
  rowO (m ((c.tc : Thread nD τ).loc main_arg0)) (m ((c.tc : Thread nD τ).loc main_arg6)) (m ((c.tc : Thread nD τ).loc main_arg7))
    (m ((c.tc : Thread nD τ).loc main_arg8)) (m ((c.tc : Thread nD τ).loc main_arg9))

theorem logs_rows (x : FVec Ideal S20000x256 .f32) (w1 : FVec Ideal S256x256 .f32) (b1 : FVec Ideal S256 .f32) (w2 : FVec Ideal S256x80 .f32)
    (b2 : FVec Ideal S80 .f32) : (fun r c => logs x w1 b1 w2 b2 (ix2 r c)) = rowO x w1 b1 w2 b2 :=
  funext fun r => funext fun c => logs_apply x w1 b1 w2 b2 r c
theorem offs_rows (x : FVec Ideal S20000x256 .f32) (w1 : FVec Ideal S256x256 .f32) (b1 : FVec Ideal S256 .f32) (w2 : FVec Ideal S256x4 .f32)
    (b2 : FVec Ideal S4 .f32) : (fun r c => offs x w1 b1 w2 b2 (ix2 r c)) = rowO x w1 b1 w2 b2 :=
  funext fun r => funext fun c => offs_apply x w1 b1 w2 b2 r c

theorem of_rowsS (x : FVec Ideal S20000x256 .f32) (w1 : FVec Ideal S256x256 .f32) (b1 : FVec Ideal S256 .f32) (w2 : FVec Ideal S256x80 .f32)
    (b2 : FVec Ideal S80 .f32) : resS (logs x w1 b1 w2 b2) = colS (rowO x w1 b1 w2 b2) := by rw [resS_eq, logs_rows]
theorem of_rowsL (x : FVec Ideal S20000x256 .f32) (w1 : FVec Ideal S256x256 .f32) (b1 : FVec Ideal S256 .f32) (w2 : FVec Ideal S256x80 .f32)
    (b2 : FVec Ideal S80 .f32) : resL (logs x w1 b1 w2 b2) = colL (rowO x w1 b1 w2 b2) := by rw [resL_eq, logs_rows]
theorem of_rowsX1 (x : FVec Ideal S20000x256 .f32) (w1 : FVec Ideal S256x256 .f32) (b1 : FVec Ideal S256 .f32) (w2 : FVec Ideal S256x4 .f32)
    (b2 : FVec Ideal S4 .f32) (a : FVec Ideal S20000x4 .f32) :
    tall (extractStridedSlice S20000x1 ![0, 0] (corners (offs x w1 b1 w2 b2) a) slices_S20000x4_S20000x1_0_0) = colX1 (rowO x w1 b1 w2 b2) a := by
  rw [resX1_eq, offs_rows]
theorem of_rowsY1 (x : FVec Ideal S20000x256 .f32) (w1 : FVec Ideal S256x256 .f32) (b1 : FVec Ideal S256 .f32) (w2 : FVec Ideal S256x4 .f32)
    (b2 : FVec Ideal S4 .f32) (a : FVec Ideal S20000x4 .f32) :
    tall (extractStridedSlice S20000x1 ![0, 1] (corners (offs x w1 b1 w2 b2) a) slices_S20000x4_S20000x1_0_1) = colY1 (rowO x w1 b1 w2 b2) a := by
  rw [resY1_eq, offs_rows]
theorem of_rowsX2 (x : FVec Ideal S20000x256 .f32) (w1 : FVec Ideal S256x256 .f32) (b1 : FVec Ideal S256 .f32) (w2 : FVec Ideal S256x4 .f32)
    (b2 : FVec Ideal S4 .f32) (a : FVec Ideal S20000x4 .f32) :
    tall (extractStridedSlice S20000x1 ![0, 2] (corners (offs x w1 b1 w2 b2) a) slices_S20000x4_S20000x1_0_2) = colX2 (rowO x w1 b1 w2 b2) a := by
  rw [resX2_eq, offs_rows]
theorem of_rowsY2 (x : FVec Ideal S20000x256 .f32) (w1 : FVec Ideal S256x256 .f32) (b1 : FVec Ideal S256 .f32) (w2 : FVec Ideal S256x4 .f32)
    (b2 : FVec Ideal S4 .f32) (a : FVec Ideal S20000x4 .f32) :
    tall (extractStridedSlice S20000x1 ![0, 3] (corners (offs x w1 b1 w2 b2) a) slices_S20000x4_S20000x1_0_3) = colY2 (rowO x w1 b1 w2 b2) a := by
  rw [resY2_eq, offs_rows]

theorem values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = colS (L m c)
      ∧ r.2.mem ((c.tc : Thread nD τ).loc main_v51) = colX1 (O m c) (m ((c.tc : Thread nD τ).loc main_arg1))
      ∧ r.2.mem ((c.tc : Thread nD τ).loc main_v56) = colY1 (O m c) (m ((c.tc : Thread nD τ).loc main_arg1))
      ∧ r.2.mem ((c.tc : Thread nD τ).loc main_v61) = colX2 (O m c) (m ((c.tc : Thread nD τ).loc main_arg1))
      ∧ r.2.mem ((c.tc : Thread nD τ).loc main_v66) = colY2 (O m c) (m ((c.tc : Thread nD τ).loc main_arg1))
      ∧ r.2.mem ((c.tc : Thread nD τ).loc main_v69) = colL (L m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => by
    obtain ⟨h0, h1, h2, h3, h4, h5, hk⟩ := h c
    exact ⟨h0.trans (of_rowsS _ _ _ _ _), h1.trans (of_rowsX1 _ _ _ _ _ _), h2.trans (of_rowsY1 _ _ _ _ _ _),
      h3.trans (of_rowsX2 _ _ _ _ _ _), h4.trans (of_rowsY2 _ _ _ _ _ _), h5.trans (of_rowsL _ _ _ _ _), hk⟩) (Value.run (F := Ideal) m ρ)

end Nms.Heads.Ref

end
-- ==== Proof.lean ====
/-
  The proof of `Cert.Claim`. The run of the three calls is proved once, over any float values (Proof/Run.lean): from any
  launch memory with enough scores the arguments are kept, every counter ends at zero and the six results are the six
  arrays' rows at the chosen rows. The frames of the program and of its ideal reading are that run at the two values. The
  reference's run is read back operation by operation; its list of rows is the same choice (Proof/Ref.lean), so the results
  are equal.

  The suppression call is a program of its own. Its run is proved once, over any float values (Proof/Sup.lean,
  Proof/SupRes.lean); what its hundred trips take and drop is what the reference's hundred rounds take and drop, over the
  candidates in order of score (Proof/SupKernel.lean, Proof/SupRef.lean, Proof/SupMath.lean); so the results are equal
  (Proof/SupOut.lean).

  The heads' call is a third program. Its run is proved over any float values (Proof/Heads.lean); over the extended reals each
  row of its six columns is a function of that row's features and anchor (Proof/HeadsRow.lean, Proof/HeadsOut.lean), the
  function that the reference's row is (Proof/HeadsRef.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Ref
public import proofs.«01_k».proof.Proof.Gen.Suppress
public import proofs.«01_k».proof.Proof.Gen.SuppressIdeal
public import proofs.«01_k».proof.Proof.Gen.DetectionsIdeal
public import proofs.«01_k».proof.Proof.Gen.DetectionsIdeal.StepRun
public import proofs.«01_k».proof.Proof.Gen.Heads
public import proofs.«01_k».proof.Proof.Gen.HeadsIdeal
public import proofs.«01_k».proof.Proof.Gen.ScoredIdeal
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.ScoredIdeal.Run
public import proofs.«01_k».proof.Proof.Sup
public import proofs.«01_k».proof.Proof.SupRes
public import proofs.«01_k».proof.Proof.SupOut
public import proofs.«01_k».proof.Proof.Heads
public import proofs.«01_k».proof.Proof.HeadsOut
public import proofs.«01_k».proof.Proof.HeadsRef
public import Idealize.ShloMosaic.Lib.Quiescent

@[expose] public section

noncomputable section

namespace Cert.Proof

open Idealize.ShloMosaic Idealize.SL.Sem

local instance hEnough : Cert.Pre_enough.Facts := Cand.pre_facts

/-- The memories the precondition admits have enough scores. -/
theorem enough_ideal (m : (ℓ : Loc Cert.KernelIdeal.nD Cert.KernelIdeal.τ Cert.KernelIdeal.sig) → Buf (Elt Ideal) ℓ) (h : Cert.Pre_KernelIdeal m) :
    Cand.AllEnough m := fun d => Cand.enough_of_pre (F := Ideal) _ _ _ _ _ _ _ (h d)

/-- What a frame says of the final state. -/
def Kept {F : FTy → Type} [FloatOps F] (m : (ℓ : Loc Cert.KernelIdeal.nD Cert.KernelIdeal.τ Cert.KernelIdeal.sig) → Buf (Elt F) ℓ)
    (z : PUnit × MemSt Cert.KernelIdeal.nD Cert.KernelIdeal.τ Cert.KernelIdeal.sig (Elt F)) : Prop :=
  (∀ c : Dev Cert.KernelIdeal.nD,
    z.2.mem (Cand.aLoc Cert.KernelIdeal.main_arg0 c) = m (Cand.aLoc Cert.KernelIdeal.main_arg0 c)
    ∧ z.2.mem (Cand.aLoc Cert.KernelIdeal.main_arg1 c) = m (Cand.aLoc Cert.KernelIdeal.main_arg1 c)
    ∧ z.2.mem (Cand.aLoc Cert.KernelIdeal.main_arg2 c) = m (Cand.aLoc Cert.KernelIdeal.main_arg2 c)
    ∧ z.2.mem (Cand.aLoc Cert.KernelIdeal.main_arg3 c) = m (Cand.aLoc Cert.KernelIdeal.main_arg3 c)
    ∧ z.2.mem (Cand.aLoc Cert.KernelIdeal.main_arg4 c) = m (Cand.aLoc Cert.KernelIdeal.main_arg4 c)
    ∧ z.2.mem (Cand.aLoc Cert.KernelIdeal.main_arg5 c) = m (Cand.aLoc Cert.KernelIdeal.main_arg5 c)
    ∧ z.2.mem (Cand.aLoc Cert.KernelIdeal.main_arg6 c) = m (Cand.aLoc Cert.KernelIdeal.main_arg6 c))
  ∧ z.2.sem = fun _ => 0

theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hE : Cand.AllEnough m) :
    θ_run (Cert.KernelIdeal.defs (F := F)) (Cert.KernelIdeal.threads (F := F)) ⟨m, fun _ => 0, ρ⟩ (Kept m) :=
  (θ_run (Cert.KernelIdeal.defs (F := F)) _ _).mono
    (fun _ q => ⟨fun c => ⟨(q.1 c).1, (q.1 c).2.1, (q.1 c).2.2.1, (q.1 c).2.2.2.1, (q.1 c).2.2.2.2.1, (q.1 c).2.2.2.2.2.1, (q.1 c).2.2.2.2.2.2.1⟩, q.2⟩)
    (Cand.run_main (F := F) m ρ hE)

/-- The two programs' kernels are the same: label by label, on each kind of processor. -/
theorem defs₀_same {F : FTy → Type} [FloatOps F] : Cert.Kernel.defs₀ (F := F) = Cert.KernelIdeal.defs₀ (F := F) := by
  funext t l a
  rcases t with _ | _ | _ <;> fin_cases l <;> rfl

/-- So are their body tables. -/
theorem defs_same {F : FTy → Type} [FloatOps F] : Cert.Kernel.defs (F := F) = Cert.KernelIdeal.defs (F := F) :=
  congrArg (fun D => (Cert.KernelIdeal.sc (F := F)).defs (Pipeline.defs (Cert.KernelIdeal.pcfgs (F := F)) D)) defs₀_same

/-- And their threads. -/
theorem threads_same {F : FTy → Type} [FloatOps F] : Cert.Kernel.threads (F := F) = Cert.KernelIdeal.threads (F := F) := rfl

/-- The program's frame: the run at the machine's values. -/
theorem frame_kernel : Cert.quiescent_Kernel := by
  intro m ρ h
  rw [defs_same, threads_same]
  exact kept (F := Bits) m ρ fun d => Cand.enough_of_pre (F := Bits) _ _ _ _ _ _ _ (h d)

/-- The ideal reading's frame: the run at the ideal values. -/
theorem frame_ideal : Cert.quiescent_KernelIdeal := fun m ρ h => kept (F := Ideal) m ρ (enough_ideal m h)

/-- The reference keeps its arguments; it declares no semaphore. -/
theorem frame_reference : Cert.quiescent_ReferenceIdeal := fun m ρ _ =>
  (θ_run (Cert.ReferenceIdeal.defs (F := Ideal)) _ _).mono
    (fun r h => ⟨fun c => (h c).2.2.2.2.2.2, Idealize.ShloMosaic.sem_eq_zero_of_no_sems (by decide) r.2⟩)
    (Cert.ReferenceIdeal.Value.run (F := Ideal) m ρ)

theorem frame_reference_pre : Cert.quiescent_ReferenceIdeal_pre_enough := fun m ρ _ => frame_reference m ρ trivial

/-- The two programs' results are equal: each is an array's rows at the chosen rows. -/
theorem algebraic : Cert.algebraic_KernelIdeal_ReferenceIdeal := by
  intro m ρ m' ρ' hpre hagree
  have hE := enough_ideal m hpre
  refine ⟨fun c => Cand.outp (Cand.X m c) (Cand.th m c) (m (Cand.aLoc Cert.KernelIdeal.main_arg1 c)),
    fun c => Cand.outp (Cand.X m c) (Cand.th m c) (m (Cand.aLoc Cert.KernelIdeal.main_arg2 c)),
    fun c => Cand.outp (Cand.X m c) (Cand.th m c) (m (Cand.aLoc Cert.KernelIdeal.main_arg3 c)),
    fun c => Cand.outp (Cand.X m c) (Cand.th m c) (m (Cand.aLoc Cert.KernelIdeal.main_arg4 c)),
    fun c => Cand.outp (Cand.X m c) (Cand.th m c) (m (Cand.aLoc Cert.KernelIdeal.main_arg5 c)),
    fun c => Cand.outp (Cand.X m c) (Cand.th m c) (m (Cand.aLoc Cert.KernelIdeal.main_arg6 c)),
    (θ_run (Cert.KernelIdeal.defs (F := Ideal)) _ _).mono (fun _ q c => ?_) (Cand.run_main (F := Ideal) m ρ hE),
    (θ_run (Cert.ReferenceIdeal.defs (F := Ideal)) _ _).mono (fun _ q c => ?_) (Cert.ReferenceIdeal.Value.run (F := Ideal) m' ρ')⟩
  · obtain ⟨a0, a1, a2, a3, a4, a5, a6, r⟩ := q.1 c
    obtain ⟨r0, r1, r2, r3, r4, r5⟩ := r
    exact ⟨r0, r1, r2, r3, r4, r5, a0, a1, a2, a3, a4, a5, a6⟩
  · have hR := Cand.right_of hE c
    obtain ⟨e0, e1, e2, e3, e4, e5, e6⟩ := hagree c
    obtain ⟨r0, r1, r2, r3, r4, r5, ra⟩ := q c
    rw [e0, e1] at r0
    rw [e0, e2] at r1
    rw [e0, e3] at r2
    rw [e0, e4] at r3
    rw [e0, e5] at r4
    rw [e0, e6] at r5
    exact ⟨r0.trans (Cand.ref_out _ _ hR _), r1.trans (Cand.ref_out _ _ hR _), r2.trans (Cand.ref_out _ _ hR _),
      r3.trans (Cand.ref_out _ _ hR _), r4.trans (Cand.ref_out _ _ hR _), r5.trans (Cand.ref_out _ _ hR _), ra⟩

/-! ## The suppression -/

local instance hAbove : Cert.Pre_above.Facts := Nms.above_facts

/-- The two programs' kernels are the same. -/
theorem sup_defs₀_same {F : FTy → Type} [FloatOps F] : Cert.Suppress.defs₀ (F := F) = Cert.SuppressIdeal.defs₀ (F := F) := by
  funext t l a
  rcases t with _ | _ | _ <;> fin_cases l <;> rfl

theorem sup_defs_same {F : FTy → Type} [FloatOps F] : Cert.Suppress.defs (F := F) = Cert.SuppressIdeal.defs (F := F) :=
  congrArg (fun D => Pipeline.defs (Cert.SuppressIdeal.pcfgs (F := F)) D) sup_defs₀_same

theorem sup_main_same {F : FTy → Type} [FloatOps F] : Cert.Suppress.main (F := F) = Cert.SuppressIdeal.main (F := F) := rfl

theorem frame_suppress : Cert.quiescent_Suppress := by
  intro m ρ _
  rw [sup_defs_same, sup_main_same]
  exact Nms.kept (F := Bits) m ρ

theorem frame_suppress_ideal : Cert.quiescent_SuppressIdeal := fun m ρ _ => Nms.kept (F := Ideal) m ρ

theorem frame_suppress_ideal_pre : Cert.quiescent_SuppressIdeal_pre_above := fun m ρ _ => Nms.kept (F := Ideal) m ρ

/-- The states of the reference's rounds, on each device. -/
def states (m : (ℓ : Loc Cert.DetectionsIdeal.nD Cert.DetectionsIdeal.τ Cert.DetectionsIdeal.sig) → Buf (Elt Ideal) ℓ) (c : Dev Cert.DetectionsIdeal.nD) :
    ℕ → Cert.DetectionsIdeal.Step.State Ideal :=
  Nms.stR (m ((c.tc : Thread Cert.DetectionsIdeal.nD Cert.DetectionsIdeal.τ).loc Cert.DetectionsIdeal.main_arg0))
    (m ((c.tc : Thread Cert.DetectionsIdeal.nD Cert.DetectionsIdeal.τ).loc Cert.DetectionsIdeal.main_arg1))
    (m ((c.tc : Thread Cert.DetectionsIdeal.nD Cert.DetectionsIdeal.τ).loc Cert.DetectionsIdeal.main_arg2))
    (m ((c.tc : Thread Cert.DetectionsIdeal.nD Cert.DetectionsIdeal.τ).loc Cert.DetectionsIdeal.main_arg3))
    (m ((c.tc : Thread Cert.DetectionsIdeal.nD Cert.DetectionsIdeal.τ).loc Cert.DetectionsIdeal.main_arg4))
    (m ((c.tc : Thread Cert.DetectionsIdeal.nD Cert.DetectionsIdeal.τ).loc Cert.DetectionsIdeal.main_arg5))

/-- The suppression's reference keeps its arguments; it declares no semaphore. -/
theorem frame_detections : Cert.quiescent_DetectionsIdeal := by
  intro m ρ _
  have run := Cert.DetectionsIdeal.StepRun.run_iter (F := Ideal) m ρ (states m) (fun _ => rfl) (fun _ _ => rfl)
  exact (θ_run (Cert.DetectionsIdeal.defs (F := Ideal)) _ _).mono
    (fun r h => ⟨fun c => (h c).2.2, Idealize.ShloMosaic.sem_eq_zero_of_no_sems (by decide) r.2⟩) run

theorem frame_detections_pre : Cert.quiescent_DetectionsIdeal_pre_above := fun m ρ _ => frame_detections m ρ trivial

/-- The suppression's results are its reference's. -/
theorem algebraic_suppress : Cert.algebraic_SuppressIdeal_DetectionsIdeal_pre_above := by
  intro m ρ m' ρ' hpre hagree
  have run := Cert.DetectionsIdeal.StepRun.run_iter (F := Ideal) m' ρ' (states m') (fun _ => rfl) (fun _ _ => rfl)
  refine ⟨fun c => Nms.boxesOf (F := Ideal) (Nms.rows m c), fun c => Nms.labelsOf (F := Ideal) (Nms.rows m c), Nms.results (F := Ideal) m ρ,
    (θ_run (Cert.DetectionsIdeal.defs (F := Ideal)) _ _).mono (fun _ q c => ?_) run⟩
  have hab := Nms.above_of_pre _ _ _ _ _ _ (hpre c)
  obtain ⟨e0, e1, e2, e3, e4, e5⟩ := hagree c
  obtain ⟨r0, r1, ra⟩ := q c
  have hs : states m' c = Nms.stR (Nms.arg m c Cert.SuppressIdeal.main_arg0) (Nms.arg m c Cert.SuppressIdeal.main_arg1)
      (Nms.arg m c Cert.SuppressIdeal.main_arg2) (Nms.arg m c Cert.SuppressIdeal.main_arg3) (Nms.arg m c Cert.SuppressIdeal.main_arg4)
      (Nms.arg m c Cert.SuppressIdeal.main_arg5) := by
    unfold states
    rw [e0, e1, e2, e3, e4, e5]
  rw [hs] at r0 r1
  exact ⟨r0.trans (Nms.boxes_eq _ _ _ _ _ _ hab), r1.trans (Nms.labels_eq _ _ _ _ _ _ hab), ra⟩

/-! ## The heads -/

set_option maxHeartbeats 4000000 in
theorem heads_defs₀_same {F : FTy → Type} [FloatOps F] : Cert.Heads.defs₀ (F := F) = Cert.HeadsIdeal.defs₀ (F := F) := by
  funext t l a
  rcases t with _ | _ | _ <;> fin_cases l <;> rfl

theorem heads_defs_same {F : FTy → Type} [FloatOps F] : Cert.Heads.defs (F := F) = Cert.HeadsIdeal.defs (F := F) :=
  congrArg (fun D => Pipeline.defs (Cert.HeadsIdeal.pcfgs (F := F)) D) heads_defs₀_same

theorem heads_main_same {F : FTy → Type} [FloatOps F] : Cert.Heads.main (F := F) = Cert.HeadsIdeal.main (F := F) := rfl

theorem frame_heads : Cert.quiescent_Heads := by
  intro m ρ _
  rw [heads_defs_same, heads_main_same]
  exact Nms.Heads.kept (F := Bits) m ρ

theorem frame_heads_ideal : Cert.quiescent_HeadsIdeal := fun m ρ _ => Nms.Heads.kept (F := Ideal) m ρ

/-- The heads' reference keeps its arguments; it declares no semaphore. -/
theorem frame_scored : Cert.quiescent_ScoredIdeal := fun m ρ _ =>
  (θ_run (Cert.ScoredIdeal.defs (F := Ideal)) _ _).mono
    (fun r h => ⟨fun c => (h c).2.2.2.2.2.2, Idealize.ShloMosaic.sem_eq_zero_of_no_sems (by decide) r.2⟩) (Cert.ScoredIdeal.Value.run (F := Ideal) m ρ)

/-- The heads' columns are their reference's. -/
theorem algebraic_heads : Cert.algebraic_HeadsIdeal_ScoredIdeal := by
  intro m ρ m' ρ' _ hagree
  refine ⟨fun c => Nms.Heads.colS (Nms.Heads.L m c),
    fun c => Nms.Heads.colX1 (Nms.Heads.O m c) (m ((c.tc : Thread Cert.HeadsIdeal.nD Cert.HeadsIdeal.τ).loc Cert.HeadsIdeal.main_arg1)),
    fun c => Nms.Heads.colY1 (Nms.Heads.O m c) (m ((c.tc : Thread Cert.HeadsIdeal.nD Cert.HeadsIdeal.τ).loc Cert.HeadsIdeal.main_arg1)),
    fun c => Nms.Heads.colX2 (Nms.Heads.O m c) (m ((c.tc : Thread Cert.HeadsIdeal.nD Cert.HeadsIdeal.τ).loc Cert.HeadsIdeal.main_arg1)),
    fun c => Nms.Heads.colY2 (Nms.Heads.O m c) (m ((c.tc : Thread Cert.HeadsIdeal.nD Cert.HeadsIdeal.τ).loc Cert.HeadsIdeal.main_arg1)),
    fun c => Nms.Heads.colL (Nms.Heads.L m c),
    (θ_run (Cert.HeadsIdeal.defs (F := Ideal)) _ _).mono (fun _ q c => ?_)
      (θ_run_and (Nms.Heads.values m ρ) (Nms.Heads.kept (F := Ideal) m ρ)),
    (θ_run (Cert.ScoredIdeal.defs (F := Ideal)) _ _).mono (fun _ q c => ?_) (Nms.Heads.Ref.values m' ρ')⟩
  · obtain ⟨r0, r1, r2, r3, r4, r5⟩ := q.1 c
    exact ⟨r0, r1, r2, r3, r4, r5, q.2.1 c⟩
  · obtain ⟨e0, e1, e2, e3, e4, e5, e6, e7, e8, e9⟩ := hagree c
    obtain ⟨r0, r1, r2, r3, r4, r5, ra⟩ := q c
    have hL : Nms.Heads.Ref.L m' c = Nms.Heads.L m c := by
      unfold Nms.Heads.Ref.L Nms.Heads.L
      rw [e0, e2, e3, e4, e5]
    have hO : Nms.Heads.Ref.O m' c = Nms.Heads.O m c := by
      unfold Nms.Heads.Ref.O Nms.Heads.O
      rw [e0, e6, e7, e8, e9]
    rw [hL] at r0 r5
    rw [hO, e1] at r1 r2 r3 r4
    exact ⟨r0, r1, r2, r3, r4, r5, ra⟩

theorem claim : Cert.Claim :=
  ⟨Cert.Kernel.Gen.facts, Cert.KernelIdeal.Gen.facts, Cert.ReferenceIdeal.Gen.facts, Cert.Suppress.Gen.facts, Cert.SuppressIdeal.Gen.facts,
    Cert.DetectionsIdeal.Gen.facts, Cert.Heads.Gen.facts, Cert.HeadsIdeal.Gen.facts, Cert.ScoredIdeal.Gen.facts, Cand.pre_facts, Nms.above_facts,
    frame_kernel, frame_ideal, frame_reference, frame_reference_pre, frame_suppress, frame_suppress_ideal, frame_suppress_ideal_pre,
    frame_detections, frame_detections_pre, frame_heads, frame_heads_ideal, frame_scored, trivial, algebraic, trivial, algebraic_suppress,
    trivial, algebraic_heads⟩

end Cert.Proof

end
